-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_MlpDownW (m : (ℓ : Loc Cert.MlpDownW.nD Cert.MlpDownW.τ Cert.MlpDownW.sig) → Buf (Elt Bits) ℓ) : Prop :=
  True

def Pre_MlpDownWIdeal (m : (ℓ : Loc Cert.MlpDownWIdeal.nD Cert.MlpDownWIdeal.τ Cert.MlpDownWIdeal.sig) → Buf (Elt Ideal) ℓ) : Prop :=
  True

def Pre_MlpDownWRefIdeal (m : (ℓ : Loc Cert.MlpDownWRefIdeal.nD Cert.MlpDownWRefIdeal.τ Cert.MlpDownWRefIdeal.sig) → Buf (Elt Ideal) ℓ) : Prop :=
  True

def Pre_MlpDownX (m : (ℓ : Loc Cert.MlpDownX.nD Cert.MlpDownX.τ Cert.MlpDownX.sig) → Buf (Elt Bits) ℓ) : Prop :=
  True

def Pre_MlpDownXIdeal (m : (ℓ : Loc Cert.MlpDownXIdeal.nD Cert.MlpDownXIdeal.τ Cert.MlpDownXIdeal.sig) → Buf (Elt Ideal) ℓ) : Prop :=
  True

def Pre_MlpDownXRefIdeal (m : (ℓ : Loc Cert.MlpDownXRefIdeal.nD Cert.MlpDownXRefIdeal.τ Cert.MlpDownXRefIdeal.sig) → Buf (Elt Ideal) ℓ) : Prop :=
  True

def Pre_MlpUpW (m : (ℓ : Loc Cert.MlpUpW.nD Cert.MlpUpW.τ Cert.MlpUpW.sig) → Buf (Elt Bits) ℓ) : Prop :=
  True

def Pre_MlpUpWIdeal (m : (ℓ : Loc Cert.MlpUpWIdeal.nD Cert.MlpUpWIdeal.τ Cert.MlpUpWIdeal.sig) → Buf (Elt Ideal) ℓ) : Prop :=
  True

def Pre_MlpUpWRefIdeal (m : (ℓ : Loc Cert.MlpUpWRefIdeal.nD Cert.MlpUpWRefIdeal.τ Cert.MlpUpWRefIdeal.sig) → Buf (Elt Ideal) ℓ) : Prop :=
  True

def Pre_MlpUpX (m : (ℓ : Loc Cert.MlpUpX.nD Cert.MlpUpX.τ Cert.MlpUpX.sig) → Buf (Elt Bits) ℓ) : Prop :=
  True

def Pre_MlpUpXIdeal (m : (ℓ : Loc Cert.MlpUpXIdeal.nD Cert.MlpUpXIdeal.τ Cert.MlpUpXIdeal.sig) → Buf (Elt Ideal) ℓ) : Prop :=
  True

def Pre_MlpUpXRefIdeal (m : (ℓ : Loc Cert.MlpUpXRefIdeal.nD Cert.MlpUpXRefIdeal.τ Cert.MlpUpXRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MixOutX (m : (ℓ : Loc Cert.MixOutX.nD Cert.MixOutX.τ Cert.MixOutX.sig) → Buf (Elt Bits) ℓ) : Prop :=
  True

def Pre_MixOutXIdeal (m : (ℓ : Loc Cert.MixOutXIdeal.nD Cert.MixOutXIdeal.τ Cert.MixOutXIdeal.sig) → Buf (Elt Ideal) ℓ) : Prop :=
  True

def Pre_MixOutXRefIdeal (m : (ℓ : Loc Cert.MixOutXRefIdeal.nD Cert.MixOutXRefIdeal.τ Cert.MixOutXRefIdeal.sig) → Buf (Elt Ideal) ℓ) : Prop :=
  True

def Pre_MixOutW (m : (ℓ : Loc Cert.MixOutW.nD Cert.MixOutW.τ Cert.MixOutW.sig) → Buf (Elt Bits) ℓ) : Prop :=
  True

def Pre_MixOutWIdeal (m : (ℓ : Loc Cert.MixOutWIdeal.nD Cert.MixOutWIdeal.τ Cert.MixOutWIdeal.sig) → Buf (Elt Ideal) ℓ) : Prop :=
  True

def Pre_MixOutWRefIdeal (m : (ℓ : Loc Cert.MixOutWRefIdeal.nD Cert.MixOutWRefIdeal.τ Cert.MixOutWRefIdeal.sig) → Buf (Elt Ideal) ℓ) : Prop :=
  True

def Pre_AbIn (m : (ℓ : Loc Cert.AbIn.nD Cert.AbIn.τ Cert.AbIn.sig) → Buf (Elt Bits) ℓ) : Prop :=
  True

def Pre_AbInIdeal (m : (ℓ : Loc Cert.AbInIdeal.nD Cert.AbInIdeal.τ Cert.AbInIdeal.sig) → Buf (Elt Ideal) ℓ) : Prop :=
  True

def Pre_AbInRefIdeal (m : (ℓ : Loc Cert.AbInRefIdeal.nD Cert.AbInRefIdeal.τ Cert.AbInRefIdeal.sig) → Buf (Elt Ideal) ℓ) : Prop :=
  True

def Pre_AbInX (m : (ℓ : Loc Cert.AbInX.nD Cert.AbInX.τ Cert.AbInX.sig) → Buf (Elt Bits) ℓ) : Prop :=
  True

def Pre_AbInXIdeal (m : (ℓ : Loc Cert.AbInXIdeal.nD Cert.AbInXIdeal.τ Cert.AbInXIdeal.sig) → Buf (Elt Ideal) ℓ) : Prop :=
  True

def Pre_AbInXRefIdeal (m : (ℓ : Loc Cert.AbInXRefIdeal.nD Cert.AbInXRefIdeal.τ Cert.AbInXRefIdeal.sig) → Buf (Elt Ideal) ℓ) : Prop :=
  True

def Pre_AbInW (m : (ℓ : Loc Cert.AbInW.nD Cert.AbInW.τ Cert.AbInW.sig) → Buf (Elt Bits) ℓ) : Prop :=
  True

def Pre_AbInWIdeal (m : (ℓ : Loc Cert.AbInWIdeal.nD Cert.AbInWIdeal.τ Cert.AbInWIdeal.sig) → Buf (Elt Ideal) ℓ) : Prop :=
  True

def Pre_AbInWRefIdeal (m : (ℓ : Loc Cert.AbInWRefIdeal.nD Cert.AbInWRefIdeal.τ Cert.AbInWRefIdeal.sig) → Buf (Elt Ideal) ℓ) : Prop :=
  True

def Pre_MlaUp (m : (ℓ : Loc Cert.MlaUp.nD Cert.MlaUp.τ Cert.MlaUp.sig) → Buf (Elt Bits) ℓ) : Prop :=
  True

def Pre_MlaUpIdeal (m : (ℓ : Loc Cert.MlaUpIdeal.nD Cert.MlaUpIdeal.τ Cert.MlaUpIdeal.sig) → Buf (Elt Ideal) ℓ) : Prop :=
  True

def Pre_MlaUpRefIdeal (m : (ℓ : Loc Cert.MlaUpRefIdeal.nD Cert.MlaUpRefIdeal.τ Cert.MlaUpRefIdeal.sig) → Buf (Elt Ideal) ℓ) : Prop :=
  True

def Pre_MlaUpX (m : (ℓ : Loc Cert.MlaUpX.nD Cert.MlaUpX.τ Cert.MlaUpX.sig) → Buf (Elt Bits) ℓ) : Prop :=
  True

def Pre_MlaUpXIdeal (m : (ℓ : Loc Cert.MlaUpXIdeal.nD Cert.MlaUpXIdeal.τ Cert.MlaUpXIdeal.sig) → Buf (Elt Ideal) ℓ) : Prop :=
  True

def Pre_MlaUpXRefIdeal (m : (ℓ : Loc Cert.MlaUpXRefIdeal.nD Cert.MlaUpXRefIdeal.τ Cert.MlaUpXRefIdeal.sig) → Buf (Elt Ideal) ℓ) : Prop :=
  True

def Pre_MlaUpW (m : (ℓ : Loc Cert.MlaUpW.nD Cert.MlaUpW.τ Cert.MlaUpW.sig) → Buf (Elt Bits) ℓ) : Prop :=
  True

def Pre_MlaUpWIdeal (m : (ℓ : Loc Cert.MlaUpWIdeal.nD Cert.MlaUpWIdeal.τ Cert.MlaUpWIdeal.sig) → Buf (Elt Ideal) ℓ) : Prop :=
  True

def Pre_MlaUpWRefIdeal (m : (ℓ : Loc Cert.MlaUpWRefIdeal.nD Cert.MlaUpWRefIdeal.τ Cert.MlaUpWRefIdeal.sig) → Buf (Elt Ideal) ℓ) : Prop :=
  True

def Pre_MlaIn (m : (ℓ : Loc Cert.MlaIn.nD Cert.MlaIn.τ Cert.MlaIn.sig) → Buf (Elt Bits) ℓ) : Prop :=
  True

def Pre_MlaInIdeal (m : (ℓ : Loc Cert.MlaInIdeal.nD Cert.MlaInIdeal.τ Cert.MlaInIdeal.sig) → Buf (Elt Ideal) ℓ) : Prop :=
  True

def Pre_MlaInRefIdeal (m : (ℓ : Loc Cert.MlaInRefIdeal.nD Cert.MlaInRefIdeal.τ Cert.MlaInRefIdeal.sig) → Buf (Elt Ideal) ℓ) : Prop :=
  True

def Pre_MlaInX (m : (ℓ : Loc Cert.MlaInX.nD Cert.MlaInX.τ Cert.MlaInX.sig) → Buf (Elt Bits) ℓ) : Prop :=
  True

def Pre_MlaInXIdeal (m : (ℓ : Loc Cert.MlaInXIdeal.nD Cert.MlaInXIdeal.τ Cert.MlaInXIdeal.sig) → Buf (Elt Ideal) ℓ) : Prop :=
  True

def Pre_MlaInXRefIdeal (m : (ℓ : Loc Cert.MlaInXRefIdeal.nD Cert.MlaInXRefIdeal.τ Cert.MlaInXRefIdeal.sig) → Buf (Elt Ideal) ℓ) : Prop :=
  True

def Pre_MlaInW (m : (ℓ : Loc Cert.MlaInW.nD Cert.MlaInW.τ Cert.MlaInW.sig) → Buf (Elt Bits) ℓ) : Prop :=
  True

def Pre_MlaInWIdeal (m : (ℓ : Loc Cert.MlaInWIdeal.nD Cert.MlaInWIdeal.τ Cert.MlaInWIdeal.sig) → Buf (Elt Ideal) ℓ) : Prop :=
  True

def Pre_MlaInWRefIdeal (m : (ℓ : Loc Cert.MlaInWRefIdeal.nD Cert.MlaInWRefIdeal.τ Cert.MlaInWRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attn_finite [hPre_attn_finite : Cert.Pre_attn_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attn_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).1 = (fun _ => 1#1)
    ∧ (Cert.Pre_attn_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).2.1 = (fun _ => 1#1)
    ∧ (Cert.Pre_attn_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).2.2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_attn_finite [hPre_attn_finite : Cert.Pre_attn_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_attn_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).1 = (fun _ => 1#1)
    ∧ (Cert.Pre_attn_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).2.1 = (fun _ => 1#1)
    ∧ (Cert.Pre_attn_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2))
      ∧ r.2.sem = fun _ => 0)

def quiescent_MlpDownW [hMlpDownW : Cert.MlpDownW.Facts] : Prop :=
  ∀ (m : (ℓ : Loc Cert.MlpDownW.nD Cert.MlpDownW.τ Cert.MlpDownW.sig) → Buf (Elt Bits) ℓ) (g : Dev Cert.MlpDownW.nD → PrngReg), Pre_MlpDownW m →
    θ_run (Cert.MlpDownW.defs (F := Bits)) (onTc (τ := Cert.MlpDownW.τ) (Cert.MlpDownW.main (F := Bits))) ⟨m, fun _ => 0, g⟩ (fun r => (∀ c : Dev Cert.MlpDownW.nD,
      r.2.mem ((c.tc : Thread Cert.MlpDownW.nD Cert.MlpDownW.τ).loc Cert.MlpDownW.main_arg0) = m ((c.tc : Thread Cert.MlpDownW.nD Cert.MlpDownW.τ).loc Cert.MlpDownW.main_arg0)
      ∧ r.2.mem ((c.tc : Thread Cert.MlpDownW.nD Cert.MlpDownW.τ).loc Cert.MlpDownW.main_arg1) = m ((c.tc : Thread Cert.MlpDownW.nD Cert.MlpDownW.τ).loc Cert.MlpDownW.main_arg1)
      ∧ r.2.mem ((c.tc : Thread Cert.MlpDownW.nD Cert.MlpDownW.τ).loc Cert.MlpDownW.main_arg2) = m ((c.tc : Thread Cert.MlpDownW.nD Cert.MlpDownW.τ).loc Cert.MlpDownW.main_arg2))
      ∧ r.2.sem = fun _ => 0)

def quiescent_MlpDownWIdeal [hMlpDownWIdeal : Cert.MlpDownWIdeal.Facts] : Prop :=
  ∀ (m : (ℓ : Loc Cert.MlpDownWIdeal.nD Cert.MlpDownWIdeal.τ Cert.MlpDownWIdeal.sig) → Buf (Elt Ideal) ℓ) (g : Dev Cert.MlpDownWIdeal.nD → PrngReg), Pre_MlpDownWIdeal m →
    θ_run (Cert.MlpDownWIdeal.defs (F := Ideal)) (onTc (τ := Cert.MlpDownWIdeal.τ) (Cert.MlpDownWIdeal.main (F := Ideal))) ⟨m, fun _ => 0, g⟩ (fun r => (∀ c : Dev Cert.MlpDownWIdeal.nD,
      r.2.mem ((c.tc : Thread Cert.MlpDownWIdeal.nD Cert.MlpDownWIdeal.τ).loc Cert.MlpDownWIdeal.main_arg0) = m ((c.tc : Thread Cert.MlpDownWIdeal.nD Cert.MlpDownWIdeal.τ).loc Cert.MlpDownWIdeal.main_arg0)
      ∧ r.2.mem ((c.tc : Thread Cert.MlpDownWIdeal.nD Cert.MlpDownWIdeal.τ).loc Cert.MlpDownWIdeal.main_arg1) = m ((c.tc : Thread Cert.MlpDownWIdeal.nD Cert.MlpDownWIdeal.τ).loc Cert.MlpDownWIdeal.main_arg1)
      ∧ r.2.mem ((c.tc : Thread Cert.MlpDownWIdeal.nD Cert.MlpDownWIdeal.τ).loc Cert.MlpDownWIdeal.main_arg2) = m ((c.tc : Thread Cert.MlpDownWIdeal.nD Cert.MlpDownWIdeal.τ).loc Cert.MlpDownWIdeal.main_arg2))
      ∧ r.2.sem = fun _ => 0)

def quiescent_MlpDownWRefIdeal [hMlpDownWRefIdeal : Cert.MlpDownWRefIdeal.Facts] : Prop :=
  ∀ (m : (ℓ : Loc Cert.MlpDownWRefIdeal.nD Cert.MlpDownWRefIdeal.τ Cert.MlpDownWRefIdeal.sig) → Buf (Elt Ideal) ℓ) (g : Dev Cert.MlpDownWRefIdeal.nD → PrngReg), Pre_MlpDownWRefIdeal m →
    θ_run (Cert.MlpDownWRefIdeal.defs (F := Ideal)) (onTc (τ := Cert.MlpDownWRefIdeal.τ) (Cert.MlpDownWRefIdeal.main (F := Ideal))) ⟨m, fun _ => 0, g⟩ (fun r => (∀ c : Dev Cert.MlpDownWRefIdeal.nD,
      r.2.mem ((c.tc : Thread Cert.MlpDownWRefIdeal.nD Cert.MlpDownWRefIdeal.τ).loc Cert.MlpDownWRefIdeal.main_arg0) = m ((c.tc : Thread Cert.MlpDownWRefIdeal.nD Cert.MlpDownWRefIdeal.τ).loc Cert.MlpDownWRefIdeal.main_arg0)
      ∧ r.2.mem ((c.tc : Thread Cert.MlpDownWRefIdeal.nD Cert.MlpDownWRefIdeal.τ).loc Cert.MlpDownWRefIdeal.main_arg1) = m ((c.tc : Thread Cert.MlpDownWRefIdeal.nD Cert.MlpDownWRefIdeal.τ).loc Cert.MlpDownWRefIdeal.main_arg1)
      ∧ r.2.mem ((c.tc : Thread Cert.MlpDownWRefIdeal.nD Cert.MlpDownWRefIdeal.τ).loc Cert.MlpDownWRefIdeal.main_arg2) = m ((c.tc : Thread Cert.MlpDownWRefIdeal.nD Cert.MlpDownWRefIdeal.τ).loc Cert.MlpDownWRefIdeal.main_arg2))
      ∧ r.2.sem = fun _ => 0)

def quiescent_MlpDownX [hMlpDownX : Cert.MlpDownX.Facts] : Prop :=
  ∀ (m : (ℓ : Loc Cert.MlpDownX.nD Cert.MlpDownX.τ Cert.MlpDownX.sig) → Buf (Elt Bits) ℓ) (g : Dev Cert.MlpDownX.nD → PrngReg), Pre_MlpDownX m →
    θ_run (Cert.MlpDownX.defs (F := Bits)) (onTc (τ := Cert.MlpDownX.τ) (Cert.MlpDownX.main (F := Bits))) ⟨m, fun _ => 0, g⟩ (fun r => (∀ c : Dev Cert.MlpDownX.nD,
      r.2.mem ((c.tc : Thread Cert.MlpDownX.nD Cert.MlpDownX.τ).loc Cert.MlpDownX.main_arg0) = m ((c.tc : Thread Cert.MlpDownX.nD Cert.MlpDownX.τ).loc Cert.MlpDownX.main_arg0)
      ∧ r.2.mem ((c.tc : Thread Cert.MlpDownX.nD Cert.MlpDownX.τ).loc Cert.MlpDownX.main_arg1) = m ((c.tc : Thread Cert.MlpDownX.nD Cert.MlpDownX.τ).loc Cert.MlpDownX.main_arg1)
      ∧ r.2.mem ((c.tc : Thread Cert.MlpDownX.nD Cert.MlpDownX.τ).loc Cert.MlpDownX.main_arg2) = m ((c.tc : Thread Cert.MlpDownX.nD Cert.MlpDownX.τ).loc Cert.MlpDownX.main_arg2)
      ∧ r.2.mem ((c.tc : Thread Cert.MlpDownX.nD Cert.MlpDownX.τ).loc Cert.MlpDownX.main_arg3) = m ((c.tc : Thread Cert.MlpDownX.nD Cert.MlpDownX.τ).loc Cert.MlpDownX.main_arg3))
      ∧ r.2.sem = fun _ => 0)

def quiescent_MlpDownXIdeal [hMlpDownXIdeal : Cert.MlpDownXIdeal.Facts] : Prop :=
  ∀ (m : (ℓ : Loc Cert.MlpDownXIdeal.nD Cert.MlpDownXIdeal.τ Cert.MlpDownXIdeal.sig) → Buf (Elt Ideal) ℓ) (g : Dev Cert.MlpDownXIdeal.nD → PrngReg), Pre_MlpDownXIdeal m →
    θ_run (Cert.MlpDownXIdeal.defs (F := Ideal)) (onTc (τ := Cert.MlpDownXIdeal.τ) (Cert.MlpDownXIdeal.main (F := Ideal))) ⟨m, fun _ => 0, g⟩ (fun r => (∀ c : Dev Cert.MlpDownXIdeal.nD,
      r.2.mem ((c.tc : Thread Cert.MlpDownXIdeal.nD Cert.MlpDownXIdeal.τ).loc Cert.MlpDownXIdeal.main_arg0) = m ((c.tc : Thread Cert.MlpDownXIdeal.nD Cert.MlpDownXIdeal.τ).loc Cert.MlpDownXIdeal.main_arg0)
      ∧ r.2.mem ((c.tc : Thread Cert.MlpDownXIdeal.nD Cert.MlpDownXIdeal.τ).loc Cert.MlpDownXIdeal.main_arg1) = m ((c.tc : Thread Cert.MlpDownXIdeal.nD Cert.MlpDownXIdeal.τ).loc Cert.MlpDownXIdeal.main_arg1)
      ∧ r.2.mem ((c.tc : Thread Cert.MlpDownXIdeal.nD Cert.MlpDownXIdeal.τ).loc Cert.MlpDownXIdeal.main_arg2) = m ((c.tc : Thread Cert.MlpDownXIdeal.nD Cert.MlpDownXIdeal.τ).loc Cert.MlpDownXIdeal.main_arg2)
      ∧ r.2.mem ((c.tc : Thread Cert.MlpDownXIdeal.nD Cert.MlpDownXIdeal.τ).loc Cert.MlpDownXIdeal.main_arg3) = m ((c.tc : Thread Cert.MlpDownXIdeal.nD Cert.MlpDownXIdeal.τ).loc Cert.MlpDownXIdeal.main_arg3))
      ∧ r.2.sem = fun _ => 0)

def quiescent_MlpDownXRefIdeal [hMlpDownXRefIdeal : Cert.MlpDownXRefIdeal.Facts] : Prop :=
  ∀ (m : (ℓ : Loc Cert.MlpDownXRefIdeal.nD Cert.MlpDownXRefIdeal.τ Cert.MlpDownXRefIdeal.sig) → Buf (Elt Ideal) ℓ) (g : Dev Cert.MlpDownXRefIdeal.nD → PrngReg), Pre_MlpDownXRefIdeal m →
    θ_run (Cert.MlpDownXRefIdeal.defs (F := Ideal)) (onTc (τ := Cert.MlpDownXRefIdeal.τ) (Cert.MlpDownXRefIdeal.main (F := Ideal))) ⟨m, fun _ => 0, g⟩ (fun r => (∀ c : Dev Cert.MlpDownXRefIdeal.nD,
      r.2.mem ((c.tc : Thread Cert.MlpDownXRefIdeal.nD Cert.MlpDownXRefIdeal.τ).loc Cert.MlpDownXRefIdeal.main_arg0) = m ((c.tc : Thread Cert.MlpDownXRefIdeal.nD Cert.MlpDownXRefIdeal.τ).loc Cert.MlpDownXRefIdeal.main_arg0)
      ∧ r.2.mem ((c.tc : Thread Cert.MlpDownXRefIdeal.nD Cert.MlpDownXRefIdeal.τ).loc Cert.MlpDownXRefIdeal.main_arg1) = m ((c.tc : Thread Cert.MlpDownXRefIdeal.nD Cert.MlpDownXRefIdeal.τ).loc Cert.MlpDownXRefIdeal.main_arg1)
      ∧ r.2.mem ((c.tc : Thread Cert.MlpDownXRefIdeal.nD Cert.MlpDownXRefIdeal.τ).loc Cert.MlpDownXRefIdeal.main_arg2) = m ((c.tc : Thread Cert.MlpDownXRefIdeal.nD Cert.MlpDownXRefIdeal.τ).loc Cert.MlpDownXRefIdeal.main_arg2)
      ∧ r.2.mem ((c.tc : Thread Cert.MlpDownXRefIdeal.nD Cert.MlpDownXRefIdeal.τ).loc Cert.MlpDownXRefIdeal.main_arg3) = m ((c.tc : Thread Cert.MlpDownXRefIdeal.nD Cert.MlpDownXRefIdeal.τ).loc Cert.MlpDownXRefIdeal.main_arg3))
      ∧ r.2.sem = fun _ => 0)

def quiescent_MlpUpW [hMlpUpW : Cert.MlpUpW.Facts] : Prop :=
  ∀ (m : (ℓ : Loc Cert.MlpUpW.nD Cert.MlpUpW.τ Cert.MlpUpW.sig) → Buf (Elt Bits) ℓ) (g : Dev Cert.MlpUpW.nD → PrngReg), Pre_MlpUpW m →
    θ_run (Cert.MlpUpW.defs (F := Bits)) (onTc (τ := Cert.MlpUpW.τ) (Cert.MlpUpW.main (F := Bits))) ⟨m, fun _ => 0, g⟩ (fun r => (∀ c : Dev Cert.MlpUpW.nD,
      r.2.mem ((c.tc : Thread Cert.MlpUpW.nD Cert.MlpUpW.τ).loc Cert.MlpUpW.main_arg0) = m ((c.tc : Thread Cert.MlpUpW.nD Cert.MlpUpW.τ).loc Cert.MlpUpW.main_arg0)
      ∧ r.2.mem ((c.tc : Thread Cert.MlpUpW.nD Cert.MlpUpW.τ).loc Cert.MlpUpW.main_arg1) = m ((c.tc : Thread Cert.MlpUpW.nD Cert.MlpUpW.τ).loc Cert.MlpUpW.main_arg1))
      ∧ r.2.sem = fun _ => 0)

def quiescent_MlpUpWIdeal [hMlpUpWIdeal : Cert.MlpUpWIdeal.Facts] : Prop :=
  ∀ (m : (ℓ : Loc Cert.MlpUpWIdeal.nD Cert.MlpUpWIdeal.τ Cert.MlpUpWIdeal.sig) → Buf (Elt Ideal) ℓ) (g : Dev Cert.MlpUpWIdeal.nD → PrngReg), Pre_MlpUpWIdeal m →
    θ_run (Cert.MlpUpWIdeal.defs (F := Ideal)) (onTc (τ := Cert.MlpUpWIdeal.τ) (Cert.MlpUpWIdeal.main (F := Ideal))) ⟨m, fun _ => 0, g⟩ (fun r => (∀ c : Dev Cert.MlpUpWIdeal.nD,
      r.2.mem ((c.tc : Thread Cert.MlpUpWIdeal.nD Cert.MlpUpWIdeal.τ).loc Cert.MlpUpWIdeal.main_arg0) = m ((c.tc : Thread Cert.MlpUpWIdeal.nD Cert.MlpUpWIdeal.τ).loc Cert.MlpUpWIdeal.main_arg0)
      ∧ r.2.mem ((c.tc : Thread Cert.MlpUpWIdeal.nD Cert.MlpUpWIdeal.τ).loc Cert.MlpUpWIdeal.main_arg1) = m ((c.tc : Thread Cert.MlpUpWIdeal.nD Cert.MlpUpWIdeal.τ).loc Cert.MlpUpWIdeal.main_arg1))
      ∧ r.2.sem = fun _ => 0)

def quiescent_MlpUpWRefIdeal [hMlpUpWRefIdeal : Cert.MlpUpWRefIdeal.Facts] : Prop :=
  ∀ (m : (ℓ : Loc Cert.MlpUpWRefIdeal.nD Cert.MlpUpWRefIdeal.τ Cert.MlpUpWRefIdeal.sig) → Buf (Elt Ideal) ℓ) (g : Dev Cert.MlpUpWRefIdeal.nD → PrngReg), Pre_MlpUpWRefIdeal m →
    θ_run (Cert.MlpUpWRefIdeal.defs (F := Ideal)) (onTc (τ := Cert.MlpUpWRefIdeal.τ) (Cert.MlpUpWRefIdeal.main (F := Ideal))) ⟨m, fun _ => 0, g⟩ (fun r => (∀ c : Dev Cert.MlpUpWRefIdeal.nD,
      r.2.mem ((c.tc : Thread Cert.MlpUpWRefIdeal.nD Cert.MlpUpWRefIdeal.τ).loc Cert.MlpUpWRefIdeal.main_arg0) = m ((c.tc : Thread Cert.MlpUpWRefIdeal.nD Cert.MlpUpWRefIdeal.τ).loc Cert.MlpUpWRefIdeal.main_arg0)
      ∧ r.2.mem ((c.tc : Thread Cert.MlpUpWRefIdeal.nD Cert.MlpUpWRefIdeal.τ).loc Cert.MlpUpWRefIdeal.main_arg1) = m ((c.tc : Thread Cert.MlpUpWRefIdeal.nD Cert.MlpUpWRefIdeal.τ).loc Cert.MlpUpWRefIdeal.main_arg1))
      ∧ r.2.sem = fun _ => 0)

def quiescent_MlpUpX [hMlpUpX : Cert.MlpUpX.Facts] : Prop :=
  ∀ (m : (ℓ : Loc Cert.MlpUpX.nD Cert.MlpUpX.τ Cert.MlpUpX.sig) → Buf (Elt Bits) ℓ) (g : Dev Cert.MlpUpX.nD → PrngReg), Pre_MlpUpX m →
    θ_run (Cert.MlpUpX.defs (F := Bits)) (onTc (τ := Cert.MlpUpX.τ) (Cert.MlpUpX.main (F := Bits))) ⟨m, fun _ => 0, g⟩ (fun r => (∀ c : Dev Cert.MlpUpX.nD,
      r.2.mem ((c.tc : Thread Cert.MlpUpX.nD Cert.MlpUpX.τ).loc Cert.MlpUpX.main_arg0) = m ((c.tc : Thread Cert.MlpUpX.nD Cert.MlpUpX.τ).loc Cert.MlpUpX.main_arg0)
      ∧ r.2.mem ((c.tc : Thread Cert.MlpUpX.nD Cert.MlpUpX.τ).loc Cert.MlpUpX.main_arg1) = m ((c.tc : Thread Cert.MlpUpX.nD Cert.MlpUpX.τ).loc Cert.MlpUpX.main_arg1))
      ∧ r.2.sem = fun _ => 0)

def quiescent_MlpUpXIdeal [hMlpUpXIdeal : Cert.MlpUpXIdeal.Facts] : Prop :=
  ∀ (m : (ℓ : Loc Cert.MlpUpXIdeal.nD Cert.MlpUpXIdeal.τ Cert.MlpUpXIdeal.sig) → Buf (Elt Ideal) ℓ) (g : Dev Cert.MlpUpXIdeal.nD → PrngReg), Pre_MlpUpXIdeal m →
    θ_run (Cert.MlpUpXIdeal.defs (F := Ideal)) (onTc (τ := Cert.MlpUpXIdeal.τ) (Cert.MlpUpXIdeal.main (F := Ideal))) ⟨m, fun _ => 0, g⟩ (fun r => (∀ c : Dev Cert.MlpUpXIdeal.nD,
      r.2.mem ((c.tc : Thread Cert.MlpUpXIdeal.nD Cert.MlpUpXIdeal.τ).loc Cert.MlpUpXIdeal.main_arg0) = m ((c.tc : Thread Cert.MlpUpXIdeal.nD Cert.MlpUpXIdeal.τ).loc Cert.MlpUpXIdeal.main_arg0)
      ∧ r.2.mem ((c.tc : Thread Cert.MlpUpXIdeal.nD Cert.MlpUpXIdeal.τ).loc Cert.MlpUpXIdeal.main_arg1) = m ((c.tc : Thread Cert.MlpUpXIdeal.nD Cert.MlpUpXIdeal.τ).loc Cert.MlpUpXIdeal.main_arg1))
      ∧ r.2.sem = fun _ => 0)

def quiescent_MlpUpXRefIdeal [hMlpUpXRefIdeal : Cert.MlpUpXRefIdeal.Facts] : Prop :=
  ∀ (m : (ℓ : Loc Cert.MlpUpXRefIdeal.nD Cert.MlpUpXRefIdeal.τ Cert.MlpUpXRefIdeal.sig) → Buf (Elt Ideal) ℓ) (g : Dev Cert.MlpUpXRefIdeal.nD → PrngReg), Pre_MlpUpXRefIdeal m →
    θ_run (Cert.MlpUpXRefIdeal.defs (F := Ideal)) (onTc (τ := Cert.MlpUpXRefIdeal.τ) (Cert.MlpUpXRefIdeal.main (F := Ideal))) ⟨m, fun _ => 0, g⟩ (fun r => (∀ c : Dev Cert.MlpUpXRefIdeal.nD,
      r.2.mem ((c.tc : Thread Cert.MlpUpXRefIdeal.nD Cert.MlpUpXRefIdeal.τ).loc Cert.MlpUpXRefIdeal.main_arg0) = m ((c.tc : Thread Cert.MlpUpXRefIdeal.nD Cert.MlpUpXRefIdeal.τ).loc Cert.MlpUpXRefIdeal.main_arg0)
      ∧ r.2.mem ((c.tc : Thread Cert.MlpUpXRefIdeal.nD Cert.MlpUpXRefIdeal.τ).loc Cert.MlpUpXRefIdeal.main_arg1) = m ((c.tc : Thread Cert.MlpUpXRefIdeal.nD Cert.MlpUpXRefIdeal.τ).loc Cert.MlpUpXRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1))
      ∧ r.2.sem = fun _ => 0)

def quiescent_MixOutX [hMixOutX : Cert.MixOutX.Facts] : Prop :=
  ∀ (m : (ℓ : Loc Cert.MixOutX.nD Cert.MixOutX.τ Cert.MixOutX.sig) → Buf (Elt Bits) ℓ) (g : Dev Cert.MixOutX.nD → PrngReg), Pre_MixOutX m →
    θ_run (Cert.MixOutX.defs (F := Bits)) (onTc (τ := Cert.MixOutX.τ) (Cert.MixOutX.main (F := Bits))) ⟨m, fun _ => 0, g⟩ (fun r => (∀ c : Dev Cert.MixOutX.nD,
      r.2.mem ((c.tc : Thread Cert.MixOutX.nD Cert.MixOutX.τ).loc Cert.MixOutX.main_arg0) = m ((c.tc : Thread Cert.MixOutX.nD Cert.MixOutX.τ).loc Cert.MixOutX.main_arg0)
      ∧ r.2.mem ((c.tc : Thread Cert.MixOutX.nD Cert.MixOutX.τ).loc Cert.MixOutX.main_arg1) = m ((c.tc : Thread Cert.MixOutX.nD Cert.MixOutX.τ).loc Cert.MixOutX.main_arg1))
      ∧ r.2.sem = fun _ => 0)

def quiescent_MixOutXIdeal [hMixOutXIdeal : Cert.MixOutXIdeal.Facts] : Prop :=
  ∀ (m : (ℓ : Loc Cert.MixOutXIdeal.nD Cert.MixOutXIdeal.τ Cert.MixOutXIdeal.sig) → Buf (Elt Ideal) ℓ) (g : Dev Cert.MixOutXIdeal.nD → PrngReg), Pre_MixOutXIdeal m →
    θ_run (Cert.MixOutXIdeal.defs (F := Ideal)) (onTc (τ := Cert.MixOutXIdeal.τ) (Cert.MixOutXIdeal.main (F := Ideal))) ⟨m, fun _ => 0, g⟩ (fun r => (∀ c : Dev Cert.MixOutXIdeal.nD,
      r.2.mem ((c.tc : Thread Cert.MixOutXIdeal.nD Cert.MixOutXIdeal.τ).loc Cert.MixOutXIdeal.main_arg0) = m ((c.tc : Thread Cert.MixOutXIdeal.nD Cert.MixOutXIdeal.τ).loc Cert.MixOutXIdeal.main_arg0)
      ∧ r.2.mem ((c.tc : Thread Cert.MixOutXIdeal.nD Cert.MixOutXIdeal.τ).loc Cert.MixOutXIdeal.main_arg1) = m ((c.tc : Thread Cert.MixOutXIdeal.nD Cert.MixOutXIdeal.τ).loc Cert.MixOutXIdeal.main_arg1))
      ∧ r.2.sem = fun _ => 0)

def quiescent_MixOutXRefIdeal [hMixOutXRefIdeal : Cert.MixOutXRefIdeal.Facts] : Prop :=
  ∀ (m : (ℓ : Loc Cert.MixOutXRefIdeal.nD Cert.MixOutXRefIdeal.τ Cert.MixOutXRefIdeal.sig) → Buf (Elt Ideal) ℓ) (g : Dev Cert.MixOutXRefIdeal.nD → PrngReg), Pre_MixOutXRefIdeal m →
    θ_run (Cert.MixOutXRefIdeal.defs (F := Ideal)) (onTc (τ := Cert.MixOutXRefIdeal.τ) (Cert.MixOutXRefIdeal.main (F := Ideal))) ⟨m, fun _ => 0, g⟩ (fun r => (∀ c : Dev Cert.MixOutXRefIdeal.nD,
      r.2.mem ((c.tc : Thread Cert.MixOutXRefIdeal.nD Cert.MixOutXRefIdeal.τ).loc Cert.MixOutXRefIdeal.main_arg0) = m ((c.tc : Thread Cert.MixOutXRefIdeal.nD Cert.MixOutXRefIdeal.τ).loc Cert.MixOutXRefIdeal.main_arg0)
      ∧ r.2.mem ((c.tc : Thread Cert.MixOutXRefIdeal.nD Cert.MixOutXRefIdeal.τ).loc Cert.MixOutXRefIdeal.main_arg1) = m ((c.tc : Thread Cert.MixOutXRefIdeal.nD Cert.MixOutXRefIdeal.τ).loc Cert.MixOutXRefIdeal.main_arg1))
      ∧ r.2.sem = fun _ => 0)

def quiescent_MixOutW [hMixOutW : Cert.MixOutW.Facts] : Prop :=
  ∀ (m : (ℓ : Loc Cert.MixOutW.nD Cert.MixOutW.τ Cert.MixOutW.sig) → Buf (Elt Bits) ℓ) (g : Dev Cert.MixOutW.nD → PrngReg), Pre_MixOutW m →
    θ_run (Cert.MixOutW.defs (F := Bits)) (onTc (τ := Cert.MixOutW.τ) (Cert.MixOutW.main (F := Bits))) ⟨m, fun _ => 0, g⟩ (fun r => (∀ c : Dev Cert.MixOutW.nD,
      r.2.mem ((c.tc : Thread Cert.MixOutW.nD Cert.MixOutW.τ).loc Cert.MixOutW.main_arg0) = m ((c.tc : Thread Cert.MixOutW.nD Cert.MixOutW.τ).loc Cert.MixOutW.main_arg0)
      ∧ r.2.mem ((c.tc : Thread Cert.MixOutW.nD Cert.MixOutW.τ).loc Cert.MixOutW.main_arg1) = m ((c.tc : Thread Cert.MixOutW.nD Cert.MixOutW.τ).loc Cert.MixOutW.main_arg1))
      ∧ r.2.sem = fun _ => 0)

def quiescent_MixOutWIdeal [hMixOutWIdeal : Cert.MixOutWIdeal.Facts] : Prop :=
  ∀ (m : (ℓ : Loc Cert.MixOutWIdeal.nD Cert.MixOutWIdeal.τ Cert.MixOutWIdeal.sig) → Buf (Elt Ideal) ℓ) (g : Dev Cert.MixOutWIdeal.nD → PrngReg), Pre_MixOutWIdeal m →
    θ_run (Cert.MixOutWIdeal.defs (F := Ideal)) (onTc (τ := Cert.MixOutWIdeal.τ) (Cert.MixOutWIdeal.main (F := Ideal))) ⟨m, fun _ => 0, g⟩ (fun r => (∀ c : Dev Cert.MixOutWIdeal.nD,
      r.2.mem ((c.tc : Thread Cert.MixOutWIdeal.nD Cert.MixOutWIdeal.τ).loc Cert.MixOutWIdeal.main_arg0) = m ((c.tc : Thread Cert.MixOutWIdeal.nD Cert.MixOutWIdeal.τ).loc Cert.MixOutWIdeal.main_arg0)
      ∧ r.2.mem ((c.tc : Thread Cert.MixOutWIdeal.nD Cert.MixOutWIdeal.τ).loc Cert.MixOutWIdeal.main_arg1) = m ((c.tc : Thread Cert.MixOutWIdeal.nD Cert.MixOutWIdeal.τ).loc Cert.MixOutWIdeal.main_arg1))
      ∧ r.2.sem = fun _ => 0)

def quiescent_MixOutWRefIdeal [hMixOutWRefIdeal : Cert.MixOutWRefIdeal.Facts] : Prop :=
  ∀ (m : (ℓ : Loc Cert.MixOutWRefIdeal.nD Cert.MixOutWRefIdeal.τ Cert.MixOutWRefIdeal.sig) → Buf (Elt Ideal) ℓ) (g : Dev Cert.MixOutWRefIdeal.nD → PrngReg), Pre_MixOutWRefIdeal m →
    θ_run (Cert.MixOutWRefIdeal.defs (F := Ideal)) (onTc (τ := Cert.MixOutWRefIdeal.τ) (Cert.MixOutWRefIdeal.main (F := Ideal))) ⟨m, fun _ => 0, g⟩ (fun r => (∀ c : Dev Cert.MixOutWRefIdeal.nD,
      r.2.mem ((c.tc : Thread Cert.MixOutWRefIdeal.nD Cert.MixOutWRefIdeal.τ).loc Cert.MixOutWRefIdeal.main_arg0) = m ((c.tc : Thread Cert.MixOutWRefIdeal.nD Cert.MixOutWRefIdeal.τ).loc Cert.MixOutWRefIdeal.main_arg0)
      ∧ r.2.mem ((c.tc : Thread Cert.MixOutWRefIdeal.nD Cert.MixOutWRefIdeal.τ).loc Cert.MixOutWRefIdeal.main_arg1) = m ((c.tc : Thread Cert.MixOutWRefIdeal.nD Cert.MixOutWRefIdeal.τ).loc Cert.MixOutWRefIdeal.main_arg1))
      ∧ r.2.sem = fun _ => 0)

def quiescent_AbIn [hAbIn : Cert.AbIn.Facts] : Prop :=
  ∀ (m : (ℓ : Loc Cert.AbIn.nD Cert.AbIn.τ Cert.AbIn.sig) → Buf (Elt Bits) ℓ) (g : Dev Cert.AbIn.nD → PrngReg), Pre_AbIn m →
    θ_run (Cert.AbIn.defs (F := Bits)) (onTc (τ := Cert.AbIn.τ) (Cert.AbIn.main (F := Bits))) ⟨m, fun _ => 0, g⟩ (fun r => (∀ c : Dev Cert.AbIn.nD,
      r.2.mem ((c.tc : Thread Cert.AbIn.nD Cert.AbIn.τ).loc Cert.AbIn.main_arg0) = m ((c.tc : Thread Cert.AbIn.nD Cert.AbIn.τ).loc Cert.AbIn.main_arg0)
      ∧ r.2.mem ((c.tc : Thread Cert.AbIn.nD Cert.AbIn.τ).loc Cert.AbIn.main_arg1) = m ((c.tc : Thread Cert.AbIn.nD Cert.AbIn.τ).loc Cert.AbIn.main_arg1))
      ∧ r.2.sem = fun _ => 0)

def quiescent_AbInIdeal [hAbInIdeal : Cert.AbInIdeal.Facts] : Prop :=
  ∀ (m : (ℓ : Loc Cert.AbInIdeal.nD Cert.AbInIdeal.τ Cert.AbInIdeal.sig) → Buf (Elt Ideal) ℓ) (g : Dev Cert.AbInIdeal.nD → PrngReg), Pre_AbInIdeal m →
    θ_run (Cert.AbInIdeal.defs (F := Ideal)) (onTc (τ := Cert.AbInIdeal.τ) (Cert.AbInIdeal.main (F := Ideal))) ⟨m, fun _ => 0, g⟩ (fun r => (∀ c : Dev Cert.AbInIdeal.nD,
      r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
      ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1))
      ∧ r.2.sem = fun _ => 0)

def quiescent_AbInRefIdeal [hAbInRefIdeal : Cert.AbInRefIdeal.Facts] : Prop :=
  ∀ (m : (ℓ : Loc Cert.AbInRefIdeal.nD Cert.AbInRefIdeal.τ Cert.AbInRefIdeal.sig) → Buf (Elt Ideal) ℓ) (g : Dev Cert.AbInRefIdeal.nD → PrngReg), Pre_AbInRefIdeal m →
    θ_run (Cert.AbInRefIdeal.defs (F := Ideal)) (onTc (τ := Cert.AbInRefIdeal.τ) (Cert.AbInRefIdeal.main (F := Ideal))) ⟨m, fun _ => 0, g⟩ (fun r => (∀ c : Dev Cert.AbInRefIdeal.nD,
      r.2.mem ((c.tc : Thread Cert.AbInRefIdeal.nD Cert.AbInRefIdeal.τ).loc Cert.AbInRefIdeal.main_arg0) = m ((c.tc : Thread Cert.AbInRefIdeal.nD Cert.AbInRefIdeal.τ).loc Cert.AbInRefIdeal.main_arg0)
      ∧ r.2.mem ((c.tc : Thread Cert.AbInRefIdeal.nD Cert.AbInRefIdeal.τ).loc Cert.AbInRefIdeal.main_arg1) = m ((c.tc : Thread Cert.AbInRefIdeal.nD Cert.AbInRefIdeal.τ).loc Cert.AbInRefIdeal.main_arg1))
      ∧ r.2.sem = fun _ => 0)

def quiescent_AbInX [hAbInX : Cert.AbInX.Facts] : Prop :=
  ∀ (m : (ℓ : Loc Cert.AbInX.nD Cert.AbInX.τ Cert.AbInX.sig) → Buf (Elt Bits) ℓ) (g : Dev Cert.AbInX.nD → PrngReg), Pre_AbInX m →
    θ_run (Cert.AbInX.defs (F := Bits)) (onTc (τ := Cert.AbInX.τ) (Cert.AbInX.main (F := Bits))) ⟨m, fun _ => 0, g⟩ (fun r => (∀ c : Dev Cert.AbInX.nD,
      r.2.mem ((c.tc : Thread Cert.AbInX.nD Cert.AbInX.τ).loc Cert.AbInX.main_arg0) = m ((c.tc : Thread Cert.AbInX.nD Cert.AbInX.τ).loc Cert.AbInX.main_arg0)
      ∧ r.2.mem ((c.tc : Thread Cert.AbInX.nD Cert.AbInX.τ).loc Cert.AbInX.main_arg1) = m ((c.tc : Thread Cert.AbInX.nD Cert.AbInX.τ).loc Cert.AbInX.main_arg1))
      ∧ r.2.sem = fun _ => 0)

def quiescent_AbInXIdeal [hAbInXIdeal : Cert.AbInXIdeal.Facts] : Prop :=
  ∀ (m : (ℓ : Loc Cert.AbInXIdeal.nD Cert.AbInXIdeal.τ Cert.AbInXIdeal.sig) → Buf (Elt Ideal) ℓ) (g : Dev Cert.AbInXIdeal.nD → PrngReg), Pre_AbInXIdeal m →
    θ_run (Cert.AbInXIdeal.defs (F := Ideal)) (onTc (τ := Cert.AbInXIdeal.τ) (Cert.AbInXIdeal.main (F := Ideal))) ⟨m, fun _ => 0, g⟩ (fun r => (∀ c : Dev Cert.AbInXIdeal.nD,
      r.2.mem ((c.tc : Thread Cert.AbInXIdeal.nD Cert.AbInXIdeal.τ).loc Cert.AbInXIdeal.main_arg0) = m ((c.tc : Thread Cert.AbInXIdeal.nD Cert.AbInXIdeal.τ).loc Cert.AbInXIdeal.main_arg0)
      ∧ r.2.mem ((c.tc : Thread Cert.AbInXIdeal.nD Cert.AbInXIdeal.τ).loc Cert.AbInXIdeal.main_arg1) = m ((c.tc : Thread Cert.AbInXIdeal.nD Cert.AbInXIdeal.τ).loc Cert.AbInXIdeal.main_arg1))
      ∧ r.2.sem = fun _ => 0)

def quiescent_AbInXRefIdeal [hAbInXRefIdeal : Cert.AbInXRefIdeal.Facts] : Prop :=
  ∀ (m : (ℓ : Loc Cert.AbInXRefIdeal.nD Cert.AbInXRefIdeal.τ Cert.AbInXRefIdeal.sig) → Buf (Elt Ideal) ℓ) (g : Dev Cert.AbInXRefIdeal.nD → PrngReg), Pre_AbInXRefIdeal m →
    θ_run (Cert.AbInXRefIdeal.defs (F := Ideal)) (onTc (τ := Cert.AbInXRefIdeal.τ) (Cert.AbInXRefIdeal.main (F := Ideal))) ⟨m, fun _ => 0, g⟩ (fun r => (∀ c : Dev Cert.AbInXRefIdeal.nD,
      r.2.mem ((c.tc : Thread Cert.AbInXRefIdeal.nD Cert.AbInXRefIdeal.τ).loc Cert.AbInXRefIdeal.main_arg0) = m ((c.tc : Thread Cert.AbInXRefIdeal.nD Cert.AbInXRefIdeal.τ).loc Cert.AbInXRefIdeal.main_arg0)
      ∧ r.2.mem ((c.tc : Thread Cert.AbInXRefIdeal.nD Cert.AbInXRefIdeal.τ).loc Cert.AbInXRefIdeal.main_arg1) = m ((c.tc : Thread Cert.AbInXRefIdeal.nD Cert.AbInXRefIdeal.τ).loc Cert.AbInXRefIdeal.main_arg1))
      ∧ r.2.sem = fun _ => 0)

def quiescent_AbInW [hAbInW : Cert.AbInW.Facts] : Prop :=
  ∀ (m : (ℓ : Loc Cert.AbInW.nD Cert.AbInW.τ Cert.AbInW.sig) → Buf (Elt Bits) ℓ) (g : Dev Cert.AbInW.nD → PrngReg), Pre_AbInW m →
    θ_run (Cert.AbInW.defs (F := Bits)) (onTc (τ := Cert.AbInW.τ) (Cert.AbInW.main (F := Bits))) ⟨m, fun _ => 0, g⟩ (fun r => (∀ c : Dev Cert.AbInW.nD,
      r.2.mem ((c.tc : Thread Cert.AbInW.nD Cert.AbInW.τ).loc Cert.AbInW.main_arg0) = m ((c.tc : Thread Cert.AbInW.nD Cert.AbInW.τ).loc Cert.AbInW.main_arg0)
      ∧ r.2.mem ((c.tc : Thread Cert.AbInW.nD Cert.AbInW.τ).loc Cert.AbInW.main_arg1) = m ((c.tc : Thread Cert.AbInW.nD Cert.AbInW.τ).loc Cert.AbInW.main_arg1))
      ∧ r.2.sem = fun _ => 0)

def quiescent_AbInWIdeal [hAbInWIdeal : Cert.AbInWIdeal.Facts] : Prop :=
  ∀ (m : (ℓ : Loc Cert.AbInWIdeal.nD Cert.AbInWIdeal.τ Cert.AbInWIdeal.sig) → Buf (Elt Ideal) ℓ) (g : Dev Cert.AbInWIdeal.nD → PrngReg), Pre_AbInWIdeal m →
    θ_run (Cert.AbInWIdeal.defs (F := Ideal)) (onTc (τ := Cert.AbInWIdeal.τ) (Cert.AbInWIdeal.main (F := Ideal))) ⟨m, fun _ => 0, g⟩ (fun r => (∀ c : Dev Cert.AbInWIdeal.nD,
      r.2.mem ((c.tc : Thread Cert.AbInWIdeal.nD Cert.AbInWIdeal.τ).loc Cert.AbInWIdeal.main_arg0) = m ((c.tc : Thread Cert.AbInWIdeal.nD Cert.AbInWIdeal.τ).loc Cert.AbInWIdeal.main_arg0)
      ∧ r.2.mem ((c.tc : Thread Cert.AbInWIdeal.nD Cert.AbInWIdeal.τ).loc Cert.AbInWIdeal.main_arg1) = m ((c.tc : Thread Cert.AbInWIdeal.nD Cert.AbInWIdeal.τ).loc Cert.AbInWIdeal.main_arg1))
      ∧ r.2.sem = fun _ => 0)

def quiescent_AbInWRefIdeal [hAbInWRefIdeal : Cert.AbInWRefIdeal.Facts] : Prop :=
  ∀ (m : (ℓ : Loc Cert.AbInWRefIdeal.nD Cert.AbInWRefIdeal.τ Cert.AbInWRefIdeal.sig) → Buf (Elt Ideal) ℓ) (g : Dev Cert.AbInWRefIdeal.nD → PrngReg), Pre_AbInWRefIdeal m →
    θ_run (Cert.AbInWRefIdeal.defs (F := Ideal)) (onTc (τ := Cert.AbInWRefIdeal.τ) (Cert.AbInWRefIdeal.main (F := Ideal))) ⟨m, fun _ => 0, g⟩ (fun r => (∀ c : Dev Cert.AbInWRefIdeal.nD,
      r.2.mem ((c.tc : Thread Cert.AbInWRefIdeal.nD Cert.AbInWRefIdeal.τ).loc Cert.AbInWRefIdeal.main_arg0) = m ((c.tc : Thread Cert.AbInWRefIdeal.nD Cert.AbInWRefIdeal.τ).loc Cert.AbInWRefIdeal.main_arg0)
      ∧ r.2.mem ((c.tc : Thread Cert.AbInWRefIdeal.nD Cert.AbInWRefIdeal.τ).loc Cert.AbInWRefIdeal.main_arg1) = m ((c.tc : Thread Cert.AbInWRefIdeal.nD Cert.AbInWRefIdeal.τ).loc Cert.AbInWRefIdeal.main_arg1))
      ∧ r.2.sem = fun _ => 0)

def quiescent_MlaUp [hMlaUp : Cert.MlaUp.Facts] : Prop :=
  ∀ (m : (ℓ : Loc Cert.MlaUp.nD Cert.MlaUp.τ Cert.MlaUp.sig) → Buf (Elt Bits) ℓ) (g : Dev Cert.MlaUp.nD → PrngReg), Pre_MlaUp m →
    θ_run (Cert.MlaUp.defs (F := Bits)) (onTc (τ := Cert.MlaUp.τ) (Cert.MlaUp.main (F := Bits))) ⟨m, fun _ => 0, g⟩ (fun r => (∀ c : Dev Cert.MlaUp.nD,
      r.2.mem ((c.tc : Thread Cert.MlaUp.nD Cert.MlaUp.τ).loc Cert.MlaUp.main_arg0) = m ((c.tc : Thread Cert.MlaUp.nD Cert.MlaUp.τ).loc Cert.MlaUp.main_arg0)
      ∧ r.2.mem ((c.tc : Thread Cert.MlaUp.nD Cert.MlaUp.τ).loc Cert.MlaUp.main_arg1) = m ((c.tc : Thread Cert.MlaUp.nD Cert.MlaUp.τ).loc Cert.MlaUp.main_arg1))
      ∧ r.2.sem = fun _ => 0)

def quiescent_MlaUpIdeal [hMlaUpIdeal : Cert.MlaUpIdeal.Facts] : Prop :=
  ∀ (m : (ℓ : Loc Cert.MlaUpIdeal.nD Cert.MlaUpIdeal.τ Cert.MlaUpIdeal.sig) → Buf (Elt Ideal) ℓ) (g : Dev Cert.MlaUpIdeal.nD → PrngReg), Pre_MlaUpIdeal m →
    θ_run (Cert.MlaUpIdeal.defs (F := Ideal)) (onTc (τ := Cert.MlaUpIdeal.τ) (Cert.MlaUpIdeal.main (F := Ideal))) ⟨m, fun _ => 0, g⟩ (fun r => (∀ c : Dev Cert.MlaUpIdeal.nD,
      r.2.mem ((c.tc : Thread Cert.MlaUpIdeal.nD Cert.MlaUpIdeal.τ).loc Cert.MlaUpIdeal.main_arg0) = m ((c.tc : Thread Cert.MlaUpIdeal.nD Cert.MlaUpIdeal.τ).loc Cert.MlaUpIdeal.main_arg0)
      ∧ r.2.mem ((c.tc : Thread Cert.MlaUpIdeal.nD Cert.MlaUpIdeal.τ).loc Cert.MlaUpIdeal.main_arg1) = m ((c.tc : Thread Cert.MlaUpIdeal.nD Cert.MlaUpIdeal.τ).loc Cert.MlaUpIdeal.main_arg1))
      ∧ r.2.sem = fun _ => 0)

def quiescent_MlaUpRefIdeal [hMlaUpRefIdeal : Cert.MlaUpRefIdeal.Facts] : Prop :=
  ∀ (m : (ℓ : Loc Cert.MlaUpRefIdeal.nD Cert.MlaUpRefIdeal.τ Cert.MlaUpRefIdeal.sig) → Buf (Elt Ideal) ℓ) (g : Dev Cert.MlaUpRefIdeal.nD → PrngReg), Pre_MlaUpRefIdeal m →
    θ_run (Cert.MlaUpRefIdeal.defs (F := Ideal)) (onTc (τ := Cert.MlaUpRefIdeal.τ) (Cert.MlaUpRefIdeal.main (F := Ideal))) ⟨m, fun _ => 0, g⟩ (fun r => (∀ c : Dev Cert.MlaUpRefIdeal.nD,
      r.2.mem ((c.tc : Thread Cert.MlaUpRefIdeal.nD Cert.MlaUpRefIdeal.τ).loc Cert.MlaUpRefIdeal.main_arg0) = m ((c.tc : Thread Cert.MlaUpRefIdeal.nD Cert.MlaUpRefIdeal.τ).loc Cert.MlaUpRefIdeal.main_arg0)
      ∧ r.2.mem ((c.tc : Thread Cert.MlaUpRefIdeal.nD Cert.MlaUpRefIdeal.τ).loc Cert.MlaUpRefIdeal.main_arg1) = m ((c.tc : Thread Cert.MlaUpRefIdeal.nD Cert.MlaUpRefIdeal.τ).loc Cert.MlaUpRefIdeal.main_arg1))
      ∧ r.2.sem = fun _ => 0)

def quiescent_MlaUpX [hMlaUpX : Cert.MlaUpX.Facts] : Prop :=
  ∀ (m : (ℓ : Loc Cert.MlaUpX.nD Cert.MlaUpX.τ Cert.MlaUpX.sig) → Buf (Elt Bits) ℓ) (g : Dev Cert.MlaUpX.nD → PrngReg), Pre_MlaUpX m →
    θ_run (Cert.MlaUpX.defs (F := Bits)) (onTc (τ := Cert.MlaUpX.τ) (Cert.MlaUpX.main (F := Bits))) ⟨m, fun _ => 0, g⟩ (fun r => (∀ c : Dev Cert.MlaUpX.nD,
      r.2.mem ((c.tc : Thread Cert.MlaUpX.nD Cert.MlaUpX.τ).loc Cert.MlaUpX.main_arg0) = m ((c.tc : Thread Cert.MlaUpX.nD Cert.MlaUpX.τ).loc Cert.MlaUpX.main_arg0)
      ∧ r.2.mem ((c.tc : Thread Cert.MlaUpX.nD Cert.MlaUpX.τ).loc Cert.MlaUpX.main_arg1) = m ((c.tc : Thread Cert.MlaUpX.nD Cert.MlaUpX.τ).loc Cert.MlaUpX.main_arg1))
      ∧ r.2.sem = fun _ => 0)

def quiescent_MlaUpXIdeal [hMlaUpXIdeal : Cert.MlaUpXIdeal.Facts] : Prop :=
  ∀ (m : (ℓ : Loc Cert.MlaUpXIdeal.nD Cert.MlaUpXIdeal.τ Cert.MlaUpXIdeal.sig) → Buf (Elt Ideal) ℓ) (g : Dev Cert.MlaUpXIdeal.nD → PrngReg), Pre_MlaUpXIdeal m →
    θ_run (Cert.MlaUpXIdeal.defs (F := Ideal)) (onTc (τ := Cert.MlaUpXIdeal.τ) (Cert.MlaUpXIdeal.main (F := Ideal))) ⟨m, fun _ => 0, g⟩ (fun r => (∀ c : Dev Cert.MlaUpXIdeal.nD,
      r.2.mem ((c.tc : Thread Cert.MlaUpXIdeal.nD Cert.MlaUpXIdeal.τ).loc Cert.MlaUpXIdeal.main_arg0) = m ((c.tc : Thread Cert.MlaUpXIdeal.nD Cert.MlaUpXIdeal.τ).loc Cert.MlaUpXIdeal.main_arg0)
      ∧ r.2.mem ((c.tc : Thread Cert.MlaUpXIdeal.nD Cert.MlaUpXIdeal.τ).loc Cert.MlaUpXIdeal.main_arg1) = m ((c.tc : Thread Cert.MlaUpXIdeal.nD Cert.MlaUpXIdeal.τ).loc Cert.MlaUpXIdeal.main_arg1))
      ∧ r.2.sem = fun _ => 0)

def quiescent_MlaUpXRefIdeal [hMlaUpXRefIdeal : Cert.MlaUpXRefIdeal.Facts] : Prop :=
  ∀ (m : (ℓ : Loc Cert.MlaUpXRefIdeal.nD Cert.MlaUpXRefIdeal.τ Cert.MlaUpXRefIdeal.sig) → Buf (Elt Ideal) ℓ) (g : Dev Cert.MlaUpXRefIdeal.nD → PrngReg), Pre_MlaUpXRefIdeal m →
    θ_run (Cert.MlaUpXRefIdeal.defs (F := Ideal)) (onTc (τ := Cert.MlaUpXRefIdeal.τ) (Cert.MlaUpXRefIdeal.main (F := Ideal))) ⟨m, fun _ => 0, g⟩ (fun r => (∀ c : Dev Cert.MlaUpXRefIdeal.nD,
      r.2.mem ((c.tc : Thread Cert.MlaUpXRefIdeal.nD Cert.MlaUpXRefIdeal.τ).loc Cert.MlaUpXRefIdeal.main_arg0) = m ((c.tc : Thread Cert.MlaUpXRefIdeal.nD Cert.MlaUpXRefIdeal.τ).loc Cert.MlaUpXRefIdeal.main_arg0)
      ∧ r.2.mem ((c.tc : Thread Cert.MlaUpXRefIdeal.nD Cert.MlaUpXRefIdeal.τ).loc Cert.MlaUpXRefIdeal.main_arg1) = m ((c.tc : Thread Cert.MlaUpXRefIdeal.nD Cert.MlaUpXRefIdeal.τ).loc Cert.MlaUpXRefIdeal.main_arg1))
      ∧ r.2.sem = fun _ => 0)

def quiescent_MlaUpW [hMlaUpW : Cert.MlaUpW.Facts] : Prop :=
  ∀ (m : (ℓ : Loc Cert.MlaUpW.nD Cert.MlaUpW.τ Cert.MlaUpW.sig) → Buf (Elt Bits) ℓ) (g : Dev Cert.MlaUpW.nD → PrngReg), Pre_MlaUpW m →
    θ_run (Cert.MlaUpW.defs (F := Bits)) (onTc (τ := Cert.MlaUpW.τ) (Cert.MlaUpW.main (F := Bits))) ⟨m, fun _ => 0, g⟩ (fun r => (∀ c : Dev Cert.MlaUpW.nD,
      r.2.mem ((c.tc : Thread Cert.MlaUpW.nD Cert.MlaUpW.τ).loc Cert.MlaUpW.main_arg0) = m ((c.tc : Thread Cert.MlaUpW.nD Cert.MlaUpW.τ).loc Cert.MlaUpW.main_arg0)
      ∧ r.2.mem ((c.tc : Thread Cert.MlaUpW.nD Cert.MlaUpW.τ).loc Cert.MlaUpW.main_arg1) = m ((c.tc : Thread Cert.MlaUpW.nD Cert.MlaUpW.τ).loc Cert.MlaUpW.main_arg1))
      ∧ r.2.sem = fun _ => 0)

def quiescent_MlaUpWIdeal [hMlaUpWIdeal : Cert.MlaUpWIdeal.Facts] : Prop :=
  ∀ (m : (ℓ : Loc Cert.MlaUpWIdeal.nD Cert.MlaUpWIdeal.τ Cert.MlaUpWIdeal.sig) → Buf (Elt Ideal) ℓ) (g : Dev Cert.MlaUpWIdeal.nD → PrngReg), Pre_MlaUpWIdeal m →
    θ_run (Cert.MlaUpWIdeal.defs (F := Ideal)) (onTc (τ := Cert.MlaUpWIdeal.τ) (Cert.MlaUpWIdeal.main (F := Ideal))) ⟨m, fun _ => 0, g⟩ (fun r => (∀ c : Dev Cert.MlaUpWIdeal.nD,
      r.2.mem ((c.tc : Thread Cert.MlaUpWIdeal.nD Cert.MlaUpWIdeal.τ).loc Cert.MlaUpWIdeal.main_arg0) = m ((c.tc : Thread Cert.MlaUpWIdeal.nD Cert.MlaUpWIdeal.τ).loc Cert.MlaUpWIdeal.main_arg0)
      ∧ r.2.mem ((c.tc : Thread Cert.MlaUpWIdeal.nD Cert.MlaUpWIdeal.τ).loc Cert.MlaUpWIdeal.main_arg1) = m ((c.tc : Thread Cert.MlaUpWIdeal.nD Cert.MlaUpWIdeal.τ).loc Cert.MlaUpWIdeal.main_arg1))
      ∧ r.2.sem = fun _ => 0)

def quiescent_MlaUpWRefIdeal [hMlaUpWRefIdeal : Cert.MlaUpWRefIdeal.Facts] : Prop :=
  ∀ (m : (ℓ : Loc Cert.MlaUpWRefIdeal.nD Cert.MlaUpWRefIdeal.τ Cert.MlaUpWRefIdeal.sig) → Buf (Elt Ideal) ℓ) (g : Dev Cert.MlaUpWRefIdeal.nD → PrngReg), Pre_MlaUpWRefIdeal m →
    θ_run (Cert.MlaUpWRefIdeal.defs (F := Ideal)) (onTc (τ := Cert.MlaUpWRefIdeal.τ) (Cert.MlaUpWRefIdeal.main (F := Ideal))) ⟨m, fun _ => 0, g⟩ (fun r => (∀ c : Dev Cert.MlaUpWRefIdeal.nD,
      r.2.mem ((c.tc : Thread Cert.MlaUpWRefIdeal.nD Cert.MlaUpWRefIdeal.τ).loc Cert.MlaUpWRefIdeal.main_arg0) = m ((c.tc : Thread Cert.MlaUpWRefIdeal.nD Cert.MlaUpWRefIdeal.τ).loc Cert.MlaUpWRefIdeal.main_arg0)
      ∧ r.2.mem ((c.tc : Thread Cert.MlaUpWRefIdeal.nD Cert.MlaUpWRefIdeal.τ).loc Cert.MlaUpWRefIdeal.main_arg1) = m ((c.tc : Thread Cert.MlaUpWRefIdeal.nD Cert.MlaUpWRefIdeal.τ).loc Cert.MlaUpWRefIdeal.main_arg1))
      ∧ r.2.sem = fun _ => 0)

def quiescent_MlaIn [hMlaIn : Cert.MlaIn.Facts] : Prop :=
  ∀ (m : (ℓ : Loc Cert.MlaIn.nD Cert.MlaIn.τ Cert.MlaIn.sig) → Buf (Elt Bits) ℓ) (g : Dev Cert.MlaIn.nD → PrngReg), Pre_MlaIn m →
    θ_run (Cert.MlaIn.defs (F := Bits)) (onTc (τ := Cert.MlaIn.τ) (Cert.MlaIn.main (F := Bits))) ⟨m, fun _ => 0, g⟩ (fun r => (∀ c : Dev Cert.MlaIn.nD,
      r.2.mem ((c.tc : Thread Cert.MlaIn.nD Cert.MlaIn.τ).loc Cert.MlaIn.main_arg0) = m ((c.tc : Thread Cert.MlaIn.nD Cert.MlaIn.τ).loc Cert.MlaIn.main_arg0)
      ∧ r.2.mem ((c.tc : Thread Cert.MlaIn.nD Cert.MlaIn.τ).loc Cert.MlaIn.main_arg1) = m ((c.tc : Thread Cert.MlaIn.nD Cert.MlaIn.τ).loc Cert.MlaIn.main_arg1))
      ∧ r.2.sem = fun _ => 0)

def quiescent_MlaInIdeal [hMlaInIdeal : Cert.MlaInIdeal.Facts] : Prop :=
  ∀ (m : (ℓ : Loc Cert.MlaInIdeal.nD Cert.MlaInIdeal.τ Cert.MlaInIdeal.sig) → Buf (Elt Ideal) ℓ) (g : Dev Cert.MlaInIdeal.nD → PrngReg), Pre_MlaInIdeal m →
    θ_run (Cert.MlaInIdeal.defs (F := Ideal)) (onTc (τ := Cert.MlaInIdeal.τ) (Cert.MlaInIdeal.main (F := Ideal))) ⟨m, fun _ => 0, g⟩ (fun r => (∀ c : Dev Cert.MlaInIdeal.nD,
      r.2.mem ((c.tc : Thread Cert.MlaInIdeal.nD Cert.MlaInIdeal.τ).loc Cert.MlaInIdeal.main_arg0) = m ((c.tc : Thread Cert.MlaInIdeal.nD Cert.MlaInIdeal.τ).loc Cert.MlaInIdeal.main_arg0)
      ∧ r.2.mem ((c.tc : Thread Cert.MlaInIdeal.nD Cert.MlaInIdeal.τ).loc Cert.MlaInIdeal.main_arg1) = m ((c.tc : Thread Cert.MlaInIdeal.nD Cert.MlaInIdeal.τ).loc Cert.MlaInIdeal.main_arg1))
      ∧ r.2.sem = fun _ => 0)

def quiescent_MlaInRefIdeal [hMlaInRefIdeal : Cert.MlaInRefIdeal.Facts] : Prop :=
  ∀ (m : (ℓ : Loc Cert.MlaInRefIdeal.nD Cert.MlaInRefIdeal.τ Cert.MlaInRefIdeal.sig) → Buf (Elt Ideal) ℓ) (g : Dev Cert.MlaInRefIdeal.nD → PrngReg), Pre_MlaInRefIdeal m →
    θ_run (Cert.MlaInRefIdeal.defs (F := Ideal)) (onTc (τ := Cert.MlaInRefIdeal.τ) (Cert.MlaInRefIdeal.main (F := Ideal))) ⟨m, fun _ => 0, g⟩ (fun r => (∀ c : Dev Cert.MlaInRefIdeal.nD,
      r.2.mem ((c.tc : Thread Cert.MlaInRefIdeal.nD Cert.MlaInRefIdeal.τ).loc Cert.MlaInRefIdeal.main_arg0) = m ((c.tc : Thread Cert.MlaInRefIdeal.nD Cert.MlaInRefIdeal.τ).loc Cert.MlaInRefIdeal.main_arg0)
      ∧ r.2.mem ((c.tc : Thread Cert.MlaInRefIdeal.nD Cert.MlaInRefIdeal.τ).loc Cert.MlaInRefIdeal.main_arg1) = m ((c.tc : Thread Cert.MlaInRefIdeal.nD Cert.MlaInRefIdeal.τ).loc Cert.MlaInRefIdeal.main_arg1))
      ∧ r.2.sem = fun _ => 0)

def quiescent_MlaInX [hMlaInX : Cert.MlaInX.Facts] : Prop :=
  ∀ (m : (ℓ : Loc Cert.MlaInX.nD Cert.MlaInX.τ Cert.MlaInX.sig) → Buf (Elt Bits) ℓ) (g : Dev Cert.MlaInX.nD → PrngReg), Pre_MlaInX m →
    θ_run (Cert.MlaInX.defs (F := Bits)) (onTc (τ := Cert.MlaInX.τ) (Cert.MlaInX.main (F := Bits))) ⟨m, fun _ => 0, g⟩ (fun r => (∀ c : Dev Cert.MlaInX.nD,
      r.2.mem ((c.tc : Thread Cert.MlaInX.nD Cert.MlaInX.τ).loc Cert.MlaInX.main_arg0) = m ((c.tc : Thread Cert.MlaInX.nD Cert.MlaInX.τ).loc Cert.MlaInX.main_arg0)
      ∧ r.2.mem ((c.tc : Thread Cert.MlaInX.nD Cert.MlaInX.τ).loc Cert.MlaInX.main_arg1) = m ((c.tc : Thread Cert.MlaInX.nD Cert.MlaInX.τ).loc Cert.MlaInX.main_arg1))
      ∧ r.2.sem = fun _ => 0)

def quiescent_MlaInXIdeal [hMlaInXIdeal : Cert.MlaInXIdeal.Facts] : Prop :=
  ∀ (m : (ℓ : Loc Cert.MlaInXIdeal.nD Cert.MlaInXIdeal.τ Cert.MlaInXIdeal.sig) → Buf (Elt Ideal) ℓ) (g : Dev Cert.MlaInXIdeal.nD → PrngReg), Pre_MlaInXIdeal m →
    θ_run (Cert.MlaInXIdeal.defs (F := Ideal)) (onTc (τ := Cert.MlaInXIdeal.τ) (Cert.MlaInXIdeal.main (F := Ideal))) ⟨m, fun _ => 0, g⟩ (fun r => (∀ c : Dev Cert.MlaInXIdeal.nD,
      r.2.mem ((c.tc : Thread Cert.MlaInXIdeal.nD Cert.MlaInXIdeal.τ).loc Cert.MlaInXIdeal.main_arg0) = m ((c.tc : Thread Cert.MlaInXIdeal.nD Cert.MlaInXIdeal.τ).loc Cert.MlaInXIdeal.main_arg0)
      ∧ r.2.mem ((c.tc : Thread Cert.MlaInXIdeal.nD Cert.MlaInXIdeal.τ).loc Cert.MlaInXIdeal.main_arg1) = m ((c.tc : Thread Cert.MlaInXIdeal.nD Cert.MlaInXIdeal.τ).loc Cert.MlaInXIdeal.main_arg1))
      ∧ r.2.sem = fun _ => 0)

def quiescent_MlaInXRefIdeal [hMlaInXRefIdeal : Cert.MlaInXRefIdeal.Facts] : Prop :=
  ∀ (m : (ℓ : Loc Cert.MlaInXRefIdeal.nD Cert.MlaInXRefIdeal.τ Cert.MlaInXRefIdeal.sig) → Buf (Elt Ideal) ℓ) (g : Dev Cert.MlaInXRefIdeal.nD → PrngReg), Pre_MlaInXRefIdeal m →
    θ_run (Cert.MlaInXRefIdeal.defs (F := Ideal)) (onTc (τ := Cert.MlaInXRefIdeal.τ) (Cert.MlaInXRefIdeal.main (F := Ideal))) ⟨m, fun _ => 0, g⟩ (fun r => (∀ c : Dev Cert.MlaInXRefIdeal.nD,
      r.2.mem ((c.tc : Thread Cert.MlaInXRefIdeal.nD Cert.MlaInXRefIdeal.τ).loc Cert.MlaInXRefIdeal.main_arg0) = m ((c.tc : Thread Cert.MlaInXRefIdeal.nD Cert.MlaInXRefIdeal.τ).loc Cert.MlaInXRefIdeal.main_arg0)
      ∧ r.2.mem ((c.tc : Thread Cert.MlaInXRefIdeal.nD Cert.MlaInXRefIdeal.τ).loc Cert.MlaInXRefIdeal.main_arg1) = m ((c.tc : Thread Cert.MlaInXRefIdeal.nD Cert.MlaInXRefIdeal.τ).loc Cert.MlaInXRefIdeal.main_arg1))
      ∧ r.2.sem = fun _ => 0)

def quiescent_MlaInW [hMlaInW : Cert.MlaInW.Facts] : Prop :=
  ∀ (m : (ℓ : Loc Cert.MlaInW.nD Cert.MlaInW.τ Cert.MlaInW.sig) → Buf (Elt Bits) ℓ) (g : Dev Cert.MlaInW.nD → PrngReg), Pre_MlaInW m →
    θ_run (Cert.MlaInW.defs (F := Bits)) (onTc (τ := Cert.MlaInW.τ) (Cert.MlaInW.main (F := Bits))) ⟨m, fun _ => 0, g⟩ (fun r => (∀ c : Dev Cert.MlaInW.nD,
      r.2.mem ((c.tc : Thread Cert.MlaInW.nD Cert.MlaInW.τ).loc Cert.MlaInW.main_arg0) = m ((c.tc : Thread Cert.MlaInW.nD Cert.MlaInW.τ).loc Cert.MlaInW.main_arg0)
      ∧ r.2.mem ((c.tc : Thread Cert.MlaInW.nD Cert.MlaInW.τ).loc Cert.MlaInW.main_arg1) = m ((c.tc : Thread Cert.MlaInW.nD Cert.MlaInW.τ).loc Cert.MlaInW.main_arg1))
      ∧ r.2.sem = fun _ => 0)

def quiescent_MlaInWIdeal [hMlaInWIdeal : Cert.MlaInWIdeal.Facts] : Prop :=
  ∀ (m : (ℓ : Loc Cert.MlaInWIdeal.nD Cert.MlaInWIdeal.τ Cert.MlaInWIdeal.sig) → Buf (Elt Ideal) ℓ) (g : Dev Cert.MlaInWIdeal.nD → PrngReg), Pre_MlaInWIdeal m →
    θ_run (Cert.MlaInWIdeal.defs (F := Ideal)) (onTc (τ := Cert.MlaInWIdeal.τ) (Cert.MlaInWIdeal.main (F := Ideal))) ⟨m, fun _ => 0, g⟩ (fun r => (∀ c : Dev Cert.MlaInWIdeal.nD,
      r.2.mem ((c.tc : Thread Cert.MlaInWIdeal.nD Cert.MlaInWIdeal.τ).loc Cert.MlaInWIdeal.main_arg0) = m ((c.tc : Thread Cert.MlaInWIdeal.nD Cert.MlaInWIdeal.τ).loc Cert.MlaInWIdeal.main_arg0)
      ∧ r.2.mem ((c.tc : Thread Cert.MlaInWIdeal.nD Cert.MlaInWIdeal.τ).loc Cert.MlaInWIdeal.main_arg1) = m ((c.tc : Thread Cert.MlaInWIdeal.nD Cert.MlaInWIdeal.τ).loc Cert.MlaInWIdeal.main_arg1))
      ∧ r.2.sem = fun _ => 0)

def quiescent_MlaInWRefIdeal [hMlaInWRefIdeal : Cert.MlaInWRefIdeal.Facts] : Prop :=
  ∀ (m : (ℓ : Loc Cert.MlaInWRefIdeal.nD Cert.MlaInWRefIdeal.τ Cert.MlaInWRefIdeal.sig) → Buf (Elt Ideal) ℓ) (g : Dev Cert.MlaInWRefIdeal.nD → PrngReg), Pre_MlaInWRefIdeal m →
    θ_run (Cert.MlaInWRefIdeal.defs (F := Ideal)) (onTc (τ := Cert.MlaInWRefIdeal.τ) (Cert.MlaInWRefIdeal.main (F := Ideal))) ⟨m, fun _ => 0, g⟩ (fun r => (∀ c : Dev Cert.MlaInWRefIdeal.nD,
      r.2.mem ((c.tc : Thread Cert.MlaInWRefIdeal.nD Cert.MlaInWRefIdeal.τ).loc Cert.MlaInWRefIdeal.main_arg0) = m ((c.tc : Thread Cert.MlaInWRefIdeal.nD Cert.MlaInWRefIdeal.τ).loc Cert.MlaInWRefIdeal.main_arg0)
      ∧ r.2.mem ((c.tc : Thread Cert.MlaInWRefIdeal.nD Cert.MlaInWRefIdeal.τ).loc Cert.MlaInWRefIdeal.main_arg1) = m ((c.tc : Thread Cert.MlaInWRefIdeal.nD Cert.MlaInWRefIdeal.τ).loc Cert.MlaInWRefIdeal.main_arg1))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_attn_finite [hAttnFwdIdeal : Cert.AttnFwdIdeal.Facts] [hPre_attn_finite : Cert.Pre_attn_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attn_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_attn_finite [hAttnFwdRefIdeal : Cert.AttnFwdRefIdeal.Facts] [hPre_attn_finite : Cert.Pre_attn_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_attn_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v45_1)) (v2 : (c : Dev Cert.KernelIdeal.nD) → Buf (Elt Ideal) ((c.tc : Thread Cert.KernelIdeal.nD Cert.KernelIdeal.τ).loc Cert.KernelIdeal.main_v45_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_v45_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v0_0)) (v1 : (c : Dev Cert.MlpUpIdeal.nD) → Buf (Elt Ideal) ((c.tc : Thread Cert.MlpUpIdeal.nD Cert.MlpUpIdeal.τ).loc Cert.MlpUpIdeal.main_v0_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v0_0) = v0 c
          ∧ r.2.mem ((c.tc : Thread Cert.MlpUpIdeal.nD Cert.MlpUpIdeal.τ).loc Cert.MlpUpIdeal.main_v0_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v3) = v0 c
          ∧ r.2.mem ((c.tc : Thread Cert.MlpUpRefIdeal.nD Cert.MlpUpRefIdeal.τ).loc Cert.MlpUpRefIdeal.main_v6) = v1 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)) →
    ∃ (v0 : (c : Dev Cert.MlpDownIdeal.nD) → Buf (Elt Ideal) ((c.tc : Thread Cert.MlpDownIdeal.nD Cert.MlpDownIdeal.τ).loc Cert.MlpDownIdeal.main_v6)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v6) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v7) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2))

def preserves_MlpDownW_MlpDownWIdeal : Prop :=
  True

def algebraic_MlpDownWIdeal_MlpDownWRefIdeal [hMlpDownWIdeal : Cert.MlpDownWIdeal.Facts] [hMlpDownWRefIdeal : Cert.MlpDownWRefIdeal.Facts] : Prop :=
  ∀ (m : (ℓ : Loc Cert.MlpDownWIdeal.nD Cert.MlpDownWIdeal.τ Cert.MlpDownWIdeal.sig) → Buf (Elt Ideal) ℓ) (g : Dev Cert.MlpDownWIdeal.nD → PrngReg)
    (m' : (ℓ : Loc Cert.MlpDownWRefIdeal.nD Cert.MlpDownWRefIdeal.τ Cert.MlpDownWRefIdeal.sig) → Buf (Elt Ideal) ℓ) (g' : Dev Cert.MlpDownWRefIdeal.nD → PrngReg), Pre_MlpDownWIdeal m →
    (∀ c : Dev Cert.MlpDownWIdeal.nD,
      m' ((c.tc : Thread Cert.MlpDownWRefIdeal.nD Cert.MlpDownWRefIdeal.τ).loc Cert.MlpDownWRefIdeal.main_arg0) = m ((c.tc : Thread Cert.MlpDownWIdeal.nD Cert.MlpDownWIdeal.τ).loc Cert.MlpDownWIdeal.main_arg0)
      ∧ m' ((c.tc : Thread Cert.MlpDownWRefIdeal.nD Cert.MlpDownWRefIdeal.τ).loc Cert.MlpDownWRefIdeal.main_arg1) = m ((c.tc : Thread Cert.MlpDownWIdeal.nD Cert.MlpDownWIdeal.τ).loc Cert.MlpDownWIdeal.main_arg1)
      ∧ m' ((c.tc : Thread Cert.MlpDownWRefIdeal.nD Cert.MlpDownWRefIdeal.τ).loc Cert.MlpDownWRefIdeal.main_arg2) = m ((c.tc : Thread Cert.MlpDownWIdeal.nD Cert.MlpDownWIdeal.τ).loc Cert.MlpDownWIdeal.main_arg2)) →
    ∃ (v0 : (c : Dev Cert.MlpDownWIdeal.nD) → Buf (Elt Ideal) ((c.tc : Thread Cert.MlpDownWIdeal.nD Cert.MlpDownWIdeal.τ).loc Cert.MlpDownWIdeal.main_v6)),
      θ_run (Cert.MlpDownWIdeal.defs (F := Ideal)) (onTc (τ := Cert.MlpDownWIdeal.τ) (Cert.MlpDownWIdeal.main (F := Ideal))) ⟨m, fun _ => 0, g⟩ (fun r => ∀ c : Dev Cert.MlpDownWIdeal.nD,
          r.2.mem ((c.tc : Thread Cert.MlpDownWIdeal.nD Cert.MlpDownWIdeal.τ).loc Cert.MlpDownWIdeal.main_v6) = v0 c
          ∧ r.2.mem ((c.tc : Thread Cert.MlpDownWIdeal.nD Cert.MlpDownWIdeal.τ).loc Cert.MlpDownWIdeal.main_arg0) = m ((c.tc : Thread Cert.MlpDownWIdeal.nD Cert.MlpDownWIdeal.τ).loc Cert.MlpDownWIdeal.main_arg0)
          ∧ r.2.mem ((c.tc : Thread Cert.MlpDownWIdeal.nD Cert.MlpDownWIdeal.τ).loc Cert.MlpDownWIdeal.main_arg1) = m ((c.tc : Thread Cert.MlpDownWIdeal.nD Cert.MlpDownWIdeal.τ).loc Cert.MlpDownWIdeal.main_arg1)
          ∧ r.2.mem ((c.tc : Thread Cert.MlpDownWIdeal.nD Cert.MlpDownWIdeal.τ).loc Cert.MlpDownWIdeal.main_arg2) = m ((c.tc : Thread Cert.MlpDownWIdeal.nD Cert.MlpDownWIdeal.τ).loc Cert.MlpDownWIdeal.main_arg2))
      ∧ θ_run (Cert.MlpDownWRefIdeal.defs (F := Ideal)) (onTc (τ := Cert.MlpDownWRefIdeal.τ) (Cert.MlpDownWRefIdeal.main (F := Ideal))) ⟨m', fun _ => 0, g'⟩ (fun r => ∀ c : Dev Cert.MlpDownWRefIdeal.nD,
          r.2.mem ((c.tc : Thread Cert.MlpDownWRefIdeal.nD Cert.MlpDownWRefIdeal.τ).loc Cert.MlpDownWRefIdeal.main_v10) = v0 c
          ∧ r.2.mem ((c.tc : Thread Cert.MlpDownWRefIdeal.nD Cert.MlpDownWRefIdeal.τ).loc Cert.MlpDownWRefIdeal.main_arg0) = m' ((c.tc : Thread Cert.MlpDownWRefIdeal.nD Cert.MlpDownWRefIdeal.τ).loc Cert.MlpDownWRefIdeal.main_arg0)
          ∧ r.2.mem ((c.tc : Thread Cert.MlpDownWRefIdeal.nD Cert.MlpDownWRefIdeal.τ).loc Cert.MlpDownWRefIdeal.main_arg1) = m' ((c.tc : Thread Cert.MlpDownWRefIdeal.nD Cert.MlpDownWRefIdeal.τ).loc Cert.MlpDownWRefIdeal.main_arg1)
          ∧ r.2.mem ((c.tc : Thread Cert.MlpDownWRefIdeal.nD Cert.MlpDownWRefIdeal.τ).loc Cert.MlpDownWRefIdeal.main_arg2) = m' ((c.tc : Thread Cert.MlpDownWRefIdeal.nD Cert.MlpDownWRefIdeal.τ).loc Cert.MlpDownWRefIdeal.main_arg2))

def preserves_MlpDownX_MlpDownXIdeal : Prop :=
  True

def algebraic_MlpDownXIdeal_MlpDownXRefIdeal [hMlpDownXIdeal : Cert.MlpDownXIdeal.Facts] [hMlpDownXRefIdeal : Cert.MlpDownXRefIdeal.Facts] : Prop :=
  ∀ (m : (ℓ : Loc Cert.MlpDownXIdeal.nD Cert.MlpDownXIdeal.τ Cert.MlpDownXIdeal.sig) → Buf (Elt Ideal) ℓ) (g : Dev Cert.MlpDownXIdeal.nD → PrngReg)
    (m' : (ℓ : Loc Cert.MlpDownXRefIdeal.nD Cert.MlpDownXRefIdeal.τ Cert.MlpDownXRefIdeal.sig) → Buf (Elt Ideal) ℓ) (g' : Dev Cert.MlpDownXRefIdeal.nD → PrngReg), Pre_MlpDownXIdeal m →
    (∀ c : Dev Cert.MlpDownXIdeal.nD,
      m' ((c.tc : Thread Cert.MlpDownXRefIdeal.nD Cert.MlpDownXRefIdeal.τ).loc Cert.MlpDownXRefIdeal.main_arg0) = m ((c.tc : Thread Cert.MlpDownXIdeal.nD Cert.MlpDownXIdeal.τ).loc Cert.MlpDownXIdeal.main_arg0)
      ∧ m' ((c.tc : Thread Cert.MlpDownXRefIdeal.nD Cert.MlpDownXRefIdeal.τ).loc Cert.MlpDownXRefIdeal.main_arg1) = m ((c.tc : Thread Cert.MlpDownXIdeal.nD Cert.MlpDownXIdeal.τ).loc Cert.MlpDownXIdeal.main_arg1)
      ∧ m' ((c.tc : Thread Cert.MlpDownXRefIdeal.nD Cert.MlpDownXRefIdeal.τ).loc Cert.MlpDownXRefIdeal.main_arg2) = m ((c.tc : Thread Cert.MlpDownXIdeal.nD Cert.MlpDownXIdeal.τ).loc Cert.MlpDownXIdeal.main_arg2)
      ∧ m' ((c.tc : Thread Cert.MlpDownXRefIdeal.nD Cert.MlpDownXRefIdeal.τ).loc Cert.MlpDownXRefIdeal.main_arg3) = m ((c.tc : Thread Cert.MlpDownXIdeal.nD Cert.MlpDownXIdeal.τ).loc Cert.MlpDownXIdeal.main_arg3)) →
    ∃ (v0 : (c : Dev Cert.MlpDownXIdeal.nD) → Buf (Elt Ideal) ((c.tc : Thread Cert.MlpDownXIdeal.nD Cert.MlpDownXIdeal.τ).loc Cert.MlpDownXIdeal.main_v4)),
      θ_run (Cert.MlpDownXIdeal.defs (F := Ideal)) (onTc (τ := Cert.MlpDownXIdeal.τ) (Cert.MlpDownXIdeal.main (F := Ideal))) ⟨m, fun _ => 0, g⟩ (fun r => ∀ c : Dev Cert.MlpDownXIdeal.nD,
          r.2.mem ((c.tc : Thread Cert.MlpDownXIdeal.nD Cert.MlpDownXIdeal.τ).loc Cert.MlpDownXIdeal.main_v4) = v0 c
          ∧ r.2.mem ((c.tc : Thread Cert.MlpDownXIdeal.nD Cert.MlpDownXIdeal.τ).loc Cert.MlpDownXIdeal.main_arg0) = m ((c.tc : Thread Cert.MlpDownXIdeal.nD Cert.MlpDownXIdeal.τ).loc Cert.MlpDownXIdeal.main_arg0)
          ∧ r.2.mem ((c.tc : Thread Cert.MlpDownXIdeal.nD Cert.MlpDownXIdeal.τ).loc Cert.MlpDownXIdeal.main_arg1) = m ((c.tc : Thread Cert.MlpDownXIdeal.nD Cert.MlpDownXIdeal.τ).loc Cert.MlpDownXIdeal.main_arg1)
          ∧ r.2.mem ((c.tc : Thread Cert.MlpDownXIdeal.nD Cert.MlpDownXIdeal.τ).loc Cert.MlpDownXIdeal.main_arg2) = m ((c.tc : Thread Cert.MlpDownXIdeal.nD Cert.MlpDownXIdeal.τ).loc Cert.MlpDownXIdeal.main_arg2)
          ∧ r.2.mem ((c.tc : Thread Cert.MlpDownXIdeal.nD Cert.MlpDownXIdeal.τ).loc Cert.MlpDownXIdeal.main_arg3) = m ((c.tc : Thread Cert.MlpDownXIdeal.nD Cert.MlpDownXIdeal.τ).loc Cert.MlpDownXIdeal.main_arg3))
      ∧ θ_run (Cert.MlpDownXRefIdeal.defs (F := Ideal)) (onTc (τ := Cert.MlpDownXRefIdeal.τ) (Cert.MlpDownXRefIdeal.main (F := Ideal))) ⟨m', fun _ => 0, g'⟩ (fun r => ∀ c : Dev Cert.MlpDownXRefIdeal.nD,
          r.2.mem ((c.tc : Thread Cert.MlpDownXRefIdeal.nD Cert.MlpDownXRefIdeal.τ).loc Cert.MlpDownXRefIdeal.main_v17) = v0 c
          ∧ r.2.mem ((c.tc : Thread Cert.MlpDownXRefIdeal.nD Cert.MlpDownXRefIdeal.τ).loc Cert.MlpDownXRefIdeal.main_arg0) = m' ((c.tc : Thread Cert.MlpDownXRefIdeal.nD Cert.MlpDownXRefIdeal.τ).loc Cert.MlpDownXRefIdeal.main_arg0)
          ∧ r.2.mem ((c.tc : Thread Cert.MlpDownXRefIdeal.nD Cert.MlpDownXRefIdeal.τ).loc Cert.MlpDownXRefIdeal.main_arg1) = m' ((c.tc : Thread Cert.MlpDownXRefIdeal.nD Cert.MlpDownXRefIdeal.τ).loc Cert.MlpDownXRefIdeal.main_arg1)
          ∧ r.2.mem ((c.tc : Thread Cert.MlpDownXRefIdeal.nD Cert.MlpDownXRefIdeal.τ).loc Cert.MlpDownXRefIdeal.main_arg2) = m' ((c.tc : Thread Cert.MlpDownXRefIdeal.nD Cert.MlpDownXRefIdeal.τ).loc Cert.MlpDownXRefIdeal.main_arg2)
          ∧ r.2.mem ((c.tc : Thread Cert.MlpDownXRefIdeal.nD Cert.MlpDownXRefIdeal.τ).loc Cert.MlpDownXRefIdeal.main_arg3) = m' ((c.tc : Thread Cert.MlpDownXRefIdeal.nD Cert.MlpDownXRefIdeal.τ).loc Cert.MlpDownXRefIdeal.main_arg3))

def preserves_MlpUpW_MlpUpWIdeal : Prop :=
  True

def algebraic_MlpUpWIdeal_MlpUpWRefIdeal [hMlpUpWIdeal : Cert.MlpUpWIdeal.Facts] [hMlpUpWRefIdeal : Cert.MlpUpWRefIdeal.Facts] : Prop :=
  ∀ (m : (ℓ : Loc Cert.MlpUpWIdeal.nD Cert.MlpUpWIdeal.τ Cert.MlpUpWIdeal.sig) → Buf (Elt Ideal) ℓ) (g : Dev Cert.MlpUpWIdeal.nD → PrngReg)
    (m' : (ℓ : Loc Cert.MlpUpWRefIdeal.nD Cert.MlpUpWRefIdeal.τ Cert.MlpUpWRefIdeal.sig) → Buf (Elt Ideal) ℓ) (g' : Dev Cert.MlpUpWRefIdeal.nD → PrngReg), Pre_MlpUpWIdeal m →
    (∀ c : Dev Cert.MlpUpWIdeal.nD,
      m' ((c.tc : Thread Cert.MlpUpWRefIdeal.nD Cert.MlpUpWRefIdeal.τ).loc Cert.MlpUpWRefIdeal.main_arg0) = m ((c.tc : Thread Cert.MlpUpWIdeal.nD Cert.MlpUpWIdeal.τ).loc Cert.MlpUpWIdeal.main_arg0)
      ∧ m' ((c.tc : Thread Cert.MlpUpWRefIdeal.nD Cert.MlpUpWRefIdeal.τ).loc Cert.MlpUpWRefIdeal.main_arg1) = m ((c.tc : Thread Cert.MlpUpWIdeal.nD Cert.MlpUpWIdeal.τ).loc Cert.MlpUpWIdeal.main_arg1)) →
    ∃ (v0 : (c : Dev Cert.MlpUpWIdeal.nD) → Buf (Elt Ideal) ((c.tc : Thread Cert.MlpUpWIdeal.nD Cert.MlpUpWIdeal.τ).loc Cert.MlpUpWIdeal.main_v0)),
      θ_run (Cert.MlpUpWIdeal.defs (F := Ideal)) (onTc (τ := Cert.MlpUpWIdeal.τ) (Cert.MlpUpWIdeal.main (F := Ideal))) ⟨m, fun _ => 0, g⟩ (fun r => ∀ c : Dev Cert.MlpUpWIdeal.nD,
          r.2.mem ((c.tc : Thread Cert.MlpUpWIdeal.nD Cert.MlpUpWIdeal.τ).loc Cert.MlpUpWIdeal.main_v0) = v0 c
          ∧ r.2.mem ((c.tc : Thread Cert.MlpUpWIdeal.nD Cert.MlpUpWIdeal.τ).loc Cert.MlpUpWIdeal.main_arg0) = m ((c.tc : Thread Cert.MlpUpWIdeal.nD Cert.MlpUpWIdeal.τ).loc Cert.MlpUpWIdeal.main_arg0)
          ∧ r.2.mem ((c.tc : Thread Cert.MlpUpWIdeal.nD Cert.MlpUpWIdeal.τ).loc Cert.MlpUpWIdeal.main_arg1) = m ((c.tc : Thread Cert.MlpUpWIdeal.nD Cert.MlpUpWIdeal.τ).loc Cert.MlpUpWIdeal.main_arg1))
      ∧ θ_run (Cert.MlpUpWRefIdeal.defs (F := Ideal)) (onTc (τ := Cert.MlpUpWRefIdeal.τ) (Cert.MlpUpWRefIdeal.main (F := Ideal))) ⟨m', fun _ => 0, g'⟩ (fun r => ∀ c : Dev Cert.MlpUpWRefIdeal.nD,
          r.2.mem ((c.tc : Thread Cert.MlpUpWRefIdeal.nD Cert.MlpUpWRefIdeal.τ).loc Cert.MlpUpWRefIdeal.main_v6) = v0 c
          ∧ r.2.mem ((c.tc : Thread Cert.MlpUpWRefIdeal.nD Cert.MlpUpWRefIdeal.τ).loc Cert.MlpUpWRefIdeal.main_arg0) = m' ((c.tc : Thread Cert.MlpUpWRefIdeal.nD Cert.MlpUpWRefIdeal.τ).loc Cert.MlpUpWRefIdeal.main_arg0)
          ∧ r.2.mem ((c.tc : Thread Cert.MlpUpWRefIdeal.nD Cert.MlpUpWRefIdeal.τ).loc Cert.MlpUpWRefIdeal.main_arg1) = m' ((c.tc : Thread Cert.MlpUpWRefIdeal.nD Cert.MlpUpWRefIdeal.τ).loc Cert.MlpUpWRefIdeal.main_arg1))

def preserves_MlpUpX_MlpUpXIdeal : Prop :=
  True

def algebraic_MlpUpXIdeal_MlpUpXRefIdeal [hMlpUpXIdeal : Cert.MlpUpXIdeal.Facts] [hMlpUpXRefIdeal : Cert.MlpUpXRefIdeal.Facts] : Prop :=
  ∀ (m : (ℓ : Loc Cert.MlpUpXIdeal.nD Cert.MlpUpXIdeal.τ Cert.MlpUpXIdeal.sig) → Buf (Elt Ideal) ℓ) (g : Dev Cert.MlpUpXIdeal.nD → PrngReg)
    (m' : (ℓ : Loc Cert.MlpUpXRefIdeal.nD Cert.MlpUpXRefIdeal.τ Cert.MlpUpXRefIdeal.sig) → Buf (Elt Ideal) ℓ) (g' : Dev Cert.MlpUpXRefIdeal.nD → PrngReg), Pre_MlpUpXIdeal m →
    (∀ c : Dev Cert.MlpUpXIdeal.nD,
      m' ((c.tc : Thread Cert.MlpUpXRefIdeal.nD Cert.MlpUpXRefIdeal.τ).loc Cert.MlpUpXRefIdeal.main_arg0) = m ((c.tc : Thread Cert.MlpUpXIdeal.nD Cert.MlpUpXIdeal.τ).loc Cert.MlpUpXIdeal.main_arg0)
      ∧ m' ((c.tc : Thread Cert.MlpUpXRefIdeal.nD Cert.MlpUpXRefIdeal.τ).loc Cert.MlpUpXRefIdeal.main_arg1) = m ((c.tc : Thread Cert.MlpUpXIdeal.nD Cert.MlpUpXIdeal.τ).loc Cert.MlpUpXIdeal.main_arg1)) →
    ∃ (v0 : (c : Dev Cert.MlpUpXIdeal.nD) → Buf (Elt Ideal) ((c.tc : Thread Cert.MlpUpXIdeal.nD Cert.MlpUpXIdeal.τ).loc Cert.MlpUpXIdeal.main_v0)),
      θ_run (Cert.MlpUpXIdeal.defs (F := Ideal)) (onTc (τ := Cert.MlpUpXIdeal.τ) (Cert.MlpUpXIdeal.main (F := Ideal))) ⟨m, fun _ => 0, g⟩ (fun r => ∀ c : Dev Cert.MlpUpXIdeal.nD,
          r.2.mem ((c.tc : Thread Cert.MlpUpXIdeal.nD Cert.MlpUpXIdeal.τ).loc Cert.MlpUpXIdeal.main_v0) = v0 c
          ∧ r.2.mem ((c.tc : Thread Cert.MlpUpXIdeal.nD Cert.MlpUpXIdeal.τ).loc Cert.MlpUpXIdeal.main_arg0) = m ((c.tc : Thread Cert.MlpUpXIdeal.nD Cert.MlpUpXIdeal.τ).loc Cert.MlpUpXIdeal.main_arg0)
          ∧ r.2.mem ((c.tc : Thread Cert.MlpUpXIdeal.nD Cert.MlpUpXIdeal.τ).loc Cert.MlpUpXIdeal.main_arg1) = m ((c.tc : Thread Cert.MlpUpXIdeal.nD Cert.MlpUpXIdeal.τ).loc Cert.MlpUpXIdeal.main_arg1))
      ∧ θ_run (Cert.MlpUpXRefIdeal.defs (F := Ideal)) (onTc (τ := Cert.MlpUpXRefIdeal.τ) (Cert.MlpUpXRefIdeal.main (F := Ideal))) ⟨m', fun _ => 0, g'⟩ (fun r => ∀ c : Dev Cert.MlpUpXRefIdeal.nD,
          r.2.mem ((c.tc : Thread Cert.MlpUpXRefIdeal.nD Cert.MlpUpXRefIdeal.τ).loc Cert.MlpUpXRefIdeal.main_v5) = v0 c
          ∧ r.2.mem ((c.tc : Thread Cert.MlpUpXRefIdeal.nD Cert.MlpUpXRefIdeal.τ).loc Cert.MlpUpXRefIdeal.main_arg0) = m' ((c.tc : Thread Cert.MlpUpXRefIdeal.nD Cert.MlpUpXRefIdeal.τ).loc Cert.MlpUpXRefIdeal.main_arg0)
          ∧ r.2.mem ((c.tc : Thread Cert.MlpUpXRefIdeal.nD Cert.MlpUpXRefIdeal.τ).loc Cert.MlpUpXRefIdeal.main_arg1) = m' ((c.tc : Thread Cert.MlpUpXRefIdeal.nD Cert.MlpUpXRefIdeal.τ).loc Cert.MlpUpXRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v3) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1))

def preserves_MixOutX_MixOutXIdeal : Prop :=
  True

def algebraic_MixOutXIdeal_MixOutXRefIdeal [hMixOutXIdeal : Cert.MixOutXIdeal.Facts] [hMixOutXRefIdeal : Cert.MixOutXRefIdeal.Facts] : Prop :=
  ∀ (m : (ℓ : Loc Cert.MixOutXIdeal.nD Cert.MixOutXIdeal.τ Cert.MixOutXIdeal.sig) → Buf (Elt Ideal) ℓ) (g : Dev Cert.MixOutXIdeal.nD → PrngReg)
    (m' : (ℓ : Loc Cert.MixOutXRefIdeal.nD Cert.MixOutXRefIdeal.τ Cert.MixOutXRefIdeal.sig) → Buf (Elt Ideal) ℓ) (g' : Dev Cert.MixOutXRefIdeal.nD → PrngReg), Pre_MixOutXIdeal m →
    (∀ c : Dev Cert.MixOutXIdeal.nD,
      m' ((c.tc : Thread Cert.MixOutXRefIdeal.nD Cert.MixOutXRefIdeal.τ).loc Cert.MixOutXRefIdeal.main_arg0) = m ((c.tc : Thread Cert.MixOutXIdeal.nD Cert.MixOutXIdeal.τ).loc Cert.MixOutXIdeal.main_arg0)
      ∧ m' ((c.tc : Thread Cert.MixOutXRefIdeal.nD Cert.MixOutXRefIdeal.τ).loc Cert.MixOutXRefIdeal.main_arg1) = m ((c.tc : Thread Cert.MixOutXIdeal.nD Cert.MixOutXIdeal.τ).loc Cert.MixOutXIdeal.main_arg1)) →
    ∃ (v0 : (c : Dev Cert.MixOutXIdeal.nD) → Buf (Elt Ideal) ((c.tc : Thread Cert.MixOutXIdeal.nD Cert.MixOutXIdeal.τ).loc Cert.MixOutXIdeal.main_v0)),
      θ_run (Cert.MixOutXIdeal.defs (F := Ideal)) (onTc (τ := Cert.MixOutXIdeal.τ) (Cert.MixOutXIdeal.main (F := Ideal))) ⟨m, fun _ => 0, g⟩ (fun r => ∀ c : Dev Cert.MixOutXIdeal.nD,
          r.2.mem ((c.tc : Thread Cert.MixOutXIdeal.nD Cert.MixOutXIdeal.τ).loc Cert.MixOutXIdeal.main_v0) = v0 c
          ∧ r.2.mem ((c.tc : Thread Cert.MixOutXIdeal.nD Cert.MixOutXIdeal.τ).loc Cert.MixOutXIdeal.main_arg0) = m ((c.tc : Thread Cert.MixOutXIdeal.nD Cert.MixOutXIdeal.τ).loc Cert.MixOutXIdeal.main_arg0)
          ∧ r.2.mem ((c.tc : Thread Cert.MixOutXIdeal.nD Cert.MixOutXIdeal.τ).loc Cert.MixOutXIdeal.main_arg1) = m ((c.tc : Thread Cert.MixOutXIdeal.nD Cert.MixOutXIdeal.τ).loc Cert.MixOutXIdeal.main_arg1))
      ∧ θ_run (Cert.MixOutXRefIdeal.defs (F := Ideal)) (onTc (τ := Cert.MixOutXRefIdeal.τ) (Cert.MixOutXRefIdeal.main (F := Ideal))) ⟨m', fun _ => 0, g'⟩ (fun r => ∀ c : Dev Cert.MixOutXRefIdeal.nD,
          r.2.mem ((c.tc : Thread Cert.MixOutXRefIdeal.nD Cert.MixOutXRefIdeal.τ).loc Cert.MixOutXRefIdeal.main_v5) = v0 c
          ∧ r.2.mem ((c.tc : Thread Cert.MixOutXRefIdeal.nD Cert.MixOutXRefIdeal.τ).loc Cert.MixOutXRefIdeal.main_arg0) = m' ((c.tc : Thread Cert.MixOutXRefIdeal.nD Cert.MixOutXRefIdeal.τ).loc Cert.MixOutXRefIdeal.main_arg0)
          ∧ r.2.mem ((c.tc : Thread Cert.MixOutXRefIdeal.nD Cert.MixOutXRefIdeal.τ).loc Cert.MixOutXRefIdeal.main_arg1) = m' ((c.tc : Thread Cert.MixOutXRefIdeal.nD Cert.MixOutXRefIdeal.τ).loc Cert.MixOutXRefIdeal.main_arg1))

def preserves_MixOutW_MixOutWIdeal : Prop :=
  True

def algebraic_MixOutWIdeal_MixOutWRefIdeal [hMixOutWIdeal : Cert.MixOutWIdeal.Facts] [hMixOutWRefIdeal : Cert.MixOutWRefIdeal.Facts] : Prop :=
  ∀ (m : (ℓ : Loc Cert.MixOutWIdeal.nD Cert.MixOutWIdeal.τ Cert.MixOutWIdeal.sig) → Buf (Elt Ideal) ℓ) (g : Dev Cert.MixOutWIdeal.nD → PrngReg)
    (m' : (ℓ : Loc Cert.MixOutWRefIdeal.nD Cert.MixOutWRefIdeal.τ Cert.MixOutWRefIdeal.sig) → Buf (Elt Ideal) ℓ) (g' : Dev Cert.MixOutWRefIdeal.nD → PrngReg), Pre_MixOutWIdeal m →
    (∀ c : Dev Cert.MixOutWIdeal.nD,
      m' ((c.tc : Thread Cert.MixOutWRefIdeal.nD Cert.MixOutWRefIdeal.τ).loc Cert.MixOutWRefIdeal.main_arg0) = m ((c.tc : Thread Cert.MixOutWIdeal.nD Cert.MixOutWIdeal.τ).loc Cert.MixOutWIdeal.main_arg0)
      ∧ m' ((c.tc : Thread Cert.MixOutWRefIdeal.nD Cert.MixOutWRefIdeal.τ).loc Cert.MixOutWRefIdeal.main_arg1) = m ((c.tc : Thread Cert.MixOutWIdeal.nD Cert.MixOutWIdeal.τ).loc Cert.MixOutWIdeal.main_arg1)) →
    ∃ (v0 : (c : Dev Cert.MixOutWIdeal.nD) → Buf (Elt Ideal) ((c.tc : Thread Cert.MixOutWIdeal.nD Cert.MixOutWIdeal.τ).loc Cert.MixOutWIdeal.main_v0)),
      θ_run (Cert.MixOutWIdeal.defs (F := Ideal)) (onTc (τ := Cert.MixOutWIdeal.τ) (Cert.MixOutWIdeal.main (F := Ideal))) ⟨m, fun _ => 0, g⟩ (fun r => ∀ c : Dev Cert.MixOutWIdeal.nD,
          r.2.mem ((c.tc : Thread Cert.MixOutWIdeal.nD Cert.MixOutWIdeal.τ).loc Cert.MixOutWIdeal.main_v0) = v0 c
          ∧ r.2.mem ((c.tc : Thread Cert.MixOutWIdeal.nD Cert.MixOutWIdeal.τ).loc Cert.MixOutWIdeal.main_arg0) = m ((c.tc : Thread Cert.MixOutWIdeal.nD Cert.MixOutWIdeal.τ).loc Cert.MixOutWIdeal.main_arg0)
          ∧ r.2.mem ((c.tc : Thread Cert.MixOutWIdeal.nD Cert.MixOutWIdeal.τ).loc Cert.MixOutWIdeal.main_arg1) = m ((c.tc : Thread Cert.MixOutWIdeal.nD Cert.MixOutWIdeal.τ).loc Cert.MixOutWIdeal.main_arg1))
      ∧ θ_run (Cert.MixOutWRefIdeal.defs (F := Ideal)) (onTc (τ := Cert.MixOutWRefIdeal.τ) (Cert.MixOutWRefIdeal.main (F := Ideal))) ⟨m', fun _ => 0, g'⟩ (fun r => ∀ c : Dev Cert.MixOutWRefIdeal.nD,
          r.2.mem ((c.tc : Thread Cert.MixOutWRefIdeal.nD Cert.MixOutWRefIdeal.τ).loc Cert.MixOutWRefIdeal.main_v6) = v0 c
          ∧ r.2.mem ((c.tc : Thread Cert.MixOutWRefIdeal.nD Cert.MixOutWRefIdeal.τ).loc Cert.MixOutWRefIdeal.main_arg0) = m' ((c.tc : Thread Cert.MixOutWRefIdeal.nD Cert.MixOutWRefIdeal.τ).loc Cert.MixOutWRefIdeal.main_arg0)
          ∧ r.2.mem ((c.tc : Thread Cert.MixOutWRefIdeal.nD Cert.MixOutWRefIdeal.τ).loc Cert.MixOutWRefIdeal.main_arg1) = m' ((c.tc : Thread Cert.MixOutWRefIdeal.nD Cert.MixOutWRefIdeal.τ).loc Cert.MixOutWRefIdeal.main_arg1))

def preserves_AbIn_AbInIdeal : Prop :=
  True

def algebraic_AbInIdeal_AbInRefIdeal [hAbInIdeal : Cert.AbInIdeal.Facts] [hAbInRefIdeal : Cert.AbInRefIdeal.Facts] : Prop :=
  ∀ (m : (ℓ : Loc Cert.AbInIdeal.nD Cert.AbInIdeal.τ Cert.AbInIdeal.sig) → Buf (Elt Ideal) ℓ) (g : Dev Cert.AbInIdeal.nD → PrngReg)
    (m' : (ℓ : Loc Cert.AbInRefIdeal.nD Cert.AbInRefIdeal.τ Cert.AbInRefIdeal.sig) → Buf (Elt Ideal) ℓ) (g' : Dev Cert.AbInRefIdeal.nD → PrngReg), Pre_AbInIdeal m →
    (∀ c : Dev Cert.AbInIdeal.nD,
      m' ((c.tc : Thread Cert.AbInRefIdeal.nD Cert.AbInRefIdeal.τ).loc Cert.AbInRefIdeal.main_arg0) = m ((c.tc : Thread Cert.AbInIdeal.nD Cert.AbInIdeal.τ).loc Cert.AbInIdeal.main_arg0)
      ∧ m' ((c.tc : Thread Cert.AbInRefIdeal.nD Cert.AbInRefIdeal.τ).loc Cert.AbInRefIdeal.main_arg1) = m ((c.tc : Thread Cert.AbInIdeal.nD Cert.AbInIdeal.τ).loc Cert.AbInIdeal.main_arg1)) →
    ∃ (v0 : (c : Dev Cert.AbInIdeal.nD) → Buf (Elt Ideal) ((c.tc : Thread Cert.AbInIdeal.nD Cert.AbInIdeal.τ).loc Cert.AbInIdeal.main_v0)),
      θ_run (Cert.AbInIdeal.defs (F := Ideal)) (onTc (τ := Cert.AbInIdeal.τ) (Cert.AbInIdeal.main (F := Ideal))) ⟨m, fun _ => 0, g⟩ (fun r => ∀ c : Dev Cert.AbInIdeal.nD,
          r.2.mem ((c.tc : Thread Cert.AbInIdeal.nD Cert.AbInIdeal.τ).loc Cert.AbInIdeal.main_v0) = v0 c
          ∧ r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
          ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1))
      ∧ θ_run (Cert.AbInRefIdeal.defs (F := Ideal)) (onTc (τ := Cert.AbInRefIdeal.τ) (Cert.AbInRefIdeal.main (F := Ideal))) ⟨m', fun _ => 0, g'⟩ (fun r => ∀ c : Dev Cert.AbInRefIdeal.nD,
          r.2.mem ((c.tc : Thread Cert.AbInRefIdeal.nD Cert.AbInRefIdeal.τ).loc Cert.AbInRefIdeal.main_v3) = v0 c
          ∧ r.2.mem ((c.tc : Thread Cert.AbInRefIdeal.nD Cert.AbInRefIdeal.τ).loc Cert.AbInRefIdeal.main_arg0) = m' ((c.tc : Thread Cert.AbInRefIdeal.nD Cert.AbInRefIdeal.τ).loc Cert.AbInRefIdeal.main_arg0)
          ∧ r.2.mem ((c.tc : Thread Cert.AbInRefIdeal.nD Cert.AbInRefIdeal.τ).loc Cert.AbInRefIdeal.main_arg1) = m' ((c.tc : Thread Cert.AbInRefIdeal.nD Cert.AbInRefIdeal.τ).loc Cert.AbInRefIdeal.main_arg1))

def preserves_AbInX_AbInXIdeal : Prop :=
  True

def algebraic_AbInXIdeal_AbInXRefIdeal [hAbInXIdeal : Cert.AbInXIdeal.Facts] [hAbInXRefIdeal : Cert.AbInXRefIdeal.Facts] : Prop :=
  ∀ (m : (ℓ : Loc Cert.AbInXIdeal.nD Cert.AbInXIdeal.τ Cert.AbInXIdeal.sig) → Buf (Elt Ideal) ℓ) (g : Dev Cert.AbInXIdeal.nD → PrngReg)
    (m' : (ℓ : Loc Cert.AbInXRefIdeal.nD Cert.AbInXRefIdeal.τ Cert.AbInXRefIdeal.sig) → Buf (Elt Ideal) ℓ) (g' : Dev Cert.AbInXRefIdeal.nD → PrngReg), Pre_AbInXIdeal m →
    (∀ c : Dev Cert.AbInXIdeal.nD,
      m' ((c.tc : Thread Cert.AbInXRefIdeal.nD Cert.AbInXRefIdeal.τ).loc Cert.AbInXRefIdeal.main_arg0) = m ((c.tc : Thread Cert.AbInXIdeal.nD Cert.AbInXIdeal.τ).loc Cert.AbInXIdeal.main_arg0)
      ∧ m' ((c.tc : Thread Cert.AbInXRefIdeal.nD Cert.AbInXRefIdeal.τ).loc Cert.AbInXRefIdeal.main_arg1) = m ((c.tc : Thread Cert.AbInXIdeal.nD Cert.AbInXIdeal.τ).loc Cert.AbInXIdeal.main_arg1)) →
    ∃ (v0 : (c : Dev Cert.AbInXIdeal.nD) → Buf (Elt Ideal) ((c.tc : Thread Cert.AbInXIdeal.nD Cert.AbInXIdeal.τ).loc Cert.AbInXIdeal.main_v0)),
      θ_run (Cert.AbInXIdeal.defs (F := Ideal)) (onTc (τ := Cert.AbInXIdeal.τ) (Cert.AbInXIdeal.main (F := Ideal))) ⟨m, fun _ => 0, g⟩ (fun r => ∀ c : Dev Cert.AbInXIdeal.nD,
          r.2.mem ((c.tc : Thread Cert.AbInXIdeal.nD Cert.AbInXIdeal.τ).loc Cert.AbInXIdeal.main_v0) = v0 c
          ∧ r.2.mem ((c.tc : Thread Cert.AbInXIdeal.nD Cert.AbInXIdeal.τ).loc Cert.AbInXIdeal.main_arg0) = m ((c.tc : Thread Cert.AbInXIdeal.nD Cert.AbInXIdeal.τ).loc Cert.AbInXIdeal.main_arg0)
          ∧ r.2.mem ((c.tc : Thread Cert.AbInXIdeal.nD Cert.AbInXIdeal.τ).loc Cert.AbInXIdeal.main_arg1) = m ((c.tc : Thread Cert.AbInXIdeal.nD Cert.AbInXIdeal.τ).loc Cert.AbInXIdeal.main_arg1))
      ∧ θ_run (Cert.AbInXRefIdeal.defs (F := Ideal)) (onTc (τ := Cert.AbInXRefIdeal.τ) (Cert.AbInXRefIdeal.main (F := Ideal))) ⟨m', fun _ => 0, g'⟩ (fun r => ∀ c : Dev Cert.AbInXRefIdeal.nD,
          r.2.mem ((c.tc : Thread Cert.AbInXRefIdeal.nD Cert.AbInXRefIdeal.τ).loc Cert.AbInXRefIdeal.main_v5) = v0 c
          ∧ r.2.mem ((c.tc : Thread Cert.AbInXRefIdeal.nD Cert.AbInXRefIdeal.τ).loc Cert.AbInXRefIdeal.main_arg0) = m' ((c.tc : Thread Cert.AbInXRefIdeal.nD Cert.AbInXRefIdeal.τ).loc Cert.AbInXRefIdeal.main_arg0)
          ∧ r.2.mem ((c.tc : Thread Cert.AbInXRefIdeal.nD Cert.AbInXRefIdeal.τ).loc Cert.AbInXRefIdeal.main_arg1) = m' ((c.tc : Thread Cert.AbInXRefIdeal.nD Cert.AbInXRefIdeal.τ).loc Cert.AbInXRefIdeal.main_arg1))

def preserves_AbInW_AbInWIdeal : Prop :=
  True

def algebraic_AbInWIdeal_AbInWRefIdeal [hAbInWIdeal : Cert.AbInWIdeal.Facts] [hAbInWRefIdeal : Cert.AbInWRefIdeal.Facts] : Prop :=
  ∀ (m : (ℓ : Loc Cert.AbInWIdeal.nD Cert.AbInWIdeal.τ Cert.AbInWIdeal.sig) → Buf (Elt Ideal) ℓ) (g : Dev Cert.AbInWIdeal.nD → PrngReg)
    (m' : (ℓ : Loc Cert.AbInWRefIdeal.nD Cert.AbInWRefIdeal.τ Cert.AbInWRefIdeal.sig) → Buf (Elt Ideal) ℓ) (g' : Dev Cert.AbInWRefIdeal.nD → PrngReg), Pre_AbInWIdeal m →
    (∀ c : Dev Cert.AbInWIdeal.nD,
      m' ((c.tc : Thread Cert.AbInWRefIdeal.nD Cert.AbInWRefIdeal.τ).loc Cert.AbInWRefIdeal.main_arg0) = m ((c.tc : Thread Cert.AbInWIdeal.nD Cert.AbInWIdeal.τ).loc Cert.AbInWIdeal.main_arg0)
      ∧ m' ((c.tc : Thread Cert.AbInWRefIdeal.nD Cert.AbInWRefIdeal.τ).loc Cert.AbInWRefIdeal.main_arg1) = m ((c.tc : Thread Cert.AbInWIdeal.nD Cert.AbInWIdeal.τ).loc Cert.AbInWIdeal.main_arg1)) →
    ∃ (v0 : (c : Dev Cert.AbInWIdeal.nD) → Buf (Elt Ideal) ((c.tc : Thread Cert.AbInWIdeal.nD Cert.AbInWIdeal.τ).loc Cert.AbInWIdeal.main_v0)),
      θ_run (Cert.AbInWIdeal.defs (F := Ideal)) (onTc (τ := Cert.AbInWIdeal.τ) (Cert.AbInWIdeal.main (F := Ideal))) ⟨m, fun _ => 0, g⟩ (fun r => ∀ c : Dev Cert.AbInWIdeal.nD,
          r.2.mem ((c.tc : Thread Cert.AbInWIdeal.nD Cert.AbInWIdeal.τ).loc Cert.AbInWIdeal.main_v0) = v0 c
          ∧ r.2.mem ((c.tc : Thread Cert.AbInWIdeal.nD Cert.AbInWIdeal.τ).loc Cert.AbInWIdeal.main_arg0) = m ((c.tc : Thread Cert.AbInWIdeal.nD Cert.AbInWIdeal.τ).loc Cert.AbInWIdeal.main_arg0)
          ∧ r.2.mem ((c.tc : Thread Cert.AbInWIdeal.nD Cert.AbInWIdeal.τ).loc Cert.AbInWIdeal.main_arg1) = m ((c.tc : Thread Cert.AbInWIdeal.nD Cert.AbInWIdeal.τ).loc Cert.AbInWIdeal.main_arg1))
      ∧ θ_run (Cert.AbInWRefIdeal.defs (F := Ideal)) (onTc (τ := Cert.AbInWRefIdeal.τ) (Cert.AbInWRefIdeal.main (F := Ideal))) ⟨m', fun _ => 0, g'⟩ (fun r => ∀ c : Dev Cert.AbInWRefIdeal.nD,
          r.2.mem ((c.tc : Thread Cert.AbInWRefIdeal.nD Cert.AbInWRefIdeal.τ).loc Cert.AbInWRefIdeal.main_v6) = v0 c
          ∧ r.2.mem ((c.tc : Thread Cert.AbInWRefIdeal.nD Cert.AbInWRefIdeal.τ).loc Cert.AbInWRefIdeal.main_arg0) = m' ((c.tc : Thread Cert.AbInWRefIdeal.nD Cert.AbInWRefIdeal.τ).loc Cert.AbInWRefIdeal.main_arg0)
          ∧ r.2.mem ((c.tc : Thread Cert.AbInWRefIdeal.nD Cert.AbInWRefIdeal.τ).loc Cert.AbInWRefIdeal.main_arg1) = m' ((c.tc : Thread Cert.AbInWRefIdeal.nD Cert.AbInWRefIdeal.τ).loc Cert.AbInWRefIdeal.main_arg1))

def preserves_MlaUp_MlaUpIdeal : Prop :=
  True

def algebraic_MlaUpIdeal_MlaUpRefIdeal [hMlaUpIdeal : Cert.MlaUpIdeal.Facts] [hMlaUpRefIdeal : Cert.MlaUpRefIdeal.Facts] : Prop :=
  ∀ (m : (ℓ : Loc Cert.MlaUpIdeal.nD Cert.MlaUpIdeal.τ Cert.MlaUpIdeal.sig) → Buf (Elt Ideal) ℓ) (g : Dev Cert.MlaUpIdeal.nD → PrngReg)
    (m' : (ℓ : Loc Cert.MlaUpRefIdeal.nD Cert.MlaUpRefIdeal.τ Cert.MlaUpRefIdeal.sig) → Buf (Elt Ideal) ℓ) (g' : Dev Cert.MlaUpRefIdeal.nD → PrngReg), Pre_MlaUpIdeal m →
    (∀ c : Dev Cert.MlaUpIdeal.nD,
      m' ((c.tc : Thread Cert.MlaUpRefIdeal.nD Cert.MlaUpRefIdeal.τ).loc Cert.MlaUpRefIdeal.main_arg0) = m ((c.tc : Thread Cert.MlaUpIdeal.nD Cert.MlaUpIdeal.τ).loc Cert.MlaUpIdeal.main_arg0)
      ∧ m' ((c.tc : Thread Cert.MlaUpRefIdeal.nD Cert.MlaUpRefIdeal.τ).loc Cert.MlaUpRefIdeal.main_arg1) = m ((c.tc : Thread Cert.MlaUpIdeal.nD Cert.MlaUpIdeal.τ).loc Cert.MlaUpIdeal.main_arg1)) →
    ∃ (v0 : (c : Dev Cert.MlaUpIdeal.nD) → Buf (Elt Ideal) ((c.tc : Thread Cert.MlaUpIdeal.nD Cert.MlaUpIdeal.τ).loc Cert.MlaUpIdeal.main_v0)),
      θ_run (Cert.MlaUpIdeal.defs (F := Ideal)) (onTc (τ := Cert.MlaUpIdeal.τ) (Cert.MlaUpIdeal.main (F := Ideal))) ⟨m, fun _ => 0, g⟩ (fun r => ∀ c : Dev Cert.MlaUpIdeal.nD,
          r.2.mem ((c.tc : Thread Cert.MlaUpIdeal.nD Cert.MlaUpIdeal.τ).loc Cert.MlaUpIdeal.main_v0) = v0 c
          ∧ r.2.mem ((c.tc : Thread Cert.MlaUpIdeal.nD Cert.MlaUpIdeal.τ).loc Cert.MlaUpIdeal.main_arg0) = m ((c.tc : Thread Cert.MlaUpIdeal.nD Cert.MlaUpIdeal.τ).loc Cert.MlaUpIdeal.main_arg0)
          ∧ r.2.mem ((c.tc : Thread Cert.MlaUpIdeal.nD Cert.MlaUpIdeal.τ).loc Cert.MlaUpIdeal.main_arg1) = m ((c.tc : Thread Cert.MlaUpIdeal.nD Cert.MlaUpIdeal.τ).loc Cert.MlaUpIdeal.main_arg1))
      ∧ θ_run (Cert.MlaUpRefIdeal.defs (F := Ideal)) (onTc (τ := Cert.MlaUpRefIdeal.τ) (Cert.MlaUpRefIdeal.main (F := Ideal))) ⟨m', fun _ => 0, g'⟩ (fun r => ∀ c : Dev Cert.MlaUpRefIdeal.nD,
          r.2.mem ((c.tc : Thread Cert.MlaUpRefIdeal.nD Cert.MlaUpRefIdeal.τ).loc Cert.MlaUpRefIdeal.main_v3) = v0 c
          ∧ r.2.mem ((c.tc : Thread Cert.MlaUpRefIdeal.nD Cert.MlaUpRefIdeal.τ).loc Cert.MlaUpRefIdeal.main_arg0) = m' ((c.tc : Thread Cert.MlaUpRefIdeal.nD Cert.MlaUpRefIdeal.τ).loc Cert.MlaUpRefIdeal.main_arg0)
          ∧ r.2.mem ((c.tc : Thread Cert.MlaUpRefIdeal.nD Cert.MlaUpRefIdeal.τ).loc Cert.MlaUpRefIdeal.main_arg1) = m' ((c.tc : Thread Cert.MlaUpRefIdeal.nD Cert.MlaUpRefIdeal.τ).loc Cert.MlaUpRefIdeal.main_arg1))

def preserves_MlaUpX_MlaUpXIdeal : Prop :=
  True

def algebraic_MlaUpXIdeal_MlaUpXRefIdeal [hMlaUpXIdeal : Cert.MlaUpXIdeal.Facts] [hMlaUpXRefIdeal : Cert.MlaUpXRefIdeal.Facts] : Prop :=
  ∀ (m : (ℓ : Loc Cert.MlaUpXIdeal.nD Cert.MlaUpXIdeal.τ Cert.MlaUpXIdeal.sig) → Buf (Elt Ideal) ℓ) (g : Dev Cert.MlaUpXIdeal.nD → PrngReg)
    (m' : (ℓ : Loc Cert.MlaUpXRefIdeal.nD Cert.MlaUpXRefIdeal.τ Cert.MlaUpXRefIdeal.sig) → Buf (Elt Ideal) ℓ) (g' : Dev Cert.MlaUpXRefIdeal.nD → PrngReg), Pre_MlaUpXIdeal m →
    (∀ c : Dev Cert.MlaUpXIdeal.nD,
      m' ((c.tc : Thread Cert.MlaUpXRefIdeal.nD Cert.MlaUpXRefIdeal.τ).loc Cert.MlaUpXRefIdeal.main_arg0) = m ((c.tc : Thread Cert.MlaUpXIdeal.nD Cert.MlaUpXIdeal.τ).loc Cert.MlaUpXIdeal.main_arg0)
      ∧ m' ((c.tc : Thread Cert.MlaUpXRefIdeal.nD Cert.MlaUpXRefIdeal.τ).loc Cert.MlaUpXRefIdeal.main_arg1) = m ((c.tc : Thread Cert.MlaUpXIdeal.nD Cert.MlaUpXIdeal.τ).loc Cert.MlaUpXIdeal.main_arg1)) →
    ∃ (v0 : (c : Dev Cert.MlaUpXIdeal.nD) → Buf (Elt Ideal) ((c.tc : Thread Cert.MlaUpXIdeal.nD Cert.MlaUpXIdeal.τ).loc Cert.MlaUpXIdeal.main_v0)),
      θ_run (Cert.MlaUpXIdeal.defs (F := Ideal)) (onTc (τ := Cert.MlaUpXIdeal.τ) (Cert.MlaUpXIdeal.main (F := Ideal))) ⟨m, fun _ => 0, g⟩ (fun r => ∀ c : Dev Cert.MlaUpXIdeal.nD,
          r.2.mem ((c.tc : Thread Cert.MlaUpXIdeal.nD Cert.MlaUpXIdeal.τ).loc Cert.MlaUpXIdeal.main_v0) = v0 c
          ∧ r.2.mem ((c.tc : Thread Cert.MlaUpXIdeal.nD Cert.MlaUpXIdeal.τ).loc Cert.MlaUpXIdeal.main_arg0) = m ((c.tc : Thread Cert.MlaUpXIdeal.nD Cert.MlaUpXIdeal.τ).loc Cert.MlaUpXIdeal.main_arg0)
          ∧ r.2.mem ((c.tc : Thread Cert.MlaUpXIdeal.nD Cert.MlaUpXIdeal.τ).loc Cert.MlaUpXIdeal.main_arg1) = m ((c.tc : Thread Cert.MlaUpXIdeal.nD Cert.MlaUpXIdeal.τ).loc Cert.MlaUpXIdeal.main_arg1))
      ∧ θ_run (Cert.MlaUpXRefIdeal.defs (F := Ideal)) (onTc (τ := Cert.MlaUpXRefIdeal.τ) (Cert.MlaUpXRefIdeal.main (F := Ideal))) ⟨m', fun _ => 0, g'⟩ (fun r => ∀ c : Dev Cert.MlaUpXRefIdeal.nD,
          r.2.mem ((c.tc : Thread Cert.MlaUpXRefIdeal.nD Cert.MlaUpXRefIdeal.τ).loc Cert.MlaUpXRefIdeal.main_v5) = v0 c
          ∧ r.2.mem ((c.tc : Thread Cert.MlaUpXRefIdeal.nD Cert.MlaUpXRefIdeal.τ).loc Cert.MlaUpXRefIdeal.main_arg0) = m' ((c.tc : Thread Cert.MlaUpXRefIdeal.nD Cert.MlaUpXRefIdeal.τ).loc Cert.MlaUpXRefIdeal.main_arg0)
          ∧ r.2.mem ((c.tc : Thread Cert.MlaUpXRefIdeal.nD Cert.MlaUpXRefIdeal.τ).loc Cert.MlaUpXRefIdeal.main_arg1) = m' ((c.tc : Thread Cert.MlaUpXRefIdeal.nD Cert.MlaUpXRefIdeal.τ).loc Cert.MlaUpXRefIdeal.main_arg1))

def preserves_MlaUpW_MlaUpWIdeal : Prop :=
  True

def algebraic_MlaUpWIdeal_MlaUpWRefIdeal [hMlaUpWIdeal : Cert.MlaUpWIdeal.Facts] [hMlaUpWRefIdeal : Cert.MlaUpWRefIdeal.Facts] : Prop :=
  ∀ (m : (ℓ : Loc Cert.MlaUpWIdeal.nD Cert.MlaUpWIdeal.τ Cert.MlaUpWIdeal.sig) → Buf (Elt Ideal) ℓ) (g : Dev Cert.MlaUpWIdeal.nD → PrngReg)
    (m' : (ℓ : Loc Cert.MlaUpWRefIdeal.nD Cert.MlaUpWRefIdeal.τ Cert.MlaUpWRefIdeal.sig) → Buf (Elt Ideal) ℓ) (g' : Dev Cert.MlaUpWRefIdeal.nD → PrngReg), Pre_MlaUpWIdeal m →
    (∀ c : Dev Cert.MlaUpWIdeal.nD,
      m' ((c.tc : Thread Cert.MlaUpWRefIdeal.nD Cert.MlaUpWRefIdeal.τ).loc Cert.MlaUpWRefIdeal.main_arg0) = m ((c.tc : Thread Cert.MlaUpWIdeal.nD Cert.MlaUpWIdeal.τ).loc Cert.MlaUpWIdeal.main_arg0)
      ∧ m' ((c.tc : Thread Cert.MlaUpWRefIdeal.nD Cert.MlaUpWRefIdeal.τ).loc Cert.MlaUpWRefIdeal.main_arg1) = m ((c.tc : Thread Cert.MlaUpWIdeal.nD Cert.MlaUpWIdeal.τ).loc Cert.MlaUpWIdeal.main_arg1)) →
    ∃ (v0 : (c : Dev Cert.MlaUpWIdeal.nD) → Buf (Elt Ideal) ((c.tc : Thread Cert.MlaUpWIdeal.nD Cert.MlaUpWIdeal.τ).loc Cert.MlaUpWIdeal.main_v0)),
      θ_run (Cert.MlaUpWIdeal.defs (F := Ideal)) (onTc (τ := Cert.MlaUpWIdeal.τ) (Cert.MlaUpWIdeal.main (F := Ideal))) ⟨m, fun _ => 0, g⟩ (fun r => ∀ c : Dev Cert.MlaUpWIdeal.nD,
          r.2.mem ((c.tc : Thread Cert.MlaUpWIdeal.nD Cert.MlaUpWIdeal.τ).loc Cert.MlaUpWIdeal.main_v0) = v0 c
          ∧ r.2.mem ((c.tc : Thread Cert.MlaUpWIdeal.nD Cert.MlaUpWIdeal.τ).loc Cert.MlaUpWIdeal.main_arg0) = m ((c.tc : Thread Cert.MlaUpWIdeal.nD Cert.MlaUpWIdeal.τ).loc Cert.MlaUpWIdeal.main_arg0)
          ∧ r.2.mem ((c.tc : Thread Cert.MlaUpWIdeal.nD Cert.MlaUpWIdeal.τ).loc Cert.MlaUpWIdeal.main_arg1) = m ((c.tc : Thread Cert.MlaUpWIdeal.nD Cert.MlaUpWIdeal.τ).loc Cert.MlaUpWIdeal.main_arg1))
      ∧ θ_run (Cert.MlaUpWRefIdeal.defs (F := Ideal)) (onTc (τ := Cert.MlaUpWRefIdeal.τ) (Cert.MlaUpWRefIdeal.main (F := Ideal))) ⟨m', fun _ => 0, g'⟩ (fun r => ∀ c : Dev Cert.MlaUpWRefIdeal.nD,
          r.2.mem ((c.tc : Thread Cert.MlaUpWRefIdeal.nD Cert.MlaUpWRefIdeal.τ).loc Cert.MlaUpWRefIdeal.main_v6) = v0 c
          ∧ r.2.mem ((c.tc : Thread Cert.MlaUpWRefIdeal.nD Cert.MlaUpWRefIdeal.τ).loc Cert.MlaUpWRefIdeal.main_arg0) = m' ((c.tc : Thread Cert.MlaUpWRefIdeal.nD Cert.MlaUpWRefIdeal.τ).loc Cert.MlaUpWRefIdeal.main_arg0)
          ∧ r.2.mem ((c.tc : Thread Cert.MlaUpWRefIdeal.nD Cert.MlaUpWRefIdeal.τ).loc Cert.MlaUpWRefIdeal.main_arg1) = m' ((c.tc : Thread Cert.MlaUpWRefIdeal.nD Cert.MlaUpWRefIdeal.τ).loc Cert.MlaUpWRefIdeal.main_arg1))

def preserves_MlaIn_MlaInIdeal : Prop :=
  True

def algebraic_MlaInIdeal_MlaInRefIdeal [hMlaInIdeal : Cert.MlaInIdeal.Facts] [hMlaInRefIdeal : Cert.MlaInRefIdeal.Facts] : Prop :=
  ∀ (m : (ℓ : Loc Cert.MlaInIdeal.nD Cert.MlaInIdeal.τ Cert.MlaInIdeal.sig) → Buf (Elt Ideal) ℓ) (g : Dev Cert.MlaInIdeal.nD → PrngReg)
    (m' : (ℓ : Loc Cert.MlaInRefIdeal.nD Cert.MlaInRefIdeal.τ Cert.MlaInRefIdeal.sig) → Buf (Elt Ideal) ℓ) (g' : Dev Cert.MlaInRefIdeal.nD → PrngReg), Pre_MlaInIdeal m →
    (∀ c : Dev Cert.MlaInIdeal.nD,
      m' ((c.tc : Thread Cert.MlaInRefIdeal.nD Cert.MlaInRefIdeal.τ).loc Cert.MlaInRefIdeal.main_arg0) = m ((c.tc : Thread Cert.MlaInIdeal.nD Cert.MlaInIdeal.τ).loc Cert.MlaInIdeal.main_arg0)
      ∧ m' ((c.tc : Thread Cert.MlaInRefIdeal.nD Cert.MlaInRefIdeal.τ).loc Cert.MlaInRefIdeal.main_arg1) = m ((c.tc : Thread Cert.MlaInIdeal.nD Cert.MlaInIdeal.τ).loc Cert.MlaInIdeal.main_arg1)) →
    ∃ (v0 : (c : Dev Cert.MlaInIdeal.nD) → Buf (Elt Ideal) ((c.tc : Thread Cert.MlaInIdeal.nD Cert.MlaInIdeal.τ).loc Cert.MlaInIdeal.main_v0)),
      θ_run (Cert.MlaInIdeal.defs (F := Ideal)) (onTc (τ := Cert.MlaInIdeal.τ) (Cert.MlaInIdeal.main (F := Ideal))) ⟨m, fun _ => 0, g⟩ (fun r => ∀ c : Dev Cert.MlaInIdeal.nD,
          r.2.mem ((c.tc : Thread Cert.MlaInIdeal.nD Cert.MlaInIdeal.τ).loc Cert.MlaInIdeal.main_v0) = v0 c
          ∧ r.2.mem ((c.tc : Thread Cert.MlaInIdeal.nD Cert.MlaInIdeal.τ).loc Cert.MlaInIdeal.main_arg0) = m ((c.tc : Thread Cert.MlaInIdeal.nD Cert.MlaInIdeal.τ).loc Cert.MlaInIdeal.main_arg0)
          ∧ r.2.mem ((c.tc : Thread Cert.MlaInIdeal.nD Cert.MlaInIdeal.τ).loc Cert.MlaInIdeal.main_arg1) = m ((c.tc : Thread Cert.MlaInIdeal.nD Cert.MlaInIdeal.τ).loc Cert.MlaInIdeal.main_arg1))
      ∧ θ_run (Cert.MlaInRefIdeal.defs (F := Ideal)) (onTc (τ := Cert.MlaInRefIdeal.τ) (Cert.MlaInRefIdeal.main (F := Ideal))) ⟨m', fun _ => 0, g'⟩ (fun r => ∀ c : Dev Cert.MlaInRefIdeal.nD,
          r.2.mem ((c.tc : Thread Cert.MlaInRefIdeal.nD Cert.MlaInRefIdeal.τ).loc Cert.MlaInRefIdeal.main_v3) = v0 c
          ∧ r.2.mem ((c.tc : Thread Cert.MlaInRefIdeal.nD Cert.MlaInRefIdeal.τ).loc Cert.MlaInRefIdeal.main_arg0) = m' ((c.tc : Thread Cert.MlaInRefIdeal.nD Cert.MlaInRefIdeal.τ).loc Cert.MlaInRefIdeal.main_arg0)
          ∧ r.2.mem ((c.tc : Thread Cert.MlaInRefIdeal.nD Cert.MlaInRefIdeal.τ).loc Cert.MlaInRefIdeal.main_arg1) = m' ((c.tc : Thread Cert.MlaInRefIdeal.nD Cert.MlaInRefIdeal.τ).loc Cert.MlaInRefIdeal.main_arg1))

def preserves_MlaInX_MlaInXIdeal : Prop :=
  True

def algebraic_MlaInXIdeal_MlaInXRefIdeal [hMlaInXIdeal : Cert.MlaInXIdeal.Facts] [hMlaInXRefIdeal : Cert.MlaInXRefIdeal.Facts] : Prop :=
  ∀ (m : (ℓ : Loc Cert.MlaInXIdeal.nD Cert.MlaInXIdeal.τ Cert.MlaInXIdeal.sig) → Buf (Elt Ideal) ℓ) (g : Dev Cert.MlaInXIdeal.nD → PrngReg)
    (m' : (ℓ : Loc Cert.MlaInXRefIdeal.nD Cert.MlaInXRefIdeal.τ Cert.MlaInXRefIdeal.sig) → Buf (Elt Ideal) ℓ) (g' : Dev Cert.MlaInXRefIdeal.nD → PrngReg), Pre_MlaInXIdeal m →
    (∀ c : Dev Cert.MlaInXIdeal.nD,
      m' ((c.tc : Thread Cert.MlaInXRefIdeal.nD Cert.MlaInXRefIdeal.τ).loc Cert.MlaInXRefIdeal.main_arg0) = m ((c.tc : Thread Cert.MlaInXIdeal.nD Cert.MlaInXIdeal.τ).loc Cert.MlaInXIdeal.main_arg0)
      ∧ m' ((c.tc : Thread Cert.MlaInXRefIdeal.nD Cert.MlaInXRefIdeal.τ).loc Cert.MlaInXRefIdeal.main_arg1) = m ((c.tc : Thread Cert.MlaInXIdeal.nD Cert.MlaInXIdeal.τ).loc Cert.MlaInXIdeal.main_arg1)) →
    ∃ (v0 : (c : Dev Cert.MlaInXIdeal.nD) → Buf (Elt Ideal) ((c.tc : Thread Cert.MlaInXIdeal.nD Cert.MlaInXIdeal.τ).loc Cert.MlaInXIdeal.main_v0)),
      θ_run (Cert.MlaInXIdeal.defs (F := Ideal)) (onTc (τ := Cert.MlaInXIdeal.τ) (Cert.MlaInXIdeal.main (F := Ideal))) ⟨m, fun _ => 0, g⟩ (fun r => ∀ c : Dev Cert.MlaInXIdeal.nD,
          r.2.mem ((c.tc : Thread Cert.MlaInXIdeal.nD Cert.MlaInXIdeal.τ).loc Cert.MlaInXIdeal.main_v0) = v0 c
          ∧ r.2.mem ((c.tc : Thread Cert.MlaInXIdeal.nD Cert.MlaInXIdeal.τ).loc Cert.MlaInXIdeal.main_arg0) = m ((c.tc : Thread Cert.MlaInXIdeal.nD Cert.MlaInXIdeal.τ).loc Cert.MlaInXIdeal.main_arg0)
          ∧ r.2.mem ((c.tc : Thread Cert.MlaInXIdeal.nD Cert.MlaInXIdeal.τ).loc Cert.MlaInXIdeal.main_arg1) = m ((c.tc : Thread Cert.MlaInXIdeal.nD Cert.MlaInXIdeal.τ).loc Cert.MlaInXIdeal.main_arg1))
      ∧ θ_run (Cert.MlaInXRefIdeal.defs (F := Ideal)) (onTc (τ := Cert.MlaInXRefIdeal.τ) (Cert.MlaInXRefIdeal.main (F := Ideal))) ⟨m', fun _ => 0, g'⟩ (fun r => ∀ c : Dev Cert.MlaInXRefIdeal.nD,
          r.2.mem ((c.tc : Thread Cert.MlaInXRefIdeal.nD Cert.MlaInXRefIdeal.τ).loc Cert.MlaInXRefIdeal.main_v5) = v0 c
          ∧ r.2.mem ((c.tc : Thread Cert.MlaInXRefIdeal.nD Cert.MlaInXRefIdeal.τ).loc Cert.MlaInXRefIdeal.main_arg0) = m' ((c.tc : Thread Cert.MlaInXRefIdeal.nD Cert.MlaInXRefIdeal.τ).loc Cert.MlaInXRefIdeal.main_arg0)
          ∧ r.2.mem ((c.tc : Thread Cert.MlaInXRefIdeal.nD Cert.MlaInXRefIdeal.τ).loc Cert.MlaInXRefIdeal.main_arg1) = m' ((c.tc : Thread Cert.MlaInXRefIdeal.nD Cert.MlaInXRefIdeal.τ).loc Cert.MlaInXRefIdeal.main_arg1))

def preserves_MlaInW_MlaInWIdeal : Prop :=
  True

def algebraic_MlaInWIdeal_MlaInWRefIdeal [hMlaInWIdeal : Cert.MlaInWIdeal.Facts] [hMlaInWRefIdeal : Cert.MlaInWRefIdeal.Facts] : Prop :=
  ∀ (m : (ℓ : Loc Cert.MlaInWIdeal.nD Cert.MlaInWIdeal.τ Cert.MlaInWIdeal.sig) → Buf (Elt Ideal) ℓ) (g : Dev Cert.MlaInWIdeal.nD → PrngReg)
    (m' : (ℓ : Loc Cert.MlaInWRefIdeal.nD Cert.MlaInWRefIdeal.τ Cert.MlaInWRefIdeal.sig) → Buf (Elt Ideal) ℓ) (g' : Dev Cert.MlaInWRefIdeal.nD → PrngReg), Pre_MlaInWIdeal m →
    (∀ c : Dev Cert.MlaInWIdeal.nD,
      m' ((c.tc : Thread Cert.MlaInWRefIdeal.nD Cert.MlaInWRefIdeal.τ).loc Cert.MlaInWRefIdeal.main_arg0) = m ((c.tc : Thread Cert.MlaInWIdeal.nD Cert.MlaInWIdeal.τ).loc Cert.MlaInWIdeal.main_arg0)
      ∧ m' ((c.tc : Thread Cert.MlaInWRefIdeal.nD Cert.MlaInWRefIdeal.τ).loc Cert.MlaInWRefIdeal.main_arg1) = m ((c.tc : Thread Cert.MlaInWIdeal.nD Cert.MlaInWIdeal.τ).loc Cert.MlaInWIdeal.main_arg1)) →
    ∃ (v0 : (c : Dev Cert.MlaInWIdeal.nD) → Buf (Elt Ideal) ((c.tc : Thread Cert.MlaInWIdeal.nD Cert.MlaInWIdeal.τ).loc Cert.MlaInWIdeal.main_v0)),
      θ_run (Cert.MlaInWIdeal.defs (F := Ideal)) (onTc (τ := Cert.MlaInWIdeal.τ) (Cert.MlaInWIdeal.main (F := Ideal))) ⟨m, fun _ => 0, g⟩ (fun r => ∀ c : Dev Cert.MlaInWIdeal.nD,
          r.2.mem ((c.tc : Thread Cert.MlaInWIdeal.nD Cert.MlaInWIdeal.τ).loc Cert.MlaInWIdeal.main_v0) = v0 c
          ∧ r.2.mem ((c.tc : Thread Cert.MlaInWIdeal.nD Cert.MlaInWIdeal.τ).loc Cert.MlaInWIdeal.main_arg0) = m ((c.tc : Thread Cert.MlaInWIdeal.nD Cert.MlaInWIdeal.τ).loc Cert.MlaInWIdeal.main_arg0)
          ∧ r.2.mem ((c.tc : Thread Cert.MlaInWIdeal.nD Cert.MlaInWIdeal.τ).loc Cert.MlaInWIdeal.main_arg1) = m ((c.tc : Thread Cert.MlaInWIdeal.nD Cert.MlaInWIdeal.τ).loc Cert.MlaInWIdeal.main_arg1))
      ∧ θ_run (Cert.MlaInWRefIdeal.defs (F := Ideal)) (onTc (τ := Cert.MlaInWRefIdeal.τ) (Cert.MlaInWRefIdeal.main (F := Ideal))) ⟨m', fun _ => 0, g'⟩ (fun r => ∀ c : Dev Cert.MlaInWRefIdeal.nD,
          r.2.mem ((c.tc : Thread Cert.MlaInWRefIdeal.nD Cert.MlaInWRefIdeal.τ).loc Cert.MlaInWRefIdeal.main_v6) = v0 c
          ∧ r.2.mem ((c.tc : Thread Cert.MlaInWRefIdeal.nD Cert.MlaInWRefIdeal.τ).loc Cert.MlaInWRefIdeal.main_arg0) = m' ((c.tc : Thread Cert.MlaInWRefIdeal.nD Cert.MlaInWRefIdeal.τ).loc Cert.MlaInWRefIdeal.main_arg0)
          ∧ r.2.mem ((c.tc : Thread Cert.MlaInWRefIdeal.nD Cert.MlaInWRefIdeal.τ).loc Cert.MlaInWRefIdeal.main_arg1) = m' ((c.tc : Thread Cert.MlaInWRefIdeal.nD Cert.MlaInWRefIdeal.τ).loc Cert.MlaInWRefIdeal.main_arg1))

def preserves_AttnFwd_AttnFwdIdeal : Prop :=
  IdealRules.named_const.Statement Cert.AttnFwdIdeal.κ "scale_log2e" .f32 0x3DD53B95#32 (((Real.sqrt 192)⁻¹ * (Real.log 2)⁻¹ : ℝ) : EReal)
  ∧ IdealRules.named_const.Statement Cert.AttnFwdIdeal.κ "scale" .f32 0x3D93CD3A#32 (((Real.sqrt 192)⁻¹ : ℝ) : EReal)

def algebraic_AttnFwdIdeal_AttnFwdRefIdeal_pre_attn_finite [hAttnFwdIdeal : Cert.AttnFwdIdeal.Facts] [hAttnFwdRefIdeal : Cert.AttnFwdRefIdeal.Facts] [hPre_attn_finite : Cert.Pre_attn_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_attn_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v0_0)) (v1 : (c : Dev Cert.AttnFwdIdeal.nD) → Buf (Elt Ideal) ((c.tc : Thread Cert.AttnFwdIdeal.nD Cert.AttnFwdIdeal.τ).loc Cert.AttnFwdIdeal.main_v0_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0_0) = v0 c
          ∧ r.2.mem ((c.tc : Thread Cert.AttnFwdIdeal.nD Cert.AttnFwdIdeal.τ).loc Cert.AttnFwdIdeal.main_v0_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v37) = v0 c
          ∧ r.2.mem ((c.tc : Thread Cert.AttnFwdRefIdeal.nD Cert.AttnFwdRefIdeal.τ).loc Cert.AttnFwdRefIdeal.main_v39) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def Claim : Prop :=
  ∃ (hKernel : Cert.Kernel.Facts) (hKernelIdeal : Cert.KernelIdeal.Facts) (hReferenceIdeal : Cert.ReferenceIdeal.Facts) (hMlpUp : Cert.MlpUp.Facts) (hMlpUpIdeal : Cert.MlpUpIdeal.Facts) (hMlpUpRefIdeal : Cert.MlpUpRefIdeal.Facts) (hMlpDown : Cert.MlpDown.Facts) (hMlpDownIdeal : Cert.MlpDownIdeal.Facts) (hMlpDownRefIdeal : Cert.MlpDownRefIdeal.Facts) (hMlpDownW : Cert.MlpDownW.Facts) (hMlpDownWIdeal : Cert.MlpDownWIdeal.Facts) (hMlpDownWRefIdeal : Cert.MlpDownWRefIdeal.Facts) (hMlpDownX : Cert.MlpDownX.Facts) (hMlpDownXIdeal : Cert.MlpDownXIdeal.Facts) (hMlpDownXRefIdeal : Cert.MlpDownXRefIdeal.Facts) (hMlpUpW : Cert.MlpUpW.Facts) (hMlpUpWIdeal : Cert.MlpUpWIdeal.Facts) (hMlpUpWRefIdeal : Cert.MlpUpWRefIdeal.Facts) (hMlpUpX : Cert.MlpUpX.Facts) (hMlpUpXIdeal : Cert.MlpUpXIdeal.Facts) (hMlpUpXRefIdeal : Cert.MlpUpXRefIdeal.Facts) (hMixOut : Cert.MixOut.Facts) (hMixOutIdeal : Cert.MixOutIdeal.Facts) (hMixOutRefIdeal : Cert.MixOutRefIdeal.Facts) (hMixOutX : Cert.MixOutX.Facts) (hMixOutXIdeal : Cert.MixOutXIdeal.Facts) (hMixOutXRefIdeal : Cert.MixOutXRefIdeal.Facts) (hMixOutW : Cert.MixOutW.Facts) (hMixOutWIdeal : Cert.MixOutWIdeal.Facts) (hMixOutWRefIdeal : Cert.MixOutWRefIdeal.Facts) (hAbIn : Cert.AbIn.Facts) (hAbInIdeal : Cert.AbInIdeal.Facts) (hAbInRefIdeal : Cert.AbInRefIdeal.Facts) (hAbInX : Cert.AbInX.Facts) (hAbInXIdeal : Cert.AbInXIdeal.Facts) (hAbInXRefIdeal : Cert.AbInXRefIdeal.Facts) (hAbInW : Cert.AbInW.Facts) (hAbInWIdeal : Cert.AbInWIdeal.Facts) (hAbInWRefIdeal : Cert.AbInWRefIdeal.Facts) (hMlaUp : Cert.MlaUp.Facts) (hMlaUpIdeal : Cert.MlaUpIdeal.Facts) (hMlaUpRefIdeal : Cert.MlaUpRefIdeal.Facts) (hMlaUpX : Cert.MlaUpX.Facts) (hMlaUpXIdeal : Cert.MlaUpXIdeal.Facts) (hMlaUpXRefIdeal : Cert.MlaUpXRefIdeal.Facts) (hMlaUpW : Cert.MlaUpW.Facts) (hMlaUpWIdeal : Cert.MlaUpWIdeal.Facts) (hMlaUpWRefIdeal : Cert.MlaUpWRefIdeal.Facts) (hMlaIn : Cert.MlaIn.Facts) (hMlaInIdeal : Cert.MlaInIdeal.Facts) (hMlaInRefIdeal : Cert.MlaInRefIdeal.Facts) (hMlaInX : Cert.MlaInX.Facts) (hMlaInXIdeal : Cert.MlaInXIdeal.Facts) (hMlaInXRefIdeal : Cert.MlaInXRefIdeal.Facts) (hMlaInW : Cert.MlaInW.Facts) (hMlaInWIdeal : Cert.MlaInWIdeal.Facts) (hMlaInWRefIdeal : Cert.MlaInWRefIdeal.Facts) (hAttnFwd : Cert.AttnFwd.Facts) (hAttnFwdIdeal : Cert.AttnFwdIdeal.Facts) (hAttnFwdRefIdeal : Cert.AttnFwdRefIdeal.Facts) (hPre_finite : Cert.Pre_finite.Facts) (hPre_attn_finite : Cert.Pre_attn_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_MlpDownW (hMlpDownW := hMlpDownW)
    ∧ quiescent_MlpDownWIdeal (hMlpDownWIdeal := hMlpDownWIdeal)
    ∧ quiescent_MlpDownWRefIdeal (hMlpDownWRefIdeal := hMlpDownWRefIdeal)
    ∧ quiescent_MlpDownX (hMlpDownX := hMlpDownX)
    ∧ quiescent_MlpDownXIdeal (hMlpDownXIdeal := hMlpDownXIdeal)
    ∧ quiescent_MlpDownXRefIdeal (hMlpDownXRefIdeal := hMlpDownXRefIdeal)
    ∧ quiescent_MlpUpW (hMlpUpW := hMlpUpW)
    ∧ quiescent_MlpUpWIdeal (hMlpUpWIdeal := hMlpUpWIdeal)
    ∧ quiescent_MlpUpWRefIdeal (hMlpUpWRefIdeal := hMlpUpWRefIdeal)
    ∧ quiescent_MlpUpX (hMlpUpX := hMlpUpX)
    ∧ quiescent_MlpUpXIdeal (hMlpUpXIdeal := hMlpUpXIdeal)
    ∧ quiescent_MlpUpXRefIdeal (hMlpUpXRefIdeal := hMlpUpXRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MixOutX (hMixOutX := hMixOutX)
    ∧ quiescent_MixOutXIdeal (hMixOutXIdeal := hMixOutXIdeal)
    ∧ quiescent_MixOutXRefIdeal (hMixOutXRefIdeal := hMixOutXRefIdeal)
    ∧ quiescent_MixOutW (hMixOutW := hMixOutW)
    ∧ quiescent_MixOutWIdeal (hMixOutWIdeal := hMixOutWIdeal)
    ∧ quiescent_MixOutWRefIdeal (hMixOutWRefIdeal := hMixOutWRefIdeal)
    ∧ quiescent_AbIn (hAbIn := hAbIn)
    ∧ quiescent_AbInIdeal (hAbInIdeal := hAbInIdeal)
    ∧ quiescent_AbInRefIdeal (hAbInRefIdeal := hAbInRefIdeal)
    ∧ quiescent_AbInX (hAbInX := hAbInX)
    ∧ quiescent_AbInXIdeal (hAbInXIdeal := hAbInXIdeal)
    ∧ quiescent_AbInXRefIdeal (hAbInXRefIdeal := hAbInXRefIdeal)
    ∧ quiescent_AbInW (hAbInW := hAbInW)
    ∧ quiescent_AbInWIdeal (hAbInWIdeal := hAbInWIdeal)
    ∧ quiescent_AbInWRefIdeal (hAbInWRefIdeal := hAbInWRefIdeal)
    ∧ quiescent_MlaUp (hMlaUp := hMlaUp)
    ∧ quiescent_MlaUpIdeal (hMlaUpIdeal := hMlaUpIdeal)
    ∧ quiescent_MlaUpRefIdeal (hMlaUpRefIdeal := hMlaUpRefIdeal)
    ∧ quiescent_MlaUpX (hMlaUpX := hMlaUpX)
    ∧ quiescent_MlaUpXIdeal (hMlaUpXIdeal := hMlaUpXIdeal)
    ∧ quiescent_MlaUpXRefIdeal (hMlaUpXRefIdeal := hMlaUpXRefIdeal)
    ∧ quiescent_MlaUpW (hMlaUpW := hMlaUpW)
    ∧ quiescent_MlaUpWIdeal (hMlaUpWIdeal := hMlaUpWIdeal)
    ∧ quiescent_MlaUpWRefIdeal (hMlaUpWRefIdeal := hMlaUpWRefIdeal)
    ∧ quiescent_MlaIn (hMlaIn := hMlaIn)
    ∧ quiescent_MlaInIdeal (hMlaInIdeal := hMlaInIdeal)
    ∧ quiescent_MlaInRefIdeal (hMlaInRefIdeal := hMlaInRefIdeal)
    ∧ quiescent_MlaInX (hMlaInX := hMlaInX)
    ∧ quiescent_MlaInXIdeal (hMlaInXIdeal := hMlaInXIdeal)
    ∧ quiescent_MlaInXRefIdeal (hMlaInXRefIdeal := hMlaInXRefIdeal)
    ∧ quiescent_MlaInW (hMlaInW := hMlaInW)
    ∧ quiescent_MlaInWIdeal (hMlaInWIdeal := hMlaInWIdeal)
    ∧ quiescent_MlaInWRefIdeal (hMlaInWRefIdeal := hMlaInWRefIdeal)
    ∧ quiescent_AttnFwd (hAttnFwd := hAttnFwd)
    ∧ quiescent_AttnFwdIdeal (hAttnFwdIdeal := hAttnFwdIdeal)
    ∧ quiescent_AttnFwdIdeal_pre_attn_finite (hAttnFwdIdeal := hAttnFwdIdeal) (hPre_attn_finite := hPre_attn_finite)
    ∧ quiescent_AttnFwdRefIdeal (hAttnFwdRefIdeal := hAttnFwdRefIdeal)
    ∧ quiescent_AttnFwdRefIdeal_pre_attn_finite (hAttnFwdRefIdeal := hAttnFwdRefIdeal) (hPre_attn_finite := hPre_attn_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_MlpUp_MlpUpIdeal
    ∧ algebraic_MlpUpIdeal_MlpUpRefIdeal (hMlpUpIdeal := hMlpUpIdeal) (hMlpUpRefIdeal := hMlpUpRefIdeal)
    ∧ preserves_MlpDown_MlpDownIdeal
    ∧ algebraic_MlpDownIdeal_MlpDownRefIdeal (hMlpDownIdeal := hMlpDownIdeal) (hMlpDownRefIdeal := hMlpDownRefIdeal)
    ∧ preserves_MlpDownW_MlpDownWIdeal
    ∧ algebraic_MlpDownWIdeal_MlpDownWRefIdeal (hMlpDownWIdeal := hMlpDownWIdeal) (hMlpDownWRefIdeal := hMlpDownWRefIdeal)
    ∧ preserves_MlpDownX_MlpDownXIdeal
    ∧ algebraic_MlpDownXIdeal_MlpDownXRefIdeal (hMlpDownXIdeal := hMlpDownXIdeal) (hMlpDownXRefIdeal := hMlpDownXRefIdeal)
    ∧ preserves_MlpUpW_MlpUpWIdeal
    ∧ algebraic_MlpUpWIdeal_MlpUpWRefIdeal (hMlpUpWIdeal := hMlpUpWIdeal) (hMlpUpWRefIdeal := hMlpUpWRefIdeal)
    ∧ preserves_MlpUpX_MlpUpXIdeal
    ∧ algebraic_MlpUpXIdeal_MlpUpXRefIdeal (hMlpUpXIdeal := hMlpUpXIdeal) (hMlpUpXRefIdeal := hMlpUpXRefIdeal)
    ∧ preserves_MixOut_MixOutIdeal
    ∧ algebraic_MixOutIdeal_MixOutRefIdeal (hMixOutIdeal := hMixOutIdeal) (hMixOutRefIdeal := hMixOutRefIdeal)
    ∧ preserves_MixOutX_MixOutXIdeal
    ∧ algebraic_MixOutXIdeal_MixOutXRefIdeal (hMixOutXIdeal := hMixOutXIdeal) (hMixOutXRefIdeal := hMixOutXRefIdeal)
    ∧ preserves_MixOutW_MixOutWIdeal
    ∧ algebraic_MixOutWIdeal_MixOutWRefIdeal (hMixOutWIdeal := hMixOutWIdeal) (hMixOutWRefIdeal := hMixOutWRefIdeal)
    ∧ preserves_AbIn_AbInIdeal
    ∧ algebraic_AbInIdeal_AbInRefIdeal (hAbInIdeal := hAbInIdeal) (hAbInRefIdeal := hAbInRefIdeal)
    ∧ preserves_AbInX_AbInXIdeal
    ∧ algebraic_AbInXIdeal_AbInXRefIdeal (hAbInXIdeal := hAbInXIdeal) (hAbInXRefIdeal := hAbInXRefIdeal)
    ∧ preserves_AbInW_AbInWIdeal
    ∧ algebraic_AbInWIdeal_AbInWRefIdeal (hAbInWIdeal := hAbInWIdeal) (hAbInWRefIdeal := hAbInWRefIdeal)
    ∧ preserves_MlaUp_MlaUpIdeal
    ∧ algebraic_MlaUpIdeal_MlaUpRefIdeal (hMlaUpIdeal := hMlaUpIdeal) (hMlaUpRefIdeal := hMlaUpRefIdeal)
    ∧ preserves_MlaUpX_MlaUpXIdeal
    ∧ algebraic_MlaUpXIdeal_MlaUpXRefIdeal (hMlaUpXIdeal := hMlaUpXIdeal) (hMlaUpXRefIdeal := hMlaUpXRefIdeal)
    ∧ preserves_MlaUpW_MlaUpWIdeal
    ∧ algebraic_MlaUpWIdeal_MlaUpWRefIdeal (hMlaUpWIdeal := hMlaUpWIdeal) (hMlaUpWRefIdeal := hMlaUpWRefIdeal)
    ∧ preserves_MlaIn_MlaInIdeal
    ∧ algebraic_MlaInIdeal_MlaInRefIdeal (hMlaInIdeal := hMlaInIdeal) (hMlaInRefIdeal := hMlaInRefIdeal)
    ∧ preserves_MlaInX_MlaInXIdeal
    ∧ algebraic_MlaInXIdeal_MlaInXRefIdeal (hMlaInXIdeal := hMlaInXIdeal) (hMlaInXRefIdeal := hMlaInXRefIdeal)
    ∧ preserves_MlaInW_MlaInWIdeal
    ∧ algebraic_MlaInWIdeal_MlaInWRefIdeal (hMlaInWIdeal := hMlaInWIdeal) (hMlaInWRefIdeal := hMlaInWRefIdeal)
    ∧ preserves_AttnFwd_AttnFwdIdeal
    ∧ algebraic_AttnFwdIdeal_AttnFwdRefIdeal_pre_attn_finite (hAttnFwdIdeal := hAttnFwdIdeal) (hAttnFwdRefIdeal := hAttnFwdRefIdeal) (hPre_attn_finite := hPre_attn_finite)
-- ==== Pre_attn_finite.lean ====
abbrev S4096x4096 : Shape := ⟨2, ![4096, 4096]⟩
abbrev S4096x128 : Shape := ⟨2, ![4096, 128]⟩
abbrev S_ : Shape := ⟨0, ![]⟩

class Facts : Prop where
  bitsLt_bf16_f32 : FTy.bits .bf16 < FTy.bits .f32
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_

variable [Facts]

def fn {F : FTy → Type} [FloatOps F] (main_arg0 : FVec F S4096x4096 .bf16) (main_arg1 : FVec F S4096x4096 .bf16) (main_arg2 : FVec F S4096x128 .bf16) : IVec S_ 1 × IVec S_ 1 × IVec S_ 1 :=
  let main_v0 : FVec F S4096x4096 .f32 := (extf .f32 · bitsLt_bf16_f32) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  let main_c : IVec S_ 1 := constantI S_ 1 1#1
  let main_v4 : IVec S_ 1 := (fun x v => Host.reduce IntOp.andi x v reducesTo_S4096x4096_S_d0_1 h_S_) main_v3 main_c
  let main_v5 : FVec F S4096x4096 .f32 := (extf .f32 · bitsLt_bf16_f32) main_arg1
  let main_v6 : FVec F S4096x4096 .f32 := Host.absf main_v5
  let main_cst_0 : FVec F S_ .f32 := constant S_ .f32 0x7F800000#32
  let main_v7 : FVec F S4096x4096 .f32 := broadcastInDim S4096x4096 ![] bcast_S_S4096x4096 main_cst_0
  let main_v8 : IVec S4096x4096 1 := cmpf .olt main_v6 main_v7
  let main_c_1 : IVec S_ 1 := constantI S_ 1 1#1
  let main_v9 : IVec S_ 1 := (fun x v => Host.reduce IntOp.andi x v reducesTo_S4096x4096_S_d0_1 h_S_) main_v8 main_c_1
  let main_v10 : FVec F S4096x128 .f32 := (extf .f32 · bitsLt_bf16_f32) main_arg2
  let main_v11 : FVec F S4096x128 .f32 := Host.absf main_v10
  let main_cst_2 : FVec F S_ .f32 := constant S_ .f32 0x7F800000#32
  let main_v12 : FVec F S4096x128 .f32 := broadcastInDim S4096x128 ![] bcast_S_S4096x128 main_cst_2
  let main_v13 : IVec S4096x128 1 := cmpf .olt main_v11 main_v12
  let main_c_3 : IVec S_ 1 := constantI S_ 1 1#1
  let main_v14 : IVec S_ 1 := (fun x v => Host.reduce IntOp.andi x v reducesTo_S4096x128_S_d0_1 h_S_) main_v13 main_c_3
  (main_v4, main_v9, main_v14)
-- ==== Pre_finite.lean ====
abbrev S4096x4096 : Shape := ⟨2, ![4096, 4096]⟩
abbrev S4096x128 : Shape := ⟨2, ![4096, 128]⟩
abbrev S4096x2048 : Shape := ⟨2, ![4096, 2048]⟩
abbrev S_ : Shape := ⟨0, ![]⟩

class Facts : Prop where
  bitsLt_bf16_f32 : FTy.bits .bf16 < FTy.bits .f32
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_v4 : IVec S_ 1) (main_v9 : IVec S_ 1) (main_v14 : IVec S_ 1) (main_v16 : FVec F S4096x2048 .f32) (main_cst_4 : FVec F S_ .f32) : IVec S_ 1 × IVec S_ 1 × IVec S_ 1 × IVec S_ 1 :=
  let main_v17 : FVec F S4096x2048 .f32 := broadcastInDim S4096x2048 ![] bcast_S_S4096x2048 main_cst_4
  let main_v18 : IVec S4096x2048 1 := cmpf .olt main_v16 main_v17
  let main_c_5 : IVec S_ 1 := constantI S_ 1 1#1
  let main_v19 : IVec S_ 1 := (fun x v => Host.reduce IntOp.andi x v reducesTo_S4096x2048_S_d0_1 h_S_) main_v18 main_c_5
  (main_v4, main_v9, main_v14, main_v19)

def fn {F : FTy → Type} [FloatOps F] (main_arg0 : FVec F S4096x4096 .bf16) (main_arg1 : FVec F S4096x4096 .bf16) (main_arg2 : FVec F S4096x128 .bf16) (main_arg3 : FVec F S4096x2048 .bf16) : IVec S_ 1 × IVec S_ 1 × IVec S_ 1 × IVec S_ 1 :=
  let main_v0 : FVec F S4096x4096 .f32 := (extf .f32 · bitsLt_bf16_f32) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  let main_c : IVec S_ 1 := constantI S_ 1 1#1
  let main_v4 : IVec S_ 1 := (fun x v => Host.reduce IntOp.andi x v reducesTo_S4096x4096_S_d0_1 h_S_) main_v3 main_c
  let main_v5 : FVec F S4096x4096 .f32 := (extf .f32 · bitsLt_bf16_f32) main_arg1
  let main_v6 : FVec F S4096x4096 .f32 := Host.absf main_v5
  let main_cst_0 : FVec F S_ .f32 := constant S_ .f32 0x7F800000#32
  let main_v7 : FVec F S4096x4096 .f32 := broadcastInDim S4096x4096 ![] bcast_S_S4096x4096 main_cst_0
  let main_v8 : IVec S4096x4096 1 := cmpf .olt main_v6 main_v7
  let main_c_1 : IVec S_ 1 := constantI S_ 1 1#1
  let main_v9 : IVec S_ 1 := (fun x v => Host.reduce IntOp.andi x v reducesTo_S4096x4096_S_d0_1 h_S_) main_v8 main_c_1
  let main_v10 : FVec F S4096x128 .f32 := (extf .f32 · bitsLt_bf16_f32) main_arg2
  let main_v11 : FVec F S4096x128 .f32 := Host.absf main_v10
  let main_cst_2 : FVec F S_ .f32 := constant S_ .f32 0x7F800000#32
  let main_v12 : FVec F S4096x128 .f32 := broadcastInDim S4096x128 ![] bcast_S_S4096x128 main_cst_2
  let main_v13 : IVec S4096x128 1 := cmpf .olt main_v11 main_v12
  let main_c_3 : IVec S_ 1 := constantI S_ 1 1#1
  let main_v14 : IVec S_ 1 := (fun x v => Host.reduce IntOp.andi x v reducesTo_S4096x128_S_d0_1 h_S_) main_v13 main_c_3
  let main_v15 : FVec F S4096x2048 .f32 := (extf .f32 · bitsLt_bf16_f32) main_arg3
  let main_v16 : FVec F S4096x2048 .f32 := Host.absf main_v15
  let main_cst_4 : FVec F S_ .f32 := constant S_ .f32 0x7F800000#32
  fn_part1 (F := F) main_v4 main_v9 main_v14 main_v16 main_cst_4
-- ==== Kernel.lean ====
abbrev S4096x4096 : Shape := ⟨2, ![4096, 4096]⟩
abbrev S4096x128 : Shape := ⟨2, ![4096, 128]⟩
abbrev S4096x2048 : Shape := ⟨2, ![4096, 2048]⟩
abbrev S4096x16x256 : Shape := ⟨3, ![4096, 16, 256]⟩
abbrev S4096x1x128 : Shape := ⟨3, ![4096, 1, 128]⟩
abbrev S4096x16x128 : Shape := ⟨3, ![4096, 16, 128]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S16x4096 : Shape := ⟨2, ![16, 4096]⟩
abbrev S16x4096x1 : Shape := ⟨3, ![16, 4096, 1]⟩
abbrev S16x128x4096 : Shape := ⟨3, ![16, 128, 4096]⟩
abbrev S4096x16 : Shape := ⟨2, ![4096, 16]⟩
abbrev S16x8x512 : Shape := ⟨3, ![16, 8, 512]⟩
abbrev S16x4096x128 : Shape := ⟨3, ![16, 4096, 128]⟩
abbrev S4096x256 : Shape := ⟨2, ![4096, 256]⟩
abbrev S512x256 : Shape := ⟨2, ![512, 256]⟩
abbrev S512x128 : Shape := ⟨2, ![512, 128]⟩
abbrev S1x8x512 : Shape := ⟨3, ![1, 8, 512]⟩
abbrev S1x512x128 : Shape := ⟨3, ![1, 512, 128]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 60
  | .vmem => 19
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x128, .bf16⟩
  | .hbm, ⟨3, _⟩ => ⟨S4096x2048, .bf16⟩
  | .hbm, ⟨4, _⟩ => ⟨S4096x4096, .f32⟩
  | .hbm, ⟨5, _⟩ => ⟨S4096x16x256, .f32⟩
  | .hbm, ⟨6, _⟩ => ⟨S4096x4096, .f32⟩
  | .hbm, ⟨7, _⟩ => ⟨S4096x16x256, .f32⟩
  | .hbm, ⟨8, _⟩ => ⟨S4096x128, .f32⟩
  | .hbm, ⟨9, _⟩ => ⟨S4096x1x128, .f32⟩
  | .hbm, ⟨10, _⟩ => ⟨S4096x16x128, .f32⟩
  | .hbm, ⟨11, _⟩ => ⟨S4096x16x128, .f32⟩
  | .hbm, ⟨12, _⟩ => ⟨S4096x16x128, .f32⟩
  | .hbm, ⟨13, _⟩ => ⟨S4096x16x128, .f32⟩
  | .hbm, ⟨14, _⟩ => ⟨S16x4096x4096, .f32⟩
  | .hbm, ⟨15, _⟩ => ⟨S16x4096x4096, .f32⟩
  | .hbm, ⟨16, _⟩ => ⟨S16x4096x4096, .f32⟩
  | .hbm, ⟨17, _⟩ => ⟨S_, .f32⟩
  | .hbm, ⟨18, _⟩ => ⟨S_, .f32⟩
  | .hbm, ⟨19, _⟩ => ⟨S16x4096x4096, .f32⟩
  | .hbm, ⟨20, _⟩ => ⟨S16x4096x4096, .f32⟩
  | .hbm, ⟨21, _⟩ => ⟨S4096, .i32⟩
  | .hbm, ⟨22, _⟩ => ⟨S4096, .i32⟩
  | .hbm, ⟨23, _⟩ => ⟨S1x4096, .i32⟩
  | .hbm, ⟨24, _⟩ => ⟨S4096x1, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S_, .f32⟩
  | .hbm, ⟨29, _⟩ => ⟨S_, .f32⟩
  | .hbm, ⟨30, _⟩ => ⟨S16x4096x4096, .i1⟩
  | .hbm, ⟨31, _⟩ => ⟨S16x4096x4096, .f32⟩
  | .hbm, ⟨32, _⟩ => ⟨S16x4096x4096, .f32⟩
  | .hbm, ⟨33, _⟩ => ⟨S_, .f32⟩
  | .hbm, ⟨34, _⟩ => ⟨S16x4096, .f32⟩
  | .hbm, ⟨35, _⟩ => ⟨S16x4096x1, .f32⟩
  | .hbm, ⟨36, _⟩ => ⟨S16x4096x4096, .f32⟩
  | .hbm, ⟨37, _⟩ => ⟨S16x4096x4096, .f32⟩
  | .hbm, ⟨38, _⟩ => ⟨S16x4096x4096, .f32⟩
  | .hbm, ⟨39, _⟩ => ⟨S_, .f32⟩
  | .hbm, ⟨40, _⟩ => ⟨S16x4096, .f32⟩
  | .hbm, ⟨41, _⟩ => ⟨S16x4096x1, .f32⟩
  | .hbm, ⟨42, _⟩ => ⟨S16x4096x1, .f32⟩
  | .hbm, ⟨43, _⟩ => ⟨S16x4096x1, .f32⟩
  | .hbm, ⟨44, _⟩ => ⟨S16x4096x4096, .f32⟩
  | .hbm, ⟨45, _⟩ => ⟨S16x4096x4096, .f32⟩
  | .hbm, ⟨46, _⟩ => ⟨S4096x16x128, .f32⟩
  | .hbm, ⟨47, _⟩ => ⟨S16x128x4096, .f32⟩
  | .hbm, ⟨48, _⟩ => ⟨S4096x16x128, .f32⟩
  | .hbm, ⟨49, _⟩ => ⟨S4096x2048, .f32⟩
  | .hbm, ⟨50, _⟩ => ⟨S4096x16x128, .f32⟩
  | .hbm, ⟨51, _⟩ => ⟨S4096x16x128, .f32⟩
  | .hbm, ⟨52, _⟩ => ⟨S_, .f32⟩
  | .hbm, ⟨53, _⟩ => ⟨S4096x16, .f32⟩
  | .hbm, ⟨54, _⟩ => ⟨S16x8x512, .f32⟩
  | .hbm, ⟨55, _⟩ => ⟨S16x4096, .f32⟩
  | .hbm, ⟨56, _⟩ => ⟨S16x8x512, .f32⟩
  | .hbm, ⟨57, _⟩ => ⟨S4096x4096, .bf16⟩
  | .hbm, ⟨58, _⟩ => ⟨S4096x4096, .bf16⟩
  | .hbm, ⟨59, _⟩ => ⟨S16x4096x128, .f32⟩
  | .local _ .vmem, ⟨0, _⟩ => ⟨S4096x256, .bf16⟩
  | .local _ .vmem, ⟨1, _⟩ => ⟨S4096x256, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S4096x128, .bf16⟩
  | .local _ .vmem, ⟨7, _⟩ => ⟨S4096x128, .bf16⟩
  | .local _ .vmem, ⟨8, _⟩ => ⟨S1x8x512, .f32⟩
  | .local _ .vmem, ⟨9, _⟩ => ⟨S1x8x512, .f32⟩
  | .local _ .vmem, ⟨10, _⟩ => ⟨S1x8x512, .f32⟩
  | .local _ .vmem, ⟨11, _⟩ => ⟨S1x8x512, .f32⟩
  | .local _ .vmem, ⟨12, _⟩ => ⟨S4096x256, .bf16⟩
  | .local _ .vmem, ⟨13, _⟩ => ⟨S4096x256, .bf16⟩
  | .local _ .vmem, ⟨14, _⟩ => ⟨S512x256, .bf16⟩
  | .local _ .vmem, ⟨15, _⟩ => ⟨S512x256, .bf16⟩
  | .local _ .vmem, ⟨16, _⟩ => ⟨S1x512x128, .f32⟩
  | .local _ .vmem, ⟨17, _⟩ => ⟨S1x512x128, .f32⟩
  | .local _ .vmem, ⟨18, _⟩ => ⟨S4096x256, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_3 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45_0 : Ref sig .tc := ⟨.hbm, 57, rfl⟩
abbrev main_v45_1 : Ref sig .tc := ⟨.hbm, 58, rfl⟩
abbrev main_v45_2 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c512_i32 : BitVec 32 := 512#32
  let v9 : BitVec 32 := Scalar.muli arg1 c512_i32
  v9
def k0_off1 (i : grid0.Coords) : Fin 2 → Nat :=
  let arg1 : BitVec 32 := BitVec.ofNat 32 (i 1).val
  let c512_i32 : BitVec 32 := 512#32
  let v9 : BitVec 32 := Scalar.muli arg1 c512_i32
  let v10 : BitVec 32 := v9
  let v11 : Index := Scalar.indexCast v10
  let c0_6 : Index := 0#32
  ![v11.toNat, 0]
def k0_off2 (i : grid0.Coords) : Fin 2 → Nat :=
  let arg1 : BitVec 32 := BitVec.ofNat 32 (i 1).val
  let c512_i32 : BitVec 32 := 512#32
  let v9 : BitVec 32 := Scalar.muli arg1 c512_i32
  let v10 : BitVec 32 := v9
  let v13 : Index := Scalar.indexCast v10
  let c0_7 : Index := 0#32
  ![v13.toNat, 0]
def k0_off3 (i : grid0.Coords) : Fin 3 → Nat :=
  let c0_11 : Index := 0#32
  let arg1 : BitVec 32 := BitVec.ofNat 32 (i 1).val
  let v23 : Index := Scalar.indexCast arg1
  let c0_12 : Index := 0#32
  ![0, v23.toNat, 0]
@[reducible] def k0_t1_loop (i : grid0.Coords) : Scf.Loop 32 :=
  let arg1 : BitVec 32 := BitVec.ofNat 32 (i 1).val
  let c1_i32 : BitVec 32 := 1#32
  let v54 : BitVec 32 := Scalar.addi arg1 c1_i32
  let c8_i32 : BitVec 32 := 8#32
  let v55 : BitVec 32 := Scalar.subi c8_i32 v54
  let c1_i32_23 : BitVec 32 := 1#32
  let v57 : BitVec 32 := Scalar.divsi v55 c1_i32_23
  let v58 : BitVec 32 := Scalar.muli v57 c1_i32_23
  let v59 : BitVec 32 := Scalar.addi v54 v58
  let c1_i32_24 : BitVec 32 := 1#32
  ⟨v54, v59, c1_i32_24⟩
def k0_mult2 (i : grid0.Coords) (k0_t1 : Fin (k0_t1_loop i).trips) : BitVec 32 :=
  let arg1 : BitVec 32 := BitVec.ofNat 32 (i 1).val
  let c1_i32 : BitVec 32 := 1#32
  let v54 : BitVec 32 := Scalar.addi arg1 c1_i32
  let c1_i32_24 : BitVec 32 := 1#32
  let arg12 : BitVec 32 := Scf.iv v54 c1_i32_24 k0_t1
  let c512_i32_34 : BitVec 32 := 512#32
  let v74 : BitVec 32 := Scalar.muli arg12 c512_i32_34
  v74
def k0_off4 (i : grid0.Coords) (k0_t1 : Fin (k0_t1_loop i).trips) : Fin 2 → Nat :=
  let arg1 : BitVec 32 := BitVec.ofNat 32 (i 1).val
  let c1_i32 : BitVec 32 := 1#32
  let v54 : BitVec 32 := Scalar.addi arg1 c1_i32
  let c1_i32_24 : BitVec 32 := 1#32
  let arg12 : BitVec 32 := Scf.iv v54 c1_i32_24 k0_t1
  let c512_i32_34 : BitVec 32 := 512#32
  let v74 : BitVec 32 := Scalar.muli arg12 c512_i32_34
  let v75 : BitVec 32 := v74
  let v76 : Index := Scalar.indexCast v75
  let c0_35 : Index := 0#32
  ![v76.toNat, 0]
def k0_off5 (i : grid0.Coords) (k0_t1 : Fin (k0_t1_loop i).trips) : Fin 2 → Nat :=
  let arg1 : BitVec 32 := BitVec.ofNat 32 (i 1).val
  let c1_i32 : BitVec 32 := 1#32
  let v54 : BitVec 32 := Scalar.addi arg1 c1_i32
  let c1_i32_24 : BitVec 32 := 1#32
  let arg12 : BitVec 32 := Scf.iv v54 c1_i32_24 k0_t1
  let c512_i32_34 : BitVec 32 := 512#32
  let v74 : BitVec 32 := Scalar.muli arg12 c512_i32_34
  let v75 : BitVec 32 := v74
  let v78 : Index := Scalar.indexCast v75
  let c0_36 : Index := 0#32
  ![v78.toNat, 0]
def k0_off6 (i : grid0.Coords) (k0_t1 : Fin (k0_t1_loop i).trips) : Fin 3 → Nat :=
  let c0_39 : Index := 0#32
  let arg1 : BitVec 32 := BitVec.ofNat 32 (i 1).val
  let c1_i32 : BitVec 32 := 1#32
  let v54 : BitVec 32 := Scalar.addi arg1 c1_i32
  let c1_i32_24 : BitVec 32 := 1#32
  let arg12 : BitVec 32 := Scf.iv v54 c1_i32_24 k0_t1
  let v83 : Index := Scalar.indexCast arg12
  let c0_40 : Index := 0#32
  ![0, v83.toNat, 0]
@[reducible] def k0_t2_loop (i : grid0.Coords) : Scf.Loop 32 :=
  let arg1 : BitVec 32 := BitVec.ofNat 32 (i 1).val
  let c1_i32 : BitVec 32 := 1#32
  let v54 : BitVec 32 := Scalar.addi arg1 c1_i32
  let c8_i32 : BitVec 32 := 8#32
  let v55 : BitVec 32 := Scalar.subi c8_i32 v54
  let c1_i32_23 : BitVec 32 := 1#32
  let v57 : BitVec 32 := Scalar.divsi v55 c1_i32_23
  let v58 : BitVec 32 := Scalar.muli v57 c1_i32_23
  let v59 : BitVec 32 := Scalar.addi v54 v58
  let v56 : BitVec 32 := Scalar.addi v54 v55
  let c1_i32_25 : BitVec 32 := 1#32
  ⟨v59, v56, c1_i32_25⟩
def k0_mult3 (i : grid0.Coords) (k0_t2 : Fin (k0_t2_loop i).trips) : BitVec 32 :=
  let arg1 : BitVec 32 := BitVec.ofNat 32 (i 1).val
  let c1_i32 : BitVec 32 := 1#32
  let v54 : BitVec 32 := Scalar.addi arg1 c1_i32
  let c8_i32 : BitVec 32 := 8#32
  let v55 : BitVec 32 := Scalar.subi c8_i32 v54
  let c1_i32_23 : BitVec 32 := 1#32
  let v57 : BitVec 32 := Scalar.divsi v55 c1_i32_23
  let v58 : BitVec 32 := Scalar.muli v57 c1_i32_23
  let v59 : BitVec 32 := Scalar.addi v54 v58
  let c1_i32_25 : BitVec 32 := 1#32
  let arg12 : BitVec 32 := Scf.iv v59 c1_i32_25 k0_t2
  let c512_i32_34 : BitVec 32 := 512#32
  let v74 : BitVec 32 := Scalar.muli arg12 c512_i32_34
  v74
def k0_off7 (i : grid0.Coords) (k0_t2 : Fin (k0_t2_loop i).trips) : Fin 2 → Nat :=
  let arg1 : BitVec 32 := BitVec.ofNat 32 (i 1).val
  let c1_i32 : BitVec 32 := 1#32
  let v54 : BitVec 32 := Scalar.addi arg1 c1_i32
  let c8_i32 : BitVec 32 := 8#32
  let v55 : BitVec 32 := Scalar.subi c8_i32 v54
  let c1_i32_23 : BitVec 32 := 1#32
  let v57 : BitVec 32 := Scalar.divsi v55 c1_i32_23
  let v58 : BitVec 32 := Scalar.muli v57 c1_i32_23
  let v59 : BitVec 32 := Scalar.addi v54 v58
  let c1_i32_25 : BitVec 32 := 1#32
  let arg12 : BitVec 32 := Scf.iv v59 c1_i32_25 k0_t2
  let c512_i32_34 : BitVec 32 := 512#32
  let v74 : BitVec 32 := Scalar.muli arg12 c512_i32_34
  let v75 : BitVec 32 := v74
  let v76 : Index := Scalar.indexCast v75
  let c0_35 : Index := 0#32
  ![v76.toNat, 0]
def k0_off8 (i : grid0.Coords) (k0_t2 : Fin (k0_t2_loop i).trips) : Fin 2 → Nat :=
  let arg1 : BitVec 32 := BitVec.ofNat 32 (i 1).val
  let c1_i32 : BitVec 32 := 1#32
  let v54 : BitVec 32 := Scalar.addi arg1 c1_i32
  let c8_i32 : BitVec 32 := 8#32
  let v55 : BitVec 32 := Scalar.subi c8_i32 v54
  let c1_i32_23 : BitVec 32 := 1#32
  let v57 : BitVec 32 := Scalar.divsi v55 c1_i32_23
  let v58 : BitVec 32 := Scalar.muli v57 c1_i32_23
  let v59 : BitVec 32 := Scalar.addi v54 v58
  let c1_i32_25 : BitVec 32 := 1#32
  let arg12 : BitVec 32 := Scf.iv v59 c1_i32_25 k0_t2
  let c512_i32_34 : BitVec 32 := 512#32
  let v74 : BitVec 32 := Scalar.muli arg12 c512_i32_34
  let v75 : BitVec 32 := v74
  let v78 : Index := Scalar.indexCast v75
  let c0_36 : Index := 0#32
  ![v78.toNat, 0]
def k0_off9 (i : grid0.Coords) (k0_t2 : Fin (k0_t2_loop i).trips) : Fin 3 → Nat :=
  let c0_39 : Index := 0#32
  let arg1 : BitVec 32 := BitVec.ofNat 32 (i 1).val
  let c1_i32 : BitVec 32 := 1#32
  let v54 : BitVec 32 := Scalar.addi arg1 c1_i32
  let c8_i32 : BitVec 32 := 8#32
  let v55 : BitVec 32 := Scalar.subi c8_i32 v54
  let c1_i32_23 : BitVec 32 := 1#32
  let v57 : BitVec 32 := Scalar.divsi v55 c1_i32_23
  let v58 : BitVec 32 := Scalar.muli v57 c1_i32_23
  let v59 : BitVec 32 := Scalar.addi v54 v58
  let c1_i32_25 : BitVec 32 := 1#32
  let arg12 : BitVec 32 := Scf.iv v59 c1_i32_25 k0_t2
  let v83 : Index := Scalar.indexCast arg12
  let c0_40 : Index := 0#32
  ![0, v83.toNat, 0]
def k0_cond2 (i : grid0.Coords) : BitVec 1 :=
  let arg1 : BitVec 32 := BitVec.ofNat 32 (i 1).val
  let c7_i32 : BitVec 32 := 7#32
  let v71 : BitVec 1 := Scalar.cmpi .eq arg1 c7_i32
  let v72 : BitVec 32 := Scalar.extui v71
  let c0_i32_33 : BitVec 32 := 0#32
  let v73 : BitVec 1 := Scalar.cmpi .ne v72 c0_i32_33
  v73

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e" => some (((Real.log 2)⁻¹ : ℝ) : EReal)
  | "scale" => some (((Real.sqrt 192)⁻¹ : ℝ) : EReal)
  | "scale_log2e" => some (((Real.sqrt 192)⁻¹ * (Real.log 2)⁻¹ : ℝ) : EReal)
  | _ => none
-- ==== ReferenceIdeal.lean ====
abbrev S4096x4096 : Shape := ⟨2, ![4096, 4096]⟩
abbrev S4096x128 : Shape := ⟨2, ![4096, 128]⟩
abbrev S4096x2048 : Shape := ⟨2, ![4096, 2048]⟩
abbrev S1x4096x128 : Shape := ⟨3, ![1, 4096, 128]⟩
abbrev S16x4096x128 : Shape := ⟨3, ![16, 4096, 128]⟩
abbrev S4096x16x256 : Shape := ⟨3, ![4096, 16, 256]⟩
abbrev S4096x16x128 : Shape := ⟨3, ![4096, 16, 128]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S16x4096 : Shape := ⟨2, ![16, 4096]⟩
abbrev S16x4096x1 : Shape := ⟨3, ![16, 4096, 1]⟩
abbrev S16x128x4096 : Shape := ⟨3, ![16, 128, 4096]⟩

abbrev nBuf : Space → Nat
  | .hbm => 126
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x128, .bf16⟩
  | .hbm, ⟨3, _⟩ => ⟨S4096x2048, .bf16⟩
  | .hbm, ⟨4, _⟩ => ⟨S4096x128, .f32⟩
  | .hbm, ⟨5, _⟩ => ⟨S1x4096x128, .f32⟩
  | .hbm, ⟨6, _⟩ => ⟨S16x4096x128, .f32⟩
  | .hbm, ⟨7, _⟩ => ⟨S4096x4096, .f32⟩
  | .hbm, ⟨8, _⟩ => ⟨S4096x4096, .f32⟩
  | .hbm, ⟨9, _⟩ => ⟨S4096x16x256, .f32⟩
  | .hbm, ⟨10, _⟩ => ⟨S4096x16x256, .f32⟩
  | .hbm, ⟨11, _⟩ => ⟨S4096x16x128, .f32⟩
  | .hbm, ⟨12, _⟩ => ⟨S4096x16x128, .f32⟩
  | .hbm, ⟨13, _⟩ => ⟨S4096x16x128, .f32⟩
  | .hbm, ⟨14, _⟩ => ⟨S4096x16x128, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S_, .f32⟩
  | .hbm, ⟨20, _⟩ => ⟨S16x4096x4096, .f32⟩
  | .hbm, ⟨21, _⟩ => ⟨S16x4096x4096, .f32⟩
  | .hbm, ⟨22, _⟩ => ⟨S4096, .i32⟩
  | .hbm, ⟨23, _⟩ => ⟨S4096, .i32⟩
  | .hbm, ⟨24, _⟩ => ⟨S1x4096, .i32⟩
  | .hbm, ⟨25, _⟩ => ⟨S4096x1, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S_, .f32⟩
  | .hbm, ⟨30, _⟩ => ⟨S_, .f32⟩
  | .hbm, ⟨31, _⟩ => ⟨S16x4096x4096, .i1⟩
  | .hbm, ⟨32, _⟩ => ⟨S16x4096x4096, .f32⟩
  | .hbm, ⟨33, _⟩ => ⟨S16x4096x4096, .f32⟩
  | .hbm, ⟨34, _⟩ => ⟨S_, .f32⟩
  | .hbm, ⟨35, _⟩ => ⟨S16x4096x4096, .f32⟩
  | .hbm, ⟨36, _⟩ => ⟨S_, .f32⟩
  | .hbm, ⟨37, _⟩ => ⟨S16x4096, .f32⟩
  | .hbm, ⟨38, _⟩ => ⟨S16x4096x1, .f32⟩
  | .hbm, ⟨39, _⟩ => ⟨S16x4096x4096, .f32⟩
  | .hbm, ⟨40, _⟩ => ⟨S16x4096x4096, .i1⟩
  | .hbm, ⟨41, _⟩ => ⟨S16x4096x4096, .f32⟩
  | .hbm, ⟨42, _⟩ => ⟨S_, .f32⟩
  | .hbm, ⟨43, _⟩ => ⟨S16x4096, .f32⟩
  | .hbm, ⟨44, _⟩ => ⟨S_, .f32⟩
  | .hbm, ⟨45, _⟩ => ⟨S16x4096, .f32⟩
  | .hbm, ⟨46, _⟩ => ⟨S16x4096, .f32⟩
  | .hbm, ⟨47, _⟩ => ⟨S_, .f32⟩
  | .hbm, ⟨48, _⟩ => ⟨S16x4096, .f32⟩
  | .hbm, ⟨49, _⟩ => ⟨S16x4096, .i1⟩
  | .hbm, ⟨50, _⟩ => ⟨S_, .f32⟩
  | .hbm, ⟨51, _⟩ => ⟨S16x4096, .f32⟩
  | .hbm, ⟨52, _⟩ => ⟨S16x4096, .i1⟩
  | .hbm, ⟨53, _⟩ => ⟨S_, .f32⟩
  | .hbm, ⟨54, _⟩ => ⟨S16x4096, .f32⟩
  | .hbm, ⟨55, _⟩ => ⟨S_, .f32⟩
  | .hbm, ⟨56, _⟩ => ⟨S16x4096, .f32⟩
  | .hbm, ⟨57, _⟩ => ⟨S_, .f32⟩
  | .hbm, ⟨58, _⟩ => ⟨S16x4096, .f32⟩
  | .hbm, ⟨59, _⟩ => ⟨S16x4096, .f32⟩
  | .hbm, ⟨60, _⟩ => ⟨S16x4096, .f32⟩
  | .hbm, ⟨61, _⟩ => ⟨S16x4096x1, .f32⟩
  | .hbm, ⟨62, _⟩ => ⟨S16x4096x4096, .f32⟩
  | .hbm, ⟨63, _⟩ => ⟨S16x4096x4096, .f32⟩
  | .hbm, ⟨64, _⟩ => ⟨S16x4096x4096, .f32⟩
  | .hbm, ⟨65, _⟩ => ⟨S_, .f32⟩
  | .hbm, ⟨66, _⟩ => ⟨S16x4096, .f32⟩
  | .hbm, ⟨67, _⟩ => ⟨S16x4096x1, .f32⟩
  | .hbm, ⟨68, _⟩ => ⟨S16x4096x4096, .f32⟩
  | .hbm, ⟨69, _⟩ => ⟨S16x4096x4096, .f32⟩
  | .hbm, ⟨70, _⟩ => ⟨S16x4096x1, .f32⟩
  | .hbm, ⟨71, _⟩ => ⟨S_, .f32⟩
  | .hbm, ⟨72, _⟩ => ⟨S16x4096x1, .f32⟩
  | .hbm, ⟨73, _⟩ => ⟨S16x4096x1, .f32⟩
  | .hbm, ⟨74, _⟩ => ⟨S4096x16x128, .f32⟩
  | .hbm, ⟨75, _⟩ => ⟨S16x128x4096, .f32⟩
  | .hbm, ⟨76, _⟩ => ⟨S4096x16x128, .f32⟩
  | .hbm, ⟨77, _⟩ => ⟨S4096x2048, .f32⟩
  | .hbm, ⟨78, _⟩ => ⟨S4096x2048, .f32⟩
  | .hbm, ⟨79, _⟩ => ⟨S4096x16x128, .f32⟩
  | .hbm, ⟨80, _⟩ => ⟨S16x128x4096, .f32⟩
  | .hbm, ⟨81, _⟩ => ⟨S16x4096x4096, .f32⟩
  | .hbm, ⟨82, _⟩ => ⟨S16x128x4096, .f32⟩
  | .hbm, ⟨83, _⟩ => ⟨S4096x16x128, .f32⟩
  | .hbm, ⟨84, _⟩ => ⟨S_, .f32⟩
  | .hbm, ⟨85, _⟩ => ⟨S4096x16x256, .f32⟩
  | .hbm, ⟨86, _⟩ => ⟨S16x4096x4096, .f32⟩
  | .hbm, ⟨87, _⟩ => ⟨S16x4096x4096, .f32⟩
  | .hbm, ⟨88, _⟩ => ⟨S16x4096x4096, .f32⟩
  | .hbm, ⟨89, _⟩ => ⟨S_, .f32⟩
  | .hbm, ⟨90, _⟩ => ⟨S16x4096, .f32⟩
  | .hbm, ⟨91, _⟩ => ⟨S16x4096x1, .f32⟩
  | .hbm, ⟨92, _⟩ => ⟨S16x4096x1, .f32⟩
  | .hbm, ⟨93, _⟩ => ⟨S16x4096x4096, .f32⟩
  | .hbm, ⟨94, _⟩ => ⟨S16x4096x4096, .f32⟩
  | .hbm, ⟨95, _⟩ => ⟨S_, .f32⟩
  | .hbm, ⟨96, _⟩ => ⟨S16x4096, .f32⟩
  | .hbm, ⟨97, _⟩ => ⟨S16x4096x4096, .f32⟩
  | .hbm, ⟨98, _⟩ => ⟨S16x4096x4096, .f32⟩
  | .hbm, ⟨99, _⟩ => ⟨S16x4096x4096, .f32⟩
  | .hbm, ⟨100, _⟩ => ⟨S_, .f32⟩
  | .hbm, ⟨101, _⟩ => ⟨S16x4096x4096, .f32⟩
  | .hbm, ⟨102, _⟩ => ⟨S16x4096x4096, .f32⟩
  | .hbm, ⟨103, _⟩ => ⟨S16x4096x4096, .f32⟩
  | .hbm, ⟨104, _⟩ => ⟨S16x4096x4096, .f32⟩
  | .hbm, ⟨105, _⟩ => ⟨S16x4096x128, .f32⟩
  | .hbm, ⟨106, _⟩ => ⟨S4096x16x128, .f32⟩
  | .hbm, ⟨107, _⟩ => ⟨S16x4096x128, .f32⟩
  | .hbm, ⟨108, _⟩ => ⟨S4096x16x128, .f32⟩
  | .hbm, ⟨109, _⟩ => ⟨S16x4096x128, .f32⟩
  | .hbm, ⟨110, _⟩ => ⟨S4096x16x128, .f32⟩
  | .hbm, ⟨111, _⟩ => ⟨S16x4096x128, .f32⟩
  | .hbm, ⟨112, _⟩ => ⟨S4096x16x128, .f32⟩
  | .hbm, ⟨113, _⟩ => ⟨S_, .f32⟩
  | .hbm, ⟨114, _⟩ => ⟨S4096x16x256, .f32⟩
  | .hbm, ⟨115, _⟩ => ⟨S_, .f32⟩
  | .hbm, ⟨116, _⟩ => ⟨S4096x16x256, .f32⟩
  | .hbm, ⟨117, _⟩ => ⟨S4096x16x256, .f32⟩
  | .hbm, ⟨118, _⟩ => ⟨S16x4096x128, .f32⟩
  | .hbm, ⟨119, _⟩ => ⟨S_, .f32⟩
  | .hbm, ⟨120, _⟩ => ⟨S4096x16x256, .f32⟩
  | .hbm, ⟨121, _⟩ => ⟨S4096x16x256, .f32⟩
  | .hbm, ⟨122, _⟩ => ⟨S4096x4096, .f32⟩
  | .hbm, ⟨123, _⟩ => ⟨S4096x4096, .f32⟩
  | .hbm, ⟨124, _⟩ => ⟨S4096x4096, .bf16⟩
  | .hbm, ⟨125, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_call0_v0 : Ref sig .tc := ⟨.hbm, 30, rfl⟩
abbrev main_v24_1 : Ref sig .tc := ⟨.hbm, 31, rfl⟩
abbrev main_call0_v2 : Ref sig .tc := ⟨.hbm, 32, rfl⟩
abbrev main_v24_0 : Ref sig .tc := ⟨.hbm, 33, rfl⟩
abbrev main_call0_cst : Ref sig .tc := ⟨.hbm, 34, rfl⟩
abbrev main_v24_2 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_11 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_12 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_13 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_call1_cst : Ref sig .tc := ⟨.hbm, 100, rfl⟩
abbrev main_call1_v0 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_14 : Ref sig .tc := ⟨.hbm, 113, rfl⟩
abbrev main_v87 : Ref sig .tc := ⟨.hbm, 114, rfl⟩
abbrev main_cst_15 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_16 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩

abbrev nD : Nat := 1
abbrev τ : Topo := Topo.v7x

variable {F : FTy → Type} [FloatOps F]
-- ==== MlpUp.lean ====
abbrev S4096x2048 : Shape := ⟨2, ![4096, 2048]⟩
abbrev S2048x8192 : Shape := ⟨2, ![2048, 8192]⟩
abbrev S4096x8192 : Shape := ⟨2, ![4096, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpUpRefIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S4096x8192, .bf16⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== MlpDown.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S8192x2048, .bf16⟩
  | .hbm, ⟨3, _⟩ => ⟨S4096x2048, .f32⟩
  | .hbm, ⟨4, _⟩ => ⟨S2048x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x8192, .bf16⟩
  | .hbm, ⟨11, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDownRefIdeal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S8192x2048, .bf16⟩
  | .hbm, ⟨3, _⟩ => ⟨S4096x2048, .f32⟩
  | .hbm, ⟨4, _⟩ => ⟨S2048x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S8192x2048, .f32⟩
  | .hbm, ⟨11, _⟩ => ⟨S4096x2048, .f32⟩
  | .hbm, ⟨12, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== MlpDownW.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩
abbrev S8192x2048 : Shape := ⟨2, ![8192, 2048]⟩
abbrev S4096x1024 : Shape := ⟨2, ![4096, 1024]⟩
abbrev S1024x1024 : Shape := ⟨2, ![1024, 1024]⟩

abbrev nBuf : Space → Nat
  | .hbm => 12
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .bf16⟩
  | .hbm, ⟨3, _⟩ => ⟨S4096x2048, .f32⟩
  | .hbm, ⟨4, _⟩ => ⟨S2048x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x8192, .bf16⟩
  | .hbm, ⟨11, _⟩ => ⟨S8192x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDownWRefIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩
abbrev S8192x2048 : Shape := ⟨2, ![8192, 2048]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .bf16⟩
  | .hbm, ⟨3, _⟩ => ⟨S4096x2048, .f32⟩
  | .hbm, ⟨4, _⟩ => ⟨S2048x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S8192x2048, .f32⟩
  | .hbm, ⟨12, _⟩ => ⟨S4096x2048, .f32⟩
  | .hbm, ⟨13, _⟩ => ⟨S4096x2048, .f32⟩
  | .hbm, ⟨14, _⟩ => ⟨S2048x8192, .f32⟩
  | .hbm, ⟨15, _⟩ => ⟨S8192x2048, .f32⟩
  | .hbm, ⟨16, _⟩ => ⟨S8192x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== MlpDownX.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S1024x2048 : Shape := ⟨2, ![1024, 2048]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S8192x2048, .bf16⟩
  | .hbm, ⟨3, _⟩ => ⟨S4096x2048, .bf16⟩
  | .hbm, ⟨4, _⟩ => ⟨S4096x2048, .f32⟩
  | .hbm, ⟨5, _⟩ => ⟨S2048x8192, .f32⟩
  | .hbm, ⟨6, _⟩ => ⟨S4096x8192, .f32⟩
  | .hbm, ⟨7, _⟩ => ⟨S4096x8192, .bf16⟩
  | .hbm, ⟨8, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDownXRefIdeal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S8192x2048, .bf16⟩
  | .hbm, ⟨3, _⟩ => ⟨S4096x2048, .bf16⟩
  | .hbm, ⟨4, _⟩ => ⟨S4096x2048, .f32⟩
  | .hbm, ⟨5, _⟩ => ⟨S2048x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S4096x8192, .f32⟩
  | .hbm, ⟨12, _⟩ => ⟨S4096x8192, .i1⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S8192x2048, .f32⟩
  | .hbm, ⟨20, _⟩ => ⟨S4096x2048, .f32⟩
  | .hbm, ⟨21, _⟩ => ⟨S4096x2048, .f32⟩
  | .hbm, ⟨22, _⟩ => ⟨S4096x8192, .f32⟩
  | .hbm, ⟨23, _⟩ => ⟨S4096x8192, .f32⟩
  | .hbm, ⟨24, _⟩ => ⟨S_, .f32⟩
  | .hbm, ⟨25, _⟩ => ⟨S4096x8192, .f32⟩
  | .hbm, ⟨26, _⟩ => ⟨S4096x8192, .f32⟩
  | .hbm, ⟨27, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== MlpUpW.lean ====
abbrev S4096x2048 : Shape := ⟨2, ![4096, 2048]⟩
abbrev S4096x8192 : Shape := ⟨2, ![4096, 8192]⟩
abbrev S2048x8192 : Shape := ⟨2, ![2048, 8192]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S2048x8192, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpWRefIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlpUpX.lean ====
abbrev S2048x8192 : Shape := ⟨2, ![2048, 8192]⟩
abbrev S4096x8192 : Shape := ⟨2, ![4096, 8192]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S4096x8192, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpXRefIdeal.lean ====
abbrev S2048x8192 : Shape := ⟨2, ![2048, 8192]⟩
abbrev S4096x8192 : Shape := ⟨2, ![4096, 8192]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S4096x8192, .bf16⟩
  | .hbm, ⟨2, _⟩ => ⟨S_, .f32⟩
  | .hbm, ⟨3, _⟩ => ⟨S4096x2048, .f32⟩
  | .hbm, ⟨4, _⟩ => ⟨S2048x8192, .f32⟩
  | .hbm, ⟨5, _⟩ => ⟨S4096x8192, .f32⟩
  | .hbm, ⟨6, _⟩ => ⟨S4096x8192, .f32⟩
  | .hbm, ⟨7, _⟩ => ⟨S4096x2048, .f32⟩
  | .hbm, ⟨8, _⟩ => ⟨S4096x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixOut.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutIdeal.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutRefIdeal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixOutX.lean ====
abbrev S2048x2048 : Shape := ⟨2, ![2048, 2048]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutXIdeal.lean ====
abbrev S2048x2048 : Shape := ⟨2, ![2048, 2048]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutXRefIdeal.lean ====
abbrev S2048x2048 : Shape := ⟨2, ![2048, 2048]⟩
abbrev S4096x2048 : Shape := ⟨2, ![4096, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixOutW.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutWIdeal.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutWRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AbIn.lean ====
abbrev S4096x2048 : Shape := ⟨2, ![4096, 2048]⟩
abbrev S2048x4096 : Shape := ⟨2, ![2048, 4096]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbInIdeal.lean ====
abbrev S4096x2048 : Shape := ⟨2, ![4096, 2048]⟩
abbrev S2048x4096 : Shape := ⟨2, ![2048, 4096]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbInRefIdeal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x2048, .f32⟩
  | .hbm, ⟨3, _⟩ => ⟨S2048x4096, .f32⟩
  | .hbm, ⟨4, _⟩ => ⟨S4096x4096, .f32⟩
  | .hbm, ⟨5, _⟩ => ⟨S4096x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AbInX.lean ====
abbrev S2048x4096 : Shape := ⟨2, ![2048, 4096]⟩
abbrev S4096x4096 : Shape := ⟨2, ![4096, 4096]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S4096x4096, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbInXIdeal.lean ====
abbrev S2048x4096 : Shape := ⟨2, ![2048, 4096]⟩
abbrev S4096x4096 : Shape := ⟨2, ![4096, 4096]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S4096x4096, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbInXRefIdeal.lean ====
abbrev S2048x4096 : Shape := ⟨2, ![2048, 4096]⟩
abbrev S4096x4096 : Shape := ⟨2, ![4096, 4096]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x4096, .bf16⟩
  | .hbm, ⟨2, _⟩ => ⟨S_, .f32⟩
  | .hbm, ⟨3, _⟩ => ⟨S4096x2048, .f32⟩
  | .hbm, ⟨4, _⟩ => ⟨S2048x4096, .f32⟩
  | .hbm, ⟨5, _⟩ => ⟨S4096x4096, .f32⟩
  | .hbm, ⟨6, _⟩ => ⟨S4096x4096, .f32⟩
  | .hbm, ⟨7, _⟩ => ⟨S4096x2048, .f32⟩
  | .hbm, ⟨8, _⟩ => ⟨S4096x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AbInW.lean ====
abbrev S4096x2048 : Shape := ⟨2, ![4096, 2048]⟩
abbrev S4096x4096 : Shape := ⟨2, ![4096, 4096]⟩
abbrev S2048x4096 : Shape := ⟨2, ![2048, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S2048x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbInWIdeal.lean ====
abbrev S4096x2048 : Shape := ⟨2, ![4096, 2048]⟩
abbrev S4096x4096 : Shape := ⟨2, ![4096, 4096]⟩
abbrev S2048x4096 : Shape := ⟨2, ![2048, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S2048x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbInWRefIdeal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S_, .f32⟩
  | .hbm, ⟨3, _⟩ => ⟨S2048x4096, .f32⟩
  | .hbm, ⟨4, _⟩ => ⟨S4096x2048, .f32⟩
  | .hbm, ⟨5, _⟩ => ⟨S4096x4096, .f32⟩
  | .hbm, ⟨6, _⟩ => ⟨S4096x4096, .f32⟩
  | .hbm, ⟨7, _⟩ => ⟨S4096x2048, .f32⟩
  | .hbm, ⟨8, _⟩ => ⟨S2048x4096, .f32⟩
  | .hbm, ⟨9, _⟩ => ⟨S2048x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlaUp.lean ====
abbrev S4096x512 : Shape := ⟨2, ![4096, 512]⟩
abbrev S512x4096 : Shape := ⟨2, ![512, 4096]⟩
abbrev S4096x4096 : Shape := ⟨2, ![4096, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x4096, .bf16⟩
  | .hbm, ⟨2, _⟩ => ⟨S4096x4096, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaUpIdeal.lean ====
abbrev S4096x512 : Shape := ⟨2, ![4096, 512]⟩
abbrev S512x4096 : Shape := ⟨2, ![512, 4096]⟩
abbrev S4096x4096 : Shape := ⟨2, ![4096, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x4096, .bf16⟩
  | .hbm, ⟨2, _⟩ => ⟨S4096x4096, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaUpRefIdeal.lean ====
abbrev S4096x512 : Shape := ⟨2, ![4096, 512]⟩
abbrev S512x4096 : Shape := ⟨2, ![512, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x4096, .bf16⟩
  | .hbm, ⟨2, _⟩ => ⟨S4096x512, .f32⟩
  | .hbm, ⟨3, _⟩ => ⟨S512x4096, .f32⟩
  | .hbm, ⟨4, _⟩ => ⟨S4096x4096, .f32⟩
  | .hbm, ⟨5, _⟩ => ⟨S4096x4096, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MlaUpX.lean ====
abbrev S512x4096 : Shape := ⟨2, ![512, 4096]⟩
abbrev S4096x4096 : Shape := ⟨2, ![4096, 4096]⟩
abbrev S4096x512 : Shape := ⟨2, ![4096, 512]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S512x4096, .bf16⟩
  | .hbm, ⟨1, _⟩ => ⟨S4096x4096, .bf16⟩
  | .hbm, ⟨2, _⟩ => ⟨S4096x512, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaUpXIdeal.lean ====
abbrev S512x4096 : Shape := ⟨2, ![512, 4096]⟩
abbrev S4096x4096 : Shape := ⟨2, ![4096, 4096]⟩
abbrev S4096x512 : Shape := ⟨2, ![4096, 512]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S512x4096, .bf16⟩
  | .hbm, ⟨1, _⟩ => ⟨S4096x4096, .bf16⟩
  | .hbm, ⟨2, _⟩ => ⟨S4096x512, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaUpXRefIdeal.lean ====
abbrev S512x4096 : Shape := ⟨2, ![512, 4096]⟩
abbrev S4096x4096 : Shape := ⟨2, ![4096, 4096]⟩
abbrev S_ : Shape := ⟨0, ![]⟩
abbrev S4096x512 : Shape := ⟨2, ![4096, 512]⟩

abbrev nBuf : Space → Nat
  | .hbm => 9
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S4096x4096, .bf16⟩
  | .hbm, ⟨2, _⟩ => ⟨S_, .f32⟩
  | .hbm, ⟨3, _⟩ => ⟨S4096x512, .f32⟩
  | .hbm, ⟨4, _⟩ => ⟨S512x4096, .f32⟩
  | .hbm, ⟨5, _⟩ => ⟨S4096x4096, .f32⟩
  | .hbm, ⟨6, _⟩ => ⟨S4096x4096, .f32⟩
  | .hbm, ⟨7, _⟩ => ⟨S4096x512, .f32⟩
  | .hbm, ⟨8, _⟩ => ⟨S4096x512, .bf16⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MlaUpW.lean ====
abbrev S4096x512 : Shape := ⟨2, ![4096, 512]⟩
abbrev S4096x4096 : Shape := ⟨2, ![4096, 4096]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S512x4096, .bf16⟩
  | .local _ .vmem, ⟨0, _⟩ => ⟨S4096x512, .bf16⟩
  | .local _ .vmem, ⟨1, _⟩ => ⟨S4096x1024, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaUpWIdeal.lean ====
abbrev S4096x512 : Shape := ⟨2, ![4096, 512]⟩
abbrev S4096x4096 : Shape := ⟨2, ![4096, 4096]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S512x4096, .bf16⟩
  | .local _ .vmem, ⟨0, _⟩ => ⟨S4096x512, .bf16⟩
  | .local _ .vmem, ⟨1, _⟩ => ⟨S4096x1024, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaUpWRefIdeal.lean ====
abbrev S4096x512 : Shape := ⟨2, ![4096, 512]⟩
abbrev S4096x4096 : Shape := ⟨2, ![4096, 4096]⟩
abbrev S_ : Shape := ⟨0, ![]⟩
abbrev S512x4096 : Shape := ⟨2, ![512, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S_, .f32⟩
  | .hbm, ⟨3, _⟩ => ⟨S512x4096, .f32⟩
  | .hbm, ⟨4, _⟩ => ⟨S4096x512, .f32⟩
  | .hbm, ⟨5, _⟩ => ⟨S4096x4096, .f32⟩
  | .hbm, ⟨6, _⟩ => ⟨S4096x4096, .f32⟩
  | .hbm, ⟨7, _⟩ => ⟨S4096x512, .f32⟩
  | .hbm, ⟨8, _⟩ => ⟨S512x4096, .f32⟩
  | .hbm, ⟨9, _⟩ => ⟨S512x4096, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlaIn.lean ====
abbrev S4096x2048 : Shape := ⟨2, ![4096, 2048]⟩
abbrev S2048x1280 : Shape := ⟨2, ![2048, 1280]⟩
abbrev S4096x1280 : Shape := ⟨2, ![4096, 1280]⟩
abbrev S1024x2048 : Shape := ⟨2, ![1024, 2048]⟩
abbrev S1024x1280 : Shape := ⟨2, ![1024, 1280]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x1280, .bf16⟩
  | .hbm, ⟨2, _⟩ => ⟨S4096x1280, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1280, .bf16⟩
  | .local _ .vmem, ⟨3, _⟩ => ⟨S1024x1280, .bf16⟩
  | .local _ .vmem, ⟨4, _⟩ => ⟨S1024x1280, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaInRefIdeal.lean ====
abbrev S4096x2048 : Shape := ⟨2, ![4096, 2048]⟩
abbrev S2048x1280 : Shape := ⟨2, ![2048, 1280]⟩
abbrev S4096x1280 : Shape := ⟨2, ![4096, 1280]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1280, .bf16⟩
  | .hbm, ⟨2, _⟩ => ⟨S4096x2048, .f32⟩
  | .hbm, ⟨3, _⟩ => ⟨S2048x1280, .f32⟩
  | .hbm, ⟨4, _⟩ => ⟨S4096x1280, .f32⟩
  | .hbm, ⟨5, _⟩ => ⟨S4096x1280, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MlaInX.lean ====
abbrev S2048x1280 : Shape := ⟨2, ![2048, 1280]⟩
abbrev S4096x1280 : Shape := ⟨2, ![4096, 1280]⟩
abbrev S4096x2048 : Shape := ⟨2, ![4096, 2048]⟩
abbrev S1024x256 : Shape := ⟨2, ![1024, 256]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x1280, .bf16⟩
  | .hbm, ⟨1, _⟩ => ⟨S4096x1280, .bf16⟩
  | .hbm, ⟨2, _⟩ => ⟨S4096x2048, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaInXRefIdeal.lean ====
abbrev S2048x1280 : Shape := ⟨2, ![2048, 1280]⟩
abbrev S4096x1280 : Shape := ⟨2, ![4096, 1280]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x1280, .bf16⟩
  | .hbm, ⟨1, _⟩ => ⟨S4096x1280, .bf16⟩
  | .hbm, ⟨2, _⟩ => ⟨S_, .f32⟩
  | .hbm, ⟨3, _⟩ => ⟨S4096x2048, .f32⟩
  | .hbm, ⟨4, _⟩ => ⟨S2048x1280, .f32⟩
  | .hbm, ⟨5, _⟩ => ⟨S4096x1280, .f32⟩
  | .hbm, ⟨6, _⟩ => ⟨S4096x1280, .f32⟩
  | .hbm, ⟨7, _⟩ => ⟨S4096x2048, .f32⟩
  | .hbm, ⟨8, _⟩ => ⟨S4096x2048, .bf16⟩
  | _, _ => ⟨S2048x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MlaInW.lean ====
abbrev S4096x2048 : Shape := ⟨2, ![4096, 2048]⟩
abbrev S4096x1280 : Shape := ⟨2, ![4096, 1280]⟩
abbrev S2048x1280 : Shape := ⟨2, ![2048, 1280]⟩
abbrev S4096x1024 : Shape := ⟨2, ![4096, 1024]⟩
abbrev S1024x1280 : Shape := ⟨2, ![1024, 1280]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x1280, .bf16⟩
  | .hbm, ⟨2, _⟩ => ⟨S2048x1280, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1280, .bf16⟩
  | .local _ .vmem, ⟨3, _⟩ => ⟨S1024x1280, .bf16⟩
  | .local _ .vmem, ⟨4, _⟩ => ⟨S1024x1280, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaInWRefIdeal.lean ====
abbrev S4096x2048 : Shape := ⟨2, ![4096, 2048]⟩
abbrev S4096x1280 : Shape := ⟨2, ![4096, 1280]⟩
abbrev S_ : Shape := ⟨0, ![]⟩
abbrev S2048x1280 : Shape := ⟨2, ![2048, 1280]⟩
abbrev S1280x2048 : Shape := ⟨2, ![1280, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1280, .bf16⟩
  | .hbm, ⟨2, _⟩ => ⟨S_, .f32⟩
  | .hbm, ⟨3, _⟩ => ⟨S2048x1280, .f32⟩
  | .hbm, ⟨4, _⟩ => ⟨S4096x2048, .f32⟩
  | .hbm, ⟨5, _⟩ => ⟨S4096x1280, .f32⟩
  | .hbm, ⟨6, _⟩ => ⟨S4096x1280, .f32⟩
  | .hbm, ⟨7, _⟩ => ⟨S1280x2048, .f32⟩
  | .hbm, ⟨8, _⟩ => ⟨S2048x1280, .f32⟩
  | .hbm, ⟨9, _⟩ => ⟨S2048x1280, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AttnFwd.lean ====
abbrev S4096x4096 : Shape := ⟨2, ![4096, 4096]⟩
abbrev S4096x128 : Shape := ⟨2, ![4096, 128]⟩
abbrev S4096x2048 : Shape := ⟨2, ![4096, 2048]⟩
abbrev S16x4096x1 : Shape := ⟨3, ![16, 4096, 1]⟩
abbrev S512x256 : Shape := ⟨2, ![512, 256]⟩
abbrev S4096x256 : Shape := ⟨2, ![4096, 256]⟩
abbrev S512x128 : Shape := ⟨2, ![512, 128]⟩
abbrev S1x512x1 : Shape := ⟨3, ![1, 512, 1]⟩
abbrev S512x1 : Shape := ⟨2, ![512, 1]⟩
abbrev S512x512 : Shape := ⟨2, ![512, 512]⟩
abbrev S512 : Shape := ⟨1, ![512]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x128, .bf16⟩
  | .hbm, ⟨3, _⟩ => ⟨S4096x2048, .bf16⟩
  | .hbm, ⟨4, _⟩ => ⟨S16x4096x1, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S512x128, .bf16⟩
  | .local _ .vmem, ⟨6, _⟩ => ⟨S512x128, .bf16⟩
  | .local _ .vmem, ⟨7, _⟩ => ⟨S1x512x1, .f32⟩
  | .local _ .vmem, ⟨8, _⟩ => ⟨S1x512x1, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32 : BitVec 32 := 0#32
  let arg1 : BitVec 32 := BitVec.ofNat 32 (i 1).val
  let v4 : BitVec 32 := Scalar.subi arg1 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_3 : BitVec 32 := 1#32
  ⟨c0_i32, v8, c1_i32_3⟩
def k0_mult1 (i : grid0.Coords) (k0_t1 : Fin (k0_t1_loop i).trips) : BitVec 32 :=
  let c0_i32 : BitVec 32 := 0#32
  let c1_i32_3 : BitVec 32 := 1#32
  let arg7 : BitVec 32 := Scf.iv c0_i32 c1_i32_3 k0_t1
  let c512_i32_20 : BitVec 32 := 512#32
  let v58 : BitVec 32 := Scalar.muli arg7 c512_i32_20
  v58
def k0_off1 (i : grid0.Coords) (k0_t1 : Fin (k0_t1_loop i).trips) : Fin 2 → Nat :=
  let c0_i32 : BitVec 32 := 0#32
  let c1_i32_3 : BitVec 32 := 1#32
  let arg7 : BitVec 32 := Scf.iv c0_i32 c1_i32_3 k0_t1
  let c512_i32_20 : BitVec 32 := 512#32
  let v58 : BitVec 32 := Scalar.muli arg7 c512_i32_20
  let v59 : BitVec 32 := v58
  let v60 : Index := Scalar.indexCast v59
  let c0_21 : Index := 0#32
  ![v60.toNat, 0]
def k0_off2 (i : grid0.Coords) (k0_t1 : Fin (k0_t1_loop i).trips) : Fin 2 → Nat :=
  let c0_i32 : BitVec 32 := 0#32
  let c1_i32_3 : BitVec 32 := 1#32
  let arg7 : BitVec 32 := Scf.iv c0_i32 c1_i32_3 k0_t1
  let c512_i32_20 : BitVec 32 := 512#32
  let v58 : BitVec 32 := Scalar.muli arg7 c512_i32_20
  let v59 : BitVec 32 := v58
  let v62 : Index := Scalar.indexCast v59
  let c0_22 : Index := 0#32
  ![v62.toNat, 0]
def k0_off3 (i : grid0.Coords) (k0_t1 : Fin (k0_t1_loop i).trips) : Fin 2 → Nat :=
  let c0_i32 : BitVec 32 := 0#32
  let c1_i32_3 : BitVec 32 := 1#32
  let arg7 : BitVec 32 := Scf.iv c0_i32 c1_i32_3 k0_t1
  let c512_i32_20 : BitVec 32 := 512#32
  let v58 : BitVec 32 := Scalar.muli arg7 c512_i32_20
  let v59 : BitVec 32 := v58
  let v65 : Index := Scalar.indexCast v59
  let c128_23 : Index := 128#32
  ![v65.toNat, 128]
@[reducible] def k0_t2_loop (i : grid0.Coords) : Scf.Loop 32 :=
  let c0_i32 : BitVec 32 := 0#32
  let arg1 : BitVec 32 := BitVec.ofNat 32 (i 1).val
  let v4 : BitVec 32 := Scalar.subi arg1 c0_i32
  let c1_i32 : BitVec 32 := 1#32
  let v6 : BitVec 32 := Scalar.divsi v4 c1_i32
  let v7 : BitVec 32 := Scalar.muli v6 c1_i32
  let v8 : BitVec 32 := Scalar.addi c0_i32 v7
  let v5 : BitVec 32 := Scalar.addi c0_i32 v4
  let c1_i32_4 : BitVec 32 := 1#32
  ⟨v8, v5, c1_i32_4⟩
def k0_mult2 (i : grid0.Coords) (k0_t2 : Fin (k0_t2_loop i).trips) : BitVec 32 :=
  let c0_i32 : BitVec 32 := 0#32
  let arg1 : BitVec 32 := BitVec.ofNat 32 (i 1).val
  let v4 : BitVec 32 := Scalar.subi arg1 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg7 : BitVec 32 := Scf.iv v8 c1_i32_4 k0_t2
  let c512_i32_20 : BitVec 32 := 512#32
  let v58 : BitVec 32 := Scalar.muli arg7 c512_i32_20
  v58
def k0_off4 (i : grid0.Coords) (k0_t2 : Fin (k0_t2_loop i).trips) : Fin 2 → Nat :=
  let c0_i32 : BitVec 32 := 0#32
  let arg1 : BitVec 32 := BitVec.ofNat 32 (i 1).val
  let v4 : BitVec 32 := Scalar.subi arg1 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg7 : BitVec 32 := Scf.iv v8 c1_i32_4 k0_t2
  let c512_i32_20 : BitVec 32 := 512#32
  let v58 : BitVec 32 := Scalar.muli arg7 c512_i32_20
  let v59 : BitVec 32 := v58
  let v60 : Index := Scalar.indexCast v59
  let c0_21 : Index := 0#32
  ![v60.toNat, 0]
def k0_off5 (i : grid0.Coords) (k0_t2 : Fin (k0_t2_loop i).trips) : Fin 2 → Nat :=
  let c0_i32 : BitVec 32 := 0#32
  let arg1 : BitVec 32 := BitVec.ofNat 32 (i 1).val
  let v4 : BitVec 32 := Scalar.subi arg1 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg7 : BitVec 32 := Scf.iv v8 c1_i32_4 k0_t2
  let c512_i32_20 : BitVec 32 := 512#32
  let v58 : BitVec 32 := Scalar.muli arg7 c512_i32_20
  let v59 : BitVec 32 := v58
  let v62 : Index := Scalar.indexCast v59
  let c0_22 : Index := 0#32
  ![v62.toNat, 0]
def k0_off6 (i : grid0.Coords) (k0_t2 : Fin (k0_t2_loop i).trips) : Fin 2 → Nat :=
  let c0_i32 : BitVec 32 := 0#32
  let arg1 : BitVec 32 := BitVec.ofNat 32 (i 1).val
  let v4 : BitVec 32 := Scalar.subi arg1 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg7 : BitVec 32 := Scf.iv v8 c1_i32_4 k0_t2
  let c512_i32_20 : BitVec 32 := 512#32
  let v58 : BitVec 32 := Scalar.muli arg7 c512_i32_20
  let v59 : BitVec 32 := v58
  let v65 : Index := Scalar.indexCast v59
  let c128_23 : Index := 128#32
  ![v65.toNat, 128]
def k0_mult3 (i : grid0.Coords) : BitVec 32 :=
  let arg1 : BitVec 32 := BitVec.ofNat 32 (i 1).val
  let c512_i32 : BitVec 32 := 512#32
  let v11 : BitVec 32 := Scalar.muli arg1 c512_i32
  v11
def k0_off7 (i : grid0.Coords) : Fin 2 → Nat :=
  let arg1 : BitVec 32 := BitVec.ofNat 32 (i 1).val
  let c512_i32 : BitVec 32 := 512#32
  let v11 : BitVec 32 := Scalar.muli arg1 c512_i32
  let v12 : BitVec 32 := v11
  let v13 : Index := Scalar.indexCast v12
  let c0_5 : Index := 0#32
  ![v13.toNat, 0]
def k0_off8 (i : grid0.Coords) : Fin 2 → Nat :=
  let arg1 : BitVec 32 := BitVec.ofNat 32 (i 1).val
  let c512_i32 : BitVec 32 := 512#32
  let v11 : BitVec 32 := Scalar.muli arg1 c512_i32
  let v12 : BitVec 32 := v11
  let v15 : Index := Scalar.indexCast v12
  let c0_6 : Index := 0#32
  ![v15.toNat, 0]
def k0_off9 (i : grid0.Coords) : Fin 2 → Nat :=
  let arg1 : BitVec 32 := BitVec.ofNat 32 (i 1).val
  let c512_i32 : BitVec 32 := 512#32
  let v11 : BitVec 32 := Scalar.muli arg1 c512_i32
  let v12 : BitVec 32 := v11
  let v18 : Index := Scalar.indexCast v12
  let c128 : Index := 128#32
  ![v18.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnFwdIdeal.lean ====
variable {F : FTy → Type} [FloatOps F] [Named F]
def κ : String → Option EReal := fun
  | "scale" => some (((Real.sqrt 192)⁻¹ : ℝ) : EReal)
  | "scale_log2e" => some (((Real.sqrt 192)⁻¹ * (Real.log 2)⁻¹ : ℝ) : EReal)
  | _ => none
-- ==== AttnFwdRefIdeal.lean ====
abbrev S4096x4096 : Shape := ⟨2, ![4096, 4096]⟩
abbrev S4096x128 : Shape := ⟨2, ![4096, 128]⟩
abbrev S4096x16x256 : Shape := ⟨3, ![4096, 16, 256]⟩
abbrev S4096x1x128 : Shape := ⟨3, ![4096, 1, 128]⟩
abbrev S4096x16x128 : Shape := ⟨3, ![4096, 16, 128]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S16x4096 : Shape := ⟨2, ![16, 4096]⟩
abbrev S16x4096x1 : Shape := ⟨3, ![16, 4096, 1]⟩
abbrev S16x128x4096 : Shape := ⟨3, ![16, 128, 4096]⟩
abbrev S4096x2048 : Shape := ⟨2, ![4096, 2048]⟩

abbrev nBuf : Space → Nat
  | .hbm => 50
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x128, .bf16⟩
  | .hbm, ⟨3, _⟩ => ⟨S4096x4096, .f32⟩
  | .hbm, ⟨4, _⟩ => ⟨S4096x16x256, .f32⟩
  | .hbm, ⟨5, _⟩ => ⟨S4096x4096, .f32⟩
  | .hbm, ⟨6, _⟩ => ⟨S4096x16x256, .f32⟩
  | .hbm, ⟨7, _⟩ => ⟨S4096x128, .f32⟩
  | .hbm, ⟨8, _⟩ => ⟨S4096x1x128, .f32⟩
  | .hbm, ⟨9, _⟩ => ⟨S4096x16x128, .f32⟩
  | .hbm, ⟨10, _⟩ => ⟨S4096x16x128, .f32⟩
  | .hbm, ⟨11, _⟩ => ⟨S4096x16x128, .f32⟩
  | .hbm, ⟨12, _⟩ => ⟨S4096x16x128, .f32⟩
  | .hbm, ⟨13, _⟩ => ⟨S16x4096x4096, .f32⟩
  | .hbm, ⟨14, _⟩ => ⟨S16x4096x4096, .f32⟩
  | .hbm, ⟨15, _⟩ => ⟨S16x4096x4096, .f32⟩
  | .hbm, ⟨16, _⟩ => ⟨S_, .f32⟩
  | .hbm, ⟨17, _⟩ => ⟨S_, .f32⟩
  | .hbm, ⟨18, _⟩ => ⟨S16x4096x4096, .f32⟩
  | .hbm, ⟨19, _⟩ => ⟨S16x4096x4096, .f32⟩
  | .hbm, ⟨20, _⟩ => ⟨S4096, .i32⟩
  | .hbm, ⟨21, _⟩ => ⟨S4096, .i32⟩
  | .hbm, ⟨22, _⟩ => ⟨S1x4096, .i32⟩
  | .hbm, ⟨23, _⟩ => ⟨S4096x1, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S_, .f32⟩
  | .hbm, ⟨28, _⟩ => ⟨S_, .f32⟩
  | .hbm, ⟨29, _⟩ => ⟨S16x4096x4096, .i1⟩
  | .hbm, ⟨30, _⟩ => ⟨S16x4096x4096, .f32⟩
  | .hbm, ⟨31, _⟩ => ⟨S16x4096x4096, .f32⟩
  | .hbm, ⟨32, _⟩ => ⟨S_, .f32⟩
  | .hbm, ⟨33, _⟩ => ⟨S16x4096, .f32⟩
  | .hbm, ⟨34, _⟩ => ⟨S16x4096x1, .f32⟩
  | .hbm, ⟨35, _⟩ => ⟨S16x4096x4096, .f32⟩
  | .hbm, ⟨36, _⟩ => ⟨S16x4096x4096, .f32⟩
  | .hbm, ⟨37, _⟩ => ⟨S16x4096x4096, .f32⟩
  | .hbm, ⟨38, _⟩ => ⟨S_, .f32⟩
  | .hbm, ⟨39, _⟩ => ⟨S16x4096, .f32⟩
  | .hbm, ⟨40, _⟩ => ⟨S16x4096x1, .f32⟩
  | .hbm, ⟨41, _⟩ => ⟨S16x4096x4096, .f32⟩
  | .hbm, ⟨42, _⟩ => ⟨S16x4096x4096, .f32⟩
  | .hbm, ⟨43, _⟩ => ⟨S4096x16x128, .f32⟩
  | .hbm, ⟨44, _⟩ => ⟨S16x128x4096, .f32⟩
  | .hbm, ⟨45, _⟩ => ⟨S4096x16x128, .f32⟩
  | .hbm, ⟨46, _⟩ => ⟨S4096x2048, .f32⟩
  | .hbm, ⟨47, _⟩ => ⟨S4096x2048, .bf16⟩
  | .hbm, ⟨48, _⟩ => ⟨S16x4096x1, .f32⟩
  | .hbm, ⟨49, _⟩ => ⟨S16x4096x1, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Proof.AttnBwd.Conds.lean ====
/- What the runs of the attention backward kernel's body share: its two conditionals over the grid and the six input blocks it
   holds at every point. -/
module

public import proofs.«01_k».proof.Proof.Gen.KernelIdeal.Frame
public import proofs.«01_k».proof.Proof.Gen.KernelIdeal.Loops

@[expose] public section

set_option maxRecDepth 16384

noncomputable section

namespace Cert.KernelIdeal.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The body's first conditional: the key tile is the first of its head. -/
abbrev first (i : grid0.Coords) : Prop := (Scalar.cmpi .ne (Scalar.extui (Scalar.cmpi .eq (BitVec.ofNat 32 (i 1).val) 0#32)) 0#32) = 1#1
/-- The body's second conditional: the key tile is the last of its head. -/
abbrev last (i : grid0.Coords) : Prop := k0_cond2 i = 1#1

/-- The first conditional holds at the points ≡ 0 (mod 8). -/
theorem first_iff : ∀ t : Fin cfg0.N, first (grid0.coords t) ↔ t.val % 8 = 0 :=
  (fun t => by
    have ht : t.val < 128 := Nat.lt_of_lt_of_eq t.isLt N_0
    have e1 : (grid0.coords t 1).val = t.val / 1 % 8 := Pipeline.Grid.coords_val t 1 (by decide) rfl
    simp only [first, e1]
    word_cmp
   : ∀ t : Fin grid0.N, first (grid0.coords t) ↔ t.val % 8 = 0)

/-- The second conditional holds at the points ≡ 7 (mod 8). -/
theorem last_iff : ∀ t : Fin cfg0.N, last (grid0.coords t) ↔ t.val % 8 = 7 :=
  (fun t => by
    have ht : t.val < 128 := Nat.lt_of_lt_of_eq t.isLt N_0
    have e1 : (grid0.coords t 1).val = t.val / 1 % 8 := Pipeline.Grid.coords_val t 1 (by decide) rfl
    simp only [last, k0_cond2, e1]
    word_cmp
   : ∀ t : Fin grid0.N, last (grid0.coords t) ↔ t.val % 8 = 7)

variable (c : Dev nD)
  (arg2 : Memref sig .tc .vmem S4096x256 .bf16) (harg2 : arg2.IsWhole) (arg3 : Memref sig .tc .vmem S512x256 .bf16) (harg3 : arg3.IsWhole)
  (arg4 : Memref sig .tc .vmem S512x128 .bf16) (harg4 : arg4.IsWhole) (arg5 : Memref sig .tc .vmem S4096x128 .bf16) (harg5 : arg5.IsWhole)
  (arg6 : Memref sig .tc .vmem S1x8x512 .f32) (harg6 : arg6.IsWhole) (arg7 : Memref sig .tc .vmem S1x8x512 .f32) (harg7 : arg7.IsWhole)
  (arg8 : Memref sig .tc .vmem S4096x256 .bf16) (harg8 : arg8.IsWhole) (arg9 : Memref sig .tc .vmem S512x256 .bf16) (harg9 : arg9.IsWhole)
  (arg10 : Memref sig .tc .vmem S1x512x128 .f32) (harg10 : arg10.IsWhole) (arg11 : Memref sig .tc .vmem S4096x256 .f32) (harg11 : arg11.IsWhole)
  (x0 : Vec F S4096x256 .bf16) (x1 : Vec F S512x256 .bf16) (x2 : Vec F S512x128 .bf16) (x3 : Vec F S4096x128 .bf16)
  (x4 x5 : Vec F S1x8x512 .f32)

/-- The six input windows' staging buffers, held at the blocks `x0` … `x5`. -/
abbrev Ins : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5)

/-- The same six buffers, each at the contents that read as its block. -/
abbrev InsAt : sProp 𝕄 :=
  iprop((arg2.view.loc (c : Thread nD τ) ↦[arg2.view.set]{fullShare} harg2.unread x0) ∗ (arg3.view.loc (c : Thread nD τ) ↦[arg3.view.set]{fullShare} harg3.unread x1)
    ∗ (arg4.view.loc (c : Thread nD τ) ↦[arg4.view.set]{fullShare} harg4.unread x2) ∗ (arg5.view.loc (c : Thread nD τ) ↦[arg5.view.set]{fullShare} harg5.unread x3)
    ∗ (arg6.view.loc (c : Thread nD τ) ↦[arg6.view.set]{fullShare} harg6.unread x4) ∗ (arg7.view.loc (c : Thread nD τ) ↦[arg7.view.set]{fullShare} harg7.unread x5))

/-- Blocks held at what they read are held at their contents. -/
theorem ins_open : Ins c arg2 arg3 arg4 arg5 arg6 arg7 x0 x1 x2 x3 x4 x5
    ⊢ InsAt (F := F) c arg2 harg2 arg3 harg3 arg4 harg4 arg5 harg5 arg6 harg6 arg7 harg7 x0 x1 x2 x3 x4 x5 := by
  unfold Ins InsAt owns
  iintro ⟨⟨%f0, %hf0, H0⟩, ⟨%f1, %hf1, H1⟩, ⟨%f2, %hf2, H2⟩, ⟨%f3, %hf3, H3⟩, ⟨%f4, %hf4, H4⟩, ⟨%f5, %hf5, H5⟩⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  isplitl [H0]; · iexact H0
  isplitl [H1]; · iexact H1
  isplitl [H2]; · iexact H2
  isplitl [H3]; · iexact H3
  isplitl [H4]; · iexact H4
  iexact H5

/-- And back. -/
theorem ins_close : InsAt (F := F) c arg2 harg2 arg3 harg3 arg4 harg4 arg5 harg5 arg6 harg6 arg7 harg7 x0 x1 x2 x3 x4 x5
    ⊢ Ins c arg2 arg3 arg4 arg5 arg6 arg7 x0 x1 x2 x3 x4 x5 := by
  unfold Ins InsAt owns
  iintro ⟨H0, H1, H2, H3, H4, H5⟩
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr; · ipureintro; exact harg7.read_unread _
  iexact H5

end Cert.KernelIdeal.AttnBwd

end
-- ==== Proof.AttnBwd.RunMid.lean ====
/- The attention backward kernel's body at a point that is neither the first nor the last of its head. -/
module

public import proofs.«01_k».proof.Proof.AttnBwd.Conds

@[expose] public section

set_option maxRecDepth 16384

noncomputable section

namespace Cert.KernelIdeal.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords)
  (arg2 : Memref sig .tc .vmem S4096x256 .bf16) (harg2 : arg2.IsWhole) (arg3 : Memref sig .tc .vmem S512x256 .bf16) (harg3 : arg3.IsWhole)
  (arg4 : Memref sig .tc .vmem S512x128 .bf16) (harg4 : arg4.IsWhole) (arg5 : Memref sig .tc .vmem S4096x128 .bf16) (harg5 : arg5.IsWhole)
  (arg6 : Memref sig .tc .vmem S1x8x512 .f32) (harg6 : arg6.IsWhole) (arg7 : Memref sig .tc .vmem S1x8x512 .f32) (harg7 : arg7.IsWhole)
  (arg8 : Memref sig .tc .vmem S4096x256 .bf16) (harg8 : arg8.IsWhole) (arg9 : Memref sig .tc .vmem S512x256 .bf16) (harg9 : arg9.IsWhole)
  (arg10 : Memref sig .tc .vmem S1x512x128 .f32) (harg10 : arg10.IsWhole) (arg11 : Memref sig .tc .vmem S4096x256 .f32) (harg11 : arg11.IsWhole)
  (x0 : Vec F S4096x256 .bf16) (x1 : Vec F S512x256 .bf16) (x2 : Vec F S512x128 .bf16) (x3 : Vec F S4096x128 .bf16)
  (x4 x5 : Vec F S1x8x512 .f32)

-- (the run's proof term is large)
set_option maxHeartbeats 4000000 in
/-- The body at a point that is neither the first nor the last of its head: the pieces it stores into the key/value and rope
    gradients' buffers and the contents it leaves in the accumulator, given the block `xs` it finds there, WITH the run itself;
    the query gradient's buffer is handed back untouched. -/
noncomputable def runMid (hf : ¬first i) (hl : ¬last i) (xs : Vec F S4096x256 .f32) :
    Σ' (L9 : List (View.Piece (Elt F) S512x256 .bf16)) (L10 : List (View.Piece (Elt F) S1x512x128 .f32)),
      { fS : BufTy.Contents (Elt F) arg11.view.ty //
      ∀ (x8 : Vec F S4096x256 .bf16) (E : Set ℕ) (K : PUnit → sProp 𝕄),
        iprop(Ins c arg2 arg3 arg4 arg5 arg6 arg7 x0 x1 x2 x3 x4 x5 ∗ owns (c : Thread nD τ) arg8 fullShare x8
            ∗ (∃ d, owns (c : Thread nD τ) arg9 fullShare d) ∗ (∃ d, owns (c : Thread nD τ) arg10 fullShare d)
            ∗ owns (c : Thread nD τ) arg11 fullShare xs
            ∗ (iprop(Ins c arg2 arg3 arg4 arg5 arg6 arg7 x0 x1 x2 x3 x4 x5 ∗ owns (c : Thread nD τ) arg8 fullShare x8
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)
                ∗ arg11.view.loc (c : Thread nD τ) ↦[arg11.view.set]{fullShare} fS) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11) K } := by
  refine ⟨?_, ?_, ?_, fun x8 E K => ?run⟩
  case run =>
    simp only [cc0_attn_bwd_eq_skeleton]; unfold cc0_attn_bwd_skel
    iintro ⟨HI, H8, ⟨%d9, H9⟩, ⟨%d10, H10⟩, HS, Hk⟩
    icases (ins_open c arg2 harg2 arg3 harg3 arg4 harg4 arg5 harg5 arg6 harg6 arg7 harg7 x0 x1 x2 x3 x4 x5) $$ HI with ⟨H0, H1, H2, H3, H4, H5⟩
    unfold owns
    icases H8 with ⟨%f8, %hf8, H8⟩; obtain rfl := harg8.eq_unread hf8
    icases H9 with ⟨%f9, -, H9⟩; icases H10 with ⟨%f10, -, H10⟩
    icases HS with ⟨%fs, %hfs, HS⟩; obtain rfl := harg11.eq_unread hfs
    sl_exec (disch := first | sl_exact hf | sl_exact hl)
    sl_step
    iapply Hk
    isplitl [H0 H1 H2 H3 H4 H5]
    · iapply (ins_close c arg2 harg2 arg3 harg3 arg4 harg4 arg5 harg5 arg6 harg6 arg7 harg7 x0 x1 x2 x3 x4 x5)
      isplitl [H0]; · iexact H0
      isplitl [H1]; · iexact H1
      isplitl [H2]; · iexact H2
      isplitl [H3]; · iexact H3
      isplitl [H4]; · iexact H4
      iexact H5
    isplitl [H8]
    · iexists _; isplitr; · ipureintro; exact harg8.read_unread _
      iexact H8
    isplitl [H9]; · iexists _; iexact H9
    isplitl [H10]; · iexists _; iexact H10
    iexact HS

end Cert.KernelIdeal.AttnBwd

end
-- ==== Proof.AttnBwd.RunFirst.lean ====
/- The attention backward kernel's body at the first point of a head. -/
module

public import proofs.«01_k».proof.Proof.AttnBwd.Conds

@[expose] public section

set_option maxRecDepth 16384

noncomputable section

namespace Cert.KernelIdeal.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords)
  (arg2 : Memref sig .tc .vmem S4096x256 .bf16) (harg2 : arg2.IsWhole) (arg3 : Memref sig .tc .vmem S512x256 .bf16) (harg3 : arg3.IsWhole)
  (arg4 : Memref sig .tc .vmem S512x128 .bf16) (harg4 : arg4.IsWhole) (arg5 : Memref sig .tc .vmem S4096x128 .bf16) (harg5 : arg5.IsWhole)
  (arg6 : Memref sig .tc .vmem S1x8x512 .f32) (harg6 : arg6.IsWhole) (arg7 : Memref sig .tc .vmem S1x8x512 .f32) (harg7 : arg7.IsWhole)
  (arg8 : Memref sig .tc .vmem S4096x256 .bf16) (harg8 : arg8.IsWhole) (arg9 : Memref sig .tc .vmem S512x256 .bf16) (harg9 : arg9.IsWhole)
  (arg10 : Memref sig .tc .vmem S1x512x128 .f32) (harg10 : arg10.IsWhole) (arg11 : Memref sig .tc .vmem S4096x256 .f32) (harg11 : arg11.IsWhole)
  (x0 : Vec F S4096x256 .bf16) (x1 : Vec F S512x256 .bf16) (x2 : Vec F S512x128 .bf16) (x3 : Vec F S4096x128 .bf16)
  (x4 x5 : Vec F S1x8x512 .f32)

-- (the run's proof term is large)
set_option maxHeartbeats 4000000 in
/-- The body at the first point of a head: it clears the accumulator before it adds to it, so what it leaves there does not
    depend on what it finds; the query gradient's buffer is handed back untouched. -/
noncomputable def runFirst (hf : first i) (hl : ¬last i) :
    Σ' (L9 : List (View.Piece (Elt F) S512x256 .bf16)) (L10 : List (View.Piece (Elt F) S1x512x128 .f32)),
      { fS : BufTy.Contents (Elt F) arg11.view.ty //
      ∀ (x8 : Vec F S4096x256 .bf16) (E : Set ℕ) (K : PUnit → sProp 𝕄),
        iprop(Ins c arg2 arg3 arg4 arg5 arg6 arg7 x0 x1 x2 x3 x4 x5 ∗ owns (c : Thread nD τ) arg8 fullShare x8
            ∗ (∃ d, owns (c : Thread nD τ) arg9 fullShare d) ∗ (∃ d, owns (c : Thread nD τ) arg10 fullShare d)
            ∗ (∃ d, owns (c : Thread nD τ) arg11 fullShare d)
            ∗ (iprop(Ins c arg2 arg3 arg4 arg5 arg6 arg7 x0 x1 x2 x3 x4 x5 ∗ owns (c : Thread nD τ) arg8 fullShare x8
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)
                ∗ arg11.view.loc (c : Thread nD τ) ↦[arg11.view.set]{fullShare} fS) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11) K } := by
  refine ⟨?_, ?_, ?_, fun x8 E K => ?run⟩
  case run =>
    simp only [cc0_attn_bwd_eq_skeleton]; unfold cc0_attn_bwd_skel
    iintro ⟨HI, H8, ⟨%d9, H9⟩, ⟨%d10, H10⟩, HS, Hk⟩
    icases (ins_open c arg2 harg2 arg3 harg3 arg4 harg4 arg5 harg5 arg6 harg6 arg7 harg7 x0 x1 x2 x3 x4 x5) $$ HI with ⟨H0, H1, H2, H3, H4, H5⟩
    unfold owns
    icases H8 with ⟨%f8, %hf8, H8⟩; obtain rfl := harg8.eq_unread hf8
    icases H9 with ⟨%f9, -, H9⟩; icases H10 with ⟨%f10, -, H10⟩
    icases HS with ⟨%ds, %fs, -, HS⟩
    sl_exec (disch := first | sl_exact hf | sl_exact hl)
    sl_step
    iapply Hk
    isplitl [H0 H1 H2 H3 H4 H5]
    · iapply (ins_close c arg2 harg2 arg3 harg3 arg4 harg4 arg5 harg5 arg6 harg6 arg7 harg7 x0 x1 x2 x3 x4 x5)
      isplitl [H0]; · iexact H0
      isplitl [H1]; · iexact H1
      isplitl [H2]; · iexact H2
      isplitl [H3]; · iexact H3
      isplitl [H4]; · iexact H4
      iexact H5
    isplitl [H8]
    · iexists _; isplitr; · ipureintro; exact harg8.read_unread _
      iexact H8
    isplitl [H9]; · iexists _; iexact H9
    isplitl [H10]; · iexists _; iexact H10
    iexact HS

end Cert.KernelIdeal.AttnBwd

end
-- ==== Proof.AttnBwd.RunLast.lean ====
/- The attention backward kernel's body at the last point of a head. -/
module

public import proofs.«01_k».proof.Proof.AttnBwd.Conds

@[expose] public section

set_option maxRecDepth 16384

noncomputable section

namespace Cert.KernelIdeal.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords)
  (arg2 : Memref sig .tc .vmem S4096x256 .bf16) (harg2 : arg2.IsWhole) (arg3 : Memref sig .tc .vmem S512x256 .bf16) (harg3 : arg3.IsWhole)
  (arg4 : Memref sig .tc .vmem S512x128 .bf16) (harg4 : arg4.IsWhole) (arg5 : Memref sig .tc .vmem S4096x128 .bf16) (harg5 : arg5.IsWhole)
  (arg6 : Memref sig .tc .vmem S1x8x512 .f32) (harg6 : arg6.IsWhole) (arg7 : Memref sig .tc .vmem S1x8x512 .f32) (harg7 : arg7.IsWhole)
  (arg8 : Memref sig .tc .vmem S4096x256 .bf16) (harg8 : arg8.IsWhole) (arg9 : Memref sig .tc .vmem S512x256 .bf16) (harg9 : arg9.IsWhole)
  (arg10 : Memref sig .tc .vmem S1x512x128 .f32) (harg10 : arg10.IsWhole) (arg11 : Memref sig .tc .vmem S4096x256 .f32) (harg11 : arg11.IsWhole)
  (x0 : Vec F S4096x256 .bf16) (x1 : Vec F S512x256 .bf16) (x2 : Vec F S512x128 .bf16) (x3 : Vec F S4096x128 .bf16)
  (x4 x5 : Vec F S1x8x512 .f32)

-- (the run's proof term is large)
set_option maxHeartbeats 4000000 in
/-- The body at the last point of a head: as at a point in between, and the accumulated query gradient is stored into its
    output's buffer. -/
noncomputable def runLast (hf : ¬first i) (hl : last i) (xs : Vec F S4096x256 .f32) :
    Σ' (L8 : List (View.Piece (Elt F) S4096x256 .bf16)) (L9 : List (View.Piece (Elt F) S512x256 .bf16)) (L10 : List (View.Piece (Elt F) S1x512x128 .f32)),
      { fS : BufTy.Contents (Elt F) arg11.view.ty //
      ∀ (E : Set ℕ) (K : PUnit → sProp 𝕄),
        iprop(Ins c arg2 arg3 arg4 arg5 arg6 arg7 x0 x1 x2 x3 x4 x5 ∗ (∃ d, owns (c : Thread nD τ) arg8 fullShare d)
            ∗ (∃ d, owns (c : Thread nD τ) arg9 fullShare d) ∗ (∃ d, owns (c : Thread nD τ) arg10 fullShare d)
            ∗ owns (c : Thread nD τ) arg11 fullShare xs
            ∗ (iprop(Ins c arg2 arg3 arg4 arg5 arg6 arg7 x0 x1 x2 x3 x4 x5 ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)
                ∗ arg11.view.loc (c : Thread nD τ) ↦[arg11.view.set]{fullShare} fS) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_attn_bwd_eq_skeleton]; unfold cc0_attn_bwd_skel
    iintro ⟨HI, H8, ⟨%d9, H9⟩, ⟨%d10, H10⟩, HS, Hk⟩
    icases (ins_open c arg2 harg2 arg3 harg3 arg4 harg4 arg5 harg5 arg6 harg6 arg7 harg7 x0 x1 x2 x3 x4 x5) $$ HI with ⟨H0, H1, H2, H3, H4, H5⟩
    unfold owns
    icases H8 with ⟨%d8, %f8, -, H8⟩
    icases H9 with ⟨%f9, -, H9⟩; icases H10 with ⟨%f10, -, H10⟩
    icases HS with ⟨%fs, %hfs, HS⟩; obtain rfl := harg11.eq_unread hfs
    sl_exec (disch := first | sl_exact hf | sl_exact hl)
    sl_step
    iapply Hk
    isplitl [H0 H1 H2 H3 H4 H5]
    · iapply (ins_close c arg2 harg2 arg3 harg3 arg4 harg4 arg5 harg5 arg6 harg6 arg7 harg7 x0 x1 x2 x3 x4 x5)
      isplitl [H0]; · iexact H0
      isplitl [H1]; · iexact H1
      isplitl [H2]; · iexact H2
      isplitl [H3]; · iexact H3
      isplitl [H4]; · iexact H4
      iexact H5
    isplitl [H8]; · iexists _; iexact H8
    isplitl [H9]; · iexists _; iexact H9
    isplitl [H10]; · iexists _; iexact H10
    iexact HS

end Cert.KernelIdeal.AttnBwd

end
-- ==== Proof.AttnBwd.Data.lean ====
/- What the attention backward kernel's buffers hold at each grid point: the carried `dq` accumulator before the point, and the
   three outputs' staging buffers after it. -/
module

public import proofs.«01_k».proof.Proof.AttnBwd.RunMid
public import proofs.«01_k».proof.Proof.AttnBwd.RunFirst
public import proofs.«01_k».proof.Proof.AttnBwd.RunLast

@[expose] public section

set_option maxRecDepth 16384

noncomputable section

namespace Cert.KernelIdeal.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-! The windows' current staging buffers at a point, as the pipeline passes them, and the scratch operand. -/

abbrev ms0 (t : Fin cfg0.N) : Memref sig .tc .vmem S4096x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S4096x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x8x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x8x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S4096x256 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x256 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x512x128 .f32 := win0_8.stage (cfg0.slots t 8)
abbrev hs8 (t : Fin cfg0.N) : (ms8 t).IsWhole := hstage0_8 ((cfg0.slots t 8).cast nbuf0_8)
abbrev scM : Memref sig .tc .vmem S4096x256 .f32 := Memref.whole cc0_scratch0

/-- The region invariant's scoped rest is the one scratch buffer at some contents. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

theorem not_last {t : Fin cfg0.N} (h0 : t.val % 8 = 0) : ¬last (grid0.coords t) := fun h => by have := (last_iff t).mp h; omega
theorem not_first {t : Fin cfg0.N} (h0 : ¬t.val % 8 = 0) : ¬first (grid0.coords t) := fun h => h0 ((first_iff t).mp h)
theorem not_last' {t : Fin cfg0.N} (h7 : ¬t.val % 8 = 7) : ¬last (grid0.coords t) := fun h => h7 ((last_iff t).mp h)

/-- The three cases' runs at a point's buffers and input blocks. -/
noncomputable abbrev rFirst (c : Dev nD) (t : Fin cfg0.N) (h0 : t.val % 8 = 0) :=
  runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _)
    (iblk m c 0 t) (iblk m c 1 t) (iblk m c 2 t) (iblk m c 3 t) (iblk m c 4 t) (iblk m c 5 t) ((first_iff t).mpr h0) (not_last h0)
noncomputable abbrev rMid (c : Dev nD) (t : Fin cfg0.N) (h0 : ¬t.val % 8 = 0) (h7 : ¬t.val % 8 = 7) (xs : Vec F S4096x256 .f32) :=
  runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _)
    (iblk m c 0 t) (iblk m c 1 t) (iblk m c 2 t) (iblk m c 3 t) (iblk m c 4 t) (iblk m c 5 t) (not_first h0) (not_last' h7) xs
noncomputable abbrev rLast (c : Dev nD) (t : Fin cfg0.N) (h0 : ¬t.val % 8 = 0) (h7 : t.val % 8 = 7) (xs : Vec F S4096x256 .f32) :=
  runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _)
    (iblk m c 0 t) (iblk m c 1 t) (iblk m c 2 t) (iblk m c 3 t) (iblk m c 4 t) (iblk m c 5 t) (not_first h0) ((last_iff t).mpr h7) xs

/-- The accumulator after a point, from what it holds before. -/
def next (c : Dev nD) (t : Fin cfg0.N) (xs : Vec F S4096x256 .f32) : Vec F S4096x256 .f32 :=
  scM.view.read (Elt F) (if h0 : t.val % 8 = 0 then (rFirst m c t h0).2.2.1
    else if h7 : t.val % 8 = 7 then (rLast m c t h0 h7 xs).2.2.2.1 else (rMid m c t h0 h7 xs).2.2.1)

/-- The accumulator before the point at position `n`. -/
def acc (c : Dev nD) : ℕ → Vec F S4096x256 .f32
  | 0 => scM.view.read (Elt F) scM.view.junk
  | n + 1 => if h : n < cfg0.N then next m c ⟨n, h⟩ (acc c n) else acc c n

theorem acc_succ (c : Dev nD) (t : Fin cfg0.N) : acc m c (t.val + 1) = next m c t (acc m c t.val) := dif_pos t.isLt

/-- The query gradient's staging buffer after a point (stored at the last point of a head only). -/
def out6 (c : Dev nD) (t : Fin cfg0.N) : Vec F S4096x256 .bf16 :=
  if h7 : t.val % 8 = 7 then View.canon (rLast m c t (by omega) h7 (acc m c t.val)).1 else View.canon []

/-- The key/value gradient's pieces at a point. -/
def pcs7 (c : Dev nD) (t : Fin cfg0.N) (xs : Vec F S4096x256 .f32) : List (View.Piece (Elt F) S512x256 .bf16) :=
  if h0 : t.val % 8 = 0 then (rFirst m c t h0).1
    else if h7 : t.val % 8 = 7 then (rLast m c t h0 h7 xs).2.1 else (rMid m c t h0 h7 xs).1

/-- The rope gradient's pieces at a point. -/
def pcs8 (c : Dev nD) (t : Fin cfg0.N) (xs : Vec F S4096x256 .f32) : List (View.Piece (Elt F) S1x512x128 .f32) :=
  if h0 : t.val % 8 = 0 then (rFirst m c t h0).2.1
    else if h7 : t.val % 8 = 7 then (rLast m c t h0 h7 xs).2.2.1 else (rMid m c t h0 h7 xs).2.1

/-- The key/value gradient's and the rope gradient's staging buffers after a point. -/
def out7 (c : Dev nD) (t : Fin cfg0.N) : Vec F S512x256 .bf16 := View.canon (pcs7 m c t (acc m c t.val))
def out8 (c : Dev nD) (t : Fin cfg0.N) : Vec F S1x512x128 .f32 := View.canon (pcs8 m c t (acc m c t.val))

/-- The pieces tile their blocks in every case. -/
theorem cover6 (c : Dev nD) (t : Fin cfg0.N) (h0 : ¬t.val % 8 = 0) (h7 : t.val % 8 = 7) (xs : Vec F S4096x256 .f32) (y : S4096x256.Idx) :
    ∃ p ∈ (rLast m c t h0 h7 xs).1, y ∈ p.1.set :=
  View.cover_of_tiledL (rLast m c t h0 h7 xs).1 S4096x256.size (by sl_kernel_rfl) y
theorem cover7 (c : Dev nD) (t : Fin cfg0.N) (xs : Vec F S4096x256 .f32) (y : S512x256.Idx) : ∃ p ∈ pcs7 m c t xs, y ∈ p.1.set := by
  unfold pcs7
  split
  · exact View.cover_of_tiledL (rFirst m c t _).1 S512x128.size (by sl_kernel_rfl) y
  split
  · exact View.cover_of_tiledL (rLast m c t _ _ xs).2.1 S512x128.size (by sl_kernel_rfl) y
  · exact View.cover_of_tiledL (rMid m c t _ _ xs).1 S512x128.size (by sl_kernel_rfl) y
theorem cover8 (c : Dev nD) (t : Fin cfg0.N) (xs : Vec F S4096x256 .f32) (y : S1x512x128.Idx) : ∃ p ∈ pcs8 m c t xs, y ∈ p.1.set := by
  unfold pcs8
  split
  · exact View.cover_of_tiledL (rFirst m c t _).2.1 S1x512x128.size (by sl_kernel_rfl) y
  split
  · exact View.cover_of_tiledL (rLast m c t _ _ xs).2.2.1 S1x512x128.size (by sl_kernel_rfl) y
  · exact View.cover_of_tiledL (rMid m c t _ _ xs).2.1 S1x512x128.size (by sl_kernel_rfl) y

/-- The region invariant before position `n`: the accumulator at `acc`, before the first point at anything. -/
def PhiS (c : Dev nD) : (n : ℕ) → n ≤ cfg0.N → sProp 𝕄
  | 0, _ => Pipeline.ΦA spec0 c
  | n + 1, _ => iprop(iprop(owns (c : Thread nD τ) scM fullShare (acc m c (n + 1))) ∗ (∃ r, prngReg c r))

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
    | ⟨7, _⟩ => out7 m c t
    | ⟨8, _⟩ => out8 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = out6 m c t := by dsimp only [dats]
theorem after7 (c : Dev nD) (t : Fin cfg0.N) : (dats m 0 c).after 7 t = out7 m c t := by dsimp only [dats]
theorem after8 (c : Dev nD) (t : Fin cfg0.N) : (dats m 0 c).after 8 t = out8 m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

end Cert.KernelIdeal.AttnBwd

end
-- ==== Proof.AttnBwd.Frame.lean ====
/- The attention backward kernel's frame: its body at every point keeps the pipeline's proof data, so @main runs to the end, its
   arguments unchanged and every counter at zero. -/
module

public import proofs.«01_k».proof.Proof.AttnBwd.Data
public import Idealize.ShloMosaic.Lib.Claim

@[expose] public section

set_option maxRecDepth 16384

noncomputable section

namespace Cert.KernelIdeal.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem idle6 : ∀ t : Fin cfg0.N, ¬last (grid0.coords t) → cfg0.idle 6 (grid0.coords t) = true := by decide +kernel
theorem noFlush6 : ∀ t : Fin cfg0.N, ¬last (grid0.coords t) → (cfg0.win 6).flush t = false := by decide +kernel
theorem live6 : ∀ t : Fin cfg0.N, last (grid0.coords t) → cfg0.idle 6 (grid0.coords t) = false := by decide +kernel
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live7 : ∀ t : Fin cfg0.N, cfg0.idle 7 (grid0.coords t) = false := by decide +kernel
theorem live8 : ∀ t : Fin cfg0.N, cfg0.idle 8 (grid0.coords t) = false := by decide +kernel

/-- The invariant forgets what the accumulator holds. -/
theorem PhiS_any (c : Dev nD) (n : ℕ) (h : n ≤ cfg0.N) :
    PhiS m c n h ⊢ iprop(iprop((∃ d, owns (c : Thread nD τ) scM fullShare d)) ∗ (∃ r, prngReg c r)) := by
  rw [← PhiA_eq]
  cases n with
  | zero => exact Idealize.SL.BI.Entails.refl _
  | succ n =>
    rw [PhiA_eq]; unfold PhiS
    iintro ⟨HS, Hg⟩
    isplitl [HS]; · iexists _; iexact HS
    iexact Hg

theorem PhiS_pos (c : Dev nD) (n : ℕ) (h : n ≤ cfg0.N) (hz : n ≠ 0) :
    PhiS m c n h = iprop(iprop(owns (c : Thread nD τ) scM fullShare (acc m c n)) ∗ (∃ r, prngReg c r)) := by
  cases n with
  | zero => exact absurd rfl hz
  | succ n => rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t)

set_option maxHeartbeats 4800000 in
/-- The body at any point: the two conditionals' closed forms say which of the three runs applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_pos m c (t.val + 1) _ (Nat.succ_ne_zero _), PhiS_castSucc m c t,
    acc_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  have c7 := cover7 m c t (acc m c t.val)
  have c8 := cover8 m c t (acc m c t.val)
  unfold out7 out8
  by_cases h0 : t.val % 8 = 0
  · simp only [pcs7, pcs8, next, dif_pos h0] at c7 c8 ⊢
    rw [Dat.leavesExact_idle (dats m 0 c) 6 t (idle6 t (not_last h0)) (noFlush6 t (not_last h0))]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    icases (PhiS_any m c _ _) $$ HP with ⟨HS, Hg⟩
    iapply ((rFirst m c t h0).2.2.2 _ Set.univ _)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexact H6
    isplitl [H7]; · iexists _; iexact H7
    isplitl [H8]; · iexists _; iexact H8
    isplitl [HS]; · iexact HS
    iintro ⟨⟨H0, H1, H2, H3, H4, H5⟩, H6, ⟨%e7, H7⟩, ⟨%e8, H8⟩, HS⟩
    isplitl [HS Hg]
    · isplitl [HS]
      · unfold owns; iexists _; isplitr
        swap; · iexact HS
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]
    · unfold owns; iexists _; isplitr
      swap; · iexact H7
      ipureintro; exact View.read_writes_eq_canon _ _ _ c7
    unfold owns; iexists _; isplitr
    swap; · iexact H8
    ipureintro; exact View.read_writes_eq_canon _ _ _ c8
  by_cases h7 : t.val % 8 = 7
  · simp only [pcs7, pcs8, next, dif_neg h0, dif_pos h7] at c7 c8 ⊢
    rw [show (dats m 0 c).leavesExact 6 t = owns (c : Thread nD τ) (ms6 t) fullShare ((dats m 0 c).after 6 t) from by
      unfold Dat.leavesExact; rw [live6 t ((last_iff t).mpr h7)], after6]
    unfold out6; rw [dif_pos h7]
    rw [PhiS_pos m c t.val _ (fun hz => h0 (by rw [hz]))]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((rLast m c t h0 h7 (acc m c t.val)).2.2.2.2 Set.univ _)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    isplitl [H8]; · iexists _; iexact H8
    isplitl [HS]; · iexact HS
    iintro ⟨⟨H0, H1, H2, H3, H4, H5⟩, ⟨%e6, H6⟩, ⟨%e7, H7⟩, ⟨%e8, H8⟩, HS⟩
    isplitl [HS Hg]
    · isplitl [HS]
      · unfold owns; iexists _; isplitr
        swap; · iexact HS
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_eq_canon _ _ _ (cover6 m c t h0 h7 _)
    isplitl [H7]
    · unfold owns; iexists _; isplitr
      swap; · iexact H7
      ipureintro; exact View.read_writes_eq_canon _ _ _ c7
    unfold owns; iexists _; isplitr
    swap; · iexact H8
    ipureintro; exact View.read_writes_eq_canon _ _ _ c8
  · simp only [pcs7, pcs8, next, dif_neg h0, dif_neg h7] at c7 c8 ⊢
    rw [Dat.leavesExact_idle (dats m 0 c) 6 t (idle6 t (not_last' h7)) (noFlush6 t (not_last' h7))]
    rw [PhiS_pos m c t.val _ (fun hz => h0 (by rw [hz]))]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((rMid m c t h0 h7 (acc m c t.val)).2.2.2 _ Set.univ _)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexact H6
    isplitl [H7]; · iexists _; iexact H7
    isplitl [H8]; · iexists _; iexact H8
    isplitl [HS]; · iexact HS
    iintro ⟨⟨H0, H1, H2, H3, H4, H5⟩, H6, ⟨%e7, H7⟩, ⟨%e8, H8⟩, HS⟩
    isplitl [HS Hg]
    · isplitl [HS]
      · unfold owns; iexists _; isplitr
        swap; · iexact HS
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]
    · unfold owns; iexists _; isplitr
      swap; · iexact H7
      ipureintro; exact View.read_writes_eq_canon _ _ _ c7
    unfold owns; iexists _; isplitr
    swap; · iexact H8
    ipureintro; exact View.read_writes_eq_canon _ _ _ c8

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl]
  exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  exact PhiS_any m c _ _

set_option backward.isDefEq.respectTransparency.types false in
/-- The launch: every execution ends, the arrays at what the proof data say, every counter at zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame, over any values: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.AttnBwd

end
-- ==== Proof.AttnBwd.Tile.lean ====
/- The attention backward body's payloads read at an index, over the extended reals: one 512 × 512 tile of probabilities and of
   score gradients, and what it adds to the three accumulated gradients. -/
module

public import proofs.«01_k».proof.Proof.Gen.KernelIdeal.Skeleton
public import Idealize.ShloMosaic.Lib.Pointwise
public import Idealize.ShloMosaic.Lib.WordCmp

@[expose] public section

set_option maxRecDepth 16384

noncomputable section

namespace Cert.KernelIdeal.AttnBwd

open Idealize.ShloMosaic
open Cert.KernelIdeal.Gen

/-- The three constants of the score gradient, at their exact values. -/
def cScale : EReal := (((Real.sqrt 192)⁻¹ : ℝ) : EReal)
def cLog : EReal := (((Real.log 2)⁻¹ : ℝ) : EReal)
def cScaleLog : EReal := (((Real.sqrt 192)⁻¹ * (Real.log 2)⁻¹ : ℝ) : EReal)

theorem named_scale : (Named.named (F := Ideal) (φ := .f32) κ "scale" 0x3D93CD3A#32 : EReal) = cScale :=
  IdealRules.named_const.ideal_named_scalar _ _ _ _ rfl
theorem named_log : (Named.named (F := Ideal) (φ := .f32) κ "log2e" 0x3FB8AA3B#32 : EReal) = cLog :=
  IdealRules.named_const.ideal_named_scalar _ _ _ _ rfl
theorem named_scaleLog : (Named.named (F := Ideal) (φ := .f32) κ "scale_log2e" 0x3DD53B95#32 : EReal) = cScaleLog :=
  IdealRules.named_const.ideal_named_scalar _ _ _ _ rfl

theorem cScaleLog_pos : (0 : ℝ) < (Real.sqrt 192)⁻¹ * (Real.log 2)⁻¹ := by
  have := Real.log_pos (show (1:ℝ) < 2 by norm_num)
  positivity

/-- The word of negative infinity. -/
theorem ofBits_negInf : Ideal.ofBits .f32 0xFF800000#32 = ⊥ := by
  simp [Ideal.ofBits, Ideal.ieee]

/-- Position `s` of query tile `b` in the sequence. -/
def pos (b : Fin 8) (s : Fin 512) : Fin 4096 := ⟨b.val * 512 + s.val, by omega⟩

/-- The rows of query tile `b`. -/
def rows {n : ℕ} {e : EltTy} (x : Vec Ideal (⟨2, ![4096, n]⟩ : Shape) e) (b : Fin 8) : Vec Ideal (⟨2, ![512, n]⟩ : Shape) e :=
  fun y => x (ix2 (pos b (y 0)) (y 1))
/-- The row statistics of query tile `b`. -/
def stat (x : Vec Ideal S1x8x512 .f32) (b : Fin 8) : Vec Ideal S1x1x512 .f32 := fun y => x (ix3 0 b (y 2))

/-- The probability of key `r` of key tile `j` for query `s` of query tile `b`, from the tile's keys `kc`, the queries and the
    rows' log-sums; a key after the query gets none. -/
def tE (kc : Vec Ideal S512x256 .bf16) (x0 : Vec Ideal S4096x256 .bf16) (x4 : Vec Ideal S1x8x512 .f32) (j : ℕ) (r : Fin 512) (b : Fin 8) (s : Fin 512) : EReal :=
  FloatOps.exp2 (F := Ideal) (φ := .f32) ((if j * 512 + r.val ≤ b.val * 512 + s.val then ∑ d : Fin 256, kc (ix2 r d) * x0 (ix2 (pos b s) d) else ⊥) * cScaleLog
    - x4 (ix3 0 b s) * cLog)

/-- The score gradient at the same place. -/
def tS (kc : Vec Ideal S512x256 .bf16) (vv : Vec Ideal S512x128 .bf16) (x0 : Vec Ideal S4096x256 .bf16) (x3 : Vec Ideal S4096x128 .bf16) (x4 x5 : Vec Ideal S1x8x512 .f32)
    (j : ℕ) (r : Fin 512) (b : Fin 8) (s : Fin 512) : EReal :=
  tE kc x0 x4 j r b s * ((∑ d : Fin 128, vv (ix2 r d) * x3 (ix2 (pos b s) d)) - x5 (ix3 0 b s)) * cScale

variable (v3 v4 vv : Vec Ideal S512x128 .bf16) (kc : Vec Ideal S512x256 .bf16) (x0 : Vec Ideal S4096x256 .bf16) (x3 : Vec Ideal S4096x128 .bf16) (x4 x5 : Vec Ideal S1x8x512 .f32)
  (b : Fin 8) (r s : Fin 512)

theorem sle_word {a c : ℕ} (ha : a < 512) (hc : c < 512) : IntOp.cmpi .sle (BitVec.ofNat 32 a) (BitVec.ofNat 32 c) = BitVec.ofBool (decide (a ≤ c)) :=
  WordCmp.cmpi_sle_ofNat (by omega) (by omega)

/-- The diagonal tile's probabilities. -/
theorem pay5_apply : k0_pay5 (F := Ideal) v3 v4 (rows x0 b) (stat x4 b) (ix2 r s) = tE (k0_pay3 v3 v4) x0 x4 b.val r b s := by
  pointwise [k0_pay5]
  simp only [named_scaleLog, named_log, ofBits_negInf, sle_word r.isLt s.isLt, Nat.add_le_add_iff_left, tE, rows, stat]
  by_cases h : r.val ≤ s.val <;> simp [h, Scalar.select]

/-- Another tile's probabilities: every key comes before every query. -/
theorem pay11_apply (j : ℕ) (h : j < b.val) : k0_pay11 (F := Ideal) kc (rows x0 b) (stat x4 b) (ix2 r s) = tE kc x0 x4 j r b s := by
  pointwise [k0_pay11]
  simp only [named_scaleLog, named_log, tE, rows, stat]
  rw [if_pos (by omega)]
  rfl

/-- The value gradient of the diagonal tile. -/
theorem pay6_apply (d : Fin 128) : k0_pay6 (F := Ideal) v3 v4 (rows x0 b) (rows x3 b) (stat x4 b) (ix2 r d)
    = ∑ s : Fin 512, tE (k0_pay3 v3 v4) x0 x4 b.val r b s * x3 (ix2 (pos b s) d) := by
  pointwise [k0_pay6]
  exact Finset.sum_congr rfl fun s _ => by rw [pay5_apply]; rfl

theorem pay12_apply (j : ℕ) (h : j < b.val) (dv : FVec Ideal S512x128 .f32) (d : Fin 128) : k0_pay12 (F := Ideal) kc dv (rows x0 b) (rows x3 b) (stat x4 b) (ix2 r d)
    = dv (ix2 r d) + ∑ s : Fin 512, tE kc x0 x4 j r b s * x3 (ix2 (pos b s) d) := by
  pointwise [k0_pay12]
  exact congrArg _ (Finset.sum_congr rfl fun s _ => by rw [pay11_apply _ _ _ _ _ _ j h]; rfl)

/-- The score gradients, of the diagonal tile and of another. -/
theorem pay8_apply : k0_pay8 (F := Ideal) (k0_pay5 v3 v4 (rows x0 b) (stat x4 b)) (k0_pay7 vv (rows x3 b)) (stat x5 b) (ix2 r s)
    = tS (k0_pay3 v3 v4) vv x0 x3 x4 x5 b.val r b s := by
  pointwise [k0_pay8, k0_pay7]
  rw [pay5_apply, named_scale]; rfl
theorem pay13_apply (j : ℕ) (h : j < b.val) : k0_pay13 (F := Ideal) kc vv (rows x0 b) (rows x3 b) (stat x4 b) (stat x5 b) (ix2 r s)
    = tS kc vv x0 x3 x4 x5 j r b s := by
  pointwise [k0_pay13]
  rw [pay11_apply _ _ _ _ _ _ j h, named_scale]; rfl

/-- The key gradients. -/
theorem pay9_apply (d : Fin 256) :
    k0_pay9 (F := Ideal) k0_pay4 (rows x0 b) (k0_pay5 v3 v4 (rows x0 b) (stat x4 b)) (k0_pay7 vv (rows x3 b)) (stat x5 b) (ix2 r d)
    = ∑ s : Fin 512, tS (k0_pay3 v3 v4) vv x0 x3 x4 x5 b.val r b s * x0 (ix2 (pos b s) d) := by
  pointwise [k0_pay9, k0_pay4]
  exact Finset.sum_congr rfl fun s _ => by rw [pay8_apply]; rfl
theorem pay14_apply (j : ℕ) (h : j < b.val) (dk : FVec Ideal S512x256 .f32) (d : Fin 256) :
    k0_pay14 (F := Ideal) kc vv dk (rows x0 b) (rows x3 b) (stat x4 b) (stat x5 b) (ix2 r d)
    = dk (ix2 r d) + ∑ s : Fin 512, tS kc vv x0 x3 x4 x5 j r b s * x0 (ix2 (pos b s) d) := by
  pointwise [k0_pay14]
  exact congrArg _ (Finset.sum_congr rfl fun s _ => by rw [pay13_apply _ _ _ _ _ _ _ _ _ j h]; rfl)

/-- The query gradients: what the tile's keys add to the rows of the query tile. -/
theorem pay10_apply (v47 : Vec Ideal S512x256 .f32) (d : Fin 256) :
    k0_pay10 (F := Ideal) (k0_pay3 v3 v4) (k0_pay5 v3 v4 (rows x0 b) (stat x4 b)) (k0_pay7 vv (rows x3 b)) (stat x5 b) v47 (ix2 s d)
    = v47 (ix2 s d) + ∑ r : Fin 512, tS (k0_pay3 v3 v4) vv x0 x3 x4 x5 b.val r b s * k0_pay3 v3 v4 (ix2 r d) := by
  pointwise [k0_pay10]
  exact congrArg _ (Finset.sum_congr rfl fun s _ => by rw [pay8_apply])
theorem pay15_apply (j : ℕ) (h : j < b.val) (v107 : Vec Ideal S512x256 .f32) (d : Fin 256) :
    k0_pay15 (F := Ideal) kc vv (rows x0 b) (rows x3 b) (stat x4 b) (stat x5 b) v107 (ix2 s d)
    = v107 (ix2 s d) + ∑ r : Fin 512, tS kc vv x0 x3 x4 x5 j r b s * kc (ix2 r d) := by
  pointwise [k0_pay15]
  exact congrArg _ (Finset.sum_congr rfl fun s _ => by rw [pay13_apply _ _ _ _ _ _ _ _ _ j h])

/-- A key tile after the query tile gives nothing. -/
theorem tE_after (j : ℕ) (h : b.val < j) : tE kc x0 x4 j r b s = 0 := by
  rw [tE, if_neg (by omega), cScaleLog, EReal.bot_mul_coe_of_pos cScaleLog_pos, EReal.bot_sub]
  rfl
theorem tS_after (j : ℕ) (h : b.val < j) : tS kc vv x0 x3 x4 x5 j r b s = 0 := by
  rw [tS, tE_after _ _ _ _ _ _ j h, zero_mul, zero_mul]

end Cert.KernelIdeal.AttnBwd
end
-- ==== Proof.AttnBwd.Loop.lean ====
/- The attention backward body's loop over the query tiles after the diagonal one, over the extended reals: what the carried key
   and value gradients and the query gradient's accumulator hold before each trip. -/
module

public import proofs.«01_k».proof.Proof.AttnBwd.Conds
public import proofs.«01_k».proof.Proof.AttnBwd.Tile
public import Idealize.ShloMosaic.Lib.WritesUnit
public import Idealize.ShloMosaic.Lib.Pipeline.ValueKit.Tiles

@[expose] public section

set_option maxRecDepth 16384

noncomputable section

namespace Cert.KernelIdeal.AttnBwd

open Idealize.ShloMosaic Idealize.ShloMosaic.TcCoe Idealize.ShloMosaic.Tactic
open Idealize.SL.Sem
open Cert.KernelIdeal.Gen

/-- A load of whole rows at query tile `b` reads the tile. -/
theorem readAt_rows {n : ℕ} {e : EltTy} (M : Memref sig .tc .vmem (⟨2, ![4096, n]⟩ : Shape) e) (f : BufTy.Contents (Elt Ideal) M.view.ty)
    {off : Fin 2 → ℕ} (b : Fin 8) (inb : ∀ a, off a + (⟨2, ![512, n]⟩ : Shape).size a ≤ (⟨2, ![4096, n]⟩ : Shape).size a) (hoff : off = ![512 * b.val, 0]) :
    View.readAt (Elt Ideal) M.view (Rect.unit (s := ⟨2, ![4096, n]⟩) off (⟨2, ![512, n]⟩ : Shape).size inb).toLoadRect f = rows (M.view.read (Elt Ideal) f) b := by
  subst hoff
  funext y
  rw [View.readAt_eq_ld]
  refine View.ld_unit_apply_of (M.view.read (Elt Ideal) f) _ _ inb y _ ?_
  intro a; fin_cases a
  · show b.val * 512 + (y 0).val = 512 * b.val + (y 0).val; omega
  · show (y 1).val = 0 + (y 1).val; omega
theorem readAt_stat (M : Memref sig .tc .vmem S1x8x512 .f32) (f : BufTy.Contents (Elt Ideal) M.view.ty)
    {off : Fin 3 → ℕ} (b : Fin 8) (inb : ∀ a, off a + S1x1x512.size a ≤ S1x8x512.size a) (hoff : off = ![0, b.val, 0]) :
    View.readAt (Elt Ideal) M.view (Rect.unit (s := S1x8x512) off S1x1x512.size inb).toLoadRect f = stat (M.view.read (Elt Ideal) f) b := by
  subst hoff
  funext y
  rw [View.readAt_eq_ld]
  refine View.ld_unit_apply_of (M.view.read (Elt Ideal) f) _ _ inb y _ ?_
  intro a; fin_cases a
  · show 0 = 0 + (y 0).val; have : (y 0).val < 1 := (y 0).isLt; omega
  · show b.val = b.val + (y 1).val; have : (y 1).val < 1 := (y 1).isLt; omega
  · show (y 2).val = 0 + (y 2).val; omega

/-- A store of whole rows at query tile `b`, read back at a row of query tile `b'`. -/
theorem read_store_rows (M : Memref sig .tc .vmem S4096x256 .f32) (f : BufTy.Contents (Elt Ideal) M.view.ty) {off : Fin 2 → ℕ} (b b' : Fin 8) (s : Fin 512) (d : Fin 256)
    (inb : ∀ a, off a + S512x256.size a ≤ S4096x256.size a) (hoff : off = ![512 * b.val, 0]) (w : Vec Ideal S512x256 .f32) (L : List (View.Piece (Elt Ideal) S4096x256 .f32)) :
    M.view.read (Elt Ideal) (M.view.writes (Elt Ideal) f ((⟨Rect.unit off S512x256.size inb, w⟩ : View.Piece (Elt Ideal) S4096x256 .f32) :: L)) (ix2 (pos b' s) d)
      = if b' = b then w (ix2 s d) else M.view.read (Elt Ideal) (M.view.writes (Elt Ideal) f L) (ix2 (pos b' s) d) := by
  split
  · next h =>
    subst h
    refine View.read_writes_cons_rows_of_mem M.view f inb w L _ (ix2 s d) hoff ?_ ?_
    · show b'.val * 512 + s.val = 512 * b'.val + s.val; omega
    · rfl
  · next h =>
    refine View.read_writes_cons_rows_of_not_mem M.view f inb w L _ hoff (W := 512) rfl ?_
    have : b'.val ≠ b.val := fun e => h (Fin.ext e)
    show b'.val * 512 + s.val < 512 * b.val ∨ 512 * b.val + 512 ≤ b'.val * 512 + s.val
    omega

variable (c : Dev nD) (i : grid0.Coords)
  (arg2 : Memref sig .tc .vmem S4096x256 .bf16) (harg2 : arg2.IsWhole) (arg3 : Memref sig .tc .vmem S512x256 .bf16) (harg3 : arg3.IsWhole)
  (arg4 : Memref sig .tc .vmem S512x128 .bf16) (harg4 : arg4.IsWhole) (arg5 : Memref sig .tc .vmem S4096x128 .bf16) (harg5 : arg5.IsWhole)
  (arg6 : Memref sig .tc .vmem S1x8x512 .f32) (harg6 : arg6.IsWhole) (arg7 : Memref sig .tc .vmem S1x8x512 .f32) (harg7 : arg7.IsWhole)
  (arg8 : Memref sig .tc .vmem S4096x256 .bf16) (harg8 : arg8.IsWhole) (arg9 : Memref sig .tc .vmem S512x256 .bf16) (harg9 : arg9.IsWhole)
  (arg10 : Memref sig .tc .vmem S1x512x128 .f32) (harg10 : arg10.IsWhole) (arg11 : Memref sig .tc .vmem S4096x256 .f32) (harg11 : arg11.IsWhole)
  (arg1 v10 : BitVec 32) (kc : FVec Ideal S512x256 .bf16) (vv : Vec Ideal S512x128 .bf16) (v7 : FVec Ideal S512x256 .f32) (v12 : Vec Ideal S512x256 .bf16) (v30 : FVec Ideal S512x512 .f32) (v33 : FVec Ideal S512x128 .f32) (v34 : FVec Ideal S512x512 .f32)
  (X2 : BufTy.Contents (Elt Ideal) arg2.view.ty) (X5 : BufTy.Contents (Elt Ideal) arg5.view.ty) (X6 : BufTy.Contents (Elt Ideal) arg6.view.ty) (X7 : BufTy.Contents (Elt Ideal) arg7.view.ty)
  (G : BufTy.Contents (Elt Ideal) arg11.view.ty) (init : FVec Ideal S512x256 .f32 × FVec Ideal S512x128 .f32)

/-- The loop runs over the query tiles after the key tile. -/
theorem trips_eq : ∀ i : grid0.Coords, (k0_t1_loop i).trips = 7 - (i 1).val := by decide +kernel
theorem trips2_eq (i : grid0.Coords) : (k0_t2_loop i).trips = 0 := Nat.le_zero.mp (k0_t2_abs i).2.1

/-- The query tile of a trip. -/
theorem qt_lt (k : Fin (k0_t1_loop i).trips) : (i 1).val + 1 + k.val < 8 := by
  have h : k.val < 7 - (i 1).val := by rw [← trips_eq i]; exact k.isLt
  omega
def qt (k : Fin (k0_t1_loop i).trips) : Fin 8 := ⟨(i 1).val + 1 + k.val, qt_lt i k⟩

theorem off4_qt (k : Fin (k0_t1_loop i).trips) : k0_off4 i k = ![512 * (qt i k).val, 0] := by
  rw [k0_off4_eq]; congr 1; show _ = 512 * ((i 1).val + 1 + k.val); omega
theorem off5_qt (k : Fin (k0_t1_loop i).trips) : k0_off5 i k = ![512 * (qt i k).val, 0] := by
  rw [k0_off5_eq]; congr 1; show _ = 512 * ((i 1).val + 1 + k.val); omega
theorem off6_qt (k : Fin (k0_t1_loop i).trips) : k0_off6 i k = ![0, (qt i k).val, 0] := by
  rw [k0_off6_eq]; congr 2; show _ = (i 1).val + 1 + k.val; omega

/-- What one trip yields. -/
theorem tripR_eq (k : Fin (k0_t1_loop i).trips) (a : FVec Ideal S512x256 .f32 × FVec Ideal S512x128 .f32) (f : BufTy.Contents (Elt Ideal) arg11.view.ty) :
    tripR_k0_t1 (F := Ideal) Variants.none c none i arg2 harg2 arg3 harg3 arg4 harg4 arg5 harg5 arg6 harg6 arg7 harg7 arg8 harg8 arg9 harg9 arg10 harg10 arg11 harg11 arg1 kc vv v7 v10 v12 v30 v33 v34 X2 X5 X6 X7 k a f
      = (k0_pay14 kc vv a.1 (rows (arg2.view.read (Elt Ideal) X2) (qt i k)) (rows (arg5.view.read (Elt Ideal) X5) (qt i k)) (stat (arg6.view.read (Elt Ideal) X6) (qt i k)) (stat (arg7.view.read (Elt Ideal) X7) (qt i k)),
         k0_pay12 kc a.2 (rows (arg2.view.read (Elt Ideal) X2) (qt i k)) (rows (arg5.view.read (Elt Ideal) X5) (qt i k)) (stat (arg6.view.read (Elt Ideal) X6) (qt i k))) := by
  rw [← readAt_rows arg2 X2 (qt i k) (k0_off4_inb i k) (off4_qt i k), ← readAt_rows arg5 X5 (qt i k) (k0_off5_inb i k) (off5_qt i k),
    ← readAt_stat arg6 X6 (qt i k) (k0_off6_inb i k) (off6_qt i k), ← readAt_stat arg7 X7 (qt i k) (k0_off6_inb i k) (off6_qt i k)]
  unfold tripR_k0_t1 trip_k0_t1; dsimp only

/-- What one trip stores. -/
theorem tripL_eq (k : Fin (k0_t1_loop i).trips) (a : FVec Ideal S512x256 .f32 × FVec Ideal S512x128 .f32) (f : BufTy.Contents (Elt Ideal) arg11.view.ty) :
    tripL_k0_t1 (F := Ideal) Variants.none c none i arg2 harg2 arg3 harg3 arg4 harg4 arg5 harg5 arg6 harg6 arg7 harg7 arg8 harg8 arg9 harg9 arg10 harg10 arg11 harg11 arg1 kc vv v7 v10 v12 v30 v33 v34 X2 X5 X6 X7 k a f
      = [⟨Rect.unit (s := S4096x256) (k0_off4 i k) S512x256.size (k0_off4_inb i k),
          k0_pay15 kc vv (rows (arg2.view.read (Elt Ideal) X2) (qt i k)) (rows (arg5.view.read (Elt Ideal) X5) (qt i k)) (stat (arg6.view.read (Elt Ideal) X6) (qt i k)) (stat (arg7.view.read (Elt Ideal) X7) (qt i k))
            (rows (arg11.view.read (Elt Ideal) f) (qt i k))⟩] := by
  rw [← readAt_rows arg2 X2 (qt i k) (k0_off4_inb i k) (off4_qt i k), ← readAt_rows arg5 X5 (qt i k) (k0_off5_inb i k) (off5_qt i k),
    ← readAt_stat arg6 X6 (qt i k) (k0_off6_inb i k) (off6_qt i k), ← readAt_stat arg7 X7 (qt i k) (k0_off6_inb i k) (off6_qt i k),
    ← readAt_rows arg11 f (qt i k) (k0_off4_inb i k) (off4_qt i k)]
  unfold tripL_k0_t1 trip_k0_t1; dsimp only

/-- The loop's state before trip `n`. -/
abbrev stAt (n : ℕ) := st_k0_t1 (F := Ideal) Variants.none c none i arg2 harg2 arg3 harg3 arg4 harg4 arg5 harg5 arg6 harg6 arg7 harg7 arg8 harg8 arg9 harg9 arg10 harg10 arg11 harg11 arg1 kc vv v7 v10 v12 v30 v33 v34 X2 X5 X6 X7 G init n

/-- One more query tile in a sum over the tiles between the key tile and the trips done. -/
theorem sum_upTo_succ (T : Fin 8 → EReal) (j n : ℕ) (h : j + 1 + n < 8) :
    (∑ b : Fin 8, if j < b.val ∧ b.val < j + 1 + (n + 1) then T b else 0)
      = (∑ b : Fin 8, if j < b.val ∧ b.val < j + 1 + n then T b else 0) + T ⟨j + 1 + n, h⟩ := by
  have e : ∀ b : Fin 8, (if j < b.val ∧ b.val < j + 1 + (n + 1) then T b else 0)
      = (if j < b.val ∧ b.val < j + 1 + n then T b else 0) + (if b = ⟨j + 1 + n, h⟩ then T b else 0) := by
    intro b
    by_cases hb : b = ⟨j + 1 + n, h⟩
    · subst hb
      rw [if_pos (by show j < j + 1 + n ∧ j + 1 + n < _; omega), if_neg (by show ¬(j < j + 1 + n ∧ j + 1 + n < _); omega), if_pos rfl, zero_add]
    · have : b.val ≠ j + 1 + n := fun e => hb (Fin.ext e)
      rw [if_neg hb, add_zero]
      exact if_congr (by omega) rfl rfl
  rw [Finset.sum_congr rfl fun b _ => e b, Finset.sum_add_distrib, Finset.sum_ite_eq' Finset.univ, if_pos (Finset.mem_univ _)]

set_option maxHeartbeats 1000000 in
/-- The carried gradients and the accumulator before trip `n`. -/
theorem stAt_eq (n : ℕ) (hn : n ≤ (k0_t1_loop i).trips) :
    (∀ (r : Fin 512) (d : Fin 256), (stAt c i arg2 harg2 arg3 harg3 arg4 harg4 arg5 harg5 arg6 harg6 arg7 harg7 arg8 harg8 arg9 harg9 arg10 harg10 arg11 harg11 arg1 v10 kc vv v7 v12 v30 v33 v34 X2 X5 X6 X7 G init n).1.1 (ix2 r d) = init.1 (ix2 r d)
      + ∑ b : Fin 8, if (i 1).val < b.val ∧ b.val < (i 1).val + 1 + n then
          ∑ s : Fin 512, tS kc vv (arg2.view.read (Elt Ideal) X2) (arg5.view.read (Elt Ideal) X5) (arg6.view.read (Elt Ideal) X6) (arg7.view.read (Elt Ideal) X7) (i 1).val r b s * arg2.view.read (Elt Ideal) X2 (ix2 (pos b s) d) else 0)
    ∧ (∀ (r : Fin 512) (d : Fin 128), (stAt c i arg2 harg2 arg3 harg3 arg4 harg4 arg5 harg5 arg6 harg6 arg7 harg7 arg8 harg8 arg9 harg9 arg10 harg10 arg11 harg11 arg1 v10 kc vv v7 v12 v30 v33 v34 X2 X5 X6 X7 G init n).1.2 (ix2 r d) = init.2 (ix2 r d)
      + ∑ b : Fin 8, if (i 1).val < b.val ∧ b.val < (i 1).val + 1 + n then
          ∑ s : Fin 512, tE kc (arg2.view.read (Elt Ideal) X2) (arg6.view.read (Elt Ideal) X6) (i 1).val r b s * arg5.view.read (Elt Ideal) X5 (ix2 (pos b s) d) else 0)
    ∧ (∀ (b : Fin 8) (s : Fin 512) (d : Fin 256), arg11.view.read (Elt Ideal) (arg11.view.writes (Elt Ideal) G (stAt c i arg2 harg2 arg3 harg3 arg4 harg4 arg5 harg5 arg6 harg6 arg7 harg7 arg8 harg8 arg9 harg9 arg10 harg10 arg11 harg11 arg1 v10 kc vv v7 v12 v30 v33 v34 X2 X5 X6 X7 G init n).2) (ix2 (pos b s) d)
      = arg11.view.read (Elt Ideal) G (ix2 (pos b s) d)
        + if (i 1).val < b.val ∧ b.val < (i 1).val + 1 + n then ∑ r : Fin 512, tS kc vv (arg2.view.read (Elt Ideal) X2) (arg5.view.read (Elt Ideal) X5) (arg6.view.read (Elt Ideal) X6) (arg7.view.read (Elt Ideal) X7) (i 1).val r b s * kc (ix2 r d) else 0) := by
  induction n with
  | zero =>
    have e : ∀ b : Fin 8, ¬((i 1).val < b.val ∧ b.val < (i 1).val + 1 + 0) := fun b => by omega
    refine ⟨fun r d => ?_, fun r d => ?_, fun b s d => ?_⟩
    · simp only [e, if_false, Finset.sum_const_zero, add_zero]; rfl
    · simp only [e, if_false, Finset.sum_const_zero, add_zero]; rfl
    · simp only [e, if_false, add_zero]; rfl
  | succ n ih =>
    obtain ⟨ih1, ih2, ih3⟩ := ih (by omega)
    have hb : (i 1).val + 1 + n < 8 := by rw [trips_eq] at hn; omega
    have hj : (i 1).val < (qt i ⟨n, hn⟩).val := by show (i 1).val < (i 1).val + 1 + n; omega
    have hs := st_k0_t1_succ (F := Ideal) Variants.none c none i arg2 harg2 arg3 harg3 arg4 harg4 arg5 harg5 arg6 harg6 arg7 harg7 arg8 harg8 arg9 harg9 arg10 harg10 arg11 harg11 arg1 kc vv v7 v10 v12 v30 v33 v34 X2 X5 X6 X7 G init ⟨n, hn⟩
    rw [tripR_eq, tripL_eq] at hs
    refine ⟨fun r d => ?_, fun r d => ?_, fun b s d => ?_⟩
    · rw [congrArg (·.1.1) hs]
      refine (pay14_apply vv kc _ _ _ _ _ _ _ hj _ d).trans ?_
      rw [ih1, sum_upTo_succ _ _ _ hb, ← add_assoc]; rfl
    · rw [congrArg (·.1.2) hs]
      refine (pay12_apply kc _ _ _ _ _ _ hj _ d).trans ?_
      rw [ih2, sum_upTo_succ _ _ _ hb, ← add_assoc]; rfl
    · rw [congrArg (·.2) hs, List.singleton_append]
      rw [read_store_rows arg11 G (qt i ⟨n, hn⟩) b s d (k0_off4_inb i ⟨n, hn⟩) (off4_qt i ⟨n, hn⟩)]
      by_cases h : b = qt i ⟨n, hn⟩
      · subst h
        rw [if_pos rfl, if_pos (by refine ⟨hj, ?_⟩; show (i 1).val + 1 + n < _; omega)]
        refine (pay15_apply vv kc _ _ _ _ _ _ _ hj _ d).trans ?_
        congr 1
        refine (ih3 _ s d).trans ?_
        rw [if_neg (by show ¬((i 1).val < (i 1).val + 1 + n ∧ (i 1).val + 1 + n < (i 1).val + 1 + n); omega), add_zero]
      · rw [if_neg h, ih3]
        congr 1
        have : b.val ≠ (i 1).val + 1 + n := fun e => h (Fin.ext e)
        exact if_congr (by omega) rfl rfl

end Cert.KernelIdeal.AttnBwd
end
-- ==== Proof.AttnBwd.Point.lean ====
/- The attention backward body at one grid point, over the extended reals: the key, value and rope gradients of the point's key
   tile as sums over all queries, and what the point adds to the query gradients. -/
module

public import proofs.«01_k».proof.Proof.AttnBwd.Loop
public import proofs.«01_k».proof.Proof.AttnBwd.Data
public import Idealize.ShloMosaic.Lib.WritesUnit
public import Idealize.ShloMosaic.Lib.Pipeline.ValueKit.Tiles

@[expose] public section

set_option maxRecDepth 16384

noncomputable section

namespace Cert.KernelIdeal.AttnBwd

open Idealize.ShloMosaic Idealize.ShloMosaic.TcCoe Idealize.ShloMosaic.Tactic
open Idealize.SL.Sem
open Cert.KernelIdeal.Gen

variable (c : Dev nD) (i : grid0.Coords)
  (arg2 : Memref sig .tc .vmem S4096x256 .bf16) (harg2 : arg2.IsWhole) (arg3 : Memref sig .tc .vmem S512x256 .bf16) (harg3 : arg3.IsWhole)
  (arg4 : Memref sig .tc .vmem S512x128 .bf16) (harg4 : arg4.IsWhole) (arg5 : Memref sig .tc .vmem S4096x128 .bf16) (harg5 : arg5.IsWhole)
  (arg6 : Memref sig .tc .vmem S1x8x512 .f32) (harg6 : arg6.IsWhole) (arg7 : Memref sig .tc .vmem S1x8x512 .f32) (harg7 : arg7.IsWhole)
  (arg8 : Memref sig .tc .vmem S4096x256 .bf16) (harg8 : arg8.IsWhole) (arg9 : Memref sig .tc .vmem S512x256 .bf16) (harg9 : arg9.IsWhole)
  (arg10 : Memref sig .tc .vmem S1x512x128 .f32) (harg10 : arg10.IsWhole) (arg11 : Memref sig .tc .vmem S4096x256 .f32) (harg11 : arg11.IsWhole)
  (x0 : Vec Ideal S4096x256 .bf16) (x1 : Vec Ideal S512x256 .bf16) (x2 : Vec Ideal S512x128 .bf16) (x3 : Vec Ideal S4096x128 .bf16)
  (x4 x5 : Vec Ideal S1x8x512 .f32) (B : BufTy.Contents (Elt Ideal) arg11.view.ty)

/-! What the body loads before the loop: the key tile's keys, rope keys and values, and the diagonal query tile's rows. -/

abbrev lK := View.readAt (Elt Ideal) arg3.view (Rect.unit (s := S512x256) ![0, 0] S512x128.size inb_S512x256_S512x128_0_0).toLoadRect (harg3.unread x1)
abbrev lV := View.readAt (Elt Ideal) arg3.view (Rect.unit (s := S512x256) ![0, 128] S512x128.size inb_S512x256_S512x128_0_128).toLoadRect (harg3.unread x1)
abbrev lR := View.readAt (Elt Ideal) arg4.view (Rect.unit (s := S512x128) ![0, 0] S512x128.size inb_S512x128_S512x128_0_0).toLoadRect (harg4.unread x2)
abbrev lQ := View.readAt (Elt Ideal) arg2.view (Rect.unit (s := S4096x256) (k0_off1 i) S512x256.size (k0_off1_inb i)).toLoadRect (harg2.unread x0)
abbrev lO := View.readAt (Elt Ideal) arg5.view (Rect.unit (s := S4096x128) (k0_off2 i) S512x128.size (k0_off2_inb i)).toLoadRect (harg5.unread x3)
abbrev lL := View.readAt (Elt Ideal) arg6.view (Rect.unit (s := S1x8x512) (k0_off3 i) S1x1x512.size (k0_off3_inb i)).toLoadRect (harg6.unread x4)
abbrev lD := View.readAt (Elt Ideal) arg7.view (Rect.unit (s := S1x8x512) (k0_off3 i) S1x1x512.size (k0_off3_inb i)).toLoadRect (harg7.unread x5)

/-- The store of the diagonal tile's share of the query gradients, over an accumulator found at `B`. -/
abbrev diag : View.Piece (Elt Ideal) S4096x256 .f32 :=
  ⟨Rect.unit (s := S4096x256) (k0_off1 i) S512x256.size (k0_off1_inb i),
    k0_pay10 (F := Ideal) (k0_pay3 (lK arg3 harg3 x1) (lR arg4 harg4 x2)) (k0_pay5 (lK arg3 harg3 x1) (lR arg4 harg4 x2) (lQ i arg2 harg2 x0) (lL i arg6 harg6 x4)) (k0_pay7 (lV arg3 harg3 x1) (lO i arg5 harg5 x3)) (lD i arg7 harg7 x5)
      (View.readAt (Elt Ideal) arg11.view (Rect.unit (s := S4096x256) (k0_off1 i) S512x256.size (k0_off1_inb i)).toLoadRect B)⟩

/-- The state after the loop. -/
abbrev endSt := st_k0_t1 (F := Ideal) Variants.none c none i arg2 harg2 arg3 harg3 arg4 harg4 arg5 harg5 arg6 harg6 arg7 harg7 arg8 harg8 arg9 harg9 arg10 harg10 arg11 harg11 (BitVec.ofNat 32 (i 1).val) (k0_pay3 (lK arg3 harg3 x1) (lR arg4 harg4 x2)) (lV arg3 harg3 x1) k0_pay4 (Scalar.muli (BitVec.ofNat 32 (i 1).val) 512#32) (lQ i arg2 harg2 x0) (k0_pay5 (lK arg3 harg3 x1) (lR arg4 harg4 x2) (lQ i arg2 harg2 x0) (lL i arg6 harg6 x4))
  (k0_pay6 (lK arg3 harg3 x1) (lR arg4 harg4 x2) (lQ i arg2 harg2 x0) (lO i arg5 harg5 x3) (lL i arg6 harg6 x4)) (k0_pay7 (lV arg3 harg3 x1) (lO i arg5 harg5 x3)) (harg2.unread x0) (harg5.unread x3) (harg6.unread x4) (harg7.unread x5)
  (arg11.view.writes (Elt Ideal) B [diag i arg2 harg2 arg3 harg3 arg4 harg4 arg5 harg5 arg6 harg6 arg7 harg7 arg11 x0 x1 x2 x3 x4 x5 B]) (k0_pay9 k0_pay4 (lQ i arg2 harg2 x0) (k0_pay5 (lK arg3 harg3 x1) (lR arg4 harg4 x2) (lQ i arg2 harg2 x0) (lL i arg6 harg6 x4)) (k0_pay7 (lV arg3 harg3 x1) (lO i arg5 harg5 x3)) (lD i arg7 harg7 x5), k0_pay6 (lK arg3 harg3 x1) (lR arg4 harg4 x2) (lQ i arg2 harg2 x0) (lO i arg5 harg5 x3) (lL i arg6 harg6 x4)) (k0_t1_loop i).trips

/-- The second loop runs no trips. -/
theorem trips2_words (a : grid0.Coords) : Scf.trips (Scalar.addi (Scalar.addi (BitVec.ofNat 32 (a 1).val) 1#32) (Scalar.muli (Scalar.divsi (Scalar.subi 8#32 (Scalar.addi (BitVec.ofNat 32 (a 1).val) 1#32)) 1#32) 1#32))
    (Scalar.addi (Scalar.addi (BitVec.ofNat 32 (a 1).val) 1#32) (Scalar.subi 8#32 (Scalar.addi (BitVec.ofNat 32 (a 1).val) 1#32))) 1#32 = 0 := trips2_eq a

/-- The first point's store of zeros over the whole accumulator. -/
abbrev zeroP : View.Piece (Elt Ideal) S4096x256 .f32 := ⟨Rect.unit (s := S4096x256) ![0, 0] S4096x256.size inb_S4096x256_S4096x256_0_0, k0_pay2 (F := Ideal)⟩

/-! What the body stores, in each of its three cases. -/

/-- The key/value gradient's pieces and the rope gradient's, from the state after the loop. -/
abbrev pcs9 (e : (FVec Ideal S512x256 .f32 × FVec Ideal S512x128 .f32) × List (View.Piece (Elt Ideal) S4096x256 .f32)) : List (View.Piece (Elt Ideal) S512x256 .bf16) :=
  [⟨Rect.unit (s := S512x256) ![0, 128] S512x128.size inb_S512x256_S512x128_0_128, k0_pay22 (F := Ideal) e.1.2⟩,
   ⟨Rect.unit (s := S512x256) ![0, 0] S512x128.size inb_S512x256_S512x128_0_0, k0_pay21 (F := Ideal) e.1.1⟩]
abbrev pcs10 (e : (FVec Ideal S512x256 .f32 × FVec Ideal S512x128 .f32) × List (View.Piece (Elt Ideal) S4096x256 .f32)) : List (View.Piece (Elt Ideal) S1x512x128 .f32) :=
  [⟨Rect.unit (s := S1x512x128) ![0, 0, 0] S1x512x128.size inb_S1x512x128_S1x512x128_0_0_0, k0_pay23 (F := Ideal) e.1.1⟩]

theorem mid9 (hf : ¬first i) (hl : ¬last i) (xs : Vec Ideal S4096x256 .f32) :
    (runMid (F := Ideal) c i arg2 harg2 arg3 harg3 arg4 harg4 arg5 harg5 arg6 harg6 arg7 harg7 arg8 harg8 arg9 harg9 arg10 harg10 arg11 harg11 x0 x1 x2 x3 x4 x5 hf hl xs).1 = pcs9 (endSt c i arg2 harg2 arg3 harg3 arg4 harg4 arg5 harg5 arg6 harg6 arg7 harg7 arg8 harg8 arg9 harg9 arg10 harg10 arg11 harg11 x0 x1 x2 x3 x4 x5 (harg11.unread xs)) := by
  unfold runMid; dsimp only; sl_unfold_run_names
  simp only [trips2_words, st_k0_t2.eq_1]; try rfl
theorem mid10 (hf : ¬first i) (hl : ¬last i) (xs : Vec Ideal S4096x256 .f32) :
    (runMid (F := Ideal) c i arg2 harg2 arg3 harg3 arg4 harg4 arg5 harg5 arg6 harg6 arg7 harg7 arg8 harg8 arg9 harg9 arg10 harg10 arg11 harg11 x0 x1 x2 x3 x4 x5 hf hl xs).2.1 = pcs10 (endSt c i arg2 harg2 arg3 harg3 arg4 harg4 arg5 harg5 arg6 harg6 arg7 harg7 arg8 harg8 arg9 harg9 arg10 harg10 arg11 harg11 x0 x1 x2 x3 x4 x5 (harg11.unread xs)) := by
  unfold runMid; dsimp only; sl_unfold_run_names
  simp only [trips2_words, st_k0_t2.eq_1]; try rfl
theorem mid11 (hf : ¬first i) (hl : ¬last i) (xs : Vec Ideal S4096x256 .f32) :
    (runMid (F := Ideal) c i arg2 harg2 arg3 harg3 arg4 harg4 arg5 harg5 arg6 harg6 arg7 harg7 arg8 harg8 arg9 harg9 arg10 harg10 arg11 harg11 x0 x1 x2 x3 x4 x5 hf hl xs).2.2.1 = arg11.view.writes (Elt Ideal) (harg11.unread xs) ((endSt c i arg2 harg2 arg3 harg3 arg4 harg4 arg5 harg5 arg6 harg6 arg7 harg7 arg8 harg8 arg9 harg9 arg10 harg10 arg11 harg11 x0 x1 x2 x3 x4 x5 (harg11.unread xs)).2 ++ [diag i arg2 harg2 arg3 harg3 arg4 harg4 arg5 harg5 arg6 harg6 arg7 harg7 arg11 x0 x1 x2 x3 x4 x5 (harg11.unread xs)]) := by
  unfold runMid; dsimp only; sl_unfold_run_names
  simp only [trips2_words, st_k0_t2.eq_1]; try rfl
theorem last9 (hf : ¬first i) (hl : last i) (xs : Vec Ideal S4096x256 .f32) :
    (runLast (F := Ideal) c i arg2 harg2 arg3 harg3 arg4 harg4 arg5 harg5 arg6 harg6 arg7 harg7 arg8 harg8 arg9 harg9 arg10 harg10 arg11 harg11 x0 x1 x2 x3 x4 x5 hf hl xs).2.1 = pcs9 (endSt c i arg2 harg2 arg3 harg3 arg4 harg4 arg5 harg5 arg6 harg6 arg7 harg7 arg8 harg8 arg9 harg9 arg10 harg10 arg11 harg11 x0 x1 x2 x3 x4 x5 (harg11.unread xs)) := by
  unfold runLast; dsimp only; sl_unfold_run_names
  simp only [trips2_words, st_k0_t2.eq_1]; try rfl
theorem last10 (hf : ¬first i) (hl : last i) (xs : Vec Ideal S4096x256 .f32) :
    (runLast (F := Ideal) c i arg2 harg2 arg3 harg3 arg4 harg4 arg5 harg5 arg6 harg6 arg7 harg7 arg8 harg8 arg9 harg9 arg10 harg10 arg11 harg11 x0 x1 x2 x3 x4 x5 hf hl xs).2.2.1 = pcs10 (endSt c i arg2 harg2 arg3 harg3 arg4 harg4 arg5 harg5 arg6 harg6 arg7 harg7 arg8 harg8 arg9 harg9 arg10 harg10 arg11 harg11 x0 x1 x2 x3 x4 x5 (harg11.unread xs)) := by
  unfold runLast; dsimp only; sl_unfold_run_names
  simp only [trips2_words, st_k0_t2.eq_1]; try rfl
theorem last11 (hf : ¬first i) (hl : last i) (xs : Vec Ideal S4096x256 .f32) :
    (runLast (F := Ideal) c i arg2 harg2 arg3 harg3 arg4 harg4 arg5 harg5 arg6 harg6 arg7 harg7 arg8 harg8 arg9 harg9 arg10 harg10 arg11 harg11 x0 x1 x2 x3 x4 x5 hf hl xs).2.2.2.1 = arg11.view.writes (Elt Ideal) (harg11.unread xs) ((endSt c i arg2 harg2 arg3 harg3 arg4 harg4 arg5 harg5 arg6 harg6 arg7 harg7 arg8 harg8 arg9 harg9 arg10 harg10 arg11 harg11 x0 x1 x2 x3 x4 x5 (harg11.unread xs)).2 ++ [diag i arg2 harg2 arg3 harg3 arg4 harg4 arg5 harg5 arg6 harg6 arg7 harg7 arg11 x0 x1 x2 x3 x4 x5 (harg11.unread xs)]) := by
  unfold runLast; dsimp only; sl_unfold_run_names
  simp only [trips2_words, st_k0_t2.eq_1]; try rfl
theorem first9 (hf : first i) (hl : ¬last i) :
    (runFirst (F := Ideal) c i arg2 harg2 arg3 harg3 arg4 harg4 arg5 harg5 arg6 harg6 arg7 harg7 arg8 harg8 arg9 harg9 arg10 harg10 arg11 harg11 x0 x1 x2 x3 x4 x5 hf hl).1 = pcs9 (endSt c i arg2 harg2 arg3 harg3 arg4 harg4 arg5 harg5 arg6 harg6 arg7 harg7 arg8 harg8 arg9 harg9 arg10 harg10 arg11 harg11 x0 x1 x2 x3 x4 x5 (arg11.view.writes (Elt Ideal) arg11.view.junk [zeroP])) := by
  unfold runFirst; dsimp only; sl_unfold_run_names
  simp only [trips2_words, st_k0_t2.eq_1]; try rfl
theorem first10 (hf : first i) (hl : ¬last i) :
    (runFirst (F := Ideal) c i arg2 harg2 arg3 harg3 arg4 harg4 arg5 harg5 arg6 harg6 arg7 harg7 arg8 harg8 arg9 harg9 arg10 harg10 arg11 harg11 x0 x1 x2 x3 x4 x5 hf hl).2.1 = pcs10 (endSt c i arg2 harg2 arg3 harg3 arg4 harg4 arg5 harg5 arg6 harg6 arg7 harg7 arg8 harg8 arg9 harg9 arg10 harg10 arg11 harg11 x0 x1 x2 x3 x4 x5 (arg11.view.writes (Elt Ideal) arg11.view.junk [zeroP])) := by
  unfold runFirst; dsimp only; sl_unfold_run_names
  simp only [trips2_words, st_k0_t2.eq_1]; try rfl
theorem first11 (hf : first i) (hl : ¬last i) :
    (runFirst (F := Ideal) c i arg2 harg2 arg3 harg3 arg4 harg4 arg5 harg5 arg6 harg6 arg7 harg7 arg8 harg8 arg9 harg9 arg10 harg10 arg11 harg11 x0 x1 x2 x3 x4 x5 hf hl).2.2.1 = arg11.view.writes (Elt Ideal) arg11.view.junk ((endSt c i arg2 harg2 arg3 harg3 arg4 harg4 arg5 harg5 arg6 harg6 arg7 harg7 arg8 harg8 arg9 harg9 arg10 harg10 arg11 harg11 x0 x1 x2 x3 x4 x5 (arg11.view.writes (Elt Ideal) arg11.view.junk [zeroP])).2 ++ [diag i arg2 harg2 arg3 harg3 arg4 harg4 arg5 harg5 arg6 harg6 arg7 harg7 arg11 x0 x1 x2 x3 x4 x5 (arg11.view.writes (Elt Ideal) arg11.view.junk [zeroP]), zeroP]) := by
  unfold runFirst; dsimp only; sl_unfold_run_names
  simp only [trips2_words, st_k0_t2.eq_1]; try rfl
theorem last8 (hf : ¬first i) (hl : last i) (xs : Vec Ideal S4096x256 .f32) :
    (runLast (F := Ideal) c i arg2 harg2 arg3 harg3 arg4 harg4 arg5 harg5 arg6 harg6 arg7 harg7 arg8 harg8 arg9 harg9 arg10 harg10 arg11 harg11 x0 x1 x2 x3 x4 x5 hf hl xs).1 = [⟨Rect.unit (s := S4096x256) ![0, 0] S4096x256.size inb_S4096x256_S4096x256_0_0,
      k0_pay1 (F := Ideal) (View.readAt (Elt Ideal) arg11.view (Rect.unit (s := S4096x256) ![0, 0] S4096x256.size inb_S4096x256_S4096x256_0_0).toLoadRect
        (arg11.view.writes (Elt Ideal) (harg11.unread xs) ((endSt c i arg2 harg2 arg3 harg3 arg4 harg4 arg5 harg5 arg6 harg6 arg7 harg7 arg8 harg8 arg9 harg9 arg10 harg10 arg11 harg11 x0 x1 x2 x3 x4 x5 (harg11.unread xs)).2 ++ [diag i arg2 harg2 arg3 harg3 arg4 harg4 arg5 harg5 arg6 harg6 arg7 harg7 arg11 x0 x1 x2 x3 x4 x5 (harg11.unread xs)])))⟩] := by
  unfold runLast; dsimp only; sl_unfold_run_names
  simp only [trips2_words, st_k0_t2.eq_1]; try rfl
end Cert.KernelIdeal.AttnBwd
end
-- ==== Proof.AttnBwd.PointVal.lean ====
/- The attention backward body at one grid point, over the extended reals: the values of the state after its loop, as sums over all
   the queries of the sequence, and of the accumulator. -/
module

public import proofs.«01_k».proof.Proof.AttnBwd.Point
public import proofs.«01_k».proof.Proof.AttnBwd.Data
public import Idealize.ShloMosaic.Lib.WritesUnit
public import Idealize.ShloMosaic.Lib.Pipeline.ValueKit.Tiles

@[expose] public section

set_option maxRecDepth 16384

noncomputable section

namespace Cert.KernelIdeal.AttnBwd

open Idealize.ShloMosaic Idealize.ShloMosaic.TcCoe Idealize.ShloMosaic.Tactic
open Idealize.SL.Sem
open Cert.KernelIdeal.Gen

variable (c : Dev nD) (i : grid0.Coords)
  (arg2 : Memref sig .tc .vmem S4096x256 .bf16) (harg2 : arg2.IsWhole) (arg3 : Memref sig .tc .vmem S512x256 .bf16) (harg3 : arg3.IsWhole)
  (arg4 : Memref sig .tc .vmem S512x128 .bf16) (harg4 : arg4.IsWhole) (arg5 : Memref sig .tc .vmem S4096x128 .bf16) (harg5 : arg5.IsWhole)
  (arg6 : Memref sig .tc .vmem S1x8x512 .f32) (harg6 : arg6.IsWhole) (arg7 : Memref sig .tc .vmem S1x8x512 .f32) (harg7 : arg7.IsWhole)
  (arg8 : Memref sig .tc .vmem S4096x256 .bf16) (harg8 : arg8.IsWhole) (arg9 : Memref sig .tc .vmem S512x256 .bf16) (harg9 : arg9.IsWhole)
  (arg10 : Memref sig .tc .vmem S1x512x128 .f32) (harg10 : arg10.IsWhole) (arg11 : Memref sig .tc .vmem S4096x256 .f32) (harg11 : arg11.IsWhole)
  (x0 : Vec Ideal S4096x256 .bf16) (x1 : Vec Ideal S512x256 .bf16) (x2 : Vec Ideal S512x128 .bf16) (x3 : Vec Ideal S4096x128 .bf16)
  (x4 x5 : Vec Ideal S1x8x512 .f32) (B : BufTy.Contents (Elt Ideal) arg11.view.ty)

/-- The key tile of a point. -/
abbrev kt : Fin 8 := i 1

theorem off1_kt : k0_off1 i = ![512 * (kt i).val, 0] := k0_off1_eq i
theorem off2_kt : k0_off2 i = ![512 * (kt i).val, 0] := k0_off2_eq i
theorem off3_kt : k0_off3 i = ![0, (kt i).val, 0] := k0_off3_eq i

/-- The diagonal tile's rows. -/
theorem lQ_eq : (lQ i arg2 harg2 x0) = rows x0 (kt i) := by
  rw [lQ, readAt_rows arg2 _ (kt i) (k0_off1_inb i) (off1_kt i), harg2.read_unread]
theorem lO_eq : (lO i arg5 harg5 x3) = rows x3 (kt i) := by
  rw [lO, readAt_rows arg5 _ (kt i) (k0_off2_inb i) (off2_kt i), harg5.read_unread]
theorem lL_eq : (lL i arg6 harg6 x4) = stat x4 (kt i) := by
  rw [lL, readAt_stat arg6 _ (kt i) (k0_off3_inb i) (off3_kt i), harg6.read_unread]
theorem lD_eq : (lD i arg7 harg7 x5) = stat x5 (kt i) := by
  rw [lD, readAt_stat arg7 _ (kt i) (k0_off3_inb i) (off3_kt i), harg7.read_unread]

/-- The tile's keys: the nope part of the key/value block, then the rope keys. -/
def keys (x1 : Vec Ideal S512x256 .bf16) (x2 : Vec Ideal S512x128 .bf16) : FVec Ideal S512x256 .bf16 :=
  fun y => if h : (y 1).val < 128 then x1 (ix2 (y 0) ⟨(y 1).val, by omega⟩) else x2 (ix2 (y 0) ⟨(y 1).val - 128, by have : (y 1).val < 256 := (y 1).isLt; omega⟩)
/-- The tile's values. -/
def vals (x1 : Vec Ideal S512x256 .bf16) : Vec Ideal S512x128 .bf16 := fun y => x1 (ix2 (y 0) ⟨(y 1).val + 128, by have : (y 1).val < 128 := (y 1).isLt; omega⟩)

theorem lV_eq : (lV arg3 harg3 x1) = vals x1 := by
  funext y
  rw [lV, View.readAt_eq_ld, harg3.read_unread]
  refine View.ld_unit_apply_of x1 _ _ _ y _ ?_
  intro a; fin_cases a
  · show (y 0).val = 0 + (y 0).val; omega
  · show (y 1).val + 128 = 128 + (y 1).val; omega
theorem keys_eq : k0_pay3 (F := Ideal) (lK arg3 harg3 x1) (lR arg4 harg4 x2) = keys x1 x2 := by
  have h1 : (lK arg3 harg3 x1) = fun y => x1 (ix2 (y 0) ⟨(y 1).val, by have : (y 1).val < 128 := (y 1).isLt; omega⟩) := by
    funext y
    rw [lK, View.readAt_eq_ld, harg3.read_unread]
    refine View.ld_unit_apply_of x1 _ _ _ y _ ?_
    intro a; fin_cases a
    · show (y 0).val = 0 + (y 0).val; omega
    · show (y 1).val = 0 + (y 1).val; omega
  have h2 : (lR arg4 harg4 x2) = x2 := by
    funext y
    rw [lR, View.readAt_eq_ld, harg4.read_unread]
    refine View.ld_unit_apply_of x2 _ _ _ y _ ?_
    intro a; fin_cases a
    · show (y 0).val = 0 + (y 0).val; omega
    · show (y 1).val = 0 + (y 1).val; omega
  rw [h1, h2]
  funext y
  idx_vars y
  pointwise [k0_pay3, keys]

/-- A sum over the query tiles from the key tile on is the sum over all, when the tiles before give nothing. -/
theorem sum_from (T : Fin 8 → EReal) (j : Fin 8) (n : ℕ) (hn : j.val + 1 + n = 8) (h0 : ∀ b : Fin 8, b.val < j.val → T b = 0) :
    T j + (∑ b : Fin 8, if j.val < b.val ∧ b.val < j.val + 1 + n then T b else 0) = ∑ b : Fin 8, T b := by
  have e : ∀ b : Fin 8, T b = (if b = j then T b else 0) + (if j.val < b.val ∧ b.val < j.val + 1 + n then T b else 0) := by
    intro b
    rcases lt_trichotomy b.val j.val with h | h | h
    · rw [h0 b h, if_neg (by rintro rfl; omega), if_neg (by omega), add_zero]
    · obtain rfl := Fin.ext h
      rw [if_pos rfl, if_neg (by omega), add_zero]
    · rw [if_neg (by rintro rfl; omega), if_pos (by omega), zero_add]
  conv_rhs => rw [Finset.sum_congr rfl fun b _ => e b, Finset.sum_add_distrib, Finset.sum_ite_eq' Finset.univ, if_pos (Finset.mem_univ _)]

theorem trips_end : (kt i).val + 1 + (k0_t1_loop i).trips = 8 := by
  rw [trips_eq]; have : (i 1).val < 8 := (i 1).isLt; show (i 1).val + 1 + _ = 8; omega

/-- The point's probabilities and score gradients, at key `r` of the tile and query `s` of query tile `b`. -/
abbrev pE := tE (keys x1 x2) x0 x4 (kt i).val
abbrev pS := tS (keys x1 x2) (vals x1) x0 x3 x4 x5 (kt i).val

/-- The diagonal tile's share of the key and of the value gradient. -/
theorem diag_dk (r : Fin 512) (d : Fin 256) : k0_pay9 (F := Ideal) k0_pay4 (lQ i arg2 harg2 x0) (k0_pay5 (lK arg3 harg3 x1) (lR arg4 harg4 x2) (lQ i arg2 harg2 x0) (lL i arg6 harg6 x4)) (k0_pay7 (lV arg3 harg3 x1) (lO i arg5 harg5 x3)) (lD i arg7 harg7 x5) (ix2 r d)
    = ∑ s : Fin 512, pS i x0 x1 x2 x3 x4 x5 r (kt i) s * x0 (ix2 (pos (kt i) s) d) := by
  rw [lQ_eq i arg2 harg2 x0, lL_eq i arg6 harg6 x4, lO_eq i arg5 harg5 x3, lD_eq i arg7 harg7 x5, pay9_apply, keys_eq arg3 harg3 arg4 harg4 x1 x2, lV_eq arg3 harg3 x1]
theorem diag_dv (r : Fin 512) (d : Fin 128) : k0_pay6 (F := Ideal) (lK arg3 harg3 x1) (lR arg4 harg4 x2) (lQ i arg2 harg2 x0) (lO i arg5 harg5 x3) (lL i arg6 harg6 x4) (ix2 r d)
    = ∑ s : Fin 512, pE i x0 x1 x2 x4 r (kt i) s * x3 (ix2 (pos (kt i) s) d) := by
  rw [lQ_eq i arg2 harg2 x0, lL_eq i arg6 harg6 x4, lO_eq i arg5 harg5 x3, pay6_apply, keys_eq arg3 harg3 arg4 harg4 x1 x2]

set_option maxHeartbeats 1000000 in
/-- The key gradient after the loop. -/
theorem end_dk (r : Fin 512) (d : Fin 256) : (endSt c i arg2 harg2 arg3 harg3 arg4 harg4 arg5 harg5 arg6 harg6 arg7 harg7 arg8 harg8 arg9 harg9 arg10 harg10 arg11 harg11 x0 x1 x2 x3 x4 x5 B).1.1 (ix2 r d)
    = ∑ b : Fin 8, ∑ s : Fin 512, pS i x0 x1 x2 x3 x4 x5 r b s * x0 (ix2 (pos b s) d) := by
  refine ((stAt_eq (c := c) (i := i) (hn := le_rfl) ..).1 r d).trans ?_
  rw [harg2.read_unread, harg5.read_unread, harg6.read_unread, harg7.read_unread, keys_eq arg3 harg3 arg4 harg4 x1 x2, lV_eq arg3 harg3 x1]
  refine (congrArg (fun z : EReal => z + _) (?_ : _ = ∑ s : Fin 512, pS i x0 x1 x2 x3 x4 x5 r (kt i) s * x0 (ix2 (pos (kt i) s) d))).trans
    (sum_from (fun b => ∑ s : Fin 512, pS i x0 x1 x2 x3 x4 x5 r b s * x0 (ix2 (pos b s) d)) (kt i) _ (trips_end i) ?_)
  · refine Eq.trans ?_ (diag_dk i arg2 harg2 arg3 harg3 arg4 harg4 arg5 harg5 arg6 harg6 arg7 harg7 x0 x1 x2 x3 x4 x5 r d)
    rw [lV_eq arg3 harg3 x1]
  · intro b hb
    exact Finset.sum_eq_zero fun s _ => by rw [pS, tS_after _ _ _ _ _ _ _ _ _ _ hb, zero_mul]

set_option maxHeartbeats 1000000 in
/-- The value gradient after the loop. -/
theorem end_dv (r : Fin 512) (d : Fin 128) : (endSt c i arg2 harg2 arg3 harg3 arg4 harg4 arg5 harg5 arg6 harg6 arg7 harg7 arg8 harg8 arg9 harg9 arg10 harg10 arg11 harg11 x0 x1 x2 x3 x4 x5 B).1.2 (ix2 r d)
    = ∑ b : Fin 8, ∑ s : Fin 512, pE i x0 x1 x2 x4 r b s * x3 (ix2 (pos b s) d) := by
  refine ((stAt_eq (c := c) (i := i) (hn := le_rfl) ..).2.1 r d).trans ?_
  rw [harg2.read_unread, harg5.read_unread, harg6.read_unread, keys_eq arg3 harg3 arg4 harg4 x1 x2]
  refine (congrArg (fun z : EReal => z + _) (?_ : _ = ∑ s : Fin 512, pE i x0 x1 x2 x4 r (kt i) s * x3 (ix2 (pos (kt i) s) d))).trans
    (sum_from (fun b => ∑ s : Fin 512, pE i x0 x1 x2 x4 r b s * x3 (ix2 (pos b s) d)) (kt i) _ (trips_end i) ?_)
  · exact diag_dv i arg2 harg2 arg3 harg3 arg4 harg4 arg5 harg5 arg6 harg6 x0 x1 x2 x3 x4 r d
  · intro b hb
    exact Finset.sum_eq_zero fun s _ => by rw [pE, tE_after _ _ _ _ _ _ _ hb, zero_mul]

set_option maxHeartbeats 1000000 in
/-- The query gradients' accumulator after the point, found at `B`. -/
theorem end_acc (b : Fin 8) (s : Fin 512) (d : Fin 256) : arg11.view.read (Elt Ideal) (arg11.view.writes (Elt Ideal) B ((endSt c i arg2 harg2 arg3 harg3 arg4 harg4 arg5 harg5 arg6 harg6 arg7 harg7 arg8 harg8 arg9 harg9 arg10 harg10 arg11 harg11 x0 x1 x2 x3 x4 x5 B).2 ++ [diag i arg2 harg2 arg3 harg3 arg4 harg4 arg5 harg5 arg6 harg6 arg7 harg7 arg11 x0 x1 x2 x3 x4 x5 B])) (ix2 (pos b s) d)
    = arg11.view.read (Elt Ideal) B (ix2 (pos b s) d) + ∑ r : Fin 512, pS i x0 x1 x2 x3 x4 x5 r b s * keys x1 x2 (ix2 r d) := by
  rw [View.writes_append]
  refine ((stAt_eq (c := c) (i := i) (hn := le_rfl) ..).2.2 b s d).trans ?_
  rw [harg2.read_unread, harg5.read_unread, harg6.read_unread, harg7.read_unread, read_store_rows arg11 B (kt i) b s d (k0_off1_inb i) (off1_kt i)]
  have he := trips_end i
  rcases lt_trichotomy b.val (kt i).val with h | h | h
  · rw [if_neg (by rintro rfl; omega), if_neg (by show ¬((kt i).val < _ ∧ _); omega), add_zero, View.writes_nil]
    rw [Finset.sum_eq_zero fun r _ => by rw [pS, tS_after _ _ _ _ _ _ _ _ _ _ h, zero_mul], add_zero]
  · obtain rfl := Fin.ext h
    rw [if_pos rfl, if_neg (by show ¬((kt i).val < _ ∧ _); omega), add_zero, readAt_rows arg11 B (kt i) (k0_off1_inb i) (off1_kt i)]
    rw [lQ_eq i arg2 harg2 x0, lL_eq i arg6 harg6 x4, lO_eq i arg5 harg5 x3, lD_eq i arg7 harg7 x5, pay10_apply, keys_eq arg3 harg3 arg4 harg4 x1 x2, lV_eq arg3 harg3 x1]
    rfl
  · rw [if_neg (by rintro rfl; omega), if_pos (by show (kt i).val < _ ∧ _ < (kt i).val + _ + _; omega), View.writes_nil, keys_eq arg3 harg3 arg4 harg4 x1 x2, lV_eq arg3 harg3 x1]

end Cert.KernelIdeal.AttnBwd
end
-- ==== Proof.AttnBwd.Blocks.lean ====
/- The attention backward kernel's input blocks read at an index of the arrays, and its three results over the extended reals as
   functions of the arrays the region is launched on. -/
module

public import proofs.«01_k».proof.Proof.AttnBwd.PointVal
public import proofs.«01_k».proof.Proof.AttnBwd.Data
public import Idealize.ShloMosaic.Lib.WritesUnit
public import Idealize.ShloMosaic.Lib.Pipeline.ValueKit
public import Idealize.ShloMosaic.Lib.Pipeline.ValueKit.Tiles

@[expose] public section

set_option maxRecDepth 16384

noncomputable section

namespace Cert.KernelIdeal.AttnBwd

open Idealize.ShloMosaic Idealize.ShloMosaic.TcCoe Idealize.ShloMosaic.Tactic
open Idealize.SL.Sem
open Idealize.ShloMosaic.Pipeline (Dat Cfg Window)
open Cert.KernelIdeal.Gen

variable (m : (ℓ : Loc nD τ sig) → Buf (Elt Ideal) ℓ) (c : Dev nD)

/-! The six arrays. -/
abbrev aQ : Vec Ideal S4096x4096 .bf16 := V m c main_arg0
abbrev aKV : Vec Ideal S4096x4096 .bf16 := V m c main_arg1
abbrev aKR : Vec Ideal S4096x128 .bf16 := V m c main_arg2
abbrev aO : Vec Ideal S4096x2048 .bf16 := V m c main_arg3
abbrev aL : Vec Ideal S16x8x512 .f32 := V m c main_v42
abbrev aD : Vec Ideal S16x8x512 .f32 := V m c main_v44

/-- The head and the key tile of a point. -/
theorem coord0 (t : Fin cfg0.N) : (grid0.coords t 0).val = t.val / 8 := by
  have ht : t.val < 128 := Nat.lt_of_lt_of_eq t.isLt N_0
  have e : (grid0.coords t 0).val = t.val / 8 % 16 := Pipeline.Grid.coords_val t 0 (by decide) rfl
  omega
theorem coord1 (t : Fin cfg0.N) : (grid0.coords t 1).val = t.val % 8 := by
  have e : (grid0.coords t 1).val = t.val / 1 % 8 := Pipeline.Grid.coords_val t 1 (by decide) rfl
  omega
abbrev hd (t : Fin cfg0.N) : Fin 16 := grid0.coords t 0
abbrev kj (t : Fin cfg0.N) : Fin 8 := grid0.coords t 1

/-- The column of head `h`'s channel `d`, of 256 and of 128 channels to a head. -/
def col (h : Fin 16) (d : Fin 256) : Fin 4096 := ⟨h.val * 256 + d.val, by omega⟩
def colO (h : Fin 16) (d : Fin 128) : Fin 2048 := ⟨h.val * 128 + d.val, by omega⟩

theorem idx0 : ∀ t : Fin grid0.N, win0_0.index t 0 = 0 ∧ win0_0.index t 1 = (grid0.coords t 0).val := by decide +kernel
theorem idx1 : ∀ t : Fin grid0.N, win0_1.index t 0 = (grid0.coords t 1).val ∧ win0_1.index t 1 = (grid0.coords t 0).val := by decide +kernel
theorem idx2 : ∀ t : Fin grid0.N, win0_2.index t 0 = (grid0.coords t 1).val ∧ win0_2.index t 1 = 0 := by decide +kernel
theorem idx3 : ∀ t : Fin grid0.N, win0_3.index t 0 = 0 ∧ win0_3.index t 1 = (grid0.coords t 0).val := by decide +kernel
theorem idx4 : ∀ t : Fin grid0.N, win0_4.index t 0 = (grid0.coords t 0).val ∧ win0_4.index t 1 = 0 ∧ win0_4.index t 2 = 0 := by decide +kernel
theorem idx5 : ∀ t : Fin grid0.N, win0_5.index t 0 = (grid0.coords t 0).val ∧ win0_5.index t 1 = 0 ∧ win0_5.index t 2 = 0 := by decide +kernel
theorem idx6 : ∀ t : Fin grid0.N, win0_6.index t 0 = 0 ∧ win0_6.index t 1 = (grid0.coords t 0).val := by decide +kernel
theorem idx7 : ∀ t : Fin grid0.N, win0_7.index t 0 = (grid0.coords t 1).val ∧ win0_7.index t 1 = (grid0.coords t 0).val := by decide +kernel
theorem idx8 : ∀ t : Fin grid0.N, win0_8.index t 0 = (grid0.coords t 0).val ∧ win0_8.index t 1 = (grid0.coords t 1).val ∧ win0_8.index t 2 = 0 := by decide +kernel

/-! The blocks of a point. -/
abbrev b0 (t : Fin cfg0.N) : Vec Ideal S4096x256 .bf16 := iblk m c 0 t
abbrev b1 (t : Fin cfg0.N) : Vec Ideal S512x256 .bf16 := iblk m c 1 t
abbrev b2 (t : Fin cfg0.N) : Vec Ideal S512x128 .bf16 := iblk m c 2 t
abbrev b3 (t : Fin cfg0.N) : Vec Ideal S4096x128 .bf16 := iblk m c 3 t
abbrev b4 (t : Fin cfg0.N) : Vec Ideal S1x8x512 .f32 := iblk m c 4 t
abbrev b5 (t : Fin cfg0.N) : Vec Ideal S1x8x512 .f32 := iblk m c 5 t

/-! A block of a window reads its array at the point's head and key tile. -/
theorem blk0_apply (A : Vec Ideal S4096x4096 .bf16) (t : Fin cfg0.N) (s : Fin 4096) (d : Fin 256) : ((cfg0.win 0).blk t).view.read (Elt Ideal) A (ix2 s d) = A (ix2 s (col (hd t) d)) := by
  have hi := idx0 t
  rw [View.read_apply]
  show A _ = A _
  congr 1; funext a; apply Fin.ext
  match a with
  | ⟨0, _⟩ => show win0_0.index t 0 * 4096 + 1 * s.val = s.val; rw [hi.1]; omega
  | ⟨1, _⟩ => show win0_0.index t 1 * 256 + 1 * d.val = (grid0.coords t 0).val * 256 + d.val; rw [hi.2]; omega
theorem blk1_apply (A : Vec Ideal S4096x4096 .bf16) (t : Fin cfg0.N) (r : Fin 512) (d : Fin 256) : ((cfg0.win 1).blk t).view.read (Elt Ideal) A (ix2 r d) = A (ix2 (pos (kj t) r) (col (hd t) d)) := by
  have hi := idx1 t
  rw [View.read_apply]
  show A _ = A _
  congr 1; funext a; apply Fin.ext
  match a with
  | ⟨0, _⟩ => show win0_1.index t 0 * 512 + 1 * r.val = (grid0.coords t 1).val * 512 + r.val; rw [hi.1]; omega
  | ⟨1, _⟩ => show win0_1.index t 1 * 256 + 1 * d.val = (grid0.coords t 0).val * 256 + d.val; rw [hi.2]; omega
theorem blk2_apply (A : Vec Ideal S4096x128 .bf16) (t : Fin cfg0.N) (r : Fin 512) (d : Fin 128) : ((cfg0.win 2).blk t).view.read (Elt Ideal) A (ix2 r d) = A (ix2 (pos (kj t) r) d) := by
  have hi := idx2 t
  rw [View.read_apply]
  show A _ = A _
  congr 1; funext a; apply Fin.ext
  match a with
  | ⟨0, _⟩ => show win0_2.index t 0 * 512 + 1 * r.val = (grid0.coords t 1).val * 512 + r.val; rw [hi.1]; omega
  | ⟨1, _⟩ => show win0_2.index t 1 * 128 + 1 * d.val = d.val; rw [hi.2]; omega
theorem blk3_apply (A : Vec Ideal S4096x2048 .bf16) (t : Fin cfg0.N) (s : Fin 4096) (d : Fin 128) : ((cfg0.win 3).blk t).view.read (Elt Ideal) A (ix2 s d) = A (ix2 s (colO (hd t) d)) := by
  have hi := idx3 t
  rw [View.read_apply]
  show A _ = A _
  congr 1; funext a; apply Fin.ext
  match a with
  | ⟨0, _⟩ => show win0_3.index t 0 * 4096 + 1 * s.val = s.val; rw [hi.1]; omega
  | ⟨1, _⟩ => show win0_3.index t 1 * 128 + 1 * d.val = (grid0.coords t 0).val * 128 + d.val; rw [hi.2]; omega
theorem blk4_apply (A : Vec Ideal S16x8x512 .f32) (t : Fin cfg0.N) (b : Fin 8) (s : Fin 512) : ((cfg0.win 4).blk t).view.read (Elt Ideal) A (ix3 0 b s) = A (ix3 (hd t) b s) := by
  have hi := idx4 t
  rw [View.read_apply]
  show A _ = A _
  congr 1; funext a; apply Fin.ext
  match a with
  | ⟨0, _⟩ => show win0_4.index t 0 * 1 + 1 * 0 = (grid0.coords t 0).val; rw [hi.1]; omega
  | ⟨1, _⟩ => show win0_4.index t 1 * 8 + 1 * b.val = b.val; rw [hi.2.1]; omega
  | ⟨2, _⟩ => show win0_4.index t 2 * 512 + 1 * s.val = s.val; rw [hi.2.2]; omega
theorem blk5_apply (A : Vec Ideal S16x8x512 .f32) (t : Fin cfg0.N) (b : Fin 8) (s : Fin 512) : ((cfg0.win 5).blk t).view.read (Elt Ideal) A (ix3 0 b s) = A (ix3 (hd t) b s) := by
  have hi := idx5 t
  rw [View.read_apply]
  show A _ = A _
  congr 1; funext a; apply Fin.ext
  match a with
  | ⟨0, _⟩ => show win0_5.index t 0 * 1 + 1 * 0 = (grid0.coords t 0).val; rw [hi.1]; omega
  | ⟨1, _⟩ => show win0_5.index t 1 * 8 + 1 * b.val = b.val; rw [hi.2.1]; omega
  | ⟨2, _⟩ => show win0_5.index t 2 * 512 + 1 * s.val = s.val; rw [hi.2.2]; omega
theorem b0_apply (t : Fin cfg0.N) (s : Fin 4096) (d : Fin 256) : b0 m c t (ix2 s d) = aQ m c (ix2 s (col (hd t) d)) := blk0_apply _ t s d
theorem b1_apply (t : Fin cfg0.N) (r : Fin 512) (d : Fin 256) : b1 m c t (ix2 r d) = aKV m c (ix2 (pos (kj t) r) (col (hd t) d)) := blk1_apply _ t r d
theorem b2_apply (t : Fin cfg0.N) (r : Fin 512) (d : Fin 128) : b2 m c t (ix2 r d) = aKR m c (ix2 (pos (kj t) r) d) := blk2_apply _ t r d
theorem b3_apply (t : Fin cfg0.N) (s : Fin 4096) (d : Fin 128) : b3 m c t (ix2 s d) = aO m c (ix2 s (colO (hd t) d)) := blk3_apply _ t s d
theorem b4_apply (t : Fin cfg0.N) (b : Fin 8) (s : Fin 512) : b4 m c t (ix3 0 b s) = aL m c (ix3 (hd t) b s) := blk4_apply _ t b s
theorem b5_apply (t : Fin cfg0.N) (b : Fin 8) (s : Fin 512) : b5 m c t (ix3 0 b s) = aD m c (ix3 (hd t) b s) := blk5_apply _ t b s

/-! ## The whole computation over the arrays -/

/-- A query's tile and its place in the tile. -/
def qb (q : Fin 4096) : Fin 8 := ⟨q.val / 512, by omega⟩
def qs (q : Fin 4096) : Fin 512 := ⟨q.val % 512, by omega⟩
theorem qb_pos (b : Fin 8) (s : Fin 512) : qb (pos b s) = b := Fin.ext (by show (b.val * 512 + s.val) / 512 = b.val; omega)
theorem qs_pos (b : Fin 8) (s : Fin 512) : qs (pos b s) = s := Fin.ext (by show (b.val * 512 + s.val) % 512 = s.val; omega)
theorem pos_qb_qs (q : Fin 4096) : pos (qb q) (qs q) = q := Fin.ext (by show q.val / 512 * 512 + q.val % 512 = q.val; omega)

/-- The positions of the sequence as places in tiles. -/
def tiles : Fin 8 × Fin 512 ≃ Fin 4096 where
  toFun p := pos p.1 p.2
  invFun q := (qb q, qs q)
  left_inv p := Prod.ext (qb_pos p.1 p.2) (qs_pos p.1 p.2)
  right_inv q := pos_qb_qs q

/-- A sum over the sequence, tile by tile. -/
theorem sum_tiles (f : Fin 4096 → EReal) : ∑ b : Fin 8, ∑ s : Fin 512, f (pos b s) = ∑ q : Fin 4096, f q := by
  rw [← Fintype.sum_prod_type' (fun b s => f (pos b s))]
  exact Fintype.sum_equiv tiles (fun p => f (pos p.1 p.2)) f fun _ => rfl

section
variable (Q KV : Vec Ideal S4096x4096 .bf16) (KR : Vec Ideal S4096x128 .bf16) (O : Vec Ideal S4096x2048 .bf16) (L D : Vec Ideal S16x8x512 .f32)
/-- Key `k` of head `h`. -/
def gKey (h : Fin 16) (k : Fin 4096) (d : Fin 256) : EReal :=
  if hd : d.val < 128 then KV (ix2 k (col h d)) else KR (ix2 k ⟨d.val - 128, by omega⟩)
/-- Value `k` of head `h`. -/
def gVal (h : Fin 16) (k : Fin 4096) (d : Fin 128) : EReal := KV (ix2 k (col h ⟨d.val + 128, by omega⟩))
/-- The probability of key `k` for query `q`. -/
def gE (h : Fin 16) (k q : Fin 4096) : EReal :=
  FloatOps.exp2 (F := Ideal) (φ := .f32) ((if k.val ≤ q.val then ∑ d : Fin 256, gKey KV KR h k d * Q (ix2 q (col h d)) else ⊥) * cScaleLog
    - L (ix3 h (qb q) (qs q)) * cLog)
/-- The score gradient at the same place. -/
def gS (h : Fin 16) (k q : Fin 4096) : EReal :=
  gE Q KV KR L h k q * ((∑ d : Fin 128, gVal KV h k d * O (ix2 q (colO h d))) - D (ix3 h (qb q) (qs q))) * cScale
end

/-- The same of the arrays the region is launched on. -/
abbrev aE (h : Fin 16) (k q : Fin 4096) : EReal := gE (aQ m c) (aKV m c) (aKR m c) (aL m c) h k q
abbrev aS (h : Fin 16) (k q : Fin 4096) : EReal := gS (aQ m c) (aKV m c) (aKR m c) (aO m c) (aL m c) (aD m c) h k q
abbrev aKey (h : Fin 16) (k : Fin 4096) (d : Fin 256) : EReal := gKey (aKV m c) (aKR m c) h k d

theorem keys_block (t : Fin cfg0.N) (r : Fin 512) (d : Fin 256) : keys (b1 m c t) (b2 m c t) (ix2 r d) = aKey m c (hd t) (pos (kj t) r) d := by
  unfold keys aKey gKey
  show (if h : d.val < 128 then b1 m c t (ix2 r d) else b2 m c t (ix2 r ⟨d.val - 128, _⟩)) = _
  simp only [b1_apply, b2_apply]
theorem vals_block (t : Fin cfg0.N) (r : Fin 512) (d : Fin 128) : vals (b1 m c t) (ix2 r d) = gVal (aKV m c) (hd t) (pos (kj t) r) d := by
  unfold vals gVal
  exact b1_apply m c t r ⟨d.val + 128, by omega⟩
theorem tE_block (t : Fin cfg0.N) (r : Fin 512) (b : Fin 8) (s : Fin 512) :
    pE (grid0.coords t) (b0 m c t) (b1 m c t) (b2 m c t) (b4 m c t) r b s = aE m c (hd t) (pos (kj t) r) (pos b s) := by
  unfold pE tE aE gE
  simp only [keys_block, b0_apply, b4_apply, qb_pos, qs_pos]
  rfl
theorem tS_block (t : Fin cfg0.N) (r : Fin 512) (b : Fin 8) (s : Fin 512) :
    pS (grid0.coords t) (b0 m c t) (b1 m c t) (b2 m c t) (b3 m c t) (b4 m c t) (b5 m c t) r b s = aS m c (hd t) (pos (kj t) r) (pos b s) := by
  unfold pS tS aS gS
  have e := tE_block m c t r b s
  unfold pE at e
  rw [e]
  simp only [vals_block, b3_apply, b5_apply, qb_pos, qs_pos]

end Cert.KernelIdeal.AttnBwd
end
-- ==== Proof.AttnBwd.Arrays.lean ====
/- What one grid point of the attention backward kernel leaves in the three results' staging buffers and in the accumulator, and
   what the three result arrays hold after the launch, as functions of the arrays it is launched on. -/
module

public import proofs.«01_k».proof.Proof.AttnBwd.Blocks
public import proofs.«01_k».proof.Proof.AttnBwd.Frame

@[expose] public section

set_option maxRecDepth 16384

noncomputable section

namespace Cert.KernelIdeal.AttnBwd

open Idealize.ShloMosaic Idealize.ShloMosaic.TcCoe Idealize.ShloMosaic.Tactic
open Idealize.SL.Sem
open Idealize.ShloMosaic.Pipeline (Dat Cfg Window)
open Cert.KernelIdeal.Gen

variable (m : (ℓ : Loc nD τ sig) → Buf (Elt Ideal) ℓ) (c : Dev nD)

/-- The state after point `t`'s loop, over an accumulator found at `B`. -/
abbrev eAt (t : Fin cfg0.N) (B : BufTy.Contents (Elt Ideal) scM.view.ty) :=
  endSt c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _)
    (b0 m c t) (b1 m c t) (b2 m c t) (b3 m c t) (b4 m c t) (b5 m c t) B
abbrev dAt (t : Fin cfg0.N) (B : BufTy.Contents (Elt Ideal) scM.view.ty) :=
  diag (grid0.coords t) (ms0 t) (hs0 t) (ms1 t) (hs1 t) (ms2 t) (hs2 t) (ms3 t) (hs3 t) (ms4 t) (hs4 t) (ms5 t) (hs5 t) scM
    (b0 m c t) (b1 m c t) (b2 m c t) (b3 m c t) (b4 m c t) (b5 m c t) B

/-! ## One point -/

theorem eAt_dk (t : Fin cfg0.N) (B : BufTy.Contents (Elt Ideal) scM.view.ty) (r : Fin 512) (d : Fin 256) :
    (eAt m c t B).1.1 (ix2 r d) = ∑ q : Fin 4096, aS m c (hd t) (pos (kj t) r) q * aQ m c (ix2 q (col (hd t) d)) := by
  refine (end_dk (c := c) (i := grid0.coords t) ..).trans ?_
  refine Eq.trans ?_ (sum_tiles fun q => aS m c (hd t) (pos (kj t) r) q * aQ m c (ix2 q (col (hd t) d)))
  exact Finset.sum_congr rfl fun b _ => Finset.sum_congr rfl fun s _ => by rw [tS_block, b0_apply]
theorem eAt_dv (t : Fin cfg0.N) (B : BufTy.Contents (Elt Ideal) scM.view.ty) (r : Fin 512) (d : Fin 128) :
    (eAt m c t B).1.2 (ix2 r d) = ∑ q : Fin 4096, aE m c (hd t) (pos (kj t) r) q * aO m c (ix2 q (colO (hd t) d)) := by
  refine (end_dv (c := c) (i := grid0.coords t) ..).trans ?_
  refine Eq.trans ?_ (sum_tiles fun q => aE m c (hd t) (pos (kj t) r) q * aO m c (ix2 q (colO (hd t) d)))
  exact Finset.sum_congr rfl fun b _ => Finset.sum_congr rfl fun s _ => by rw [tE_block, b3_apply]
theorem eAt_acc (t : Fin cfg0.N) (B : BufTy.Contents (Elt Ideal) scM.view.ty) (q : Fin 4096) (d : Fin 256) :
    scM.view.read (Elt Ideal) (scM.view.writes (Elt Ideal) B ((eAt m c t B).2 ++ [dAt m c t B])) (ix2 q d)
      = scM.view.read (Elt Ideal) B (ix2 q d) + ∑ r : Fin 512, aS m c (hd t) (pos (kj t) r) q * aKey m c (hd t) (pos (kj t) r) d := by
  rw [← pos_qb_qs q]
  refine (end_acc (c := c) (i := grid0.coords t) (b := qb q) (s := qs q) (d := d) ..).trans ?_
  exact congrArg (scM.view.read (Elt Ideal) B (ix2 (pos (qb q) (qs q)) d) + ·) (Finset.sum_congr rfl fun r _ => by rw [tS_block, keys_block])

set_option maxHeartbeats 4000000 in
/-- What the point stores in the key/value and the rope gradients is the state after its loop. -/
theorem pcs_eq (t : Fin cfg0.N) (xs : Vec Ideal S4096x256 .f32) :
    ∃ B, pcs7 m c t xs = pcs9 (eAt m c t B) ∧ pcs8 m c t xs = pcs10 (eAt m c t B) := by
  unfold pcs7 pcs8
  by_cases h0 : t.val % 8 = 0
  · simp only [dif_pos h0]
    exact ⟨_, first9 (c := c) (i := grid0.coords t) (hf := (first_iff t).mpr h0) (hl := not_last h0) .., first10 (c := c) (i := grid0.coords t) (hf := (first_iff t).mpr h0) (hl := not_last h0) ..⟩
  · simp only [dif_neg h0]
    by_cases h7 : t.val % 8 = 7
    · simp only [dif_pos h7]
      exact ⟨_, last9 (c := c) (i := grid0.coords t) (hf := not_first h0) (hl := (last_iff t).mpr h7) .., last10 (c := c) (i := grid0.coords t) (hf := not_first h0) (hl := (last_iff t).mpr h7) ..⟩
    · simp only [dif_neg h7]
      exact ⟨_, mid9 (c := c) (i := grid0.coords t) (hf := not_first h0) (hl := not_last' h7) .., mid10 (c := c) (i := grid0.coords t) (hf := not_first h0) (hl := not_last' h7) ..⟩

/-- The accumulator after the first point's store of zeros. -/
theorem zero_read (q : Fin 4096) (d : Fin 256) :
    scM.view.read (Elt Ideal) (scM.view.writes (Elt Ideal) scM.view.junk [zeroP]) (ix2 q d) = (0 : EReal) := by
  refine (View.read_writes_cons_unit_of_mem scM.view scM.view.junk inb_S4096x256_S4096x256_0_0 _ [] (ix2 q d) (ix2 q d) rfl (fun a => by fin_cases a <;> exact (Nat.zero_add _).symm)).trans ?_
  pointwise [k0_pay2]

set_option maxHeartbeats 4000000 in
/-- The accumulator after a point. -/
theorem next_apply (t : Fin cfg0.N) (xs : Vec Ideal S4096x256 .f32) (q : Fin 4096) (d : Fin 256) :
    next m c t xs (ix2 q d) = (if t.val % 8 = 0 then (0 : EReal) else xs (ix2 q d))
      + ∑ r : Fin 512, aS m c (hd t) (pos (kj t) r) q * aKey m c (hd t) (pos (kj t) r) d := by
  unfold next
  by_cases h0 : t.val % 8 = 0
  · rw [dif_pos h0, if_pos h0]
    have e := first11 (c := c) (i := grid0.coords t) (arg2 := ms0 t) (harg2 := hs0 t) (arg3 := ms1 t) (harg3 := hs1 t) (arg4 := ms2 t) (harg4 := hs2 t) (arg5 := ms3 t) (harg5 := hs3 t) (arg6 := ms4 t) (harg6 := hs4 t) (arg7 := ms5 t) (harg7 := hs5 t) (arg8 := ms6 t) (harg8 := hs6 t) (arg9 := ms7 t) (harg9 := hs7 t) (arg10 := ms8 t) (harg10 := hs8 t) (arg11 := scM) (harg11 := Memref.isWhole_whole _)
      (x0 := b0 m c t) (x1 := b1 m c t) (x2 := b2 m c t) (x3 := b3 m c t) (x4 := b4 m c t) (x5 := b5 m c t) (hf := (first_iff t).mpr h0) (hl := not_last h0)
    refine (congrFun (congrArg (scM.view.read (Elt Ideal)) e) (ix2 q d)).trans ?_
    rw [show ∀ (L : List (View.Piece (Elt Ideal) S4096x256 .f32)) (p z : View.Piece (Elt Ideal) S4096x256 .f32), L ++ [p, z] = (L ++ [p]) ++ [z] from fun L p z => by simp,
      View.writes_append]
    refine (eAt_acc m c t _ q d).trans ?_
    rw [zero_read]
  · rw [dif_neg h0, if_neg h0]
    by_cases h7 : t.val % 8 = 7
    · rw [dif_pos h7]
      have e := last11 (c := c) (i := grid0.coords t) (arg2 := ms0 t) (harg2 := hs0 t) (arg3 := ms1 t) (harg3 := hs1 t) (arg4 := ms2 t) (harg4 := hs2 t) (arg5 := ms3 t) (harg5 := hs3 t) (arg6 := ms4 t) (harg6 := hs4 t) (arg7 := ms5 t) (harg7 := hs5 t) (arg8 := ms6 t) (harg8 := hs6 t) (arg9 := ms7 t) (harg9 := hs7 t) (arg10 := ms8 t) (harg10 := hs8 t) (arg11 := scM) (harg11 := Memref.isWhole_whole _)
        (x0 := b0 m c t) (x1 := b1 m c t) (x2 := b2 m c t) (x3 := b3 m c t) (x4 := b4 m c t) (x5 := b5 m c t) (hf := not_first h0) (hl := (last_iff t).mpr h7) (xs := xs)
      refine (congrFun (congrArg (scM.view.read (Elt Ideal)) e) (ix2 q d)).trans ?_
      refine (eAt_acc m c t _ q d).trans ?_
      rw [(Memref.isWhole_whole cc0_scratch0).read_unread]
    · rw [dif_neg h7]
      have e := mid11 (c := c) (i := grid0.coords t) (arg2 := ms0 t) (harg2 := hs0 t) (arg3 := ms1 t) (harg3 := hs1 t) (arg4 := ms2 t) (harg4 := hs2 t) (arg5 := ms3 t) (harg5 := hs3 t) (arg6 := ms4 t) (harg6 := hs4 t) (arg7 := ms5 t) (harg7 := hs5 t) (arg8 := ms6 t) (harg8 := hs6 t) (arg9 := ms7 t) (harg9 := hs7 t) (arg10 := ms8 t) (harg10 := hs8 t) (arg11 := scM) (harg11 := Memref.isWhole_whole _)
        (x0 := b0 m c t) (x1 := b1 m c t) (x2 := b2 m c t) (x3 := b3 m c t) (x4 := b4 m c t) (x5 := b5 m c t) (hf := not_first h0) (hl := not_last' h7) (xs := xs)
      refine (congrFun (congrArg (scM.view.read (Elt Ideal)) e) (ix2 q d)).trans ?_
      refine (eAt_acc m c t _ q d).trans ?_
      rw [(Memref.isWhole_whole cc0_scratch0).read_unread]

end Cert.KernelIdeal.AttnBwd
end
-- ==== Proof.AttnBwd.Results.lean ====
/- What the three result arrays of the attention backward kernel hold after the launch, as functions of the arrays it is launched on. -/
module

public import proofs.«01_k».proof.Proof.AttnBwd.Arrays

@[expose] public section

set_option maxRecDepth 16384

noncomputable section

namespace Cert.KernelIdeal.AttnBwd

open Idealize.ShloMosaic Idealize.ShloMosaic.TcCoe Idealize.ShloMosaic.Tactic
open Idealize.SL.Sem
open Idealize.ShloMosaic.Pipeline (Dat Cfg Window)
open Cert.KernelIdeal.Gen

section
variable (Q KV : Vec Ideal S4096x4096 .bf16) (KR : Vec Ideal S4096x128 .bf16) (O : Vec Ideal S4096x2048 .bf16) (L D : Vec Ideal S16x8x512 .f32)

/-- The head and the channel of a column. -/
def ch (n : Fin 4096) : Fin 16 := ⟨n.val / 256, by omega⟩
def cd (n : Fin 4096) : Fin 256 := ⟨n.val % 256, by omega⟩
theorem ch_col (h : Fin 16) (d : Fin 256) : ch (col h d) = h := Fin.ext (by show (h.val * 256 + d.val) / 256 = h.val; omega)
theorem cd_col (h : Fin 16) (d : Fin 256) : cd (col h d) = d := Fin.ext (by show (h.val * 256 + d.val) % 256 = d.val; omega)
theorem col_ch_cd (n : Fin 4096) : col (ch n) (cd n) = n := Fin.ext (by show n.val / 256 * 256 + n.val % 256 = n.val; omega)

/-- The query gradient of head `h`, position `q`, channel `d`. -/
def gDQ (h : Fin 16) (q : Fin 4096) (d : Fin 256) : EReal := ∑ k : Fin 4096, gS Q KV KR O L D h k q * gKey KV KR h k d
/-- The key gradient. -/
def gDK (h : Fin 16) (k : Fin 4096) (d : Fin 256) : EReal := ∑ q : Fin 4096, gS Q KV KR O L D h k q * Q (ix2 q (col h d))
/-- The value gradient. -/
def gDV (h : Fin 16) (k : Fin 4096) (d : Fin 128) : EReal := ∑ q : Fin 4096, gE Q KV KR L h k q * O (ix2 q (colO h d))

/-- The three result arrays. -/
def gDq : Vec Ideal S4096x4096 .bf16 := fun y => gDQ Q KV KR O L D (ch (y 1)) (y 0) (cd (y 1))
def gDkv : Vec Ideal S4096x4096 .bf16 := fun y =>
  if h : (cd (y 1)).val < 128 then gDK Q KV KR O L D (ch (y 1)) (y 0) (cd (y 1))
    else gDV Q KV KR O L (ch (y 1)) (y 0) ⟨(cd (y 1)).val - 128, by omega⟩
def gDkr : Vec Ideal S16x4096x128 .f32 := fun y => gDK Q KV KR O L D (y 0) (y 1) ⟨(y 2).val + 128, by have : (y 2).val < 128 := (y 2).isLt; omega⟩
end

variable (m : (ℓ : Loc nD τ sig) → Buf (Elt Ideal) ℓ) (c : Dev nD)

/-! ## The query gradient -/

/-- The share of key tile `j` in the query gradient of head `h`. -/
abbrev share (h : Fin 16) (q : Fin 4096) (d : Fin 256) (j : Fin 8) : EReal := ∑ r : Fin 512, aS m c h (pos j r) q * aKey m c h (pos j r) d

theorem sum_first (T : Fin 8 → EReal) (n : ℕ) (h : n < 8) :
    (∑ b : Fin 8, if b.val < n + 1 then T b else 0) = (∑ b : Fin 8, if b.val < n then T b else 0) + T ⟨n, h⟩ := by
  have e : ∀ b : Fin 8, (if b.val < n + 1 then T b else 0) = (if b.val < n then T b else 0) + (if b = ⟨n, h⟩ then T b else 0) := by
    intro b
    by_cases hb : b = ⟨n, h⟩
    · subst hb
      rw [if_pos (by show n < n + 1; omega), if_neg (by show ¬n < n; omega), if_pos rfl, zero_add]
    · have : b.val ≠ n := fun e => hb (Fin.ext e)
      rw [if_neg hb, add_zero]
      exact if_congr (by omega) rfl rfl
  rw [Finset.sum_congr rfl fun b _ => e b, Finset.sum_add_distrib, Finset.sum_ite_eq' Finset.univ, if_pos (Finset.mem_univ _)]

/-- The accumulator after `n + 1` key tiles of head `h`. -/
theorem acc_apply (h : Fin 16) (q : Fin 4096) (d : Fin 256) : ∀ n : ℕ, n < 8 →
    acc m c (h.val * 8 + n + 1) (ix2 q d) = ∑ j : Fin 8, if j.val < n + 1 then share m c h q d j else 0 := by
  intro n
  induction n with
  | zero =>
    intro hn
    have hN : h.val * 8 + 0 < cfg0.N := by rw [show cfg0.N = 128 from N_0]; omega
    let t : Fin cfg0.N := ⟨h.val * 8 + 0, hN⟩
    have eh : hd t = h := Fin.ext ((coord0 t).trans (by show (h.val * 8 + 0) / 8 = h.val; omega))
    have ek : kj t = ⟨0, hn⟩ := Fin.ext ((coord1 t).trans (by show (h.val * 8 + 0) % 8 = 0; omega))
    refine (congrFun (acc_succ m c t) (ix2 q d)).trans ?_
    rw [next_apply, if_pos (by show (h.val * 8 + 0) % 8 = 0; omega), eh, ek, sum_first _ 0 hn]
    refine congrArg (· + _) (Eq.symm ?_)
    exact Finset.sum_eq_zero fun b _ => if_neg (by omega)
  | succ n ih =>
    intro hn
    have hN : h.val * 8 + (n + 1) < cfg0.N := by rw [show cfg0.N = 128 from N_0]; omega
    let t : Fin cfg0.N := ⟨h.val * 8 + (n + 1), hN⟩
    have eh : hd t = h := Fin.ext ((coord0 t).trans (by show (h.val * 8 + (n + 1)) / 8 = h.val; omega))
    have ek : kj t = ⟨n + 1, hn⟩ := Fin.ext ((coord1 t).trans (by show (h.val * 8 + (n + 1)) % 8 = n + 1; omega))
    refine (congrFun (acc_succ m c t) (ix2 q d)).trans ?_
    rw [next_apply, if_neg (by show ¬(h.val * 8 + (n + 1)) % 8 = 0; omega), eh, ek, sum_first _ (n + 1) hn]
    refine congrArg (· + _) ?_
    exact ih (by omega)

/-- The accumulator after a head's last point. -/
theorem acc_last (t : Fin cfg0.N) (h7 : t.val % 8 = 7) (q : Fin 4096) (d : Fin 256) :
    next m c t (acc m c t.val) (ix2 q d) = gDQ (aQ m c) (aKV m c) (aKR m c) (aO m c) (aL m c) (aD m c) (hd t) q d := by
  have e := acc_apply m c (hd t) q d 7 (by omega)
  have et : (hd t).val * 8 + 7 + 1 = t.val + 1 := by rw [coord0 t]; omega
  rw [et, acc_succ] at e
  rw [e]
  refine Eq.trans ?_ (sum_tiles fun k => aS m c (hd t) k q * aKey m c (hd t) k d)
  exact Finset.sum_congr rfl fun j _ => if_pos (by omega)

theorem zeros2 : (![0, 0] : Fin 2 → ℕ) = fun _ => 0 := funext fun a => by fin_cases a <;> rfl
theorem zeros3 : (![0, 0, 0] : Fin 3 → ℕ) = fun _ => 0 := funext fun a => by fin_cases a <;> rfl

set_option maxHeartbeats 2000000 in
/-- The query gradient's block: what the accumulator holds. -/
theorem out6_eq (t : Fin cfg0.N) (h7 : t.val % 8 = 7) : out6 m c t = k0_pay1 (F := Ideal) (next m c t (acc m c t.val)) := by
  have h0 : ¬t.val % 8 = 0 := by omega
  have e8 := last8 (c := c) (i := grid0.coords t) (arg2 := ms0 t) (harg2 := hs0 t) (arg3 := ms1 t) (harg3 := hs1 t) (arg4 := ms2 t) (harg4 := hs2 t) (arg5 := ms3 t) (harg5 := hs3 t) (arg6 := ms4 t) (harg6 := hs4 t) (arg7 := ms5 t) (harg7 := hs5 t) (arg8 := ms6 t) (harg8 := hs6 t) (arg9 := ms7 t) (harg9 := hs7 t) (arg10 := ms8 t) (harg10 := hs8 t) (arg11 := scM) (harg11 := Memref.isWhole_whole _)
      (x0 := b0 m c t) (x1 := b1 m c t) (x2 := b2 m c t) (x3 := b3 m c t) (x4 := b4 m c t) (x5 := b5 m c t) (hf := not_first h0) (hl := (last_iff t).mpr h7) (xs := acc m c t.val)
  have e11 := last11 (c := c) (i := grid0.coords t) (arg2 := ms0 t) (harg2 := hs0 t) (arg3 := ms1 t) (harg3 := hs1 t) (arg4 := ms2 t) (harg4 := hs2 t) (arg5 := ms3 t) (harg5 := hs3 t) (arg6 := ms4 t) (harg6 := hs4 t) (arg7 := ms5 t) (harg7 := hs5 t) (arg8 := ms6 t) (harg8 := hs6 t) (arg9 := ms7 t) (harg9 := hs7 t) (arg10 := ms8 t) (harg10 := hs8 t) (arg11 := scM) (harg11 := Memref.isWhole_whole _)
      (x0 := b0 m c t) (x1 := b1 m c t) (x2 := b2 m c t) (x3 := b3 m c t) (x4 := b4 m c t) (x5 := b5 m c t) (hf := not_first h0) (hl := (last_iff t).mpr h7) (xs := acc m c t.val)
  have en : next m c t (acc m c t.val) = scM.view.read (Elt Ideal) (rLast m c t h0 h7 (acc m c t.val)).2.2.2.1 := by
    unfold next; rw [dif_neg h0, dif_pos h7]
  rw [en]
  unfold out6
  rw [dif_pos h7]
  refine (congrArg View.canon e8).trans ?_
  rw [View.canon_unit_zero zeros2, View.readAt_eq_ld, View.ld_unit_zero zeros2]
  exact congrArg (fun z => k0_pay1 (F := Ideal) (scM.view.read (Elt Ideal) z)) e11.symm

theorem out6_apply (t : Fin cfg0.N) (h7 : t.val % 8 = 7) (q : Fin 4096) (d : Fin 256) :
    out6 m c t (ix2 q d) = gDQ (aQ m c) (aKV m c) (aKR m c) (aO m c) (aL m c) (aD m c) (hd t) q d := by
  rw [out6_eq m c t h7]
  exact acc_last m c t h7 q d

/-! ## The key/value and the rope gradient -/

theorem out8_apply (t : Fin cfg0.N) (r : Fin 512) (d : Fin 128) :
    out8 m c t (ix3 0 r d) = gDK (aQ m c) (aKV m c) (aKR m c) (aO m c) (aL m c) (aD m c) (hd t) (pos (kj t) r) ⟨d.val + 128, by omega⟩ := by
  obtain ⟨B, -, e⟩ := pcs_eq m c t (acc m c t.val)
  unfold out8
  rw [e, pcs10, View.canon_unit_zero zeros3]
  have e' := eAt_dk m c t B r ⟨d.val + 128, by omega⟩
  revert e'
  generalize eAt m c t B = E
  intro e'
  refine Eq.trans ?_ e'
  pointwise [k0_pay23]
  exact congrArg (fun x => E.1.1 (ix2 r x)) (Fin.ext (Nat.add_comm _ _))

theorem out7_lo (t : Fin cfg0.N) (r : Fin 512) (d : Fin 256) (hd' : d.val < 128) :
    out7 m c t (ix2 r d) = gDK (aQ m c) (aKV m c) (aKR m c) (aO m c) (aL m c) (aD m c) (hd t) (pos (kj t) r) d := by
  obtain ⟨B, e, -⟩ := pcs_eq m c t (acc m c t.val)
  unfold out7
  rw [e, pcs9]
  have e' := eAt_dk m c t B r d
  revert e'
  generalize eAt m c t B = E
  intro e'
  refine Eq.trans ?_ e'
  rw [View.canon_cons_of_not_mem]
  · have hy : (ix2 r d : S512x256.Idx) = (Rect.unit (s := S512x256) ![0, 0] S512x128.size inb_S512x256_S512x128_0_0).emb (ix2 r ⟨d.val, hd'⟩ : S512x128.Idx) := by
      funext a; apply Fin.ext
      match a with
      | ⟨0, _⟩ => show r.val = 0 + 1 * r.val; omega
      | ⟨1, _⟩ => show d.val = 0 + 1 * d.val; omega
    rw [hy, View.canon_cons_emb]
    pointwise [k0_pay21]
    exact congrArg E.1.1 hy
  · intro hm
    have := ((Rect.mem_set_unit (inb := inb_S512x256_S512x128_0_128)).mp hm 1).1
    have : 128 ≤ d.val := this
    omega

theorem out7_hi (t : Fin cfg0.N) (r : Fin 512) (d : Fin 256) (hd' : ¬d.val < 128) :
    out7 m c t (ix2 r d) = gDV (aQ m c) (aKV m c) (aKR m c) (aO m c) (aL m c) (hd t) (pos (kj t) r) ⟨d.val - 128, by omega⟩ := by
  obtain ⟨B, e, -⟩ := pcs_eq m c t (acc m c t.val)
  unfold out7
  rw [e, pcs9]
  have e' := eAt_dv m c t B r ⟨d.val - 128, by omega⟩
  revert e'
  generalize eAt m c t B = E
  intro e'
  refine Eq.trans ?_ e'
  have hy : (ix2 r d : S512x256.Idx) = (Rect.unit (s := S512x256) ![0, 128] S512x128.size inb_S512x256_S512x128_0_128).emb (ix2 r ⟨d.val - 128, by omega⟩ : S512x128.Idx) := by
    funext a; apply Fin.ext
    match a with
    | ⟨0, _⟩ => show r.val = 0 + 1 * r.val; omega
    | ⟨1, _⟩ => show d.val = 128 + 1 * (d.val - 128); omega
  rw [hy, View.canon_cons_emb]
  rfl

/-! ## The arrays -/

theorem final6 : (dats m 0 c).arrAt 6 cfg0.N = gDq (aQ m c) (aKV m c) (aKR m c) (aO m c) (aL m c) (aD m c) := by
  refine (dats m 0 c).arrAt_eq_of_covers 6 _ (by decide +kernel) fun t hf y => ?_
  blk_simp
  rw [after6]
  have h7 := (flush0_6 t).mp hf
  have hi := idx6 t
  obtain ⟨q, d, rfl⟩ : ∃ (q : Fin 4096) (d : Fin 256), y = ix2 q d := ⟨y 0, y 1, (by funext a; fin_cases a <;> rfl)⟩
  refine (out6_apply m c t h7 q d).trans ?_
  have e : ((cfg0.win 6).blk t).view.emb (ix2 q d) = (ix2 q (col (hd t) d) : S4096x4096.Idx) := by
    funext a; apply Fin.ext
    match a with
    | ⟨0, _⟩ => show win0_6.index t 0 * 4096 + 1 * q.val = q.val; rw [hi.1]; omega
    | ⟨1, _⟩ => show win0_6.index t 1 * 256 + 1 * d.val = (grid0.coords t 0).val * 256 + d.val; rw [hi.2]; omega
  rw [e]
  show _ = gDQ _ _ _ _ _ _ (ch (col (hd t) d)) q (cd (col (hd t) d))
  rw [ch_col, cd_col]

theorem final7 : (dats m 0 c).arrAt 7 cfg0.N = gDkv (aQ m c) (aKV m c) (aKR m c) (aO m c) (aL m c) (aD m c) := by
  refine (dats m 0 c).arrAt_eq_of_covers 7 _ (by decide +kernel) fun t hf y => ?_
  blk_simp
  rw [after7]
  have hi := idx7 t
  obtain ⟨r, d, rfl⟩ : ∃ (r : Fin 512) (d : Fin 256), y = ix2 r d := ⟨y 0, y 1, (by funext a; fin_cases a <;> rfl)⟩
  have e : ((cfg0.win 7).blk t).view.emb (ix2 r d) = (ix2 (pos (kj t) r) (col (hd t) d) : S4096x4096.Idx) := by
    funext a; apply Fin.ext
    match a with
    | ⟨0, _⟩ => show win0_7.index t 0 * 512 + 1 * r.val = (grid0.coords t 1).val * 512 + r.val; rw [hi.1]; omega
    | ⟨1, _⟩ => show win0_7.index t 1 * 256 + 1 * d.val = (grid0.coords t 0).val * 256 + d.val; rw [hi.2]; omega
  rw [e]
  have e2 : gDkv (aQ m c) (aKV m c) (aKR m c) (aO m c) (aL m c) (aD m c) (ix2 (pos (kj t) r) (col (hd t) d))
      = if h : d.val < 128 then gDK (aQ m c) (aKV m c) (aKR m c) (aO m c) (aL m c) (aD m c) (hd t) (pos (kj t) r) d
        else gDV (aQ m c) (aKV m c) (aKR m c) (aO m c) (aL m c) (hd t) (pos (kj t) r) ⟨d.val - 128, by omega⟩ := by
    show (if h : (cd (col (hd t) d)).val < 128 then gDK _ _ _ _ _ _ (ch (col (hd t) d)) (pos (kj t) r) (cd (col (hd t) d))
      else gDV _ _ _ _ _ (ch (col (hd t) d)) (pos (kj t) r) ⟨(cd (col (hd t) d)).val - 128, _⟩) = _
    simp only [ch_col, cd_col]
  rw [e2]
  by_cases h : d.val < 128
  · rw [dif_pos h]; exact out7_lo m c t r d h
  · rw [dif_neg h]; exact out7_hi m c t r d h

theorem final8 : (dats m 0 c).arrAt 8 cfg0.N = gDkr (aQ m c) (aKV m c) (aKR m c) (aO m c) (aL m c) (aD m c) := by
  refine (dats m 0 c).arrAt_eq_of_covers 8 _ (by decide +kernel) fun t hf y => ?_
  blk_simp
  rw [after8]
  have hi := idx8 t
  obtain ⟨r, d, rfl⟩ : ∃ (r : Fin 512) (d : Fin 128), y = ix3 0 r d := ⟨y 1, y 2, (by funext a; fin_cases a; exact Subsingleton.elim (α := Fin 1) _ _; rfl; rfl)⟩
  refine (out8_apply m c t r d).trans ?_
  have e : ((cfg0.win 8).blk t).view.emb (ix3 0 r d) = (ix3 (hd t) (pos (kj t) r) d : S16x4096x128.Idx) := by
    funext a; apply Fin.ext
    match a with
    | ⟨0, _⟩ => show win0_8.index t 0 * 1 + 1 * 0 = (grid0.coords t 0).val; rw [hi.1]; omega
    | ⟨1, _⟩ => show win0_8.index t 1 * 512 + 1 * r.val = (grid0.coords t 1).val * 512 + r.val; rw [hi.2.1]; omega
    | ⟨2, _⟩ => show win0_8.index t 2 * 128 + 1 * d.val = d.val; rw [hi.2.2]; omega
  rw [e]
  rfl

variable (ρ : Dev nD → PrngReg)

/-- The launch: the three results, and the arguments as they were. -/
theorem run : θ_run defs (onTc (τ := τ) (main (F := Ideal))) ⟨m, fun _ => 0, ρ⟩ (fun r => ∀ c : Dev nD,
      r.2.mem ((c.tc : Thread nD τ).loc main_v45_0) = gDq (aQ m c) (aKV m c) (aKR m c) (aO m c) (aL m c) (aD m c)
      ∧ r.2.mem ((c.tc : Thread nD τ).loc main_v45_1) = gDkv (aQ m c) (aKV m c) (aKR m c) (aO m c) (aL m c) (aD m c)
      ∧ r.2.mem ((c.tc : Thread nD τ).loc main_v45_2) = gDkr (aQ m c) (aKV m c) (aKR m c) (aO m c) (aL m c) (aD m c)) :=
  (θ_run defs _ _).mono (fun _ h c => ⟨((h.1 c).1 6).trans (final6 m c), ((h.1 c).1 7).trans (final7 m c), ((h.1 c).1 8).trans (final8 m c)⟩)
    (run_main m ρ)

end Cert.KernelIdeal.AttnBwd
end
-- ==== Proof.AttnBwd.Spec.lean ====
/- Causal attention's gradient over the real numbers, and the kernel's weights and score gradients at real inputs. -/
module

public import proofs.«01_k».proof.Proof.AttnBwd.Results

@[expose] public section

set_option maxRecDepth 16384

noncomputable section

namespace Cert.KernelIdeal.AttnBwd

open Idealize.ShloMosaic Idealize.ShloMosaic.TcCoe Idealize.ShloMosaic.Tactic
open Cert.KernelIdeal.Gen

/-! ### The extended reals at real numbers -/

theorem sqrt_pos' : (0 : ℝ) < Real.sqrt 192 := Real.sqrt_pos.mpr (by norm_num)

/-- A finite sum of reals is a real. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A quotient of reals by a positive real. -/
theorem div_coe (x y : ℝ) (hy : 0 < y) : Ideal.div (x : EReal) (y : EReal) = ((x / y : ℝ) : EReal) := by
  rw [Ideal.div, if_neg (by exact_mod_cast hy.ne'), ← EReal.coe_inv, ← EReal.coe_mul, div_eq_mul_inv]

/-- A maximum over a set, from `⊥`, of values none of which is `⊤` and one of which is not `⊥`, is a real number. -/
theorem fold_max_real {ι : Type} (s : Finset ι) (f : ι → EReal) (ht : ∀ i, f i ≠ ⊤) (i : ι) (hi : i ∈ s) (hb : f i ≠ ⊥) :
    ∃ M : ℝ, s.fold max ⊥ f = (M : EReal) := by
  have h1 : s.fold max ⊥ f ≠ ⊥ := by
    intro e
    have : f i ≤ s.fold max ⊥ f := by rw [Finset.le_fold_max]; exact Or.inr ⟨i, hi, le_refl _⟩
    rw [e] at this
    exact hb (le_bot_iff.mp this)
  have h2 : s.fold max ⊥ f ≠ ⊤ := by
    have : s.fold max ⊥ f < ⊤ := by
      rw [Finset.fold_max_lt]
      exact ⟨bot_lt_top, fun x _ => lt_top_iff_ne_top.mpr (ht x)⟩
    exact this.ne
  exact ⟨(s.fold max ⊥ f).toReal, (EReal.coe_toReal h2 h1).symm⟩

/-! ### Causal attention -/

variable (Q KV : S4096x4096.Idx → ℝ) (KR : S4096x128.Idx → ℝ) (O : S4096x2048.Idx → ℝ)

/-- Channel `d` of head `h`'s key `k`: the head's own channels, then the rotary ones all heads share. -/
def rK (h : Fin 16) (k : Fin 4096) (d : Fin 256) : ℝ :=
  if hd : d.val < 128 then KV (ix2 k (col h d)) else KR (ix2 k ⟨d.val - 128, by omega⟩)
/-- The scaled score of query `q` and key `k`. -/
def rA (h : Fin 16) (q k : Fin 4096) : ℝ := (∑ d : Fin 256, rK KV KR h k d * Q (ix2 q (col h d))) / Real.sqrt 192
/-- The unnormalised weight: a query sees the keys up to its own position. -/
def rW (h : Fin 16) (q k : Fin 4096) : ℝ := if k.val ≤ q.val then Real.exp (rA Q KV KR h q k) else 0
def rZ (h : Fin 16) (q : Fin 4096) : ℝ := ∑ k : Fin 4096, rW Q KV KR h q k
/-- The softmax weight. -/
def rP (h : Fin 16) (q k : Fin 4096) : ℝ := rW Q KV KR h q k / rZ Q KV KR h q
/-- The weight's cotangent. -/
def rDp (h : Fin 16) (q k : Fin 4096) : ℝ := ∑ d : Fin 128, KV (ix2 k (col h ⟨d.val + 128, by omega⟩)) * O (ix2 q (colO h d))
def rDd (h : Fin 16) (q : Fin 4096) : ℝ := ∑ k : Fin 4096, rP Q KV KR h q k * rDp KV O h q k
/-- The score's cotangent. -/
def rDs (h : Fin 16) (q k : Fin 4096) : ℝ := rP Q KV KR h q k * (rDp KV O h q k - rDd Q KV KR O h q) / Real.sqrt 192

/-- The gradients of the queries, of the keys and of the values. -/
def rDQ (h : Fin 16) (q : Fin 4096) (d : Fin 256) : ℝ := ∑ k : Fin 4096, rDs Q KV KR O h q k * rK KV KR h k d
def rDK (h : Fin 16) (k : Fin 4096) (d : Fin 256) : ℝ := ∑ q : Fin 4096, rDs Q KV KR O h q k * Q (ix2 q (col h d))
def rDV (h : Fin 16) (k : Fin 4096) (d : Fin 128) : ℝ := ∑ q : Fin 4096, rP Q KV KR h q k * O (ix2 q (colO h d))

/-- The three result arrays over the reals. -/
def rDq : S4096x4096.Idx → ℝ := fun y => rDQ Q KV KR O (ch (y 1)) (y 0) (cd (y 1))
def rDkv : S4096x4096.Idx → ℝ := fun y =>
  if h : (cd (y 1)).val < 128 then rDK Q KV KR O (ch (y 1)) (y 0) (cd (y 1))
    else rDV Q KV KR O (ch (y 1)) (y 0) ⟨(cd (y 1)).val - 128, by omega⟩
def rDkr : S16x4096x128.Idx → ℝ := fun y => rDK Q KV KR O (y 0) (y 1) ⟨(y 2).val + 128, by have : (y 2).val < 128 := (y 2).isLt; omega⟩

theorem rW_nonneg (h : Fin 16) (q k : Fin 4096) : 0 ≤ rW Q KV KR h q k := by
  unfold rW; split
  · exact (Real.exp_pos _).le
  · exact le_refl _

/-- The weights' sum is positive: a query sees its own key. -/
theorem rZ_pos (h : Fin 16) (q : Fin 4096) : 0 < rZ Q KV KR h q := by
  refine Finset.sum_pos' (fun k _ => rW_nonneg Q KV KR h q k) ⟨q, Finset.mem_univ _, ?_⟩
  unfold rW; rw [if_pos (le_refl _)]; exact Real.exp_pos _

/-! ### The kernel's tile values at real inputs -/

/-- An array of reals in the extended reals. -/
abbrev up {s : Shape} (f : s.Idx → ℝ) : s.Idx → EReal := fun y => ((f y : ℝ) : EReal)

theorem gKey_up (h : Fin 16) (k : Fin 4096) (d : Fin 256) : gKey (up KV) (up KR) h k d = ((rK KV KR h k d : ℝ) : EReal) := by
  unfold gKey rK; split <;> rfl

/-- The score before scaling. -/
theorem score_up (h : Fin 16) (q k : Fin 4096) :
    (∑ d : Fin 256, gKey (up KV) (up KR) h k d * (up Q) (ix2 q (col h d))) = ((rA Q KV KR h q k * Real.sqrt 192 : ℝ) : EReal) := by
  have e : rA Q KV KR h q k * Real.sqrt 192 = ∑ d : Fin 256, rK KV KR h k d * Q (ix2 q (col h d)) := by
    unfold rA; exact div_mul_cancel₀ _ sqrt_pos'.ne'
  rw [e, ← coe_sum]
  refine Finset.sum_congr rfl fun d _ => ?_
  rw [gKey_up, EReal.coe_mul]

theorem dp_up (h : Fin 16) (q k : Fin 4096) :
    (∑ d : Fin 128, gVal (up KV) h k d * (up O) (ix2 q (colO h d))) = ((rDp KV O h q k : ℝ) : EReal) := by
  unfold rDp; rw [← coe_sum]
  refine Finset.sum_congr rfl fun d _ => ?_
  rw [EReal.coe_mul]; rfl

/-! ### The host's softmax at real inputs -/

/-- The scores' product over 256 channels, as the host takes it: 128 channels of a head's own, then 128 rotary ones. -/
theorem score_halves (h : Fin 16) (q k : Fin 4096) :
    (∑ d : Fin 128, (up Q) (ix2 q (col h ⟨d.val, by omega⟩)) * (up KV) (ix2 k (col h ⟨d.val, by omega⟩)))
      + (∑ d : Fin 128, (up Q) (ix2 q (col h ⟨128 + d.val, by omega⟩)) * (up KR) (ix2 k d))
      = ((rA Q KV KR h q k * Real.sqrt 192 : ℝ) : EReal) := by
  rw [← score_up]
  have e := Fin.sum_univ_add (a := 128) (b := 128) (fun d : Fin (128 + 128) => gKey (up KV) (up KR) h k d * (up Q) (ix2 q (col h d)))
  refine Eq.trans ?_ e.symm
  refine congrArg₂ _ (Finset.sum_congr rfl fun d _ => ?_) (Finset.sum_congr rfl fun d _ => ?_)
  · have hd : (Fin.castAdd 128 d : Fin (128 + 128)).val < 128 := d.isLt
    rw [mul_comm]
    unfold gKey
    rw [dif_pos hd]; rfl
  · have hd : ¬(Fin.natAdd 128 d : Fin (128 + 128)).val < 128 := by simp
    have hk : (⟨(Fin.natAdd 128 d : Fin (128 + 128)).val - 128, by simp⟩ : Fin 128) = d := Fin.ext (by simp)
    rw [mul_comm]
    unfold gKey
    rw [dif_neg hd, hk]; rfl

theorem sqrt_coe_192 : Ideal.sqrt ((192 : ℝ) : EReal) = ((Real.sqrt 192 : ℝ) : EReal) := by
  rw [Ideal.sqrt_coe, if_neg (by norm_num)]

/-- The scaled score. -/
theorem scaled_up (h : Fin 16) (q k : Fin 4096) :
    Ideal.div ((rA Q KV KR h q k * Real.sqrt 192 : ℝ) : EReal) ((Real.sqrt 192 : ℝ) : EReal) = ((rA Q KV KR h q k : ℝ) : EReal) := by
  rw [div_coe _ _ sqrt_pos', mul_div_cancel_right₀ _ sqrt_pos'.ne']

/-- A masked score, `-∞` where the key is hidden. -/
def eSc (h : Fin 16) (q k : Fin 4096) : EReal := if k.val ≤ q.val then ((rA Q KV KR h q k : ℝ) : EReal) else ⊥

theorem eSc_ne_top (h : Fin 16) (q k : Fin 4096) : eSc Q KV KR h q k ≠ ⊤ := by
  unfold eSc; split
  · exact EReal.coe_ne_top _
  · exact bot_ne_top
theorem eSc_diag (h : Fin 16) (q : Fin 4096) : eSc Q KV KR h q q ≠ ⊥ := by
  unfold eSc; rw [if_pos (le_refl _)]; exact EReal.coe_ne_bot _

/-- The exponential of a masked score less a real row maximum: the weight, scaled by the maximum's factor. -/
theorem exp_up (M : ℝ) (h : Fin 16) (q k : Fin 4096) :
    Ideal.exp (eSc Q KV KR h q k - (M : EReal)) = ((rW Q KV KR h q k * Real.exp (-M) : ℝ) : EReal) := by
  unfold eSc rW
  split
  · rw [← EReal.coe_sub, Ideal.exp_coe, sub_eq_add_neg, Real.exp_add]
  · rw [EReal.bot_sub, Ideal.exp_bot, zero_mul, EReal.coe_zero]

theorem sum_up (M : ℝ) (h : Fin 16) (q : Fin 4096) :
    (∑ k : Fin 4096, ((rW Q KV KR h q k * Real.exp (-M) : ℝ) : EReal)) = ((rZ Q KV KR h q * Real.exp (-M) : ℝ) : EReal) := by
  rw [coe_sum, ← Finset.sum_mul]; rfl

theorem sum_pos (M : ℝ) (h : Fin 16) (q : Fin 4096) : 0 < rZ Q KV KR h q * Real.exp (-M) :=
  mul_pos (rZ_pos Q KV KR h q) (Real.exp_pos _)

/-- The normalised weight does not depend on the maximum taken off. -/
theorem p_up (M : ℝ) (h : Fin 16) (q k : Fin 4096) :
    Ideal.div ((rW Q KV KR h q k * Real.exp (-M) : ℝ) : EReal) ((rZ Q KV KR h q * Real.exp (-M) : ℝ) : EReal) = ((rP Q KV KR h q k : ℝ) : EReal) := by
  rw [div_coe _ _ (sum_pos Q KV KR M h q), mul_div_mul_right _ _ (Real.exp_pos _).ne']; rfl

/-- Nor does the logarithm of the sum, the maximum put back. -/
theorem lse_up (M : ℝ) (h : Fin 16) (q : Fin 4096) :
    (M : EReal) + Ideal.log ((rZ Q KV KR h q * Real.exp (-M) : ℝ) : EReal) = ((Real.log (rZ Q KV KR h q) : ℝ) : EReal) := by
  rw [Ideal.log_coe, if_neg (not_le.mpr (sum_pos Q KV KR M h q)), ← EReal.coe_add, Real.log_mul (rZ_pos Q KV KR h q).ne' (Real.exp_pos _).ne', Real.log_exp]
  congr 1; ring

/-! ### The kernel's tile values, the row statistics given -/

variable (L D : S16x8x512.Idx → EReal)
variable (hL : ∀ (h : Fin 16) (q : Fin 4096), L (ix3 h (qb q) (qs q)) = ((Real.log (rZ Q KV KR h q) : ℝ) : EReal))
variable (hD : ∀ (h : Fin 16) (q : Fin 4096), D (ix3 h (qb q) (qs q)) = ((rDd Q KV KR O h q : ℝ) : EReal))
include hL

/-- The kernel's weight is the softmax weight. -/
theorem gE_up (h : Fin 16) (k q : Fin 4096) : gE (up Q) (up KV) (up KR) L h k q = ((rP Q KV KR h q k : ℝ) : EReal) := by
  have hZ := rZ_pos Q KV KR h q
  have h2 : (0 : ℝ) < Real.log 2 := Real.log_pos (by norm_num)
  unfold gE
  rw [score_up, hL, cScaleLog, cLog]
  unfold rP rW
  by_cases hk : k.val ≤ q.val
  · rw [if_pos hk, if_pos hk, ← EReal.coe_mul, ← EReal.coe_mul, ← EReal.coe_sub]
    have e : rA Q KV KR h q k * Real.sqrt 192 * ((Real.sqrt 192)⁻¹ * (Real.log 2)⁻¹) - Real.log (rZ Q KV KR h q) * (Real.log 2)⁻¹
        = (rA Q KV KR h q k - Real.log (rZ Q KV KR h q)) * (Real.log 2)⁻¹ := by
      have := sqrt_pos'.ne'
      field_simp
    rw [e]
    show Ideal.exp2 _ = _
    rw [Ideal.exp2_coe]
    show ((Real.rpow 2 _ : ℝ) : EReal) = _
    have e2 : Real.rpow 2 ((rA Q KV KR h q k - Real.log (rZ Q KV KR h q)) * (Real.log 2)⁻¹) = Real.exp (rA Q KV KR h q k) / rZ Q KV KR h q := by
      show (2 : ℝ) ^ (_ : ℝ) = _
      rw [Real.rpow_def_of_pos (by norm_num), mul_comm (Real.log 2), mul_assoc, inv_mul_cancel₀ h2.ne', mul_one, Real.exp_sub, Real.exp_log hZ]
    rw [e2]
  · rw [if_neg hk, if_neg hk, EReal.bot_mul_coe_of_pos cScaleLog_pos, EReal.bot_sub]
    show Ideal.exp2 _ = _
    rw [Ideal.exp2_bot, zero_div, EReal.coe_zero]

include hD
/-- The kernel's score gradient is the real one. -/
theorem gS_up (h : Fin 16) (k q : Fin 4096) : gS (up Q) (up KV) (up KR) (up O) L D h k q = ((rDs Q KV KR O h q k : ℝ) : EReal) := by
  unfold gS
  rw [gE_up Q KV KR L hL, dp_up, hD, cScale, ← EReal.coe_sub, ← EReal.coe_mul, ← EReal.coe_mul]
  unfold rDs
  rw [div_eq_mul_inv]

theorem gDQ_up (h : Fin 16) (q : Fin 4096) (d : Fin 256) : gDQ (up Q) (up KV) (up KR) (up O) L D h q d = ((rDQ Q KV KR O h q d : ℝ) : EReal) := by
  unfold gDQ rDQ; rw [← coe_sum]
  refine Finset.sum_congr rfl fun k _ => ?_
  rw [gS_up Q KV KR O L D hL hD, gKey_up, EReal.coe_mul]
theorem gDK_up (h : Fin 16) (k : Fin 4096) (d : Fin 256) : gDK (up Q) (up KV) (up KR) (up O) L D h k d = ((rDK Q KV KR O h k d : ℝ) : EReal) := by
  unfold gDK rDK; rw [← coe_sum]
  refine Finset.sum_congr rfl fun q _ => ?_
  rw [gS_up Q KV KR O L D hL hD, EReal.coe_mul]
omit hD in
theorem gDV_up (h : Fin 16) (k : Fin 4096) (d : Fin 128) : gDV (up Q) (up KV) (up KR) (up O) L h k d = ((rDV Q KV KR O h k d : ℝ) : EReal) := by
  unfold gDV rDV; rw [← coe_sum]
  refine Finset.sum_congr rfl fun q _ => ?_
  rw [gE_up Q KV KR L hL, EReal.coe_mul]

/-- The kernel's three result arrays are the real gradients. -/
theorem gDq_up : gDq (up Q) (up KV) (up KR) (up O) L D = up (rDq Q KV KR O) := by
  funext y; exact gDQ_up Q KV KR O L D hL hD _ _ _
theorem gDkv_up : gDkv (up Q) (up KV) (up KR) (up O) L D = up (rDkv Q KV KR O) := by
  funext y
  by_cases hd : (cd (y 1)).val < 128
  · have e : rDkv Q KV KR O y = rDK Q KV KR O (ch (y 1)) (y 0) (cd (y 1)) := dif_pos hd
    exact (dif_pos hd).trans ((gDK_up Q KV KR O L D hL hD _ _ _).trans (congrArg _ e.symm))
  · have e : rDkv Q KV KR O y = rDV Q KV KR O (ch (y 1)) (y 0) ⟨(cd (y 1)).val - 128, by omega⟩ := dif_neg hd
    exact (dif_neg hd).trans ((gDV_up Q KV KR O L hL _ _ _).trans (congrArg _ e.symm))
theorem gDkr_up : gDkr (up Q) (up KV) (up KR) (up O) L D = up (rDkr Q KV KR O) := by
  funext y; exact gDK_up Q KV KR O L D hL hD _ _ _

end Cert.KernelIdeal.AttnBwd
-- ==== Proof.AttnBwd.Finite.lean ====
/- What the precondition says: every entry of the four arguments is a real number. -/
module

public import proofs.«01_k».proof.Defs
public import proofs.«01_k».proof.Proof.AttnBwd.Spec
public import Idealize.ShloMosaic.Lib.ReduceAll

@[expose] public section

set_option maxRecDepth 16384

noncomputable section

namespace Cert.Pre_finite

open Idealize.ShloMosaic
open Cert.KernelIdeal.AttnBwd (up)

/-- The side conditions the precondition's operations state. -/
theorem facts : Facts where
  bitsLt_bf16_f32 := by decide
  bcast_S_S4096x4096 := by decide
  reducesTo_S4096x4096_S_d0_1 := by decide
  h_S_ := by decide
  bcast_S_S4096x128 := by decide
  reducesTo_S4096x128_S_d0_1 := by decide
  bcast_S_S4096x2048 := by decide
  reducesTo_S4096x2048_S_d0_1 := by decide

/-- A value whose magnitude is below `+∞` is a real number. -/
theorem real_of_lt (x : EReal) (h : Ideal.cmp .olt (max x (-x)) (Ideal.ofBits FTy.f32 0x7F800000#32) = 1#1) : ∃ r : ℝ, x = (r : EReal) := by
  have htop : Ideal.ofBits FTy.f32 0x7F800000#32 = ⊤ := by simp [Ideal.ofBits, Ideal.ieee]
  rw [htop] at h
  have hlt : max x (-x) < ⊤ := by
    by_contra hn
    simp [Ideal.cmp, hn] at h
  rw [max_lt_iff] at hlt
  refine ⟨x.toReal, (EReal.coe_toReal hlt.1.ne ?_).symm⟩
  rintro rfl
  simp at hlt

/-- An array whose magnitudes are all below `+∞` is an array of real numbers. -/
theorem real_array {s : Shape} {axes : List (Fin s.rank)} (x : FVec Ideal s .bf16) (hb : FTy.bits .bf16 < FTy.bits .f32) (hc : S_.BroadcastsInDim s (![] : Fin 0 → Fin s.rank))
    (hr : s.ReducesTo axes S_) (hu : 0 < S_.numel)
    (h : Host.reduce IntOp.andi (cmpf .olt (Host.absf (extf .f32 x hb)) (broadcastInDim s ![] hc (constant (F := Ideal) S_ .f32 0x7F800000#32))) (constantI S_ 1 1#1) hr hu
      = fun _ => 1#1) : ∃ f : s.Idx → ℝ, x = up f := by
  have hS : Subsingleton S_.Idx := ⟨fun a b => funext fun i => i.elim0⟩
  have e : ∀ i, ∃ r : ℝ, x i = (r : EReal) := fun i =>
    real_of_lt (x i) (Host.reduce_andi_all _ _ hr hu (fun i => i.elim0) (congrFun h _) i)
  choose f hf using e
  exact ⟨f, funext hf⟩

/-- The precondition's four parts. -/
theorem real_args [Facts] (a0 a1 : FVec Ideal S4096x4096 .bf16) (a2 : FVec Ideal S4096x128 .bf16) (a3 : FVec Ideal S4096x2048 .bf16)
    (h0 : (fn (F := Ideal) a0 a1 a2 a3).1 = fun _ => 1#1) (h1 : (fn (F := Ideal) a0 a1 a2 a3).2.1 = fun _ => 1#1)
    (h2 : (fn (F := Ideal) a0 a1 a2 a3).2.2.1 = fun _ => 1#1) (h3 : (fn (F := Ideal) a0 a1 a2 a3).2.2.2 = fun _ => 1#1) :
    (∃ f, a0 = up f) ∧ (∃ f, a1 = up f) ∧ (∃ f, a2 = up f) ∧ ∃ f, a3 = up f := by
  dsimp only [fn, fn_part1] at h0 h1 h2 h3
  exact ⟨real_array a0 _ _ _ _ h0, real_array a1 _ _ _ _ h1, real_array a2 _ _ _ _ h2, real_array a3 _ _ _ _ h3⟩

end Cert.Pre_finite
-- ==== Proof.AttnBwd.Host.lean ====
/- The arrays the attention backward kernel is launched on: the four arguments, and the row statistics that the host works out of
   them (the logarithm of the weights' sum, and the output's product with its cotangent). -/
module

public import proofs.«01_k».proof.Proof.AttnBwd.Spec
public import Idealize.ShloMosaic.Lib.StableHlo.RunRead

@[expose] public section

set_option maxRecDepth 16384

noncomputable section

namespace Cert.KernelIdeal.AttnBwd

open Idealize.ShloMosaic Idealize.ShloMosaic.TcCoe Idealize.ShloMosaic.Tactic
open Idealize.SL.Sem
open Cert.KernelIdeal.Gen

/-! ### The host's operations, by stage -/

section Stages
variable (q kv : FVec Ideal S4096x4096 .bf16) (kr : FVec Ideal S4096x128 .bf16) (o : FVec Ideal S4096x2048 .bf16)

/-- The queries or the keys and values, by head. -/
def hHeads (x : FVec Ideal S4096x4096 .bf16) : FVec Ideal S4096x16x256 .f32 :=
  shapeCast _ (extf .f32 x bitsLt_bf16_f32) shapeCasts_S4096x4096_S4096x16x256
/-- The scores: the head's own channels' products, plus the rotary channels'. -/
def hScore : FVec Ideal S16x4096x4096 .f32 :=
  addf
    (Host.dotGeneral dot_S4096x16x128_S4096x16x128_S16x4096x4096_2_2_0_0_1_1 none
      (extractStridedSlice S4096x16x128 ![0, 0, 0] (hHeads q) slices_S4096x16x256_S4096x16x128_0_0_0)
      (extractStridedSlice S4096x16x128 ![0, 0, 0] (hHeads kv) slices_S4096x16x256_S4096x16x128_0_0_0))
    (Host.dotGeneral dot_S4096x16x128_S4096x16x128_S16x4096x4096_2_2_0_0_1_1 none
      (extractStridedSlice S4096x16x128 ![0, 0, 128] (hHeads q) slices_S4096x16x256_S4096x16x128_0_0_128)
      (broadcastInDim S4096x16x128 ![0, 1, 2] bcast_S4096x1x128_S4096x16x128_0_1_2
        (broadcastInDim S4096x1x128 ![0, 2] bcast_S4096x128_S4096x1x128_0_2 (extf .f32 kr bitsLt_bf16_f32))))
/-- The causal mask. -/
def hMask : IVec S16x4096x4096 1 :=
  broadcastInDim S16x4096x4096 ![1, 2] bcast_S4096x4096_S16x4096x4096_1_2
    (cmpi .sle
      (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))
/-- The scaled scores, `-∞` where the mask hides the key. -/
def hMasked : FVec Ideal S16x4096x4096 .f32 :=
  select hMask
    (Host.divf (hScore q kv kr) (broadcastInDim S16x4096x4096 ![] bcast_S_S16x4096x4096 (Host.sqrt (constant (F := Ideal) S_ .f32 0x43400000#32))))
    (broadcastInDim S16x4096x4096 ![] bcast_S_S16x4096x4096 (constant (F := Ideal) S_ .f32 0xFF800000#32))

variable (sc : FVec Ideal S16x4096x4096 .f32)
/-- Each row's maximum. -/
def hMax : FVec Ideal S16x4096 .f32 :=
  Host.reduce FloatOps.maximumf sc (constant (F := Ideal) S_ .f32 0xFF800000#32) reducesTo_S16x4096x4096_S16x4096_d2 h_S_

variable (mx : FVec Ideal S16x4096 .f32)
def hMaxCol : FVec Ideal S16x4096x1 .f32 := broadcastInDim S16x4096x1 ![0, 1] bcast_S16x4096_S16x4096x1_0_1 mx
/-- The weights before normalisation, their row maximum taken off. -/
def hExp : FVec Ideal S16x4096x4096 .f32 :=
  Host.exp (subf sc (broadcastInDim S16x4096x4096 ![0, 1, 2] bcast_S16x4096x1_S16x4096x4096_0_1_2 (hMaxCol mx)))
variable (e : FVec Ideal S16x4096x4096 .f32)
/-- Their sum, a column per row. -/
def hSum : FVec Ideal S16x4096x1 .f32 :=
  broadcastInDim S16x4096x1 ![0, 1] bcast_S16x4096_S16x4096x1_0_1
    (Host.reduceAdd e (constant (F := Ideal) S_ .f32 0x00000000#32) reducesTo_S16x4096x4096_S16x4096_d2 h_S_)
/-- The logarithm of the sum, the maximum put back. -/
def hLse : FVec Ideal S16x8x512 .f32 :=
  shapeCast _ (addf (hMaxCol mx) (Host.log (hSum e))) shapeCasts_S16x4096x1_S16x8x512
/-- The output's product with its cotangent, summed over a head's channels. -/
def hDd : FVec Ideal S16x8x512 .f32 :=
  shapeCast _
    (transpose S16x4096 [1, 0]
      (Host.reduceAdd
        (mulf
          (shapeCast _ (extf .f32 o bitsLt_bf16_f32) shapeCasts_S4096x2048_S4096x16x128 : FVec Ideal S4096x16x128 .f32)
          (transpose S4096x16x128 [2, 0, 1]
            (Host.dotGeneral dot_S4096x16x128_S16x4096x4096_S16x128x4096_0_2_2_1_1_0 none
              (extractStridedSlice S4096x16x128 ![0, 0, 128] (hHeads kv) slices_S4096x16x256_S4096x16x128_0_0_128)
              (Host.divf e (broadcastInDim S16x4096x4096 ![0, 1, 2] bcast_S16x4096x1_S16x4096x4096_0_1_2 (hSum e))))
            transposes_S16x128x4096_S4096x16x128_2_0_1))
        (constant (F := Ideal) S_ .f32 0x00000000#32) reducesTo_S4096x16x128_S4096x16_d2 h_S_)
      transposes_S4096x16_S16x4096_1_0)
    shapeCasts_S16x4096_S16x8x512
end Stages

variable (m : (ℓ : Loc nD τ sig) → Buf (Elt Ideal) ℓ) (c : Dev nD)

/-- The scores of a launch. -/
def mSc : FVec Ideal S16x4096x4096 .f32 := hMasked (m ((c.tc : Thread nD τ).loc main_arg0)) (m ((c.tc : Thread nD τ).loc main_arg1)) (m ((c.tc : Thread nD τ).loc main_arg2))
def mMax : FVec Ideal S16x4096 .f32 := hMax (mSc m c)
def mExp : FVec Ideal S16x4096x4096 .f32 := hExp (mSc m c) (mMax m c)

theorem aL_eq : aL m c = hLse (mMax m c) (mExp m c) := by
  show V m c main_v42 = _
  unfold V
  after_reads_simp
  rfl

theorem aD_eq : aD m c = hDd (m ((c.tc : Thread nD τ).loc main_arg1)) (m ((c.tc : Thread nD τ).loc main_arg3)) (mExp m c) := by
  show V m c main_v44 = _
  unfold V
  after_reads_simp
  rfl

theorem aQ_eq : aQ m c = m ((c.tc : Thread nD τ).loc main_arg0) := V_main_arg0 m c
theorem aKV_eq : aKV m c = m ((c.tc : Thread nD τ).loc main_arg1) := V_main_arg1 m c
theorem aKR_eq : aKR m c = m ((c.tc : Thread nD τ).loc main_arg2) := V_main_arg2 m c
theorem aO_eq : aO m c = m ((c.tc : Thread nD τ).loc main_arg3) := V_main_arg3 m c

end Cert.KernelIdeal.AttnBwd
-- ==== Proof.AttnBwd.HostVal.lean ====
/- The row statistics the host passes to the attention backward kernel, at real inputs. -/
module

public import proofs.«01_k».proof.Proof.AttnBwd.Host
public import Idealize.ShloMosaic.Lib.Pointwise
public import Idealize.ShloMosaic.PureOps.Reduce

@[expose] public section

set_option maxRecDepth 16384

noncomputable section

namespace Cert.KernelIdeal.AttnBwd

open Idealize.ShloMosaic Idealize.ShloMosaic.TcCoe Idealize.ShloMosaic.Tactic
open Cert.KernelIdeal.Gen

theorem bits_192 : Ideal.ofBits FTy.f32 1128267776#32 = ((192 : ℝ) : EReal) := by
  simp [Ideal.ofBits, Ideal.ieee]; rw [← EReal.coe_mul]; norm_num
theorem bits_bot : Ideal.ofBits FTy.f32 4286578688#32 = ⊥ := by
  simp [Ideal.ofBits, Ideal.ieee]

/-- A row's maximum on the host is the maximum over the set of the row's entries, from `-∞`. -/
theorem rowMax_real {n₀ n₁ n₂ : Nat} (sc : FVec Ideal ⟨3, ![n₀, n₁, n₂]⟩ .f32) (init : FVec Ideal ⟨0, ![]⟩ .f32) (hin : ∀ y, init y = ⊥)
    (hr : Shape.ReducesTo ⟨3, ![n₀, n₁, n₂]⟩ [2] ⟨2, ![n₀, n₁]⟩) (hu : 0 < (⟨0, ![]⟩ : Shape).numel)
    (ht : ∀ y, sc y ≠ ⊤) (h : Fin n₀) (q : Fin n₁) (k : Fin n₂) (hb : sc (ix3 h q k) ≠ ⊥) :
    ∃ M : ℝ, Host.reduce FloatOps.maximumf sc init hr hu (ix2 h q) = (M : EReal) := by
  have e := Host.reduce_eq_fold (α := EReal) max sc init hr hu (ix2 h q)
  obtain ⟨M, hM⟩ := fold_max_real (Finset.univ.filter fun i => hr.drop i = ix2 h q) sc ht (ix3 h q k)
    (Finset.mem_filter.mpr ⟨Finset.mem_univ _, by funext a; fin_cases a <;> rfl⟩) hb
  refine ⟨M, Eq.trans ?_ hM⟩
  rw [← hin (Shape.Idx.first hu)]
  exact e

section
variable (Q KV : S4096x4096.Idx → ℝ) (KR : S4096x128.Idx → ℝ) (O : S4096x2048.Idx → ℝ)

theorem hScore_apply (h : Fin 16) (q k : Fin 4096) :
    hScore (up Q) (up KV) (up KR) (ix3 h q k) = ((rA Q KV KR h q k * Real.sqrt 192 : ℝ) : EReal) := by
  have e : hScore (up Q) (up KV) (up KR) (ix3 h q k)
      = (∑ d : Fin 128, (up Q) (ix2 q (col h ⟨d.val, by omega⟩)) * (up KV) (ix2 k (col h ⟨d.val, by omega⟩)))
        + (∑ d : Fin 128, (up Q) (ix2 q (col h ⟨128 + d.val, by omega⟩)) * (up KR) (ix2 k d)) := by
    generalize up Q = Q'; generalize up KV = KV'; generalize up KR = KR'
    pointwise [hScore, hHeads]
    rfl
  rw [e, score_halves]

theorem hMask_apply (h : Fin 16) (q k : Fin 4096) : hMask (ix3 h q k) = BitVec.ofBool (decide (k.val ≤ q.val)) := by
  pointwise [hMask]
  exact WordCmp.cmpi_sle_ofNat (by have := k.isLt; norm_num; omega) (by have := q.isLt; norm_num; omega)

/-- A masked score of the host's. -/
theorem hMasked_apply (h : Fin 16) (q k : Fin 4096) : hMasked (up Q) (up KV) (up KR) (ix3 h q k) = eSc Q KV KR h q k := by
  have e : hMasked (up Q) (up KV) (up KR) (ix3 h q k)
      = Scalar.select (hMask (ix3 h q k)) (Ideal.div (hScore (up Q) (up KV) (up KR) (ix3 h q k)) (Ideal.sqrt (Ideal.ofBits FTy.f32 1128267776#32)))
          (Ideal.ofBits FTy.f32 4286578688#32) := by
    generalize up Q = Q'; generalize up KV = KV'; generalize up KR = KR'
    pointwise [hMasked]
  rw [e, hMask_apply, hScore_apply, bits_192, bits_bot, sqrt_coe_192, scaled_up]
  unfold eSc
  by_cases hk : k.val ≤ q.val <;> simp [hk, Scalar.select]

variable (m : FVec Ideal S16x4096 .f32)

/-- A launch's row maxima are reals. -/
theorem hMax_real (h : Fin 16) (q : Fin 4096) : ∃ M : ℝ, hMax (hMasked (up Q) (up KV) (up KR)) (ix2 h q) = (M : EReal) := by
  refine rowMax_real _ _ (fun _ => bits_bot) _ _ (fun y => ?_) h q q ?_
  · idx_vars y
    rw [hMasked_apply]; exact eSc_ne_top _ _ _ _ _ _
  · rw [hMasked_apply]; exact eSc_diag _ _ _ _ _

variable (M : ℝ) (h : Fin 16) (q : Fin 4096) (hM : m (ix2 h q) = (M : EReal))
include hM

theorem hExp_apply (k : Fin 4096) : hExp (hMasked (up Q) (up KV) (up KR)) m (ix3 h q k) = ((rW Q KV KR h q k * Real.exp (-M) : ℝ) : EReal) := by
  have e : hExp (hMasked (up Q) (up KV) (up KR)) m (ix3 h q k) = Ideal.exp (hMasked (up Q) (up KV) (up KR) (ix3 h q k) - m (ix2 h q)) := by
    generalize hMasked (up Q) (up KV) (up KR) = sc
    pointwise [hExp, hMaxCol]
  rw [e, hMasked_apply, hM, exp_up]

theorem hSum_apply : hSum (hExp (hMasked (up Q) (up KV) (up KR)) m) (ix3 h q 0) = ((rZ Q KV KR h q * Real.exp (-M) : ℝ) : EReal) := by
  have e : hSum (hExp (hMasked (up Q) (up KV) (up KR)) m) (ix3 h q 0) = ∑ k : Fin 4096, hExp (hMasked (up Q) (up KV) (up KR)) m (ix3 h q k) := by
    generalize hExp (hMasked (up Q) (up KV) (up KR)) m = e
    pointwise [hSum]
  rw [e, Finset.sum_congr rfl fun k _ => hExp_apply Q KV KR m M h q hM k, sum_up]

theorem qb_qs : (⟨(qb q).val * 512 + (qs q).val, by have := (qb q).isLt; have := (qs q).isLt; omega⟩ : Fin 4096) = q := pos_qb_qs q

theorem hLse_apply : hLse m (hExp (hMasked (up Q) (up KV) (up KR)) m) (ix3 h (qb q) (qs q)) = ((Real.log (rZ Q KV KR h q) : ℝ) : EReal) := by
  have e : hLse m (hExp (hMasked (up Q) (up KV) (up KR)) m) (ix3 h (qb q) (qs q))
      = m (ix2 h q) + Ideal.log (hSum (hExp (hMasked (up Q) (up KV) (up KR)) m) (ix3 h q 0)) := by
    generalize hExp (hMasked (up Q) (up KV) (up KR)) m = e
    pointwise [hLse, hMaxCol]
    simp only [qb_qs m M h q hM]
  rw [e, hSum_apply Q KV KR m M h q hM, hM, lse_up]

theorem hDd_apply : hDd (up KV) (up O) (hExp (hMasked (up Q) (up KV) (up KR)) m) (ix3 h (qb q) (qs q)) = ((rDd Q KV KR O h q : ℝ) : EReal) := by
  have e : hDd (up KV) (up O) (hExp (hMasked (up Q) (up KV) (up KR)) m) (ix3 h (qb q) (qs q))
      = ∑ d : Fin 128, (up O) (ix2 q (colO h d)) * ∑ k : Fin 4096, (up KV) (ix2 k (col h ⟨128 + d.val, by omega⟩))
          * Ideal.div (hExp (hMasked (up Q) (up KV) (up KR)) m (ix3 h q k)) (hSum (hExp (hMasked (up Q) (up KV) (up KR)) m) (ix3 h q 0)) := by
    generalize hExp (hMasked (up Q) (up KV) (up KR)) m = e
    generalize up KV = KV'; generalize up O = O'
    pointwise [hDd, hHeads]
    simp only [qb_qs m M h q hM]
    rfl
  rw [e]
  have e1 : ∀ d : Fin 128, (∑ k : Fin 4096, (up KV) (ix2 k (col h ⟨128 + d.val, by omega⟩))
          * Ideal.div (hExp (hMasked (up Q) (up KV) (up KR)) m (ix3 h q k)) (hSum (hExp (hMasked (up Q) (up KV) (up KR)) m) (ix3 h q 0)))
        = ((∑ k : Fin 4096, KV (ix2 k (col h ⟨d.val + 128, by omega⟩)) * rP Q KV KR h q k : ℝ) : EReal) := fun d => by
    rw [← coe_sum]
    refine Finset.sum_congr rfl fun k _ => ?_
    rw [hExp_apply Q KV KR m M h q hM, hSum_apply Q KV KR m M h q hM, p_up, EReal.coe_mul]
    have : (⟨128 + d.val, by omega⟩ : Fin 256) = ⟨d.val + 128, by omega⟩ := Fin.ext (Nat.add_comm _ _)
    rw [this]
  rw [Finset.sum_congr rfl fun d _ => congrArg ((up O) (ix2 q (colO h d)) * ·) (e1 d), Finset.sum_congr rfl fun d _ => (EReal.coe_mul _ _).symm, coe_sum]
  congr 1
  unfold rDd rDp
  simp only [Finset.mul_sum]
  rw [Finset.sum_comm]
  refine Finset.sum_congr rfl fun k _ => Finset.sum_congr rfl fun d _ => ?_
  ring
end

end Cert.KernelIdeal.AttnBwd
-- ==== Proof.AttnBwd.RefVal.lean ====
/- The reference's three gradients at real inputs. -/
module

public import proofs.«01_k».proof.Proof.AttnBwd.HostVal
public import proofs.«01_k».proof.Proof.Gen.ReferenceIdeal.Read

@[expose] public section

set_option maxRecDepth 16384

noncomputable section

namespace Cert.ReferenceIdeal.AttnBwd

open Idealize.ShloMosaic Idealize.ShloMosaic.TcCoe Idealize.ShloMosaic.Tactic
open Cert.ReferenceIdeal Cert.ReferenceIdeal.Gen Cert.ReferenceIdeal.Read
open Cert.KernelIdeal.AttnBwd (up rK rA rW rZ rP rDp rDd rDs rDQ rDK rDV rDq rDkv rDkr col colO ch cd eSc coe_sum)

/-! ### The operations at an index -/

section Ops
variable (Q KV : FVec Ideal S4096x4096 .bf16) (KR : FVec Ideal S4096x128 .bf16) (O : FVec Ideal S4096x2048 .bf16)

theorem score_at (h : Fin 16) (q k : Fin 4096) : val_main_v13 (F := Ideal) Q KV KR (ix3 h q k)
    = (∑ d : Fin 128, Q (ix2 q (col h ⟨d.val, by omega⟩)) * KV (ix2 k (col h ⟨d.val, by omega⟩)))
      + (∑ d : Fin 128, Q (ix2 q (col h ⟨128 + d.val, by omega⟩)) * KR (ix2 k d)) := by
  pointwise [val_main_v13, val_main_v12, val_main_v11, val_main_v10, val_main_v9, val_main_v8, val_main_v7, val_main_v6, val_main_v5, val_main_v4, val_main_v3, val_main_v2, val_main_v1, val_main_v0]
  rfl
theorem mask_at (h : Fin 16) (q k : Fin 4096) : val_main_v24_1 (F := Ideal) (ix3 h q k) = BitVec.ofBool (decide (k.val ≤ q.val)) := by
  pointwise [val_main_v24_1, val_main_v23, val_main_v22, val_main_v21, val_main_v20, val_main_v19, val_main_v18, val_main_v17]
  exact WordCmp.cmpi_sle_ofNat (by have := k.isLt; norm_num; omega) (by have := q.isLt; norm_num; omega)
theorem masked_at (h : Fin 16) (q k : Fin 4096) : val_main_v24_0 (F := Ideal) Q KV KR (ix3 h q k)
    = Scalar.select (val_main_v24_1 (F := Ideal) (ix3 h q k))
        (Ideal.div (val_main_v13 (F := Ideal) Q KV KR (ix3 h q k)) (Ideal.sqrt (Ideal.ofBits FTy.f32 1128267776#32))) (Ideal.ofBits FTy.f32 4286578688#32) := by
  pointwise [val_main_v24_0, val_main_call0_v2, val_main_call0_v0, val_main_cst_0, val_main_v16, val_main_v15, val_main_v14, val_main_cst]
  rfl
/-- A masked score less its row's maximum, exponentiated. -/
theorem exp_core (sc : FVec Ideal S16x4096x4096 .f32) (mx : FVec Ideal S16x4096 .f32) (h : Fin 16) (q k : Fin 4096) :
    Host.exp (subf sc (broadcastInDim S16x4096x4096 ![0, 1, 2] bcast_S16x4096x1_S16x4096x4096_0_1_2
      (broadcastInDim S16x4096x1 ![0, 1] bcast_S16x4096_S16x4096x1_0_1 mx))) (ix3 h q k) = Ideal.exp (sc (ix3 h q k) - mx (ix2 h q)) := by
  pointwise
/-- The maximum of `-∞` and a row's maximum. -/
theorem max_core (mx : FVec Ideal S16x4096 .f32) (h : Fin 16) (q : Fin 4096) :
    maximumf (broadcastInDim S16x4096 ![] bcast_S_S16x4096 (constant (F := Ideal) S_ .f32 0xFF800000#32)) mx (ix2 h q) = mx (ix2 h q) := by
  show max (Ideal.ofBits FTy.f32 4286578688#32) (mx (ix2 h q)) = _
  rw [Cert.KernelIdeal.AttnBwd.bits_bot, max_eq_right bot_le]
theorem exp_at (h : Fin 16) (q k : Fin 4096) : val_main_v45 (F := Ideal) Q KV KR (ix3 h q k)
    = Ideal.exp (val_main_v24_0 (F := Ideal) Q KV KR (ix3 h q k) - val_main_v25 (F := Ideal) Q KV KR (ix2 h q)) :=
  (exp_core (val_main_v24_0 (F := Ideal) Q KV KR) (val_main_v32 (F := Ideal) Q KV KR) h q k).trans
    (congrArg (fun x => Ideal.exp (val_main_v24_0 (F := Ideal) Q KV KR (ix3 h q k) - x)) (max_core (val_main_v25 (F := Ideal) Q KV KR) h q))
theorem sum_at (h : Fin 16) (q : Fin 4096) : val_main_v47 (F := Ideal) Q KV KR (ix3 h q 0) = ∑ k : Fin 4096, val_main_v45 (F := Ideal) Q KV KR (ix3 h q k) := by
  unfold val_main_v47 val_main_v46 val_main_cst_9
  generalize val_main_v45 (F := Ideal) Q KV KR = e
  pointwise
theorem p_at (h : Fin 16) (q k : Fin 4096) : val_main_v49 (F := Ideal) Q KV KR (ix3 h q k)
    = Ideal.div (val_main_v45 (F := Ideal) Q KV KR (ix3 h q k)) (val_main_v47 (F := Ideal) Q KV KR (ix3 h q 0)) := by
  unfold val_main_v49 val_main_v48
  generalize val_main_v45 (F := Ideal) Q KV KR = e
  generalize val_main_v47 (F := Ideal) Q KV KR = l
  pointwise
theorem dp_at (h : Fin 16) (q k : Fin 4096) : val_main_v60 (F := Ideal) KV O (ix3 h q k)
    = ∑ d : Fin 128, O (ix2 q (colO h d)) * KV (ix2 k (col h ⟨128 + d.val, by omega⟩)) := by
  pointwise [val_main_v60, val_main_v59, val_main_v58, val_main_v57, val_main_v53, val_main_v6, val_main_v4]
  rfl
theorem dd_at (h : Fin 16) (q k : Fin 4096) : val_main_v73 (F := Ideal) Q KV KR O (ix3 h q k)
    = -∑ k : Fin 4096, val_main_v60 (F := Ideal) KV O (ix3 h q k)
        * Ideal.div 1 (val_main_v47 (F := Ideal) Q KV KR (ix3 h q 0) * val_main_v47 (F := Ideal) Q KV KR (ix3 h q 0)) * val_main_v45 (F := Ideal) Q KV KR (ix3 h q k) := by
  unfold val_main_v73 val_main_v72 val_main_v69 val_main_v68 val_main_v67 val_main_v66 val_main_v65 val_main_v64 val_main_v52 val_main_v51 val_main_v50 val_main_cst_10 val_main_cst_12 val_main_cst_13
  generalize val_main_v45 (F := Ideal) Q KV KR = e
  generalize val_main_v47 (F := Ideal) Q KV KR = l
  generalize val_main_v60 (F := Ideal) KV O = dp
  pointwise
  simp
theorem ds_at (h : Fin 16) (q k : Fin 4096) : val_main_v78 (F := Ideal) Q KV KR O (ix3 h q k)
    = Ideal.div (Scalar.select (val_main_v24_1 (F := Ideal) (ix3 h q k))
        ((Ideal.div (val_main_v60 (F := Ideal) KV O (ix3 h q k)) (val_main_v47 (F := Ideal) Q KV KR (ix3 h q 0)) + val_main_v73 (F := Ideal) Q KV KR O (ix3 h q k))
          * val_main_v45 (F := Ideal) Q KV KR (ix3 h q k)) 0) (Ideal.sqrt (Ideal.ofBits FTy.f32 1128267776#32)) := by
  unfold val_main_v78 val_main_v77 val_main_v76 val_main_v75 val_main_v74 val_main_v71 val_main_v70 val_main_call1_v0 val_main_call1_cst val_main_v14 val_main_cst
  generalize val_main_v45 (F := Ideal) Q KV KR = e
  generalize val_main_v47 (F := Ideal) Q KV KR = l
  generalize val_main_v60 (F := Ideal) KV O = dp
  generalize val_main_v73 (F := Ideal) Q KV KR O = dd
  generalize val_main_v24_1 (F := Ideal) = mask
  pointwise

/-! The gradients' products. -/
theorem dkr_at (h : Fin 16) (k : Fin 4096) (d : Fin 128) : val_main_v90 (F := Ideal) Q KV KR O (ix3 h k d)
    = ∑ q : Fin 4096, val_main_v78 (F := Ideal) Q KV KR O (ix3 h q k) * Q (ix2 q (col h ⟨128 + d.val, by omega⟩)) := by
  unfold val_main_v90 val_main_v80 val_main_v79
  generalize val_main_v78 (F := Ideal) Q KV KR O = ds
  pointwise [val_main_v10, val_main_v5, val_main_v3]
  rfl
theorem dv_at (h : Fin 16) (k : Fin 4096) (d : Fin 128) : val_main_v62 (F := Ideal) Q KV KR O (ix3 k h d)
    = ∑ q : Fin 4096, O (ix2 q (colO h d)) * val_main_v49 (F := Ideal) Q KV KR (ix3 h q k) := by
  unfold val_main_v62 val_main_v61
  generalize val_main_v49 (F := Ideal) Q KV KR = p
  pointwise [val_main_v59, val_main_v58, val_main_v57]
  rfl
theorem dqn_at (h : Fin 16) (q : Fin 4096) (d : Fin 128) : val_main_v86 (F := Ideal) Q KV KR O (ix3 q h d)
    = ∑ k : Fin 4096, val_main_v78 (F := Ideal) Q KV KR O (ix3 h q k) * KV (ix2 k (col h ⟨d.val, by omega⟩)) := by
  unfold val_main_v86 val_main_v85
  generalize val_main_v78 (F := Ideal) Q KV KR O = ds
  pointwise [val_main_v7, val_main_v6, val_main_v4]
  rfl
theorem dqr_at (h : Fin 16) (q : Fin 4096) (d : Fin 128) : val_main_v82 (F := Ideal) Q KV KR O (ix3 q h d)
    = ∑ k : Fin 4096, val_main_v78 (F := Ideal) Q KV KR O (ix3 h q k) * KR (ix2 k d) := by
  unfold val_main_v82 val_main_v81
  generalize val_main_v78 (F := Ideal) Q KV KR O = ds
  pointwise [val_main_v8, val_main_v2, val_main_v1, val_main_v0]
theorem dkn_at (h : Fin 16) (k : Fin 4096) (d : Fin 128) : val_main_v84 (F := Ideal) Q KV KR O (ix3 k h d)
    = ∑ q : Fin 4096, val_main_v78 (F := Ideal) Q KV KR O (ix3 h q k) * Q (ix2 q (col h ⟨d.val, by omega⟩)) := by
  unfold val_main_v84 val_main_v83
  generalize val_main_v78 (F := Ideal) Q KV KR O = ds
  pointwise [val_main_v9, val_main_v5, val_main_v3]
  rfl

/-- The query gradient: its own channels, then the rotary ones. -/
theorem dq_at (q n : Fin 4096) : val_main_v95 (F := Ideal) Q KV KR O (ix2 q n)
    = if hd : (cd n).val < 128 then val_main_v86 (F := Ideal) Q KV KR O (ix3 q (ch n) ⟨(cd n).val, hd⟩)
      else val_main_v82 (F := Ideal) Q KV KR O (ix3 q (ch n) ⟨(cd n).val - 128, by omega⟩) := by
  unfold val_main_v95 val_main_v94 val_main_v89 val_main_v88 val_main_v87 val_main_cst_14 val_main_cst_15
  generalize val_main_v86 (F := Ideal) Q KV KR O = a
  generalize val_main_v82 (F := Ideal) Q KV KR O = b
  pointwise
  by_cases hd : (cd n).val < 128
  · have hd' : n.val % 256 < 128 := hd
    rw [dif_pos hd, dif_neg (by omega), dif_pos (by omega), zero_add]
    rfl
  · have hd' : ¬n.val % 256 < 128 := hd
    rw [dif_neg hd, dif_pos (by omega), dif_neg (by omega), add_zero]
    rfl
/-- The key and value gradient: the keys' own channels, then the values'. -/
theorem dkv_at (k n : Fin 4096) : val_main_v96 (F := Ideal) Q KV KR O (ix2 k n)
    = if hd : (cd n).val < 128 then val_main_v84 (F := Ideal) Q KV KR O (ix3 k (ch n) ⟨(cd n).val, hd⟩)
      else val_main_v62 (F := Ideal) Q KV KR O (ix3 k (ch n) ⟨(cd n).val - 128, by omega⟩) := by
  unfold val_main_v96 val_main_v93 val_main_v92 val_main_v91 val_main_v63 val_main_cst_11 val_main_cst_16
  generalize val_main_v84 (F := Ideal) Q KV KR O = a
  generalize val_main_v62 (F := Ideal) Q KV KR O = b
  pointwise
  by_cases hd : (cd n).val < 128
  · have hd' : n.val % 256 < 128 := hd
    rw [dif_pos hd, dif_neg (by omega), dif_pos (by omega), zero_add]
    rfl
  · have hd' : ¬n.val % 256 < 128 := hd
    rw [dif_neg hd, dif_pos (by omega), dif_neg (by omega), add_zero]
    rfl
end Ops

/-! ### At real inputs -/

variable (Q KV : S4096x4096.Idx → ℝ) (KR : S4096x128.Idx → ℝ) (O : S4096x2048.Idx → ℝ)

theorem masked_up (h : Fin 16) (q k : Fin 4096) : val_main_v24_0 (F := Ideal) (up Q) (up KV) (up KR) (ix3 h q k) = eSc Q KV KR h q k := by
  rw [masked_at, mask_at, score_at, Cert.KernelIdeal.AttnBwd.bits_192, Cert.KernelIdeal.AttnBwd.bits_bot, Cert.KernelIdeal.AttnBwd.score_halves,
    Cert.KernelIdeal.AttnBwd.sqrt_coe_192, Cert.KernelIdeal.AttnBwd.scaled_up]
  unfold eSc
  by_cases hk : k.val ≤ q.val <;> simp [hk, Scalar.select]

/-- The row maximum is a real number. -/
theorem max_real (h : Fin 16) (q : Fin 4096) : ∃ M : ℝ, val_main_v25 (F := Ideal) (up Q) (up KV) (up KR) (ix2 h q) = (M : EReal) := by
  have ht : ∀ y, val_main_v24_0 (F := Ideal) (up Q) (up KV) (up KR) y ≠ ⊤ := fun y => by
    idx_vars y
    rw [masked_up]; exact Cert.KernelIdeal.AttnBwd.eSc_ne_top _ _ _ _ _ _
  have hb : val_main_v24_0 (F := Ideal) (up Q) (up KV) (up KR) (ix3 h q q) ≠ ⊥ := by
    rw [masked_up]; exact Cert.KernelIdeal.AttnBwd.eSc_diag _ _ _ _ _
  unfold val_main_v25
  generalize val_main_v24_0 (F := Ideal) (up Q) (up KV) (up KR) = sc at ht hb
  exact Cert.KernelIdeal.AttnBwd.rowMax_real sc _ (fun _ => Cert.KernelIdeal.AttnBwd.bits_bot) _ _ ht h q q hb

theorem dp_up (h : Fin 16) (q k : Fin 4096) : val_main_v60 (F := Ideal) (up KV) (up O) (ix3 h q k) = ((rDp KV O h q k : ℝ) : EReal) := by
  rw [dp_at]
  unfold rDp; rw [← coe_sum]
  refine Finset.sum_congr rfl fun d _ => ?_
  have : (⟨128 + d.val, by omega⟩ : Fin 256) = ⟨d.val + 128, by omega⟩ := Fin.ext (Nat.add_comm _ _)
  rw [this, EReal.coe_mul, mul_comm]

section Row
variable (M : ℝ) (h : Fin 16) (q : Fin 4096) (hM : val_main_v25 (F := Ideal) (up Q) (up KV) (up KR) (ix2 h q) = (M : EReal))
include hM

theorem exp_up (k : Fin 4096) : val_main_v45 (F := Ideal) (up Q) (up KV) (up KR) (ix3 h q k) = ((rW Q KV KR h q k * Real.exp (-M) : ℝ) : EReal) := by
  rw [exp_at, masked_up, hM, Cert.KernelIdeal.AttnBwd.exp_up]
theorem sum_up : val_main_v47 (F := Ideal) (up Q) (up KV) (up KR) (ix3 h q 0) = ((rZ Q KV KR h q * Real.exp (-M) : ℝ) : EReal) := by
  rw [sum_at, Finset.sum_congr rfl fun k _ => exp_up Q KV KR M h q hM k, Cert.KernelIdeal.AttnBwd.sum_up]
theorem dd_up (k : Fin 4096) : val_main_v73 (F := Ideal) (up Q) (up KV) (up KR) (up O) (ix3 h q k)
    = ((-(rDd Q KV KR O h q / (rZ Q KV KR h q * Real.exp (-M))) : ℝ) : EReal) := by
  have hp := Cert.KernelIdeal.AttnBwd.sum_pos Q KV KR M h q
  have hz := Cert.KernelIdeal.AttnBwd.rZ_pos Q KV KR h q
  have e1 : Ideal.div 1 (((rZ Q KV KR h q * Real.exp (-M) : ℝ) : EReal) * ((rZ Q KV KR h q * Real.exp (-M) : ℝ) : EReal))
      = ((1 / ((rZ Q KV KR h q * Real.exp (-M)) * (rZ Q KV KR h q * Real.exp (-M))) : ℝ) : EReal) := by
    rw [← EReal.coe_mul, ← EReal.coe_one, Cert.KernelIdeal.AttnBwd.div_coe _ _ (mul_pos hp hp)]
  rw [dd_at, sum_up Q KV KR M h q hM, e1, EReal.coe_neg]
  refine congrArg (fun x : EReal => -x) ?_
  unfold rDd
  rw [Finset.sum_div, ← coe_sum]
  refine Finset.sum_congr rfl fun k _ => ?_
  rw [dp_up, exp_up Q KV KR M h q hM, ← EReal.coe_mul, ← EReal.coe_mul, EReal.coe_eq_coe_iff]
  unfold rP
  have := (Real.exp_pos (-M)).ne'
  have := hz.ne'
  field_simp
end Row

theorem p_up (h : Fin 16) (q k : Fin 4096) : val_main_v49 (F := Ideal) (up Q) (up KV) (up KR) (ix3 h q k) = ((rP Q KV KR h q k : ℝ) : EReal) := by
  obtain ⟨M, hM⟩ := max_real Q KV KR h q
  rw [p_at, exp_up Q KV KR M h q hM, sum_up Q KV KR M h q hM, Cert.KernelIdeal.AttnBwd.p_up]

/-- The score's cotangent. -/
theorem ds_up (h : Fin 16) (q k : Fin 4096) : val_main_v78 (F := Ideal) (up Q) (up KV) (up KR) (up O) (ix3 h q k) = ((rDs Q KV KR O h q k : ℝ) : EReal) := by
  obtain ⟨M, hM⟩ := max_real Q KV KR h q
  have hz := Cert.KernelIdeal.AttnBwd.rZ_pos Q KV KR h q
  rw [ds_at, mask_at, Cert.KernelIdeal.AttnBwd.bits_192, Cert.KernelIdeal.AttnBwd.sqrt_coe_192, dp_up, sum_up Q KV KR M h q hM, dd_up Q KV KR O M h q hM,
    exp_up Q KV KR M h q hM, Cert.KernelIdeal.AttnBwd.div_coe _ _ (Cert.KernelIdeal.AttnBwd.sum_pos Q KV KR M h q), ← EReal.coe_add, ← EReal.coe_mul]
  by_cases hk : k.val ≤ q.val
  · have e : Scalar.select (BitVec.ofBool (decide (k.val ≤ q.val)))
        (((rDp KV O h q k / (rZ Q KV KR h q * Real.exp (-M)) + -(rDd Q KV KR O h q / (rZ Q KV KR h q * Real.exp (-M)))) * (rW Q KV KR h q k * Real.exp (-M)) : ℝ) : EReal) 0
        = (((rDp KV O h q k / (rZ Q KV KR h q * Real.exp (-M)) + -(rDd Q KV KR O h q / (rZ Q KV KR h q * Real.exp (-M)))) * (rW Q KV KR h q k * Real.exp (-M)) : ℝ) : EReal) := by
      simp [hk, Scalar.select]
    rw [e, Cert.KernelIdeal.AttnBwd.div_coe _ _ Cert.KernelIdeal.AttnBwd.sqrt_pos', EReal.coe_eq_coe_iff]
    unfold rDs rP
    have := (Real.exp_pos (-M)).ne'
    have := hz.ne'
    field_simp
    ring
  · have e : ∀ x : EReal, Scalar.select (BitVec.ofBool (decide (k.val ≤ q.val))) x 0 = ((0 : ℝ) : EReal) := fun x => by
      simp [hk, Scalar.select]
    rw [e, Cert.KernelIdeal.AttnBwd.div_coe _ _ Cert.KernelIdeal.AttnBwd.sqrt_pos', EReal.coe_eq_coe_iff]
    unfold rDs rP rW
    rw [if_neg hk]
    simp

/-- A head's gradient sums, on the reference's side. -/
theorem dk_up (h : Fin 16) (k : Fin 4096) (d : Fin 256) :
    (∑ q : Fin 4096, val_main_v78 (F := Ideal) (up Q) (up KV) (up KR) (up O) (ix3 h q k) * (up Q) (ix2 q (col h d))) = ((rDK Q KV KR O h k d : ℝ) : EReal) := by
  unfold rDK; rw [← coe_sum]
  refine Finset.sum_congr rfl fun q _ => ?_
  rw [ds_up, EReal.coe_mul]

/-- The reference's three results. -/
theorem dkr_up : val_main_v90 (F := Ideal) (up Q) (up KV) (up KR) (up O) = up (rDkr Q KV KR O) := by
  funext y
  idx_vars y
  rw [dkr_at, dk_up]
  have e : (⟨128 + y2.val, by omega⟩ : Fin 256) = ⟨y2.val + 128, by omega⟩ := Fin.ext (Nat.add_comm _ _)
  rw [e]
  rfl

theorem dq_up : val_main_v95 (F := Ideal) (up Q) (up KV) (up KR) (up O) = up (rDq Q KV KR O) := by
  funext y
  idx_vars y
  rw [dq_at]
  show _ = ((rDQ Q KV KR O (ch y1) y0 (cd y1) : ℝ) : EReal)
  unfold rDQ; rw [← coe_sum]
  by_cases hd : (cd y1).val < 128
  · rw [dif_pos hd, dqn_at]
    refine Finset.sum_congr rfl fun k _ => ?_
    rw [ds_up, EReal.coe_mul]
    unfold rK; rw [dif_pos hd]
  · rw [dif_neg hd, dqr_at]
    refine Finset.sum_congr rfl fun k _ => ?_
    rw [ds_up, EReal.coe_mul]
    unfold rK; rw [dif_neg hd]

theorem dkv_up : val_main_v96 (F := Ideal) (up Q) (up KV) (up KR) (up O) = up (rDkv Q KV KR O) := by
  funext y
  idx_vars y
  rw [dkv_at]
  by_cases hd : (cd y1).val < 128
  · have e : rDkv Q KV KR O (ix2 y0 y1) = rDK Q KV KR O (ch y1) y0 (cd y1) := dif_pos hd
    rw [dif_pos hd, dkn_at]
    exact (dk_up Q KV KR O (ch y1) y0 (cd y1)).trans (congrArg (fun x : ℝ => (x : EReal)) e.symm)
  · have e : rDkv Q KV KR O (ix2 y0 y1) = rDV Q KV KR O (ch y1) y0 ⟨(cd y1).val - 128, by omega⟩ := dif_neg hd
    rw [dif_neg hd, dv_at]
    refine Eq.trans ?_ (congrArg (fun x : ℝ => (x : EReal)) e.symm)
    unfold rDV; rw [← coe_sum]
    refine Finset.sum_congr rfl fun q _ => ?_
    rw [p_up, EReal.coe_mul, mul_comm]

end Cert.ReferenceIdeal.AttnBwd
-- ==== Proof.AttnBwd.Equation.lean ====
/- The attention backward kernel and its reference compute the same three gradients at real inputs. -/
module

public import proofs.«01_k».proof.Proof.AttnBwd.Finite
public import proofs.«01_k».proof.Proof.AttnBwd.RefVal
public import proofs.«01_k».proof.Proof.AttnBwd.Frame
public import Idealize.ShloMosaic.Lib.Claim

@[expose] public section

set_option maxRecDepth 16384

noncomputable section

namespace Cert.KernelIdeal.AttnBwd

open Idealize.ShloMosaic Idealize.ShloMosaic.TcCoe Idealize.ShloMosaic.Tactic
open Idealize.SL.Sem
open Cert.KernelIdeal.Gen

variable (m : (ℓ : Loc nD τ sig) → Buf (Elt Ideal) ℓ) (c : Dev nD)
variable (Q KV : S4096x4096.Idx → ℝ) (KR : S4096x128.Idx → ℝ) (O : S4096x2048.Idx → ℝ)

section
variable (hQ : m ((c.tc : Thread nD τ).loc main_arg0) = up Q) (hKV : m ((c.tc : Thread nD τ).loc main_arg1) = up KV)
variable (hKR : m ((c.tc : Thread nD τ).loc main_arg2) = up KR) (hO : m ((c.tc : Thread nD τ).loc main_arg3) = up O)
include hQ hKV hKR

theorem mSc_up : mSc m c = hMasked (up Q) (up KV) (up KR) := by
  unfold mSc; rw [hQ, hKV, hKR]

/-- The launch's row statistics. -/
theorem aL_up (h : Fin 16) (q : Fin 4096) : aL m c (ix3 h (qb q) (qs q)) = ((Real.log (rZ Q KV KR h q) : ℝ) : EReal) := by
  obtain ⟨M, hM⟩ := hMax_real Q KV KR h q
  rw [aL_eq, mExp, mMax, mSc_up m c Q KV KR hQ hKV hKR]
  exact hLse_apply Q KV KR _ M h q hM

include hO in
theorem aD_up (h : Fin 16) (q : Fin 4096) : aD m c (ix3 h (qb q) (qs q)) = ((rDd Q KV KR O h q : ℝ) : EReal) := by
  obtain ⟨M, hM⟩ := hMax_real Q KV KR h q
  rw [aD_eq, mExp, mMax, mSc_up m c Q KV KR hQ hKV hKR, hKV, hO]
  exact hDd_apply Q KV KR O _ M h q hM

include hO
/-- The launch's three results. -/
theorem results_up :
    gDq (aQ m c) (aKV m c) (aKR m c) (aO m c) (aL m c) (aD m c) = up (rDq Q KV KR O)
    ∧ gDkv (aQ m c) (aKV m c) (aKR m c) (aO m c) (aL m c) (aD m c) = up (rDkv Q KV KR O)
    ∧ gDkr (aQ m c) (aKV m c) (aKR m c) (aO m c) (aL m c) (aD m c) = up (rDkr Q KV KR O) := by
  have hl := aL_up m c Q KV KR hQ hKV hKR
  have hd := aD_up m c Q KV KR O hQ hKV hKR hO
  generalize aL m c = L at hl ⊢
  generalize aD m c = D at hd ⊢
  rw [aQ_eq, aKV_eq, aKR_eq, aO_eq, hQ, hKV, hKR, hO]
  exact ⟨gDq_up Q KV KR O L D hl hd, gDkv_up Q KV KR O L D hl hd, gDkr_up Q KV KR O L D hl hd⟩
end

/-- The precondition gives real arguments on every device. -/
theorem args_real (h : Cert.Pre_KernelIdeal_finite (hPre_finite := Cert.Pre_finite.facts) m) :
    (∃ f, m ((c.tc : Thread nD τ).loc main_arg0) = up f) ∧ (∃ f, m ((c.tc : Thread nD τ).loc main_arg1) = up f)
    ∧ (∃ f, m ((c.tc : Thread nD τ).loc main_arg2) = up f) ∧ ∃ f, m ((c.tc : Thread nD τ).loc main_arg3) = up f := by
  obtain ⟨h0, h1, h2, h3⟩ := h c
  haveI := Cert.Pre_finite.facts
  exact Cert.Pre_finite.real_args _ _ _ _ h0 h1 h2 h3

/-- The kernel and the reference, from memories that agree on the arguments, end with equal gradients. -/
theorem algebraic : Cert.algebraic_KernelIdeal_ReferenceIdeal_pre_finite
    (hKernelIdeal := Cert.KernelIdeal.Gen.facts) (hReferenceIdeal := Cert.ReferenceIdeal.Gen.facts) (hPre_finite := Cert.Pre_finite.facts) := by
  intro m g m' g' hpre hargs
  have hr := fun c => args_real m c hpre
  choose hQ hKV hKR hO using hr
  choose Q hQ using hQ
  choose KV hKV using hKV
  choose KR hKR using hKR
  choose O hO using hO
  refine ⟨fun c => up (rDq (Q c) (KV c) (KR c) (O c)), fun c => up (rDkv (Q c) (KV c) (KR c) (O c)), fun c => up (rDkr (Q c) (KV c) (KR c) (O c)), ?_, ?_⟩
  · refine (θ_run defs _ _).mono (fun r h c => ?_) (θ_run_and (run m g) (frame m g))
    obtain ⟨h6, h7, h8⟩ := h.1 c
    obtain ⟨e6, e7, e8⟩ := results_up m c (Q c) (KV c) (KR c) (O c) (hQ c) (hKV c) (hKR c) (hO c)
    exact ⟨h6.trans e6, h7.trans e7, h8.trans e8, h.2.1 c⟩
  · refine (θ_run Cert.ReferenceIdeal.defs _ _).mono (fun r h c => ?_) (Cert.ReferenceIdeal.Value.run (F := Ideal) m' g')
    obtain ⟨a0, a1, a2, a3⟩ := hargs c
    obtain ⟨h0, h1, h2, hrest⟩ := h c
    refine ⟨h0.trans ?_, h1.trans ?_, h2.trans ?_, hrest⟩
    · rw [Cert.ReferenceIdeal.Read.val_main_v95_eq, a0, a1, a2, a3, hQ c, hKV c, hKR c, hO c]
      exact Cert.ReferenceIdeal.AttnBwd.dq_up (Q c) (KV c) (KR c) (O c)
    · rw [Cert.ReferenceIdeal.Read.val_main_v96_eq, a0, a1, a2, a3, hQ c, hKV c, hKR c, hO c]
      exact Cert.ReferenceIdeal.AttnBwd.dkv_up (Q c) (KV c) (KR c) (O c)
    · rw [Cert.ReferenceIdeal.Read.val_main_v90_eq, a0, a1, a2, a3, hQ c, hKV c, hKR c, hO c]
      exact Cert.ReferenceIdeal.AttnBwd.dkr_up (Q c) (KV c) (KR c) (O c)

end Cert.KernelIdeal.AttnBwd
-- ==== Proof.AttnFwd.Online.lean ====
/- The running softmax of one query: the maximum, the sum and the weighted values carried from key tile to key tile, over the
   real numbers. -/
module

public import proofs.«01_k».proof.Proof.AttnBwd.Spec

@[expose] public section

set_option maxRecDepth 16384

noncomputable section

namespace Cert.AttnFwd

open Idealize.ShloMosaic
open Cert.KernelIdeal.AttnBwd (cScaleLog cScaleLog_pos cScale coe_sum sqrt_pos' fold_max_real pos tiles rW rZ up)

/-- Two to the power of a scaled score is the score's exponential after scaling. -/
theorem exp2_scaled (y : ℝ) : FloatOps.exp2 (F := Ideal) (φ := .f32) ((y : EReal) * cScaleLog) = ((Real.exp (y / Real.sqrt 192) : ℝ) : EReal) := by
  have h2 : (0 : ℝ) < Real.log 2 := Real.log_pos (by norm_num)
  show Ideal.exp2 _ = _
  rw [cScaleLog, ← EReal.coe_mul, Ideal.exp2_coe]
  show ((Real.rpow 2 _ : ℝ) : EReal) = _
  have e : Real.rpow 2 (y * ((Real.sqrt 192)⁻¹ * (Real.log 2)⁻¹)) = Real.exp (y / Real.sqrt 192) := by
    show (2 : ℝ) ^ (_ : ℝ) = _
    rw [Real.rpow_def_of_pos (by norm_num)]
    congr 1
    have := sqrt_pos'.ne'
    field_simp
  rw [e]

theorem exp2_hidden (M : ℝ) : FloatOps.exp2 (F := Ideal) (φ := .f32) ((⊥ - (M : EReal)) * cScaleLog) = 0 := by
  show Ideal.exp2 _ = _
  rw [EReal.bot_sub, cScaleLog, EReal.bot_mul_coe_of_pos cScaleLog_pos, Ideal.exp2_bot]

/-- The factor a maximum `M` takes off a weight. -/
def off (M : ℝ) : ℝ := Real.exp (-(M / Real.sqrt 192))

theorem off_pos (M : ℝ) : 0 < off M := Real.exp_pos _

/-- A change of maximum rescales. -/
theorem exp2_rescale (M M' : ℝ) (x : ℝ) :
    FloatOps.exp2 (F := Ideal) (φ := .f32) (((M : EReal) - (M' : EReal)) * cScaleLog) * ((x * off M : ℝ) : EReal) = ((x * off M' : ℝ) : EReal) := by
  rw [← EReal.coe_sub, exp2_scaled, ← EReal.coe_mul]
  congr 1
  have e : off M' = Real.exp ((M - M') / Real.sqrt 192) * off M := by
    unfold off
    rw [← Real.exp_add]; congr 1; ring
  rw [e]; ring

/-- A score's weight, zero where the key is hidden. -/
def wt (v : Prop) [Decidable v] (x : ℝ) : ℝ := if v then Real.exp x else 0
/-- A score before scaling, `-∞` where the key is hidden. -/
def raw (v : Prop) [Decidable v] (x : ℝ) : EReal := if v then ((x * Real.sqrt 192 : ℝ) : EReal) else ⊥

theorem raw_ne_top (v : Prop) [Decidable v] (x : ℝ) : raw v x ≠ ⊤ := by
  unfold raw; split
  · exact EReal.coe_ne_top _
  · exact bot_ne_top

theorem exp2_weight (v : Prop) [Decidable v] (x M : ℝ) :
    FloatOps.exp2 (F := Ideal) (φ := .f32) ((raw v x - (M : EReal)) * cScaleLog) = ((wt v x * off M : ℝ) : EReal) := by
  unfold raw wt
  split
  · rw [← EReal.coe_sub, exp2_scaled]
    congr 1
    unfold off
    rw [← Real.exp_add]
    congr 1
    have := sqrt_pos'.ne'
    field_simp
    ring
  · rw [exp2_hidden, zero_mul, EReal.coe_zero]

/-- The carried values at a maximum `M`: the sum `z` and the weighted values `a`, the maximum's factor taken off. -/
def Seen (m l : EReal) (acc : Fin 128 → EReal) (z : ℝ) (a : Fin 128 → ℝ) : Prop :=
  ∃ M : ℝ, m = (M : EReal) ∧ l = ((z * off M : ℝ) : EReal) ∧ ∀ d, acc d = ((a d * off M : ℝ) : EReal)
/-- Or nothing seen yet. -/
def Carried (m l : EReal) (acc : Fin 128 → EReal) (z : ℝ) (a : Fin 128 → ℝ) : Prop :=
  (m = ⊥ ∧ l = 0 ∧ z = 0 ∧ ∀ d, acc d = 0 ∧ a d = 0) ∨ Seen m l acc z a

/-- The new maximum, the row's scores seen. -/
def newMax (m : EReal) (s : Fin 512 → EReal) : EReal := max m (Finset.univ.fold max ⊥ s)
/-- The factor that rescales what was carried. -/
def alpha (m : EReal) (s : Fin 512 → EReal) : EReal := FloatOps.exp2 (F := Ideal) (φ := .f32) ((m - newMax m s) * cScaleLog)
/-- The tile's weights. -/
def prob (m : EReal) (s : Fin 512 → EReal) (r : Fin 512) : EReal := FloatOps.exp2 (F := Ideal) (φ := .f32) ((s r - newMax m s) * cScaleLog)

/-- One key tile: what is carried after it. -/
theorem step {m l : EReal} {acc : Fin 128 → EReal} {z : ℝ} {a : Fin 128 → ℝ} (g : Carried m l acc z a)
    (vis : Fin 512 → Prop) [DecidablePred vis] (x : Fin 512 → ℝ) (val : Fin 512 → Fin 128 → ℝ) (s : Fin 512 → EReal)
    (hs : ∀ r, s r = raw (vis r) (x r)) (r₀ : Fin 512) (h₀ : vis r₀) :
    Seen (newMax m s) (alpha m s * l + ∑ r, prob m s r) (fun d => alpha m s * acc d + ∑ r, prob m s r * ((val r d : ℝ) : EReal))
      (z + ∑ r, wt (vis r) (x r)) (fun d => a d + ∑ r, wt (vis r) (x r) * val r d) := by
  obtain ⟨T, hT⟩ := fold_max_real Finset.univ s (fun r => by rw [hs]; exact raw_ne_top _ _) r₀ (Finset.mem_univ _)
    (by rw [hs]; unfold raw; rw [if_pos h₀]; exact EReal.coe_ne_bot _)
  obtain ⟨M', hM'⟩ : ∃ M' : ℝ, newMax m s = (M' : EReal) := by
    unfold newMax
    rw [hT]
    rcases g with ⟨hm, -⟩ | ⟨M, hm, -⟩
    · exact ⟨T, by rw [hm]; exact max_eq_right bot_le⟩
    · exact ⟨max M T, by rw [hm]; exact (EReal.coe_strictMono.monotone.map_max).symm⟩
  have hp : ∀ r, prob m s r = ((wt (vis r) (x r) * off M' : ℝ) : EReal) := fun r => by
    unfold prob; rw [hM', hs, exp2_weight]
  have hsum : (∑ r, prob m s r) = (((∑ r, wt (vis r) (x r)) * off M' : ℝ) : EReal) := by
    rw [Finset.sum_congr rfl fun r _ => hp r, coe_sum, Finset.sum_mul]
  have hval : ∀ d, (∑ r, prob m s r * ((val r d : ℝ) : EReal)) = (((∑ r, wt (vis r) (x r) * val r d) * off M' : ℝ) : EReal) := fun d => by
    rw [Finset.sum_congr rfl fun r _ => congrArg (fun p : EReal => p * ((val r d : ℝ) : EReal)) (hp r), Finset.sum_congr rfl fun r _ => (EReal.coe_mul _ _).symm, coe_sum, Finset.sum_mul]
    congr 1
    exact Finset.sum_congr rfl fun r _ => by ring
  have hal : alpha m s * l = ((z * off M' : ℝ) : EReal) ∧ ∀ d, alpha m s * acc d = ((a d * off M' : ℝ) : EReal) := by
    unfold alpha
    rw [hM']
    rcases g with ⟨hm, hl, hz, ha⟩ | ⟨M, hm, hl, ha⟩
    · refine ⟨by rw [hl, hz]; simp, fun d => by rw [(ha d).1, (ha d).2]; simp⟩
    · refine ⟨by rw [hm, hl, exp2_rescale], fun d => by rw [hm, ha d, exp2_rescale]⟩
  refine ⟨M', hM', ?_, fun d => ?_⟩
  · rw [hal.1, hsum, ← EReal.coe_add, add_mul]
  · show alpha m s * acc d + _ = _
    rw [hal.2 d, hval d, ← EReal.coe_add, add_mul]

/-- The end: the weighted values over the sum, and the sum's logarithm with the maximum put back. -/
theorem finish {m l : EReal} {acc : Fin 128 → EReal} {z : ℝ} {a : Fin 128 → ℝ} (g : Seen m l acc z a) (hz : 0 < z) :
    (∀ d, Ideal.div (acc d) l = ((a d / z : ℝ) : EReal)) ∧ m * cScale + Ideal.log l = ((Real.log z : ℝ) : EReal) := by
  obtain ⟨M, hm, hl, ha⟩ := g
  have hpos : 0 < z * off M := mul_pos hz (off_pos M)
  refine ⟨fun d => ?_, ?_⟩
  · rw [ha d, hl, Cert.KernelIdeal.AttnBwd.div_coe _ _ hpos, mul_div_mul_right _ _ (off_pos M).ne']
  · rw [hm, hl, Ideal.log_coe, if_neg (not_le.mpr hpos), cScale, ← EReal.coe_mul, ← EReal.coe_add, Real.log_mul hz.ne' (off_pos M).ne']
    congr 1
    unfold off
    rw [Real.log_exp, div_eq_mul_inv]
    ring

/-- One more tile in a sum over the first tiles. -/
theorem sum_first (T : Fin 8 → ℝ) (n : ℕ) (h : n < 8) :
    (∑ b : Fin 8, if b.val < n + 1 then T b else 0) = (∑ b : Fin 8, if b.val < n then T b else 0) + T ⟨n, h⟩ := by
  have e : ∀ b : Fin 8, (if b.val < n + 1 then T b else 0) = (if b.val < n then T b else 0) + (if b = ⟨n, h⟩ then T b else 0) := by
    intro b
    by_cases hb : b = ⟨n, h⟩
    · subst hb
      rw [if_pos (Nat.lt_succ_self n), if_neg (lt_irrefl n), if_pos rfl, zero_add]
    · have : b.val ≠ n := fun e => hb (Fin.ext e)
      rw [if_neg hb, add_zero]
      exact if_congr (by omega) rfl rfl
  rw [Finset.sum_congr rfl fun b _ => e b, Finset.sum_add_distrib, Finset.sum_ite_eq' Finset.univ, if_pos (Finset.mem_univ _)]

/-- The tiles up to the query's own hold every key the query sees. -/
theorem sum_seen (f : Fin 4096 → ℝ) (n : ℕ) (hf : ∀ (b : Fin 8) (r : Fin 512), n < b.val → f (pos b r) = 0) :
    (∑ b : Fin 8, if b.val < n + 1 then ∑ r : Fin 512, f (pos b r) else 0) = ∑ k : Fin 4096, f k := by
  have e : ∀ b : Fin 8, (if b.val < n + 1 then ∑ r : Fin 512, f (pos b r) else 0) = ∑ r : Fin 512, f (pos b r) := fun b => by
    by_cases hb : b.val < n + 1
    · rw [if_pos hb]
    · rw [if_neg hb]
      exact (Finset.sum_eq_zero fun r _ => hf b r (by omega)).symm
  rw [Finset.sum_congr rfl fun b _ => e b, ← Fintype.sum_prod_type' (fun b s => f (pos b s))]
  exact Fintype.sum_equiv tiles (fun p => f (pos p.1 p.2)) f fun _ => rfl

end Cert.AttnFwd
end
-- ==== Proof.AttnFwd.Tile.lean ====
/- The attention forward kernel's tile values over the extended reals, element by element. -/
module

public import proofs.«01_k».proof.Proof.AttnFwd.Online
public import proofs.«01_k».proof.Proof.Gen.AttnFwdIdeal.Skeleton
public import Idealize.ShloMosaic.Lib.Pointwise
public import Idealize.ShloMosaic.PureOps.Reduce

@[expose] public section

set_option maxRecDepth 16384

noncomputable section

namespace Cert.AttnFwdIdeal.Attn

open Idealize.ShloMosaic
open Cert.AttnFwdIdeal.Gen
open Cert.AttnFwd
open Cert.KernelIdeal.AttnBwd (cScaleLog cScale ofBits_negInf sle_word)

theorem named_scale : (Named.named (F := Ideal) (φ := .f32) κ "scale" 0x3D93CD3A#32 : EReal) = cScale :=
  IdealRules.named_const.ideal_named_scalar _ _ _ _ rfl
theorem named_scaleLog : (Named.named (F := Ideal) (φ := .f32) κ "scale_log2e" 0x3DD53B95#32 : EReal) = cScaleLog :=
  IdealRules.named_const.ideal_named_scalar _ _ _ _ rfl

variable (v0 : Vec Ideal S512x256 .bf16) (kn kr vv : Vec Ideal S512x128 .bf16) (m l : FVec Ideal S512x1 .f32) (acc : FVec Ideal S512x128 .f32)
  (q r : Fin 512) (d : Fin 128)

/-- Channel `d` of a tile's key `r`: the head's own channels, then the rotary ones. -/
def keyAt (d : Fin 256) : EReal := if hd : d.val < 128 then kn (ix2 r ⟨d.val, hd⟩) else kr (ix2 r ⟨d.val - 128, by omega⟩)
/-- The score of query `q` and the tile's key `r`. -/
def score : EReal := ∑ d : Fin 256, v0 (ix2 q d) * keyAt kn kr r d
/-- The same on the diagonal tile, where later keys are hidden. -/
def dScore : EReal := if r.val ≤ q.val then score v0 kn kr q r else ⊥

theorem pay7_apply : k0_pay7 (F := Ideal) v0 kn kr (ix2 q r) = score v0 kn kr q r := by
  pointwise [k0_pay7, score, keyAt]
theorem pay8_apply : k0_pay8 (F := Ideal) v0 m kn kr (ix2 q 0) = newMax (m (ix2 q 0)) (score v0 kn kr q) := by
  pointwise [k0_pay8]
  simp only [pay7_apply]
  rfl
theorem pay9_apply : k0_pay9 (F := Ideal) v0 m kn kr (ix2 q r) = prob (m (ix2 q 0)) (score v0 kn kr q) r := by
  pointwise [k0_pay9]
  rw [pay7_apply, pay8_apply, named_scaleLog]
  rfl
theorem pay10_apply : k0_pay10 (F := Ideal) v0 m kn kr (ix2 q 0) = alpha (m (ix2 q 0)) (score v0 kn kr q) := by
  pointwise [k0_pay10]
  rw [pay8_apply, named_scaleLog]
  rfl
theorem pay11_apply : k0_pay11 (F := Ideal) v0 m l kn kr (ix2 q 0)
    = alpha (m (ix2 q 0)) (score v0 kn kr q) * l (ix2 q 0) + ∑ r, prob (m (ix2 q 0)) (score v0 kn kr q) r := by
  pointwise [k0_pay11]
  simp only [pay9_apply, pay10_apply]
theorem pay12_apply : k0_pay12 (F := Ideal) v0 m acc kn kr vv (ix2 q d)
    = alpha (m (ix2 q 0)) (score v0 kn kr q) * acc (ix2 q d) + ∑ r, prob (m (ix2 q 0)) (score v0 kn kr q) r * vv (ix2 r d) := by
  pointwise [k0_pay12]
  simp only [pay9_apply, pay10_apply]

theorem pay19_apply : k0_pay19 (F := Ideal) v0 kn kr (ix2 q r) = dScore v0 kn kr q r := by
  rw [dScore, ← pay7_apply]
  pointwise [k0_pay19, k0_pay7]
  simp only [ofBits_negInf, sle_word r.isLt q.isLt]
  by_cases h : r.val ≤ q.val <;> simp [h, Scalar.select]
theorem pay20_apply : k0_pay20 (F := Ideal) v0 m kn kr (ix2 q 0) = newMax (m (ix2 q 0)) (dScore v0 kn kr q) := by
  pointwise [k0_pay20]
  simp only [pay19_apply]
  rfl
theorem pay21_apply : k0_pay21 (F := Ideal) v0 m kn kr (ix2 q r) = prob (m (ix2 q 0)) (dScore v0 kn kr q) r := by
  pointwise [k0_pay21]
  rw [pay19_apply, pay20_apply, named_scaleLog]
  rfl
theorem pay22_apply : k0_pay22 (F := Ideal) v0 m kn kr (ix2 q 0) = alpha (m (ix2 q 0)) (dScore v0 kn kr q) := by
  pointwise [k0_pay22]
  rw [pay20_apply, named_scaleLog]
  rfl
/-- The sum after the diagonal tile. -/
theorem pay1_apply : k0_pay1 (F := Ideal) (k0_pay21 v0 m kn kr) (k0_pay23 v0 m l kn kr) (ix2 q 0)
    = alpha (m (ix2 q 0)) (dScore v0 kn kr q) * l (ix2 q 0) + ∑ r, prob (m (ix2 q 0)) (dScore v0 kn kr q) r := by
  pointwise [k0_pay1, k0_pay23]
  simp only [pay21_apply, pay22_apply]

/-- The output: the weighted values over the sum. -/
theorem pay2_apply : k0_pay2 (F := Ideal) acc vv (k0_pay21 v0 m kn kr) (k0_pay22 v0 m kn kr) (k0_pay23 v0 m l kn kr) (ix2 q d)
    = Ideal.div (alpha (m (ix2 q 0)) (dScore v0 kn kr q) * acc (ix2 q d) + ∑ r, prob (m (ix2 q 0)) (dScore v0 kn kr q) r * vv (ix2 r d))
        (alpha (m (ix2 q 0)) (dScore v0 kn kr q) * l (ix2 q 0) + ∑ r, prob (m (ix2 q 0)) (dScore v0 kn kr q) r) := by
  pointwise [k0_pay2]
  simp only [pay21_apply, pay22_apply, pay1_apply]
/-- The log-sum: the maximum, scaled, and the sum's logarithm. -/
theorem pay3_apply : k0_pay3 (F := Ideal) (k0_pay20 v0 m kn kr) (k0_pay21 v0 m kn kr) (k0_pay23 v0 m l kn kr) (ix3 0 q 0)
    = newMax (m (ix2 q 0)) (dScore v0 kn kr q) * cScale
        + Ideal.log (alpha (m (ix2 q 0)) (dScore v0 kn kr q) * l (ix2 q 0) + ∑ r, prob (m (ix2 q 0)) (dScore v0 kn kr q) r) := by
  pointwise [k0_pay3]
  rw [pay20_apply, pay1_apply, named_scale]

/-- Before the first tile nothing is carried. -/
theorem init_carried : Carried (k0_pay4 (F := Ideal) (ix2 q 0)) (k0_pay5 (F := Ideal) (ix2 q 0)) (fun d => k0_pay6 (F := Ideal) (ix2 q d)) 0 (fun _ => 0) := by
  refine Or.inl ⟨?_, ?_, rfl, fun d => ⟨?_, rfl⟩⟩
  · pointwise [k0_pay4]; exact ofBits_negInf
  · pointwise [k0_pay5]
  · pointwise [k0_pay6]

end Cert.AttnFwdIdeal.Attn
end
-- ==== Proof.AttnFwd.Point.lean ====
/- What the attention forward kernel's body stores at a point: the carried values after the loop over the earlier key tiles, and
   the diagonal tile. -/
module

public import proofs.«01_k».proof.Proof.AttnFwd.Tile
public import proofs.«01_k».proof.Proof.Gen.AttnFwdIdeal.Frame
public import Idealize.ShloMosaic.Lib.WritesUnit
public import Idealize.ShloMosaic.Lib.Pipeline.ValueKit.Tiles

@[expose] public section

set_option maxRecDepth 16384

noncomputable section

namespace Cert.AttnFwdIdeal.Attn

open Idealize.ShloMosaic Idealize.ShloMosaic.TcCoe Idealize.ShloMosaic.Tactic
open Idealize.SL.Sem
open Cert.AttnFwdIdeal.Gen
open Cert.AttnFwd
open Cert.KernelIdeal.AttnBwd (pos)

/-- The keys' own channels, their rotary channels and the values of key tile `b`. -/
def tileK (x1 : Vec Ideal S4096x256 .bf16) (b : Fin 8) : Vec Ideal S512x128 .bf16 := fun y => x1 (ix2 (pos b (y 0)) ⟨(y 1).val, by have : (y 1).val < 128 := (y 1).isLt; omega⟩)
def tileR (x2 : Vec Ideal S4096x128 .bf16) (b : Fin 8) : Vec Ideal S512x128 .bf16 := fun y => x2 (ix2 (pos b (y 0)) (y 1))
def tileV (x1 : Vec Ideal S4096x256 .bf16) (b : Fin 8) : Vec Ideal S512x128 .bf16 := fun y => x1 (ix2 (pos b (y 0)) ⟨(y 1).val + 128, by have : (y 1).val < 128 := (y 1).isLt; omega⟩)

theorem readAt_tileK (M : Memref sig .tc .vmem S4096x256 .bf16) (f : BufTy.Contents (Elt Ideal) M.view.ty) {off : Fin 2 → ℕ} (b : Fin 8)
    (inb : ∀ a, off a + S512x128.size a ≤ S4096x256.size a) (hoff : off = ![512 * b.val, 0]) :
    View.readAt (Elt Ideal) M.view (Rect.unit (s := S4096x256) off S512x128.size inb).toLoadRect f = tileK (M.view.read (Elt Ideal) f) b := by
  subst hoff
  funext y
  rw [View.readAt_eq_ld]
  refine View.ld_unit_apply_of (M.view.read (Elt Ideal) f) _ _ inb y _ ?_
  intro a; fin_cases a
  · show b.val * 512 + (y 0).val = 512 * b.val + (y 0).val; omega
  · show (y 1).val = 0 + (y 1).val; omega
theorem readAt_tileV (M : Memref sig .tc .vmem S4096x256 .bf16) (f : BufTy.Contents (Elt Ideal) M.view.ty) {off : Fin 2 → ℕ} (b : Fin 8)
    (inb : ∀ a, off a + S512x128.size a ≤ S4096x256.size a) (hoff : off = ![512 * b.val, 128]) :
    View.readAt (Elt Ideal) M.view (Rect.unit (s := S4096x256) off S512x128.size inb).toLoadRect f = tileV (M.view.read (Elt Ideal) f) b := by
  subst hoff
  funext y
  rw [View.readAt_eq_ld]
  refine View.ld_unit_apply_of (M.view.read (Elt Ideal) f) _ _ inb y _ ?_
  intro a; fin_cases a
  · show b.val * 512 + (y 0).val = 512 * b.val + (y 0).val; omega
  · show (y 1).val + 128 = 128 + (y 1).val; omega
theorem readAt_tileR (M : Memref sig .tc .vmem S4096x128 .bf16) (f : BufTy.Contents (Elt Ideal) M.view.ty) {off : Fin 2 → ℕ} (b : Fin 8)
    (inb : ∀ a, off a + S512x128.size a ≤ S4096x128.size a) (hoff : off = ![512 * b.val, 0]) :
    View.readAt (Elt Ideal) M.view (Rect.unit (s := S4096x128) off S512x128.size inb).toLoadRect f = tileR (M.view.read (Elt Ideal) f) b := by
  subst hoff
  funext y
  rw [View.readAt_eq_ld]
  refine View.ld_unit_apply_of (M.view.read (Elt Ideal) f) _ _ inb y _ ?_
  intro a; fin_cases a
  · show b.val * 512 + (y 0).val = 512 * b.val + (y 0).val; omega
  · show (y 1).val = 0 + (y 1).val; omega

/-- The first loop runs over the key tiles before the query tile; the second does not run. -/
theorem trips_eq : ∀ i : grid0.Coords, (k0_t1_loop i).trips = (i 1).val := by decide +kernel
theorem trips2_eq (i : grid0.Coords) : (k0_t2_loop i).trips = 0 := Nat.le_zero.mp (k0_t2_abs i).2.1
theorem trips2_words (a : grid0.Coords) : Scf.trips (Scalar.addi 0#32 (Scalar.muli (Scalar.divsi (Scalar.subi (BitVec.ofNat 32 (a 1).val) 0#32) 1#32) 1#32))
    (Scalar.addi 0#32 (Scalar.subi (BitVec.ofNat 32 (a 1).val) 0#32)) 1#32 = 0 := trips2_eq a

variable (c : Dev nD) (i : grid0.Coords)
  (arg2 : Memref sig .tc .vmem S512x256 .bf16) (harg2 : arg2.IsWhole) (arg3 : Memref sig .tc .vmem S4096x256 .bf16) (harg3 : arg3.IsWhole)
  (arg4 : Memref sig .tc .vmem S4096x128 .bf16) (harg4 : arg4.IsWhole) (arg5 : Memref sig .tc .vmem S512x128 .bf16) (harg5 : arg5.IsWhole)
  (arg6 : Memref sig .tc .vmem S1x512x1 .f32) (harg6 : arg6.IsWhole)
  (x0 : Vec Ideal S512x256 .bf16) (x1 : Vec Ideal S4096x256 .bf16) (x2 : Vec Ideal S4096x128 .bf16)

/-- The key tile of a trip. -/
def kt (k : Fin (k0_t1_loop i).trips) : Fin 8 := ⟨k.val, by
  have h : k.val < (i 1).val := by rw [← trips_eq i]; exact k.isLt
  have h' : (i 1).val < 8 := (i 1).isLt
  omega⟩

variable (X3 : BufTy.Contents (Elt Ideal) arg3.view.ty) (X4 : BufTy.Contents (Elt Ideal) arg4.view.ty)

/-- What one trip yields. -/
theorem tripR_eq (k : Fin (k0_t1_loop i).trips) (a : FVec Ideal S512x1 .f32 × FVec Ideal S512x1 .f32 × FVec Ideal S512x128 .f32) :
    tripR_k0_t1 (F := Ideal) Variants.none c none i arg2 harg2 arg3 harg3 arg4 harg4 arg5 harg5 arg6 harg6 x0 X3 X4 k a
      = (k0_pay8 x0 a.1 (tileK (arg3.view.read (Elt Ideal) X3) (kt i k)) (tileR (arg4.view.read (Elt Ideal) X4) (kt i k)),
         k0_pay11 x0 a.1 a.2.1 (tileK (arg3.view.read (Elt Ideal) X3) (kt i k)) (tileR (arg4.view.read (Elt Ideal) X4) (kt i k)),
         k0_pay12 x0 a.1 a.2.2 (tileK (arg3.view.read (Elt Ideal) X3) (kt i k)) (tileR (arg4.view.read (Elt Ideal) X4) (kt i k)) (tileV (arg3.view.read (Elt Ideal) X3) (kt i k))) := by
  rw [← readAt_tileK arg3 X3 (kt i k) (k0_off1_inb i k) (k0_off1_eq i k), ← readAt_tileR arg4 X4 (kt i k) (k0_off2_inb i k) (k0_off2_eq i k),
    ← readAt_tileV arg3 X3 (kt i k) (k0_off3_inb i k) (k0_off3_eq i k)]
  unfold tripR_k0_t1 trip_k0_t1; dsimp only

/-! What the body loads: the queries, and the diagonal key tile. -/

abbrev lQ := View.readAt (Elt Ideal) arg2.view (Rect.unit (s := S512x256) ![0, 0] S512x256.size inb_S512x256_S512x256_0_0).toLoadRect (harg2.unread x0)
abbrev lK := View.readAt (Elt Ideal) arg3.view (Rect.unit (s := S4096x256) (k0_off7 i) S512x128.size (k0_off7_inb i)).toLoadRect (harg3.unread x1)
abbrev lR := View.readAt (Elt Ideal) arg4.view (Rect.unit (s := S4096x128) (k0_off8 i) S512x128.size (k0_off8_inb i)).toLoadRect (harg4.unread x2)
abbrev lV := View.readAt (Elt Ideal) arg3.view (Rect.unit (s := S4096x256) (k0_off9 i) S512x128.size (k0_off9_inb i)).toLoadRect (harg3.unread x1)

/-- The state before trip `n`, and after the loop. -/
abbrev stAt (n : ℕ) := st_k0_t1 (F := Ideal) Variants.none c none i arg2 harg2 arg3 harg3 arg4 harg4 arg5 harg5 arg6 harg6 (lQ arg2 harg2 x0) (harg3.unread x1) (harg4.unread x2) (k0_pay4, k0_pay5, k0_pay6) n
abbrev endSt := stAt c i arg2 harg2 arg3 harg3 arg4 harg4 arg5 harg5 arg6 harg6 x0 x1 x2 (k0_t1_loop i).trips

/-- The output's one store, from the state after the loop. -/
theorem run3 :
    (kernelRun0_A (F := Ideal) c i arg2 harg2 arg3 harg3 arg4 harg4 arg5 harg5 arg6 harg6 x0 x1 x2).1
      = [⟨Rect.unit (s := S512x128) ![0, 0] S512x128.size inb_S512x128_S512x128_0_0,
          k0_pay2 (F := Ideal) (endSt c i arg2 harg2 arg3 harg3 arg4 harg4 arg5 harg5 arg6 harg6 x0 x1 x2).2.2 (lV i arg3 harg3 x1)
            (k0_pay21 (lQ arg2 harg2 x0) (endSt c i arg2 harg2 arg3 harg3 arg4 harg4 arg5 harg5 arg6 harg6 x0 x1 x2).1 (lK i arg3 harg3 x1) (lR i arg4 harg4 x2))
            (k0_pay22 (lQ arg2 harg2 x0) (endSt c i arg2 harg2 arg3 harg3 arg4 harg4 arg5 harg5 arg6 harg6 x0 x1 x2).1 (lK i arg3 harg3 x1) (lR i arg4 harg4 x2))
            (k0_pay23 (lQ arg2 harg2 x0) (endSt c i arg2 harg2 arg3 harg3 arg4 harg4 arg5 harg5 arg6 harg6 x0 x1 x2).1 (endSt c i arg2 harg2 arg3 harg3 arg4 harg4 arg5 harg5 arg6 harg6 x0 x1 x2).2.1 (lK i arg3 harg3 x1) (lR i arg4 harg4 x2))⟩] := by
  unfold kernelRun0_A; dsimp only; sl_unfold_run_names
  simp only [trips2_words, st_k0_t2.eq_1]; try rfl
/-- The log-sum's one store. -/
theorem run4 :
    (kernelRun0_A (F := Ideal) c i arg2 harg2 arg3 harg3 arg4 harg4 arg5 harg5 arg6 harg6 x0 x1 x2).2.1
      = [⟨Rect.unit (s := S1x512x1) ![0, 0, 0] S1x512x1.size inb_S1x512x1_S1x512x1_0_0_0,
          k0_pay3 (F := Ideal) (k0_pay20 (lQ arg2 harg2 x0) (endSt c i arg2 harg2 arg3 harg3 arg4 harg4 arg5 harg5 arg6 harg6 x0 x1 x2).1 (lK i arg3 harg3 x1) (lR i arg4 harg4 x2))
            (k0_pay21 (lQ arg2 harg2 x0) (endSt c i arg2 harg2 arg3 harg3 arg4 harg4 arg5 harg5 arg6 harg6 x0 x1 x2).1 (lK i arg3 harg3 x1) (lR i arg4 harg4 x2))
            (k0_pay23 (lQ arg2 harg2 x0) (endSt c i arg2 harg2 arg3 harg3 arg4 harg4 arg5 harg5 arg6 harg6 x0 x1 x2).1 (endSt c i arg2 harg2 arg3 harg3 arg4 harg4 arg5 harg5 arg6 harg6 x0 x1 x2).2.1 (lK i arg3 harg3 x1) (lR i arg4 harg4 x2))⟩] := by
  unfold kernelRun0_A; dsimp only; sl_unfold_run_names
  simp only [trips2_words, st_k0_t2.eq_1]; try rfl

end Cert.AttnFwdIdeal.Attn
end
-- ==== Proof.AttnFwd.PointVal.lean ====
/- What the attention forward kernel's body stores at a point, at real inputs: the softmax's weighted values, and the logarithm of
   its sum. -/
module

public import proofs.«01_k».proof.Proof.AttnFwd.Point

@[expose] public section

set_option maxRecDepth 16384

noncomputable section

namespace Cert.AttnFwdIdeal.Attn

open Idealize.ShloMosaic Idealize.ShloMosaic.TcCoe Idealize.ShloMosaic.Tactic
open Idealize.SL.Sem
open Cert.AttnFwdIdeal.Gen
open Cert.AttnFwd
open Cert.KernelIdeal.AttnBwd (pos col colO rA rW rZ rZ_pos up gKey score_up zeros2 zeros3)

variable (Q KV : S4096x4096.Idx → ℝ) (KR : S4096x128.Idx → ℝ) (h : Fin 16)

/-- Channel `d` of the head's values at key `k`. -/
def rV (k : Fin 4096) (d : Fin 128) : ℝ := KV (ix2 k (col h ⟨d.val + 128, by omega⟩))
/-- The output of query `q`: the values, weighted. -/
def rO (q : Fin 4096) (d : Fin 128) : ℝ := (∑ k : Fin 4096, rW Q KV KR h q k * rV KV h k d) / rZ Q KV KR h q

/-- The head and the channel of an output column. -/
def ch (n : Fin 2048) : Fin 16 := ⟨n.val / 128, by omega⟩
def cd (n : Fin 2048) : Fin 128 := ⟨n.val % 128, by omega⟩
theorem ch_col (h : Fin 16) (d : Fin 128) : ch (colO h d) = h := Fin.ext (by show (h.val * 128 + d.val) / 128 = h.val; omega)
theorem cd_col (h : Fin 16) (d : Fin 128) : cd (colO h d) = d := Fin.ext (by show (h.val * 128 + d.val) % 128 = d.val; omega)

/-- The output, and the logarithms of the softmax's sums. -/
def rOut : S4096x2048.Idx → ℝ := fun y => rO Q KV KR (ch (y 1)) (y 0) (cd (y 1))
def rLse : S16x4096x1.Idx → ℝ := fun y => Real.log (rZ Q KV KR (y 0) (y 1))

/-- What key tile `b` adds to a query's sum, and to its weighted values. -/
def tZ (q : Fin 4096) (b : Fin 8) : ℝ := ∑ r : Fin 512, rW Q KV KR h q (pos b r)
def tA (q : Fin 4096) (d : Fin 128) (b : Fin 8) : ℝ := ∑ r : Fin 512, rW Q KV KR h q (pos b r) * rV KV h (pos b r) d

variable (c : Dev nD) (i : grid0.Coords)
  (arg2 : Memref sig .tc .vmem S512x256 .bf16) (harg2 : arg2.IsWhole) (arg3 : Memref sig .tc .vmem S4096x256 .bf16) (harg3 : arg3.IsWhole)
  (arg4 : Memref sig .tc .vmem S4096x128 .bf16) (harg4 : arg4.IsWhole) (arg5 : Memref sig .tc .vmem S512x128 .bf16) (harg5 : arg5.IsWhole)
  (arg6 : Memref sig .tc .vmem S1x512x1 .f32) (harg6 : arg6.IsWhole)
  (x0 : Vec Ideal S512x256 .bf16) (x1 : Vec Ideal S4096x256 .bf16) (x2 : Vec Ideal S4096x128 .bf16)

/-- The query tile. -/
abbrev qt : Fin 8 := i 1

variable (h0 : ∀ (r : Fin 512) (d : Fin 256), x0 (ix2 r d) = ((Q (ix2 (pos (qt i) r) (col h d)) : ℝ) : EReal))
  (h1 : ∀ (k : Fin 4096) (d : Fin 256), x1 (ix2 k d) = ((KV (ix2 k (col h d)) : ℝ) : EReal))
  (h2 : ∀ (k : Fin 4096) (d : Fin 128), x2 (ix2 k d) = ((KR (ix2 k d) : ℝ) : EReal))

include h1 in
theorem tileV_up (b : Fin 8) (r : Fin 512) (d : Fin 128) : tileV x1 b (ix2 r d) = ((rV KV h (pos b r) d : ℝ) : EReal) := h1 _ _
include h1 h2 in
theorem key_up (b : Fin 8) (r : Fin 512) (d : Fin 256) : keyAt (tileK x1 b) (tileR x2 b) r d = gKey (up KV) (up KR) h (pos b r) d := by
  unfold keyAt gKey
  split
  · exact h1 _ _
  · exact h2 _ _
include h0 h1 h2
theorem score_tile (b : Fin 8) (q r : Fin 512) :
    score x0 (tileK x1 b) (tileR x2 b) q r = ((rA Q KV KR h (pos (qt i) q) (pos b r) * Real.sqrt 192 : ℝ) : EReal) := by
  rw [← score_up]
  refine Finset.sum_congr rfl fun d _ => ?_
  rw [h0, key_up KV KR h x1 x2 h1 h2]
  exact mul_comm (G := EReal) _ _

/-- On an earlier tile every key is seen. -/
theorem score_before (b : Fin 8) (hb : b.val < (qt i).val) (q r : Fin 512) :
    score x0 (tileK x1 b) (tileR x2 b) q r = raw ((pos b r).val ≤ (pos (qt i) q).val) (rA Q KV KR h (pos (qt i) q) (pos b r)) := by
  rw [score_tile Q KV KR h i x0 x1 x2 h0 h1 h2, raw, if_pos]
  show b.val * 512 + r.val ≤ (qt i).val * 512 + q.val
  omega
/-- On the diagonal tile the keys up to the query. -/
theorem score_diag (q r : Fin 512) :
    dScore x0 (tileK x1 (qt i)) (tileR x2 (qt i)) q r = raw ((pos (qt i) r).val ≤ (pos (qt i) q).val) (rA Q KV KR h (pos (qt i) q) (pos (qt i) r)) := by
  unfold dScore
  rw [score_tile Q KV KR h i x0 x1 x2 h0 h1 h2, raw]
  refine if_congr ?_ rfl rfl
  show r.val ≤ q.val ↔ (qt i).val * 512 + r.val ≤ (qt i).val * 512 + q.val
  omega

omit h0 h1 h2
theorem lQ_eq : lQ arg2 harg2 x0 = x0 := by
  unfold lQ
  rw [View.readAt_eq_ld, View.ld_unit_zero zeros2, harg2.read_unread]
theorem lK_eq : lK i arg3 harg3 x1 = tileK x1 (qt i) := by
  unfold lK
  rw [readAt_tileK arg3 _ (qt i) _ (k0_off7_eq i), harg3.read_unread]
theorem lR_eq : lR i arg4 harg4 x2 = tileR x2 (qt i) := by
  unfold lR
  rw [readAt_tileR arg4 _ (qt i) _ (k0_off8_eq i), harg4.read_unread]
theorem lV_eq : lV i arg3 harg3 x1 = tileV x1 (qt i) := by
  unfold lV
  rw [readAt_tileV arg3 _ (qt i) _ (k0_off9_eq i), harg3.read_unread]
include h0 h1 h2

/-- What is carried before trip `n`: the sums over the first `n` key tiles. -/
theorem loop_carried (q : Fin 512) (n : ℕ) (hn : n ≤ (k0_t1_loop i).trips) :
    Carried ((stAt c i arg2 harg2 arg3 harg3 arg4 harg4 arg5 harg5 arg6 harg6 x0 x1 x2 n).1 (ix2 q 0))
      ((stAt c i arg2 harg2 arg3 harg3 arg4 harg4 arg5 harg5 arg6 harg6 x0 x1 x2 n).2.1 (ix2 q 0))
      (fun d => (stAt c i arg2 harg2 arg3 harg3 arg4 harg4 arg5 harg5 arg6 harg6 x0 x1 x2 n).2.2 (ix2 q d))
      (∑ b : Fin 8, if b.val < n then tZ Q KV KR h (pos (qt i) q) b else 0)
      (fun d => ∑ b : Fin 8, if b.val < n then tA Q KV KR h (pos (qt i) q) d b else 0) := by
  induction n with
  | zero =>
    have e : ∀ T : Fin 8 → ℝ, (∑ b : Fin 8, if b.val < 0 then T b else 0) = 0 := fun T => Finset.sum_eq_zero fun b _ => if_neg (Nat.not_lt_zero _)
    simp only [e]
    exact init_carried q
  | succ n ih =>
    have hlt : n < (k0_t1_loop i).trips := hn
    have hj : n < (qt i).val := by rw [trips_eq i] at hlt; exact hlt
    have h8 : n < 8 := lt_trans hj (qt i).isLt
    have g := ih (Nat.le_of_lt hlt)
    unfold stAt at g ⊢
    rw [st_k0_t1_succ Variants.none c none i arg2 harg2 arg3 harg3 arg4 harg4 arg5 harg5 arg6 harg6 (lQ arg2 harg2 x0) (harg3.unread x1) (harg4.unread x2) (k0_pay4, k0_pay5, k0_pay6) ⟨n, hlt⟩]
    generalize st_k0_t1 (F := Ideal) Variants.none c none i arg2 harg2 arg3 harg3 arg4 harg4 arg5 harg5 arg6 harg6 (lQ arg2 harg2 x0) (harg3.unread x1) (harg4.unread x2) (k0_pay4, k0_pay5, k0_pay6) n = st at g ⊢
    rw [tripR_eq, harg3.read_unread, harg4.read_unread, lQ_eq]
    have hk : kt i ⟨n, hlt⟩ = ⟨n, h8⟩ := rfl
    rw [hk]
    dsimp only
    simp only [pay8_apply, pay11_apply, pay12_apply, sum_first _ n h8, tileV_up KV h x1 h1]
    exact Or.inr (step g (fun r => (pos ⟨n, h8⟩ r).val ≤ (pos (qt i) q).val) (fun r => rA Q KV KR h (pos (qt i) q) (pos ⟨n, h8⟩ r))
      (fun r d => rV KV h (pos ⟨n, h8⟩ r) d) _ (score_before Q KV KR h i x0 x1 x2 h0 h1 h2 ⟨n, h8⟩ hj q) 0
      (by show n * 512 + 0 ≤ (qt i).val * 512 + q.val; omega))

omit h0 h1 h2 in
theorem tZ_all (q : Fin 512) : (∑ b : Fin 8, if b.val < (qt i).val + 1 then tZ Q KV KR h (pos (qt i) q) b else 0) = rZ Q KV KR h (pos (qt i) q) := by
  refine sum_seen (fun k => rW Q KV KR h (pos (qt i) q) k) (qt i).val fun b r hb => ?_
  unfold rW
  rw [if_neg]
  show ¬(b.val * 512 + r.val ≤ (qt i).val * 512 + q.val)
  omega
omit h0 h1 h2 in
theorem tA_all (q : Fin 512) (d : Fin 128) : (∑ b : Fin 8, if b.val < (qt i).val + 1 then tA Q KV KR h (pos (qt i) q) d b else 0)
    = ∑ k : Fin 4096, rW Q KV KR h (pos (qt i) q) k * rV KV h k d := by
  refine sum_seen (fun k => rW Q KV KR h (pos (qt i) q) k * rV KV h k d) (qt i).val fun b r hb => ?_
  unfold rW
  rw [if_neg, zero_mul]
  show ¬(b.val * 512 + r.val ≤ (qt i).val * 512 + q.val)
  omega

/-- After the diagonal tile: the sums over all keys. -/
theorem end_seen (q : Fin 512) (m l : FVec Ideal S512x1 .f32) (acc : FVec Ideal S512x128 .f32)
    (g : Carried (m (ix2 q 0)) (l (ix2 q 0)) (fun d => acc (ix2 q d))
      (∑ b : Fin 8, if b.val < (qt i).val then tZ Q KV KR h (pos (qt i) q) b else 0)
      (fun d => ∑ b : Fin 8, if b.val < (qt i).val then tA Q KV KR h (pos (qt i) q) d b else 0)) :
    Seen (newMax (m (ix2 q 0)) (dScore x0 (tileK x1 (qt i)) (tileR x2 (qt i)) q))
      (alpha (m (ix2 q 0)) (dScore x0 (tileK x1 (qt i)) (tileR x2 (qt i)) q) * l (ix2 q 0) + ∑ r, prob (m (ix2 q 0)) (dScore x0 (tileK x1 (qt i)) (tileR x2 (qt i)) q) r)
      (fun d => alpha (m (ix2 q 0)) (dScore x0 (tileK x1 (qt i)) (tileR x2 (qt i)) q) * acc (ix2 q d)
        + ∑ r, prob (m (ix2 q 0)) (dScore x0 (tileK x1 (qt i)) (tileR x2 (qt i)) q) r * tileV x1 (qt i) (ix2 r d))
      (rZ Q KV KR h (pos (qt i) q)) (fun d => ∑ k : Fin 4096, rW Q KV KR h (pos (qt i) q) k * rV KV h k d) := by
  simp only [← tZ_all Q KV KR h i q, ← tA_all Q KV KR h i q, sum_first _ (qt i).val (qt i).isLt, tileV_up KV h x1 h1]
  exact step g (fun r => (pos (qt i) r).val ≤ (pos (qt i) q).val) (fun r => rA Q KV KR h (pos (qt i) q) (pos (qt i) r))
    (fun r d => rV KV h (pos (qt i) r) d) _ (score_diag Q KV KR h i x0 x1 x2 h0 h1 h2 q) q (le_refl _)

/-- The point's output block. -/
theorem out3_apply (q : Fin 512) (d : Fin 128) :
    out0_A_3 (F := Ideal) c i arg2 harg2 arg3 harg3 arg4 harg4 arg5 harg5 arg6 harg6 x0 x1 x2 (ix2 q d) = ((rO Q KV KR h (pos (qt i) q) d : ℝ) : EReal) := by
  have g := loop_carried Q KV KR h c i arg2 harg2 arg3 harg3 arg4 harg4 arg5 harg5 arg6 harg6 x0 x1 x2 h0 h1 h2 q (k0_t1_loop i).trips (le_refl _)
  unfold out0_A_3
  rw [run3]
  unfold endSt
  generalize stAt c i arg2 harg2 arg3 harg3 arg4 harg4 arg5 harg5 arg6 harg6 x0 x1 x2 (k0_t1_loop i).trips = st at g ⊢
  rw [trips_eq i] at g
  rw [lQ_eq, lK_eq, lR_eq, lV_eq]
  rw [View.read_writes_junk_eq_canon, View.canon_unit_zero zeros2, pay2_apply]
  exact (finish (end_seen Q KV KR h i x0 x1 x2 h0 h1 h2 q _ _ _ g) (rZ_pos Q KV KR h _)).1 d

/-- The point's log-sum block. -/
theorem out4_apply (q : Fin 512) :
    out0_A_4 (F := Ideal) c i arg2 harg2 arg3 harg3 arg4 harg4 arg5 harg5 arg6 harg6 x0 x1 x2 (ix3 0 q 0) = ((Real.log (rZ Q KV KR h (pos (qt i) q)) : ℝ) : EReal) := by
  have g := loop_carried Q KV KR h c i arg2 harg2 arg3 harg3 arg4 harg4 arg5 harg5 arg6 harg6 x0 x1 x2 h0 h1 h2 q (k0_t1_loop i).trips (le_refl _)
  unfold out0_A_4
  rw [run4]
  unfold endSt
  generalize stAt c i arg2 harg2 arg3 harg3 arg4 harg4 arg5 harg5 arg6 harg6 x0 x1 x2 (k0_t1_loop i).trips = st at g ⊢
  rw [trips_eq i] at g
  rw [lQ_eq, lK_eq, lR_eq]
  rw [View.read_writes_junk_eq_canon, View.canon_unit_zero zeros3, pay3_apply]
  exact (finish (end_seen Q KV KR h i x0 x1 x2 h0 h1 h2 q _ _ _ g) (rZ_pos Q KV KR h _)).2

end Cert.AttnFwdIdeal.Attn
end
-- ==== Proof.Mlp.Spec.lean ====
/- Matrix products over the extended reals, index by index, with the left or the right factor transposed, and a product's sum over
   a long axis taken block by block. -/
module

public import Idealize.ShloMosaic.Lib.Pointwise

@[expose] public section

noncomputable section

namespace Cert.Mlp

open Idealize.ShloMosaic

variable {M N K : ℕ} {e e' : EltTy}

/-- A float array over the extended reals, as a function of two coordinates. -/
abbrev Mat (M N : ℕ) := FVec Ideal (⟨2, ![M, N]⟩ : Shape) .bf16

/-- An entry, by its two coordinates. -/
theorem entry (A : Mat M N) (y : (⟨2, ![M, N]⟩ : Shape).Idx) (i : Fin M) (j : Fin N) (hi : (y 0).val = i.val) (hj : (y 1).val = j.val) :
    A y = A (ix2 i j) := by
  congr 1; funext a; apply Fin.ext
  match a with
  | ⟨0, _⟩ => exact hi
  | ⟨1, _⟩ => exact hj

/-- The product `a · b`. -/
def mulNN (a : Mat M K) (b : Mat K N) (i : Fin M) (j : Fin N) : EReal := ∑ k : Fin K, a (ix2 i k) * b (ix2 k j)
/-- The product `aᵀ · b`. -/
def mulTN (a : Mat K M) (b : Mat K N) (i : Fin M) (j : Fin N) : EReal := ∑ k : Fin K, a (ix2 k i) * b (ix2 k j)
/-- The product `a · bᵀ`. -/
def mulNT (a : Mat M K) (b : Mat N K) (i : Fin M) (j : Fin N) : EReal := ∑ k : Fin K, a (ix2 i k) * b (ix2 j k)

/-- The squared ReLU. -/
def relu2 (x : EReal) : EReal := max x 0 * max x 0

/-- The hidden layer before its nonlinearity, and after it. -/
def hidden (h : Mat M K) (w : Mat K N) : Mat M N := fun i => mulNN h w (i 0) (i 1)
def act (h : Mat M K) (w : Mat K N) : Mat M N := fun i => relu2 (mulNN h w (i 0) (i 1))

/-- Place `r` of block `b`, the blocks `n` long. -/
def pos {T n L : ℕ} (h : T * n = L) (b : Fin T) (r : Fin n) : Fin L :=
  ⟨b.val * n + r.val, by
    have h1 : b.val * n + n ≤ T * n := by rw [← Nat.succ_mul]; exact Nat.mul_le_mul_right n b.isLt
    have := r.isLt
    omega⟩

/-- A sum over a long axis, one block after the other. -/
theorem sum_blocks {T n L : ℕ} (h : T * n = L) (f : Fin L → EReal) :
    ∑ b : Fin T, ∑ r : Fin n, f (pos h b r) = ∑ k : Fin L, f k := by
  subst h
  rw [← Finset.sum_product', Finset.univ_product_univ]
  refine Fintype.sum_equiv finProdFinEquiv _ _ fun x => congrArg f (Fin.ext ?_)
  show x.1.val * n + x.2.val = x.2.val + n * x.1.val
  rw [Nat.mul_comm]; omega

/-- What block `b` of the long axis contributes to `a · x`. -/
def blockNN {T n : ℕ} (h : T * n = K) (a : Mat M K) (x : Mat K N) (i : Fin M) (j : Fin N) (b : Fin T) : EReal :=
  ∑ r : Fin n, a (ix2 i (pos h b r)) * x (ix2 (pos h b r) j)
/-- What block `b` of the long axis contributes to `a · xᵀ`. -/
def blockNT {T n : ℕ} (h : T * n = K) (a : Mat M K) (x : Mat N K) (i : Fin M) (j : Fin N) (b : Fin T) : EReal :=
  ∑ r : Fin n, a (ix2 i (pos h b r)) * x (ix2 j (pos h b r))

theorem sum_blockNN {T n : ℕ} (h : T * n = K) (a : Mat M K) (x : Mat K N) (i : Fin M) (j : Fin N) :
    ∑ b : Fin T, blockNN h a x i j b = mulNN a x i j := sum_blocks h fun k => a (ix2 i k) * x (ix2 k j)
theorem sum_blockNT {T n : ℕ} (h : T * n = K) (a : Mat M K) (x : Mat N K) (i : Fin M) (j : Fin N) :
    ∑ b : Fin T, blockNT h a x i j b = mulNT a x i j := sum_blocks h fun k => a (ix2 i k) * x (ix2 j k)

/-- The factor of the squared ReLU's derivative, as both programs write it. -/
def two : EReal := Ideal.ofBits .f32 0x40000000#32

/-- The squared ReLU's derivative is zero where the ReLU is, so a choice by the sign after it changes nothing. -/
theorem relu2_grad (g x : EReal) : g * (two * max x 0) = if 0 < x then g * (two * max x 0) else 0 := by
  by_cases h : 0 < x
  · rw [if_pos h]
  · rw [if_neg h, max_eq_right (not_lt.mp h), mul_zero, mul_zero]

end Cert.Mlp

end
-- ==== Proof.AttnFwd.Results.lean ====
/- What the two result arrays of the attention forward kernel hold after the launch, at real arguments. -/
module

public import proofs.«01_k».proof.Proof.AttnFwd.PointVal
public import proofs.«01_k».proof.Proof.Gen.AttnFwdIdeal.Value
public import proofs.«01_k».proof.Proof.Mlp.Spec
public import Idealize.ShloMosaic.Lib.Pipeline.ValueKit

@[expose] public section

set_option maxRecDepth 16384

noncomputable section

namespace Cert.AttnFwdIdeal.Attn

open Idealize.ShloMosaic Idealize.ShloMosaic.TcCoe Idealize.ShloMosaic.Tactic
open Idealize.SL.Sem
open Idealize.ShloMosaic.Pipeline (Dat)
open Cert.AttnFwdIdeal.Gen
open Cert.KernelIdeal.AttnBwd (pos col colO rZ up)
open Cert.Mlp (Mat entry)

variable (Q KV : S4096x4096.Idx → ℝ) (KR : S4096x128.Idx → ℝ)
variable (m : (ℓ : Loc nD τ sig) → Buf (Elt Ideal) ℓ) (c : Dev nD)

/-- The head of a point. -/
abbrev hd (t : Fin cfg0.N) : Fin 16 := grid0.coords t 0

theorem idx0 : ∀ t : Fin grid0.N, win0_0.index t 0 = (grid0.coords t 1).val ∧ win0_0.index t 1 = (grid0.coords t 0).val := by decide +kernel
theorem idx1 : ∀ t : Fin grid0.N, win0_1.index t 0 = 0 ∧ win0_1.index t 1 = (grid0.coords t 0).val := by decide +kernel
theorem idx2 : ∀ t : Fin grid0.N, win0_2.index t 0 = 0 ∧ win0_2.index t 1 = 0 := by decide +kernel
theorem idx3 : ∀ t : Fin grid0.N, win0_3.index t 0 = (grid0.coords t 1).val ∧ win0_3.index t 1 = (grid0.coords t 0).val := by decide +kernel
theorem idx4 : ∀ t : Fin grid0.N, win0_4.index t 0 = (grid0.coords t 0).val ∧ win0_4.index t 1 = (grid0.coords t 1).val ∧ win0_4.index t 2 = 0 := by decide +kernel

variable (hQ : m ((c.tc : Thread nD τ).loc main_arg0) = up Q) (hKV : m ((c.tc : Thread nD τ).loc main_arg1) = up KV)
variable (hKR : m ((c.tc : Thread nD τ).loc main_arg2) = up KR)

include hQ in
theorem blk0 (t : Fin cfg0.N) (r : Fin 512) (d : Fin 256) :
    iblk m c 0 t (ix2 r d) = ((Q (ix2 (pos (qt (grid0.coords t)) r) (col (hd t) d)) : ℝ) : EReal) := by
  have hi := idx0 t
  refine Eq.trans ?_ (congrFun hQ (ix2 (pos (qt (grid0.coords t)) r) (col (hd t) d)))
  exact entry (m (c.tc.loc main_arg0) : Mat 4096 4096) _ _ _
    (show win0_0.index t 0 * 512 + 1 * r.val = (grid0.coords t 1).val * 512 + r.val by rw [hi.1]; omega)
    (show win0_0.index t 1 * 256 + 1 * d.val = (grid0.coords t 0).val * 256 + d.val by rw [hi.2]; omega)
include hKV in
theorem blk1 (t : Fin cfg0.N) (k : Fin 4096) (d : Fin 256) : iblk m c 1 t (ix2 k d) = ((KV (ix2 k (col (hd t) d)) : ℝ) : EReal) := by
  have hi := idx1 t
  refine Eq.trans ?_ (congrFun hKV (ix2 k (col (hd t) d)))
  exact entry (m (c.tc.loc main_arg1) : Mat 4096 4096) _ _ _
    (show win0_1.index t 0 * 4096 + 1 * k.val = k.val by rw [hi.1]; omega)
    (show win0_1.index t 1 * 256 + 1 * d.val = (grid0.coords t 0).val * 256 + d.val by rw [hi.2]; omega)
include hKR in
theorem blk2 (t : Fin cfg0.N) (k : Fin 4096) (d : Fin 128) : iblk m c 2 t (ix2 k d) = ((KR (ix2 k d) : ℝ) : EReal) := by
  have hi := idx2 t
  refine Eq.trans ?_ (congrFun hKR (ix2 k d))
  exact entry (m (c.tc.loc main_arg2) : Mat 4096 128) _ _ _
    (show win0_2.index t 0 * 4096 + 1 * k.val = k.val by rw [hi.1]; omega)
    (show win0_2.index t 1 * 128 + 1 * d.val = d.val by rw [hi.2]; omega)

include hQ hKV hKR
theorem final3 : (dats m 0 c).arrAt 3 cfg0.N = up (rOut Q KV KR) := by
  refine (dats m 0 c).arrAt_eq_of_covers 3 _ (by decide +kernel) fun t hf y => ?_
  blk_simp
  rw [after0_3]
  have hi := idx3 t
  obtain ⟨r, d, rfl⟩ : ∃ (r : Fin 512) (d : Fin 128), y = ix2 r d := ⟨y 0, y 1, (by funext a; fin_cases a <;> rfl)⟩
  unfold outsAt0
  refine (out3_apply Q KV KR (hd t) c (grid0.coords t) _ _ _ _ _ _ _ _ _ _ _ _ _ (blk0 Q m c hQ t) (blk1 KV m c hKV t) (blk2 KR m c hKR t) r d).trans ?_
  have e : ((cfg0.win 3).blk t).view.emb (ix2 r d) = (ix2 (pos (qt (grid0.coords t)) r) (colO (hd t) d) : S4096x2048.Idx) := by
    funext a; apply Fin.ext
    match a with
    | ⟨0, _⟩ => show win0_3.index t 0 * 512 + 1 * r.val = (grid0.coords t 1).val * 512 + r.val; rw [hi.1]; omega
    | ⟨1, _⟩ => show win0_3.index t 1 * 128 + 1 * d.val = (grid0.coords t 0).val * 128 + d.val; rw [hi.2]; omega
  rw [e]
  show _ = ((rO Q KV KR (ch (colO (hd t) d)) (pos (qt (grid0.coords t)) r) (cd (colO (hd t) d)) : ℝ) : EReal)
  rw [ch_col, cd_col]

set_option maxHeartbeats 4000000 in
theorem final4 : (dats m 0 c).arrAt 4 cfg0.N = up (rLse Q KV KR) := by
  refine (dats m 0 c).arrAt_eq_of_covers 4 _ (by decide +kernel) fun t hf y => ?_
  blk_simp
  rw [after0_4]
  have hi := idx4 t
  obtain ⟨r, rfl⟩ : ∃ (r : Fin 512), y = ix3 0 r 0 :=
    ⟨y 1, (by funext a; fin_cases a; exact Subsingleton.elim (α := Fin 1) _ _; rfl; exact Subsingleton.elim (α := Fin 1) _ _)⟩
  unfold outsAt0
  refine (out4_apply Q KV KR (hd t) c (grid0.coords t) _ _ _ _ _ _ _ _ _ _ _ _ _ (blk0 Q m c hQ t) (blk1 KV m c hKV t) (blk2 KR m c hKR t) r).trans ?_
  have e : ((cfg0.win 4).blk t).view.emb (ix3 0 r 0) = (ix3 (hd t) (pos (qt (grid0.coords t)) r) 0 : S16x4096x1.Idx) := by
    funext a; apply Fin.ext
    match a with
    | ⟨0, _⟩ => show win0_4.index t 0 * 1 + 1 * 0 = (grid0.coords t 0).val; rw [hi.1]; omega
    | ⟨1, _⟩ => show win0_4.index t 1 * 512 + 1 * r.val = (grid0.coords t 1).val * 512 + r.val; rw [hi.2.1]; omega
    | ⟨2, _⟩ => show win0_4.index t 2 * 1 + 1 * 0 = 0; rw [hi.2.2]
  rw [e]
  rfl

end Cert.AttnFwdIdeal.Attn
end
-- ==== Proof.AttnFwd.RefVal.lean ====
/- The reference's output and log-sums at real arguments. -/
module

public import proofs.«01_k».proof.Proof.AttnFwd.PointVal
public import proofs.«01_k».proof.Proof.AttnBwd.HostVal
public import proofs.«01_k».proof.Proof.Gen.AttnFwdRefIdeal.Read

@[expose] public section

set_option maxRecDepth 16384

noncomputable section

namespace Cert.AttnFwdRefIdeal.Attn

open Idealize.ShloMosaic Idealize.ShloMosaic.TcCoe Idealize.ShloMosaic.Tactic
open Cert.AttnFwdRefIdeal Cert.AttnFwdRefIdeal.Gen Cert.AttnFwdRefIdeal.Read
open Cert.KernelIdeal.AttnBwd (up rA rW rZ rP col colO coe_sum)
open Cert.AttnFwdIdeal.Attn (rV rO rOut rLse ch cd)

/-! ### The operations at an index -/

section Ops
variable (Q KV : FVec Ideal S4096x4096 .bf16) (KR : FVec Ideal S4096x128 .bf16)

theorem score_at (h : Fin 16) (q k : Fin 4096) : val_main_v12 (F := Ideal) Q KV KR (ix3 h q k)
    = (∑ d : Fin 128, Q (ix2 q (col h ⟨d.val, by omega⟩)) * KV (ix2 k (col h ⟨d.val, by omega⟩)))
      + (∑ d : Fin 128, Q (ix2 q (col h ⟨128 + d.val, by omega⟩)) * KR (ix2 k d)) := by
  pointwise [val_main_v12, val_main_v11, val_main_v10, val_main_v9, val_main_v8, val_main_v7, val_main_v6, val_main_v5, val_main_v4, val_main_v3, val_main_v2, val_main_v1, val_main_v0]
  rfl
theorem mask_at (h : Fin 16) (q k : Fin 4096) : val_main_call0_v1 (F := Ideal) (ix3 h q k) = BitVec.ofBool (decide (k.val ≤ q.val)) := by
  pointwise [val_main_call0_v1, val_main_v22, val_main_v21, val_main_v20, val_main_v19, val_main_v18, val_main_v17, val_main_v16]
  exact WordCmp.cmpi_sle_ofNat (by have := k.isLt; norm_num; omega) (by have := q.isLt; norm_num; omega)
theorem masked_at (h : Fin 16) (q k : Fin 4096) : val_main_v23 (F := Ideal) Q KV KR (ix3 h q k)
    = Scalar.select (val_main_call0_v1 (F := Ideal) (ix3 h q k))
        (Ideal.div (val_main_v12 (F := Ideal) Q KV KR (ix3 h q k)) (Ideal.sqrt (Ideal.ofBits FTy.f32 1128267776#32))) (Ideal.ofBits FTy.f32 4286578688#32) := by
  pointwise [val_main_v23, val_main_call0_v2, val_main_call0_v0, val_main_cst_0, val_main_v15, val_main_v14, val_main_v13, val_main_cst]
  rfl
/-- A masked score less its row's maximum, exponentiated. -/
theorem exp_core (sc : FVec Ideal S16x4096x4096 .f32) (mx : FVec Ideal S16x4096 .f32) (h : Fin 16) (q k : Fin 4096) :
    Host.exp (subf sc (broadcastInDim S16x4096x4096 ![0, 1, 2] bcast_S16x4096x1_S16x4096x4096_0_1_2
      (broadcastInDim S16x4096x1 ![0, 1] bcast_S16x4096_S16x4096x1_0_1 mx))) (ix3 h q k) = Ideal.exp (sc (ix3 h q k) - mx (ix2 h q)) := by
  pointwise
theorem exp_at (h : Fin 16) (q k : Fin 4096) : val_main_v28 (F := Ideal) Q KV KR (ix3 h q k)
    = Ideal.exp (val_main_v23 (F := Ideal) Q KV KR (ix3 h q k) - val_main_v24 (F := Ideal) Q KV KR (ix2 h q)) :=
  exp_core (val_main_v23 (F := Ideal) Q KV KR) (val_main_v24 (F := Ideal) Q KV KR) h q k
theorem sum_at (h : Fin 16) (q : Fin 4096) : val_main_v30 (F := Ideal) Q KV KR (ix3 h q 0) = ∑ k : Fin 4096, val_main_v28 (F := Ideal) Q KV KR (ix3 h q k) := by
  unfold val_main_v30 val_main_v29 val_main_cst_2
  generalize val_main_v28 (F := Ideal) Q KV KR = e
  pointwise
theorem p_at (h : Fin 16) (q k : Fin 4096) : val_main_v32 (F := Ideal) Q KV KR (ix3 h q k)
    = Ideal.div (val_main_v28 (F := Ideal) Q KV KR (ix3 h q k)) (val_main_v30 (F := Ideal) Q KV KR (ix3 h q 0)) := by
  unfold val_main_v32 val_main_v31
  generalize val_main_v28 (F := Ideal) Q KV KR = e
  generalize val_main_v30 (F := Ideal) Q KV KR = l
  pointwise
theorem pv_at (h : Fin 16) (d : Fin 128) (q : Fin 4096) : val_main_v34 (F := Ideal) Q KV KR (ix3 h d q)
    = ∑ k : Fin 4096, KV (ix2 k (col h ⟨128 + d.val, by omega⟩)) * val_main_v32 (F := Ideal) Q KV KR (ix3 h q k) := by
  unfold val_main_v34
  generalize val_main_v32 (F := Ideal) Q KV KR = p
  pointwise [val_main_v33, val_main_v3, val_main_v2]
  rfl
theorem out_at (q : Fin 4096) (n : Fin 2048) : val_main_v37 (F := Ideal) Q KV KR (ix2 q n) = val_main_v34 (F := Ideal) Q KV KR (ix3 (ch n) (cd n) q) := by
  unfold val_main_v37 val_main_v36 val_main_v35
  generalize val_main_v34 (F := Ideal) Q KV KR = o
  pointwise
  rfl
/-- A row's maximum plus the logarithm of its sum. -/
theorem lse_core (mx : FVec Ideal S16x4096 .f32) (l : FVec Ideal S16x4096x1 .f32) (h : Fin 16) (q : Fin 4096) :
    addf (broadcastInDim S16x4096x1 ![0, 1] bcast_S16x4096_S16x4096x1_0_1 mx) (Host.log l) (ix3 h q 0) = mx (ix2 h q) + Ideal.log (l (ix3 h q 0)) := by
  pointwise
theorem lse_at (h : Fin 16) (q : Fin 4096) : val_main_v39 (F := Ideal) Q KV KR (ix3 h q 0)
    = val_main_v24 (F := Ideal) Q KV KR (ix2 h q) + Ideal.log (val_main_v30 (F := Ideal) Q KV KR (ix3 h q 0)) :=
  lse_core (val_main_v24 (F := Ideal) Q KV KR) (val_main_v30 (F := Ideal) Q KV KR) h q
end Ops

/-! ### At real inputs -/

variable (Q KV : S4096x4096.Idx → ℝ) (KR : S4096x128.Idx → ℝ)

theorem masked_up (h : Fin 16) (q k : Fin 4096) : val_main_v23 (F := Ideal) (up Q) (up KV) (up KR) (ix3 h q k) = Cert.KernelIdeal.AttnBwd.eSc Q KV KR h q k := by
  rw [masked_at, mask_at, score_at, Cert.KernelIdeal.AttnBwd.bits_192, Cert.KernelIdeal.AttnBwd.bits_bot, Cert.KernelIdeal.AttnBwd.score_halves,
    Cert.KernelIdeal.AttnBwd.sqrt_coe_192, Cert.KernelIdeal.AttnBwd.scaled_up]
  unfold Cert.KernelIdeal.AttnBwd.eSc
  by_cases hk : k.val ≤ q.val <;> simp [hk, Scalar.select]

/-- The row maximum is a real number. -/
theorem max_real (h : Fin 16) (q : Fin 4096) : ∃ M : ℝ, val_main_v24 (F := Ideal) (up Q) (up KV) (up KR) (ix2 h q) = (M : EReal) := by
  have ht : ∀ y, val_main_v23 (F := Ideal) (up Q) (up KV) (up KR) y ≠ ⊤ := fun y => by
    idx_vars y
    rw [masked_up]; exact Cert.KernelIdeal.AttnBwd.eSc_ne_top _ _ _ _ _ _
  have hb : val_main_v23 (F := Ideal) (up Q) (up KV) (up KR) (ix3 h q q) ≠ ⊥ := by
    rw [masked_up]; exact Cert.KernelIdeal.AttnBwd.eSc_diag _ _ _ _ _
  unfold val_main_v24
  generalize val_main_v23 (F := Ideal) (up Q) (up KV) (up KR) = sc at ht hb
  exact Cert.KernelIdeal.AttnBwd.rowMax_real sc _ (fun _ => Cert.KernelIdeal.AttnBwd.bits_bot) _ _ ht h q q hb

section Row
variable (M : ℝ) (h : Fin 16) (q : Fin 4096) (hM : val_main_v24 (F := Ideal) (up Q) (up KV) (up KR) (ix2 h q) = (M : EReal))
include hM

theorem exp_up (k : Fin 4096) : val_main_v28 (F := Ideal) (up Q) (up KV) (up KR) (ix3 h q k) = ((rW Q KV KR h q k * Real.exp (-M) : ℝ) : EReal) := by
  rw [exp_at, masked_up, hM, Cert.KernelIdeal.AttnBwd.exp_up]
theorem sum_up : val_main_v30 (F := Ideal) (up Q) (up KV) (up KR) (ix3 h q 0) = ((rZ Q KV KR h q * Real.exp (-M) : ℝ) : EReal) := by
  rw [sum_at, Finset.sum_congr rfl fun k _ => exp_up Q KV KR M h q hM k, Cert.KernelIdeal.AttnBwd.sum_up]
end Row

theorem p_up (h : Fin 16) (q k : Fin 4096) : val_main_v32 (F := Ideal) (up Q) (up KV) (up KR) (ix3 h q k) = ((rP Q KV KR h q k : ℝ) : EReal) := by
  obtain ⟨M, hM⟩ := max_real Q KV KR h q
  rw [p_at, exp_up Q KV KR M h q hM, sum_up Q KV KR M h q hM, Cert.KernelIdeal.AttnBwd.p_up]

/-- The reference's two results. -/
theorem out_up : val_main_v37 (F := Ideal) (up Q) (up KV) (up KR) = up (rOut Q KV KR) := by
  funext y
  idx_vars y
  rw [out_at, pv_at]
  show _ = ((rO Q KV KR (ch y1) y0 (cd y1) : ℝ) : EReal)
  unfold rO
  rw [Finset.sum_div, ← coe_sum]
  refine Finset.sum_congr rfl fun k _ => ?_
  have e : (⟨128 + (cd y1).val, by have := (cd y1).isLt; omega⟩ : Fin 256) = ⟨(cd y1).val + 128, by have := (cd y1).isLt; omega⟩ := Fin.ext (Nat.add_comm _ _)
  rw [p_up, e, ← EReal.coe_mul, EReal.coe_eq_coe_iff]
  unfold rP rV
  ring
theorem lse_up : val_main_v39 (F := Ideal) (up Q) (up KV) (up KR) = up (rLse Q KV KR) := by
  funext y
  obtain ⟨h, q, rfl⟩ : ∃ (h : Fin 16) (q : Fin 4096), y = ix3 h q 0 :=
    ⟨y 0, y 1, (by funext a; fin_cases a; rfl; rfl; exact Subsingleton.elim (α := Fin 1) _ _)⟩
  obtain ⟨M, hM⟩ := max_real Q KV KR h q
  rw [lse_at, hM, sum_up Q KV KR M h q hM]
  exact Cert.KernelIdeal.AttnBwd.lse_up Q KV KR M h q

end Cert.AttnFwdRefIdeal.Attn
end
-- ==== Proof.AttnFwd.Equation.lean ====
/- The attention forward kernel and its reference compute the same output and the same log-sums at real inputs. -/
module

public import proofs.«01_k».proof.Proof.AttnBwd.Finite
public import proofs.«01_k».proof.Proof.AttnFwd.Results
public import proofs.«01_k».proof.Proof.AttnFwd.RefVal
public import Idealize.ShloMosaic.Lib.Claim

@[expose] public section

set_option maxRecDepth 16384

noncomputable section

namespace Cert.Pre_attn_finite

open Idealize.ShloMosaic
open Cert.KernelIdeal.AttnBwd (up)

/-- The side conditions the precondition's operations state. -/
theorem facts : Facts where
  bitsLt_bf16_f32 := by decide
  bcast_S_S4096x4096 := by decide
  reducesTo_S4096x4096_S_d0_1 := by decide
  h_S_ := by decide
  bcast_S_S4096x128 := by decide
  reducesTo_S4096x128_S_d0_1 := by decide

/-- The precondition's three parts. -/
theorem real_args [Facts] (a0 a1 : FVec Ideal S4096x4096 .bf16) (a2 : FVec Ideal S4096x128 .bf16)
    (h0 : (fn (F := Ideal) a0 a1 a2).1 = fun _ => 1#1) (h1 : (fn (F := Ideal) a0 a1 a2).2.1 = fun _ => 1#1)
    (h2 : (fn (F := Ideal) a0 a1 a2).2.2 = fun _ => 1#1) : (∃ f, a0 = up f) ∧ (∃ f, a1 = up f) ∧ ∃ f, a2 = up f := by
  dsimp only [fn] at h0 h1 h2
  exact ⟨Cert.Pre_finite.real_array a0 _ _ _ _ h0, Cert.Pre_finite.real_array a1 _ _ _ _ h1, Cert.Pre_finite.real_array a2 _ _ _ _ h2⟩

end Cert.Pre_attn_finite

namespace Cert.AttnFwdIdeal.Attn

open Idealize.ShloMosaic Idealize.ShloMosaic.TcCoe Idealize.ShloMosaic.Tactic
open Idealize.SL.Sem
open Cert.AttnFwdIdeal.Gen
open Cert.KernelIdeal.AttnBwd (up)

variable (m : (ℓ : Loc nD τ sig) → Buf (Elt Ideal) ℓ) (c : Dev nD)

/-- The precondition gives real arguments on every device. -/
theorem args_real (h : Cert.Pre_AttnFwdIdeal_attn_finite (hPre_attn_finite := Cert.Pre_attn_finite.facts) m) :
    (∃ f, m ((c.tc : Thread nD τ).loc main_arg0) = up f) ∧ (∃ f, m ((c.tc : Thread nD τ).loc main_arg1) = up f)
    ∧ ∃ f, m ((c.tc : Thread nD τ).loc main_arg2) = up f := by
  obtain ⟨h0, h1, h2⟩ := h c
  haveI := Cert.Pre_attn_finite.facts
  exact Cert.Pre_attn_finite.real_args _ _ _ h0 h1 h2

/-- The kernel and the reference, from memories that agree on the arguments, end with equal outputs and equal log-sums. -/
theorem algebraic : Cert.algebraic_AttnFwdIdeal_AttnFwdRefIdeal_pre_attn_finite
    (hAttnFwdIdeal := Cert.AttnFwdIdeal.Gen.facts) (hAttnFwdRefIdeal := Cert.AttnFwdRefIdeal.Gen.facts) (hPre_attn_finite := Cert.Pre_attn_finite.facts) := by
  intro m g m' g' hpre hargs
  have hr := fun c => args_real m c hpre
  choose hQ hKV hKR using hr
  choose Q hQ using hQ
  choose KV hKV using hKV
  choose KR hKR using hKR
  refine ⟨fun c => up (rOut (Q c) (KV c) (KR c)), fun c => up (rLse (Q c) (KV c) (KR c)), ?_, ?_⟩
  · refine (θ_run defs _ _).mono (fun r h c => ?_) (Cert.AttnFwdIdeal.Value.run_blocks (F := Ideal) m g)
    obtain ⟨h3, h4, hrest⟩ := h c
    exact ⟨h3.trans (final3 (Q c) (KV c) (KR c) m c (hQ c) (hKV c) (hKR c)), h4.trans (final4 (Q c) (KV c) (KR c) m c (hQ c) (hKV c) (hKR c)), hrest⟩
  · refine (θ_run Cert.AttnFwdRefIdeal.defs _ _).mono (fun r h c => ?_) (Cert.AttnFwdRefIdeal.Value.run (F := Ideal) m' g')
    obtain ⟨a0, a1, a2⟩ := hargs c
    obtain ⟨h0, h1, hrest⟩ := h c
    refine ⟨h0.trans ?_, h1.trans ?_, hrest⟩
    · rw [Cert.AttnFwdRefIdeal.Read.val_main_v37_eq, a0, a1, a2, hQ c, hKV c, hKR c]
      exact Cert.AttnFwdRefIdeal.Attn.out_up (Q c) (KV c) (KR c)
    · rw [Cert.AttnFwdRefIdeal.Read.val_main_v39_eq, a0, a1, a2, hQ c, hKV c, hKR c]
      exact Cert.AttnFwdRefIdeal.Attn.lse_up (Q c) (KV c) (KR c)

end Cert.AttnFwdIdeal.Attn
end
-- ==== Proof.Mlp.Hidden.lean ====
/- The hidden layer as the host works it out, before its nonlinearity and after it: a product, and its squared ReLU. The references
   use these lines, and so do the kernels that take what the forward pass saved. -/
module

public import proofs.«01_k».proof.Proof.Mlp.Spec
public import proofs.«01_k».proof.Proof.Gen.MlpUpRefIdeal.Run

@[expose] public section

set_option maxRecDepth 16384

noncomputable section

namespace Cert.Mlp

open Idealize.ShloMosaic Idealize.ShloMosaic.TcCoe Idealize.ShloMosaic.Tactic
open Cert.MlpUpRefIdeal Cert.MlpUpRefIdeal.Gen

/-- The hidden layer before its nonlinearity. -/
def hostHidden (h : Mat 4096 2048) (w : Mat 2048 8192) : FVec Ideal S4096x8192 .f32 :=
  Host.dotGeneral dot_S4096x2048_S2048x8192_S4096x8192_1_0_0_1_n_n none
    (extf .f32 h bitsLt_bf16_f32) (extf .f32 w bitsLt_bf16_f32)
/-- A ReLU. -/
def hostRelu (x : FVec Ideal S4096x8192 .f32) : FVec Ideal S4096x8192 .f32 :=
  maximumf x (broadcastInDim S4096x8192 ![] bcast_S_S4096x8192 (constant S_ .f32 0x00000000#32))
/-- A squared ReLU. -/
def hostAct (x : FVec Ideal S4096x8192 .f32) : FVec Ideal S4096x8192 .f32 :=
  mulf (hostRelu x) (hostRelu x)

theorem hostHidden_apply (h : Mat 4096 2048) (w : Mat 2048 8192) (i : Fin 4096) (j : Fin 8192) : hostHidden h w (ix2 i j) = mulNN h w i j := by
  pointwise [hostHidden, mulNN]
theorem hostAct_apply (x : FVec Ideal S4096x8192 .f32) (i : Fin 4096) (j : Fin 8192) : hostAct x (ix2 i j) = relu2 (x (ix2 i j)) := by
  pointwise [hostAct, hostRelu, relu2]

theorem hostHidden_eq (h : Mat 4096 2048) (w : Mat 2048 8192) :
    (truncf .bf16 (hostHidden h w) bitsLt_bf16_f32 : Mat 4096 8192) = hidden h w := by
  funext y
  obtain ⟨i, j, rfl⟩ : ∃ (i : Fin 4096) (j : Fin 8192), y = ix2 i j := ⟨y 0, y 1, (by funext a; fin_cases a <;> rfl)⟩
  exact hostHidden_apply h w i j
theorem hostAct_eq (h : Mat 4096 2048) (w : Mat 2048 8192) :
    (truncf .bf16 (hostAct (hostHidden h w)) bitsLt_bf16_f32 : Mat 4096 8192) = act h w := by
  funext y
  obtain ⟨i, j, rfl⟩ : ∃ (i : Fin 4096) (j : Fin 8192), y = ix2 i j := ⟨y 0, y 1, (by funext a; fin_cases a <;> rfl)⟩
  exact (hostAct_apply _ i j).trans (congrArg relu2 (hostHidden_apply h w i j))

end Cert.Mlp

end
-- ==== Proof.Mlp.Up.lean ====
/- The MLP's first product and its squared ReLU: every point of the kernel's grid multiplies a row block of the input with a column
   block of the weights and stores the product and its squared ReLU. -/
module

public import proofs.«01_k».proof.Defs
public import proofs.«01_k».proof.Proof.Mlp.Hidden
public import proofs.«01_k».proof.Proof.Gen.MlpUpIdeal.Value
public import Idealize.ShloMosaic.Lib.Pipeline.ValueKit

@[expose] public section

set_option maxRecDepth 16384

noncomputable section

namespace Cert.MlpUpIdeal.Mlp

open Idealize.ShloMosaic Idealize.ShloMosaic.TcCoe Idealize.ShloMosaic.Tactic
open Idealize.SL.Sem
open Idealize.ShloMosaic.Pipeline (Dat)
open Cert.MlpUpIdeal.Gen Cert.Mlp

/-- What one point stores: the product, and its squared ReLU. -/
theorem pay_apply (a : Vec Ideal S1024x2048 .bf16) (b : Vec Ideal S2048x1024 .bf16) (i j : Fin 1024) :
    k0_pay2 (F := Ideal) a b (ix2 i j) = mulNN a b i j := by
  pointwise [k0_pay2, k0_pay1, mulNN]
theorem payAct_apply (a : Vec Ideal S1024x2048 .bf16) (b : Vec Ideal S2048x1024 .bf16) (i j : Fin 1024) :
    k0_pay3 (F := Ideal) a b (ix2 i j) = relu2 (mulNN a b i j) := by
  pointwise [k0_pay3, k0_pay1, mulNN, relu2]

variable (m : (ℓ : Loc nD τ sig) → Buf (Elt Ideal) ℓ) (c : Dev nD) (ρ : Dev nD → PrngReg)

abbrev row (t : Fin cfg0.N) : Fin 4 := grid0.coords t 0
abbrev col (t : Fin cfg0.N) : Fin 8 := grid0.coords t 1

theorem idx0 : ∀ t : Fin grid0.N, win0_0.index t 0 = (grid0.coords t 0).val ∧ win0_0.index t 1 = 0 := by decide +kernel
theorem idx1 : ∀ t : Fin grid0.N, win0_1.index t 0 = 0 ∧ win0_1.index t 1 = (grid0.coords t 1).val := by decide +kernel
theorem idx2 : ∀ t : Fin grid0.N, win0_2.index t 0 = (grid0.coords t 0).val ∧ win0_2.index t 1 = (grid0.coords t 1).val := by decide +kernel
theorem idx3 : ∀ t : Fin grid0.N, win0_3.index t 0 = (grid0.coords t 0).val ∧ win0_3.index t 1 = (grid0.coords t 1).val := by decide +kernel

/-- The product of a point's two blocks, as the product of the arrays at the tile's place. -/
theorem mul_blocks (t : Fin cfg0.N) (i j : Fin 1024) :
    mulNN (iblk m c 0 t) (iblk m c 1 t) i j
      = mulNN (m (c.tc.loc main_arg0) : Mat 4096 2048) (m (c.tc.loc main_arg1) : Mat 2048 8192) (pos (by rfl) (row t) i) (pos (by rfl) (col t) j) := by
  have h0 := idx0 t
  have h1 := idx1 t
  unfold mulNN
  refine Finset.sum_congr rfl fun k _ => congrArg₂ (fun x y : EReal => x * y) ?_ ?_
  · exact entry (m (c.tc.loc main_arg0) : Mat 4096 2048) _ _ _
      (show win0_0.index t 0 * 1024 + 1 * i.val = (grid0.coords t 0).val * 1024 + i.val by rw [h0.1]; omega)
      (show win0_0.index t 1 * 2048 + 1 * k.val = k.val by rw [h0.2]; omega)
  · exact entry (m (c.tc.loc main_arg1) : Mat 2048 8192) _ _ _
      (show win0_1.index t 0 * 2048 + 1 * k.val = k.val by rw [h1.1]; omega)
      (show win0_1.index t 1 * 1024 + 1 * j.val = (grid0.coords t 1).val * 1024 + j.val by rw [h1.2]; omega)

theorem final : (dats m 0 c).arrAt 2 cfg0.N = (hidden (m (c.tc.loc main_arg0)) (m (c.tc.loc main_arg1)) : Mat 4096 8192) := by
  refine (dats m 0 c).arrAt_eq_of_covers 2 _ (by decide +kernel) fun t hf y => ?_
  blk_simp
  rw [after0_2]
  have hi := idx2 t
  obtain ⟨i, j, rfl⟩ : ∃ (i : Fin 1024) (j : Fin 1024), y = ix2 i j := ⟨y 0, y 1, (by funext a; fin_cases a <;> rfl)⟩
  refine Eq.trans ?_ (entry (hidden (m (c.tc.loc main_arg0)) (m (c.tc.loc main_arg1)) : Mat 4096 8192) _ (pos (by rfl) (row t) i) (pos (by rfl) (col t) j)
      (show win0_2.index t 0 * 1024 + 1 * i.val = (grid0.coords t 0).val * 1024 + i.val by rw [hi.1]; omega)
      (show win0_2.index t 1 * 1024 + 1 * j.val = (grid0.coords t 1).val * 1024 + j.val by rw [hi.2]; omega)).symm
  unfold out0_2
  rw [View.canon_unit_zero (by funext a; fin_cases a <;> rfl), View.ld_unit_zero (S := S1024x2048) (by funext a; fin_cases a <;> rfl),
    View.ld_unit_zero (S := S2048x1024) (by funext a; fin_cases a <;> rfl)]
  exact (pay_apply _ _ i j).trans (mul_blocks m c t i j)

theorem finalAct : (dats m 0 c).arrAt 3 cfg0.N = (act (m (c.tc.loc main_arg0)) (m (c.tc.loc main_arg1)) : Mat 4096 8192) := by
  refine (dats m 0 c).arrAt_eq_of_covers 3 _ (by decide +kernel) fun t hf y => ?_
  blk_simp
  rw [after0_3]
  have hi := idx3 t
  obtain ⟨i, j, rfl⟩ : ∃ (i : Fin 1024) (j : Fin 1024), y = ix2 i j := ⟨y 0, y 1, (by funext a; fin_cases a <;> rfl)⟩
  refine Eq.trans ?_ (entry (act (m (c.tc.loc main_arg0)) (m (c.tc.loc main_arg1)) : Mat 4096 8192) _ (pos (by rfl) (row t) i) (pos (by rfl) (col t) j)
      (show win0_3.index t 0 * 1024 + 1 * i.val = (grid0.coords t 0).val * 1024 + i.val by rw [hi.1]; omega)
      (show win0_3.index t 1 * 1024 + 1 * j.val = (grid0.coords t 1).val * 1024 + j.val by rw [hi.2]; omega)).symm
  unfold out0_3
  rw [View.canon_unit_zero (by funext a; fin_cases a <;> rfl), View.ld_unit_zero (S := S1024x2048) (by funext a; fin_cases a <;> rfl),
    View.ld_unit_zero (S := S2048x1024) (by funext a; fin_cases a <;> rfl)]
  exact (payAct_apply _ _ i j).trans (congrArg relu2 (mul_blocks m c t i j))

/-- The kernel's first product and its squared ReLU are the reference's. -/
theorem algebraic : Cert.algebraic_MlpUpIdeal_MlpUpRefIdeal (hMlpUpIdeal := Cert.MlpUpIdeal.Gen.facts) (hMlpUpRefIdeal := Cert.MlpUpRefIdeal.Gen.facts) := by
  intro m g m' g' _ hm
  refine ⟨fun c => (hidden (m (c.tc.loc main_arg0)) (m (c.tc.loc main_arg1)) : Mat 4096 8192),
    fun c => (act (m (c.tc.loc main_arg0)) (m (c.tc.loc main_arg1)) : Mat 4096 8192), ?_, ?_⟩
  · exact (θ_run defs _ _).mono (fun _ h c => ⟨(h c).1.trans (final m c), (h c).2.1.trans (finalAct m c), (h c).2.2⟩) (Cert.MlpUpIdeal.Value.run_blocks m g)
  · refine (θ_run Cert.MlpUpRefIdeal.defs _ _).mono (fun _ h c => ⟨(h c).1.trans ?_, (h c).2.1.trans ?_, (h c).2.2⟩) (Cert.MlpUpRefIdeal.Value.run m' g')
    · rw [(hm c).1, (hm c).2]
      exact hostHidden_eq _ _
    · rw [(hm c).1, (hm c).2]
      exact hostAct_eq _ _

end Cert.MlpUpIdeal.Mlp

end
-- ==== Proof.Mlp.Down.lean ====
/- The MLP's second product: the kernel's grid walks the long axis in four blocks, adding a block's product to a scratch buffer it
   resets at the first, so after the last one the buffer holds the whole product. -/
module

public import proofs.«01_k».proof.Defs
public import proofs.«01_k».proof.Proof.Mlp.Hidden
public import proofs.«01_k».proof.Proof.Gen.MlpDownIdeal.Value
public import proofs.«01_k».proof.Proof.Gen.MlpDownRefIdeal.Run
public import Idealize.ShloMosaic.Lib.Pipeline.ValueKit
public import Idealize.ShloMosaic.Lib.StableHlo.RunRead

@[expose] public section

set_option maxRecDepth 16384

noncomputable section

namespace Cert.MlpDownIdeal.Mlp

open Idealize.ShloMosaic Idealize.ShloMosaic.TcCoe Idealize.ShloMosaic.Tactic
open Idealize.SL.Sem
open Idealize.ShloMosaic.Pipeline (Dat)
open Cert.MlpDownIdeal.Gen Cert.Mlp

theorem origin : (![0, 0] : Fin 2 → Nat) = fun _ => 0 := funext fun a => by fin_cases a <;> rfl

/-! ### The body's three cases -/

section Cases
variable (c : Dev nD) (p : grid0.Coords) (a3 : Memref sig .tc .vmem S1024x2048 .bf16) (h3 : a3.IsWhole) (a4 : Memref sig .tc .vmem S2048x1024 .bf16) (h4 : a4.IsWhole)
  (a5 : Memref sig .tc .vmem S1024x1024 .bf16) (h5 : a5.IsWhole) (a6 : Memref sig .tc .vmem S1024x1024 .f32) (h6 : a6.IsWhole)
  (x : Vec Ideal S1024x2048 .bf16) (y : Vec Ideal S2048x1024 .bf16) (s : Vec Ideal S1024x1024 .f32)

/-- The first block's point leaves the block's product in the scratch buffer. -/
theorem scratch_first (e0 : cond0_0 p) (e1 : ¬cond0_1 p) : sout0_A_0 c p a3 h3 a4 h4 a5 h5 a6 h6 e0 e1 x y = k0_pay2 k0_pay1 x y := by
  unfold sout0_A_0
  rw [View.read_writes_eq_canon _ _ _ (scover0_A_0 c p a3 h3 a4 h4 a5 h5 a6 h6 e0 e1 x y)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S1024x2048) origin, View.ld_unit_zero (S := S2048x1024) origin]

/-- A later block's point adds the block's product to it. -/
theorem scratch_next (e0 : ¬cond0_0 p) (e1 : ¬cond0_1 p) : sout0_B_0 c p a3 h3 a4 h4 a5 h5 a6 h6 e0 e1 x y s = k0_pay2 s x y := by
  unfold sout0_B_0
  rw [View.read_writes_eq_canon _ _ _ (scover0_B_0 c p a3 h3 a4 h4 a5 h5 a6 h6 e0 e1 x y s)]
  unfold kernelRun0_B
  dsimp only
  rw [View.canon_unit_zero origin]
  simp only [View.readAt_eq_ld, h3.read_unread, h4.read_unread, h6.read_unread, View.ld_unit_zero (S := S1024x2048) origin, View.ld_unit_zero (S := S2048x1024) origin, View.ld_unit_zero (S := S1024x1024) origin]

/-- The last block's point stores the sum as well. -/
theorem result_last (e0 : ¬cond0_0 p) (e1 : cond0_1 p) : out0_C_2 c p a3 h3 a4 h4 a5 h5 a6 h6 e0 e1 x y s = k0_pay3 (k0_pay2 s x y) := by
  unfold out0_C_2
  rw [View.read_writes_eq_canon _ _ _ (cover0_C_2 c p a3 h3 a4 h4 a5 h5 a6 h6 e0 e1 x y s)]
  unfold kernelRun0_C
  dsimp only
  sl_unfold_words
  rw [View.canon_unit_zero origin, View.readCov_unit_zero (S := S1024x1024) _ origin]
  simp only [View.readAt_eq_ld, h3.read_unread, h4.read_unread, h6.read_unread, View.ld_unit_zero (S := S1024x2048) origin, View.ld_unit_zero (S := S2048x1024) origin, View.ld_unit_zero (S := S1024x1024) origin]

end Cases

theorem zero_apply (i j : Fin 1024) : k0_pay1 (F := Ideal) (ix2 i j) = 0 := by
  pointwise [k0_pay1]
theorem step_apply (s : Vec Ideal S1024x1024 .f32) (x : Vec Ideal S1024x2048 .bf16) (y : Vec Ideal S2048x1024 .bf16) (i j : Fin 1024) :
    k0_pay2 (F := Ideal) s x y (ix2 i j) = s (ix2 i j) + mulNN x y i j := by
  pointwise [k0_pay2, mulNN]
theorem last_apply (s : Vec Ideal S1024x1024 .f32) (i j : Fin 1024) : k0_pay3 (F := Ideal) s (ix2 i j) = s (ix2 i j) := by
  pointwise [k0_pay3]

/-! ### The four points of a result's tile -/

variable (m : (ℓ : Loc nD τ sig) → Buf (Elt Ideal) ℓ) (c : Dev nD) (ρ : Dev nD → PrngReg)

/-- The point of tile `q` that adds block `b`. -/
def pt (q : Fin 8) (b : Fin 4) : Fin cfg0.N := ⟨4 * q.val + b.val, lt_of_lt_of_eq (by omega : 4 * q.val + b.val < 32) N_0.symm⟩
theorem pt_val (q : Fin 8) (b : Fin 4) : (pt q b).val = 4 * q.val + b.val := rfl
theorem pt_mod (q : Fin 8) (b : Fin 4) : (pt q b).val % 4 = b.val := by rw [pt_val]; omega
theorem pt_pred (q : Fin 8) (b b' : Fin 4) (h : b'.val = b.val + 1) : (pt q b').val - 1 = (pt q b).val := by rw [pt_val, pt_val]; omega
abbrev row (q : Fin 8) : Fin 4 := ⟨q.val / 2, by omega⟩
abbrev col (q : Fin 8) : Fin 2 := ⟨q.val % 2, by omega⟩

theorem idx0 : ∀ (q : Fin 8) (b : Fin 4), win0_0.index (pt q b) 0 = q.val / 2 ∧ win0_0.index (pt q b) 1 = b.val := by decide +kernel
theorem idx1 : ∀ (q : Fin 8) (b : Fin 4), win0_1.index (pt q b) 0 = b.val ∧ win0_1.index (pt q b) 1 = q.val % 2 := by decide +kernel
theorem idx2 : ∀ (q : Fin 8) (b : Fin 4), win0_2.index (pt q b) 0 = q.val / 2 ∧ win0_2.index (pt q b) 1 = q.val % 2 := by decide +kernel

/-- What point `b` of tile `q` adds. -/
abbrev part (q : Fin 8) (b : Fin 4) (i j : Fin 1024) : EReal := mulNN (iblk m c 0 (pt q b)) (iblk m c 1 (pt q b)) i j

theorem scr_congr {n n' : ℕ} {h : n < cfg0.N} {h' : n' < cfg0.N} (e : n = n') (i j : Fin 1024) :
    (outsAt0 m c n h).2 (ix2 i j) = (outsAt0 m c n' h').2 (ix2 i j) := by subst e; rfl

theorem scr_zero (q : Fin 8) (i j : Fin 1024) : (outsAt0 m c (pt q 0).val (pt q 0).isLt).2 (ix2 i j) = part m c q 0 i j := by
  rw [outsAt0_A m c (pt q 0) (pt_mod q 0) (by rw [pt_mod]; decide)]
  dsimp only
  rw [scratch_first]
  refine (step_apply _ _ _ i j).trans ?_
  rw [zero_apply, zero_add]

theorem scr_succ (q : Fin 8) (b b' : Fin 4) (hb : b'.val = b.val + 1) (h3 : b'.val < 3) (i j : Fin 1024) :
    (outsAt0 m c (pt q b').val (pt q b').isLt).2 (ix2 i j) = (outsAt0 m c (pt q b).val (pt q b).isLt).2 (ix2 i j) + part m c q b' i j := by
  rw [outsAt0_B m c (pt q b') (by rw [pt_mod]; omega) (by rw [pt_mod]; omega)]
  dsimp only
  rw [scratch_next]
  refine (step_apply _ _ _ i j).trans ?_
  exact congrArg (fun z : EReal => z + part m c q b' i j) (scr_congr m c (pt_pred q b b' hb) i j)

/-- The last point of a tile stores the sum of the four blocks' products. -/
theorem out_point (q : Fin 8) (i j : Fin 1024) : (outsAt0 m c (pt q 3).val (pt q 3).isLt).1 (ix2 i j) = ∑ b : Fin 4, part m c q b i j := by
  rw [outsAt0_C m c (pt q 3) (by rw [pt_mod]; decide) (pt_mod q 3)]
  dsimp only
  rw [result_last]
  refine ((last_apply _ i j).trans (step_apply _ _ _ i j)).trans ?_
  refine (congrArg (fun z : EReal => z + part m c q 3 i j) (scr_congr m c (h' := (pt q 2).isLt) (pt_pred q 2 3 rfl) i j)).trans ?_
  rw [scr_succ m c q 1 2 rfl (by decide) i j, scr_succ m c q 0 1 rfl (by decide) i j, scr_zero m c q i j, Fin.sum_univ_four]

/-! ### The result -/

/-- The array the kernel is launched on: the host's activations. -/
theorem saved : V m c main_v5 = (act (m (c.tc.loc main_arg0)) (m (c.tc.loc main_arg1)) : Mat 4096 8192) := by
  refine Eq.trans ?_ (hostAct_eq (m (c.tc.loc main_arg0)) (m (c.tc.loc main_arg1)))
  unfold V
  after_reads_simp
  rfl

/-- The result, as a function of the activations and the weights. -/
def out (a : Mat 4096 8192) (w : Mat 8192 2048) : Mat 4096 2048 := fun i => mulNN a w (i 0) (i 1)

theorem part_eq (q : Fin 8) (b : Fin 4) (i j : Fin 1024) :
    part m c q b i j = blockNN (T := 4) (n := 2048) (by rfl) (V m c main_v5 : Mat 4096 8192) (m (c.tc.loc main_arg2) : Mat 8192 2048)
      (pos (by rfl) (row q) i) (pos (by rfl) (col q) j) b := by
  have h0 := idx0 q b
  have h1 := idx1 q b
  unfold part mulNN blockNN
  refine Finset.sum_congr rfl fun r _ => congrArg₂ (fun x y : EReal => x * y) ?_ ?_
  · exact entry (V m c main_v5 : Mat 4096 8192) _ _ _
      (show win0_0.index (pt q b) 0 * 1024 + 1 * i.val = q.val / 2 * 1024 + i.val by rw [h0.1]; omega)
      (show win0_0.index (pt q b) 1 * 2048 + 1 * r.val = b.val * 2048 + r.val by rw [h0.2]; omega)
  · refine Eq.trans ?_ (congrFun (V_main_arg2 m c) _)
    exact entry (V m c main_arg2 : Mat 8192 2048) _ _ _
      (show win0_1.index (pt q b) 0 * 2048 + 1 * r.val = b.val * 2048 + r.val by rw [h1.1]; omega)
      (show win0_1.index (pt q b) 1 * 1024 + 1 * j.val = q.val % 2 * 1024 + j.val by rw [h1.2]; omega)

theorem final : (dats m 0 c).arrAt 2 cfg0.N = out (act (m (c.tc.loc main_arg0)) (m (c.tc.loc main_arg1))) (m (c.tc.loc main_arg2)) := by
  rw [← saved m c]
  refine (dats m 0 c).arrAt_eq_of_covers 2 _ (by decide +kernel) fun t hf y => ?_
  have ht : t.val % 4 = 3 := (flush0_2 t).mp hf
  obtain ⟨q, rfl⟩ : ∃ q : Fin 8, t = pt q 3 :=
    ⟨⟨t.val / 4, by have := lt_of_lt_of_eq t.isLt (N_0 : cfg0.N = 32); omega⟩, Fin.ext (show t.val = 4 * (t.val / 4) + 3 by omega)⟩
  blk_simp
  rw [after0_2]
  have hi := idx2 q 3
  obtain ⟨i, j, rfl⟩ : ∃ (i : Fin 1024) (j : Fin 1024), y = ix2 i j := ⟨y 0, y 1, (by funext a; fin_cases a <;> rfl)⟩
  refine (out_point m c q i j).trans ?_
  refine Eq.trans ?_ (entry (out (V m c main_v5) (m (c.tc.loc main_arg2))) _ (pos (by rfl) (row q) i) (pos (by rfl) (col q) j)
      (show win0_2.index (pt q 3) 0 * 1024 + 1 * i.val = q.val / 2 * 1024 + i.val by rw [hi.1]; omega)
      (show win0_2.index (pt q 3) 1 * 1024 + 1 * j.val = q.val % 2 * 1024 + j.val by rw [hi.2]; omega)).symm
  refine (Finset.sum_congr rfl fun b _ => part_eq m c q b i j).trans ?_
  exact sum_blockNN (T := 4) (n := 2048) (by rfl) (V m c main_v5 : Mat 4096 8192) (m (c.tc.loc main_arg2) : Mat 8192 2048) _ _

/-- The reference's term is the same product. -/
theorem ref_eq (h : Mat 4096 2048) (w1 : Mat 2048 8192) (w2 : Mat 8192 2048) :
    (truncf .bf16 (Host.dotGeneral Cert.MlpDownRefIdeal.dot_S4096x8192_S8192x2048_S4096x2048_1_0_0_1_n_n none
      (hostAct (hostHidden h w1)) (extf .f32 w2 Cert.MlpDownRefIdeal.Gen.bitsLt_bf16_f32))
      Cert.MlpDownRefIdeal.Gen.bitsLt_bf16_f32 : Mat 4096 2048) = out (act h w1) w2 := by
  refine Eq.trans ?_ (congrArg (fun a => out a w2) (hostAct_eq h w1))
  generalize hostAct (hostHidden h w1) = x
  funext y
  obtain ⟨i, j, rfl⟩ : ∃ (i : Fin 4096) (j : Fin 2048), y = ix2 i j := ⟨y 0, y 1, (by funext a; fin_cases a <;> rfl)⟩
  pointwise [out, mulNN]

/-- The kernel's second product is the reference's. -/
theorem algebraic : Cert.algebraic_MlpDownIdeal_MlpDownRefIdeal (hMlpDownIdeal := Cert.MlpDownIdeal.Gen.facts) (hMlpDownRefIdeal := Cert.MlpDownRefIdeal.Gen.facts) := by
  intro m g m' g' _ hm
  refine ⟨fun c => out (act (m (c.tc.loc main_arg0)) (m (c.tc.loc main_arg1))) (m (c.tc.loc main_arg2)), ?_, ?_⟩
  · exact (θ_run defs _ _).mono (fun _ h c => ⟨(h c).1.trans (final m c), (h c).2⟩) (Cert.MlpDownIdeal.Value.run_blocks m g)
  · refine (θ_run Cert.MlpDownRefIdeal.defs _ _).mono (fun _ h c => ⟨(h c).1.trans ?_, (h c).2⟩) (Cert.MlpDownRefIdeal.Value.run m' g')
    rw [(hm c).1, (hm c).2.1, (hm c).2.2]
    exact ref_eq _ _ _

end Cert.MlpDownIdeal.Mlp

end
-- ==== Proof.Mlp.DownW.lean ====
/- The gradient of the MLP's second product in its weights: every point of the kernel's grid multiplies a whole column block of the
   saved activations, transposed, with a whole column block of the cotangent, so the result is the product of the two arrays. -/
module

public import proofs.«01_k».proof.Defs
public import proofs.«01_k».proof.Proof.Mlp.Hidden
public import proofs.«01_k».proof.Proof.Gen.MlpDownWIdeal.Value
public import proofs.«01_k».proof.Proof.Gen.MlpDownWRefIdeal.Run
public import Idealize.ShloMosaic.Lib.Pipeline.ValueKit
public import Idealize.ShloMosaic.Lib.StableHlo.RunRead

@[expose] public section

set_option maxRecDepth 16384

noncomputable section

namespace Cert.MlpDownWIdeal.Mlp

open Idealize.ShloMosaic Idealize.ShloMosaic.TcCoe Idealize.ShloMosaic.Tactic
open Idealize.SL.Sem
open Idealize.ShloMosaic.Pipeline (Dat)
open Cert.MlpDownWIdeal.Gen Cert.Mlp

/-- What one point stores. -/
theorem pay_apply (a b : Vec Ideal S4096x1024 .bf16) (i j : Fin 1024) :
    k0_pay1 (F := Ideal) a b (ix2 i j) = mulTN a b i j := by
  pointwise [k0_pay1, mulTN]

variable (m : (ℓ : Loc nD τ sig) → Buf (Elt Ideal) ℓ) (c : Dev nD) (ρ : Dev nD → PrngReg)

abbrev row (t : Fin cfg0.N) : Fin 8 := grid0.coords t 0
abbrev col (t : Fin cfg0.N) : Fin 2 := grid0.coords t 1

theorem idx0 : ∀ t : Fin grid0.N, win0_0.index t 0 = 0 ∧ win0_0.index t 1 = (grid0.coords t 0).val := by decide +kernel
theorem idx1 : ∀ t : Fin grid0.N, win0_1.index t 0 = 0 ∧ win0_1.index t 1 = (grid0.coords t 1).val := by decide +kernel
theorem idx2 : ∀ t : Fin grid0.N, win0_2.index t 0 = (grid0.coords t 0).val ∧ win0_2.index t 1 = (grid0.coords t 1).val := by decide +kernel

/-- The array the kernel is launched on: the host's activations. -/
theorem saved : V m c main_v5 = (act (m (c.tc.loc main_arg0)) (m (c.tc.loc main_arg1)) : Mat 4096 8192) := by
  refine Eq.trans ?_ (hostAct_eq (m (c.tc.loc main_arg0)) (m (c.tc.loc main_arg1)))
  unfold V
  after_reads_simp
  rfl

/-- The result, as a function of the activations and the cotangent. -/
def out (a : Mat 4096 8192) (g : Mat 4096 2048) : Mat 8192 2048 := fun i => mulTN a g (i 0) (i 1)

/-- The product of a point's two blocks, as the product of the arrays at the tile's place. -/
theorem mul_blocks (t : Fin cfg0.N) (i j : Fin 1024) :
    mulTN (iblk m c 0 t) (iblk m c 1 t) i j = mulTN (V m c main_v5 : Mat 4096 8192) (m (c.tc.loc main_arg2) : Mat 4096 2048) (pos (by rfl) (row t) i) (pos (by rfl) (col t) j) := by
  have h0 := idx0 t
  have h1 := idx1 t
  unfold mulTN
  refine Finset.sum_congr rfl fun k _ => congrArg₂ (fun x y : EReal => x * y) ?_ ?_
  · exact entry (V m c main_v5 : Mat 4096 8192) _ _ _
      (show win0_0.index t 0 * 4096 + 1 * k.val = k.val by rw [h0.1]; omega)
      (show win0_0.index t 1 * 1024 + 1 * i.val = (grid0.coords t 0).val * 1024 + i.val by rw [h0.2]; omega)
  · refine Eq.trans ?_ (congrFun (V_main_arg2 m c) _)
    exact entry (V m c main_arg2 : Mat 4096 2048) _ _ _
      (show win0_1.index t 0 * 4096 + 1 * k.val = k.val by rw [h1.1]; omega)
      (show win0_1.index t 1 * 1024 + 1 * j.val = (grid0.coords t 1).val * 1024 + j.val by rw [h1.2]; omega)

theorem final : (dats m 0 c).arrAt 2 cfg0.N = out (act (m (c.tc.loc main_arg0)) (m (c.tc.loc main_arg1))) (m (c.tc.loc main_arg2)) := by
  refine (dats m 0 c).arrAt_eq_of_covers 2 _ (by decide +kernel) fun t hf y => ?_
  blk_simp
  rw [after0_2]
  have hi := idx2 t
  obtain ⟨i, j, rfl⟩ : ∃ (i : Fin 1024) (j : Fin 1024), y = ix2 i j := ⟨y 0, y 1, (by funext a; fin_cases a <;> rfl)⟩
  refine Eq.trans ?_ (entry (out (act (m (c.tc.loc main_arg0)) (m (c.tc.loc main_arg1))) (m (c.tc.loc main_arg2))) _ (pos (by rfl) (row t) i) (pos (by rfl) (col t) j)
      (show win0_2.index t 0 * 1024 + 1 * i.val = (grid0.coords t 0).val * 1024 + i.val by rw [hi.1]; omega)
      (show win0_2.index t 1 * 1024 + 1 * j.val = (grid0.coords t 1).val * 1024 + j.val by rw [hi.2]; omega)).symm
  unfold out0_2
  rw [View.canon_unit_zero (by funext a; fin_cases a <;> rfl), View.ld_unit_zero (S := S4096x1024) (by funext a; fin_cases a <;> rfl),
    View.ld_unit_zero (S := S4096x1024) (by funext a; fin_cases a <;> rfl)]
  refine ((pay_apply _ _ i j).trans (mul_blocks m c t i j)).trans ?_
  rw [saved]
  rfl

/-- The reference's term is the same product. -/
theorem ref_eq (h : Mat 4096 2048) (w : Mat 2048 8192) (g : Mat 4096 2048) :
    (truncf .bf16 (transpose S8192x2048 [1, 0] (Host.dotGeneral Cert.MlpDownWRefIdeal.dot_S4096x2048_S4096x8192_S2048x8192_0_0_1_1_n_n none
      (extf .f32 g Cert.MlpDownWRefIdeal.Gen.bitsLt_bf16_f32) (hostAct (hostHidden h w))) Cert.MlpDownWRefIdeal.Gen.transposes_S2048x8192_S8192x2048_1_0)
      Cert.MlpDownWRefIdeal.Gen.bitsLt_bf16_f32 : Mat 8192 2048) = out (act h w) g := by
  refine Eq.trans ?_ (congrArg (fun a => out a g) (hostAct_eq h w))
  generalize hostAct (hostHidden h w) = x
  funext y
  obtain ⟨i, j, rfl⟩ : ∃ (i : Fin 8192) (j : Fin 2048), y = ix2 i j := ⟨y 0, y 1, (by funext a; fin_cases a <;> rfl)⟩
  pointwise [out, mulTN]
  exact Finset.sum_congr rfl fun k _ => mul_comm (G := EReal) _ _

/-- The kernel's gradient of the second product in its weights is the reference's. -/
theorem algebraic : Cert.algebraic_MlpDownWIdeal_MlpDownWRefIdeal (hMlpDownWIdeal := Cert.MlpDownWIdeal.Gen.facts) (hMlpDownWRefIdeal := Cert.MlpDownWRefIdeal.Gen.facts) := by
  intro m g m' g' _ hm
  refine ⟨fun c => out (act (m (c.tc.loc main_arg0)) (m (c.tc.loc main_arg1))) (m (c.tc.loc main_arg2)), ?_, ?_⟩
  · exact (θ_run defs _ _).mono (fun _ h c => ⟨(h c).1.trans (final m c), (h c).2⟩) (Cert.MlpDownWIdeal.Value.run_blocks m g)
  · refine (θ_run Cert.MlpDownWRefIdeal.defs _ _).mono (fun _ h c => ⟨(h c).1.trans ?_, (h c).2⟩) (Cert.MlpDownWRefIdeal.Value.run m' g')
    rw [(hm c).1, (hm c).2.1, (hm c).2.2]
    exact ref_eq _ _ _

end Cert.MlpDownWIdeal.Mlp

end
-- ==== Proof.Mlp.DownX.lean ====
/- The gradient of the MLP's second product in the hidden layer: every point of the kernel's grid multiplies a row block of the
   cotangent with a row block of the weights, transposed, and with the squared ReLU's derivative at the saved hidden layer. -/
module

public import proofs.«01_k».proof.Defs
public import proofs.«01_k».proof.Proof.Mlp.Hidden
public import proofs.«01_k».proof.Proof.Gen.MlpDownXIdeal.Value
public import proofs.«01_k».proof.Proof.Gen.MlpDownXRefIdeal.Run
public import Idealize.ShloMosaic.Lib.Pipeline.ValueKit
public import Idealize.ShloMosaic.Lib.StableHlo.RunRead

@[expose] public section

set_option maxRecDepth 16384

noncomputable section

namespace Cert.MlpDownXIdeal.Mlp

open Idealize.ShloMosaic Idealize.ShloMosaic.TcCoe Idealize.ShloMosaic.Tactic
open Idealize.SL.Sem
open Idealize.ShloMosaic.Pipeline (Dat)
open Cert.MlpDownXIdeal.Gen Cert.Mlp

/-- What one point stores. -/
theorem pay_apply (a b : Vec Ideal S1024x2048 .bf16) (x : Vec Ideal S1024x1024 .bf16) (i j : Fin 1024) :
    k0_pay1 (F := Ideal) a b x (ix2 i j) = mulNT a b i j * (two * max (x (ix2 i j) : EReal) 0) := by
  pointwise [k0_pay1, mulNT, two]

variable (m : (ℓ : Loc nD τ sig) → Buf (Elt Ideal) ℓ) (c : Dev nD) (ρ : Dev nD → PrngReg)

abbrev row (t : Fin cfg0.N) : Fin 4 := grid0.coords t 0
abbrev col (t : Fin cfg0.N) : Fin 8 := grid0.coords t 1

theorem idx0 : ∀ t : Fin grid0.N, win0_0.index t 0 = (grid0.coords t 0).val ∧ win0_0.index t 1 = 0 := by decide +kernel
theorem idx1 : ∀ t : Fin grid0.N, win0_1.index t 0 = (grid0.coords t 1).val ∧ win0_1.index t 1 = 0 := by decide +kernel
theorem idx2 : ∀ t : Fin grid0.N, win0_2.index t 0 = (grid0.coords t 0).val ∧ win0_2.index t 1 = (grid0.coords t 1).val := by decide +kernel
theorem idx3 : ∀ t : Fin grid0.N, win0_3.index t 0 = (grid0.coords t 0).val ∧ win0_3.index t 1 = (grid0.coords t 1).val := by decide +kernel

/-- The hidden layer the kernel is launched on is the host's. -/
theorem saved : V m c main_v3 = (hidden (m (c.tc.loc main_arg0)) (m (c.tc.loc main_arg1)) : Mat 4096 8192) := by
  refine Eq.trans ?_ (hostHidden_eq (m (c.tc.loc main_arg0)) (m (c.tc.loc main_arg1)))
  unfold V
  after_reads_simp
  rfl

/-- The result, as a function of the cotangent, the weights and the hidden layer. -/
def out (g : Mat 4096 2048) (w : Mat 8192 2048) (x : Mat 4096 8192) : Mat 4096 8192 :=
  fun i => mulNT g w (i 0) (i 1) * (two * max (x (ix2 (i 0) (i 1)) : EReal) 0)

/-- The product of a point's two blocks, as the product of the arrays at the tile's place. -/
theorem mul_blocks (t : Fin cfg0.N) (i j : Fin 1024) :
    mulNT (iblk m c 0 t) (iblk m c 1 t) i j = mulNT (m (c.tc.loc main_arg3) : Mat 4096 2048) (m (c.tc.loc main_arg2) : Mat 8192 2048) (pos (by rfl) (row t) i) (pos (by rfl) (col t) j) := by
  have h0 := idx0 t
  have h1 := idx1 t
  unfold mulNT
  refine Finset.sum_congr rfl fun k _ => congrArg₂ (fun x y : EReal => x * y) ?_ ?_
  · refine Eq.trans ?_ (congrFun (V_main_arg3 m c) _)
    exact entry (V m c main_arg3 : Mat 4096 2048) _ _ _
      (show win0_0.index t 0 * 1024 + 1 * i.val = (grid0.coords t 0).val * 1024 + i.val by rw [h0.1]; omega)
      (show win0_0.index t 1 * 2048 + 1 * k.val = k.val by rw [h0.2]; omega)
  · refine Eq.trans ?_ (congrFun (V_main_arg2 m c) _)
    exact entry (V m c main_arg2 : Mat 8192 2048) _ _ _
      (show win0_1.index t 0 * 1024 + 1 * j.val = (grid0.coords t 1).val * 1024 + j.val by rw [h1.1]; omega)
      (show win0_1.index t 1 * 2048 + 1 * k.val = k.val by rw [h1.2]; omega)

/-- A point's block of the hidden layer is the tile of the array. -/
theorem hidden_block (t : Fin cfg0.N) (i j : Fin 1024) :
    iblk m c 2 t (ix2 i j) = (V m c main_v3 : Mat 4096 8192) (ix2 (pos (by rfl) (row t) i) (pos (by rfl) (col t) j)) := by
  have h2 := idx2 t
  exact entry (V m c main_v3 : Mat 4096 8192) _ _ _
    (show win0_2.index t 0 * 1024 + 1 * i.val = (grid0.coords t 0).val * 1024 + i.val by rw [h2.1]; omega)
    (show win0_2.index t 1 * 1024 + 1 * j.val = (grid0.coords t 1).val * 1024 + j.val by rw [h2.2]; omega)

theorem final : (dats m 0 c).arrAt 3 cfg0.N = out (m (c.tc.loc main_arg3)) (m (c.tc.loc main_arg2)) (hidden (m (c.tc.loc main_arg0)) (m (c.tc.loc main_arg1))) := by
  rw [← saved m c]
  refine (dats m 0 c).arrAt_eq_of_covers 3 _ (by decide +kernel) fun t hf y => ?_
  blk_simp
  rw [after0_3]
  have hi := idx3 t
  obtain ⟨i, j, rfl⟩ : ∃ (i : Fin 1024) (j : Fin 1024), y = ix2 i j := ⟨y 0, y 1, (by funext a; fin_cases a <;> rfl)⟩
  refine Eq.trans ?_ (entry (out (m (c.tc.loc main_arg3)) (m (c.tc.loc main_arg2)) (V m c main_v3)) _ (pos (by rfl) (row t) i) (pos (by rfl) (col t) j)
      (show win0_3.index t 0 * 1024 + 1 * i.val = (grid0.coords t 0).val * 1024 + i.val by rw [hi.1]; omega)
      (show win0_3.index t 1 * 1024 + 1 * j.val = (grid0.coords t 1).val * 1024 + j.val by rw [hi.2]; omega)).symm
  unfold out0_3
  rw [View.canon_unit_zero (by funext a; fin_cases a <;> rfl), View.ld_unit_zero (S := S1024x2048) (by funext a; fin_cases a <;> rfl),
    View.ld_unit_zero (S := S1024x2048) (by funext a; fin_cases a <;> rfl), View.ld_unit_zero (S := S1024x1024) (by funext a; fin_cases a <;> rfl)]
  exact (pay_apply _ _ _ i j).trans (congrArg₂ (fun x y : EReal => x * (two * max y 0)) (mul_blocks m c t i j) (hidden_block m c t i j))

/-! ### The reference -/

/-- The reference's gradient, from the hidden layer. -/
def refGrad (g : Mat 4096 2048) (w : Mat 8192 2048) (x : FVec Ideal Cert.MlpDownXRefIdeal.S4096x8192 .f32) : FVec Ideal Cert.MlpDownXRefIdeal.S4096x8192 .f32 :=
  select (cmpf .ogt x (broadcastInDim Cert.MlpDownXRefIdeal.S4096x8192 ![] Cert.MlpDownXRefIdeal.Gen.bcast_S_S4096x8192 (constant Cert.MlpDownXRefIdeal.S_ .f32 0x00000000#32)))
    (mulf (Host.dotGeneral Cert.MlpDownXRefIdeal.dot_S4096x2048_S8192x2048_S4096x8192_1_1_0_0_n_n none
        (extf .f32 g Cert.MlpDownXRefIdeal.Gen.bitsLt_bf16_f32) (extf .f32 w Cert.MlpDownXRefIdeal.Gen.bitsLt_bf16_f32))
      (mulf (broadcastInDim Cert.MlpDownXRefIdeal.S4096x8192 ![] Cert.MlpDownXRefIdeal.Gen.bcast_S_S4096x8192 (constant Cert.MlpDownXRefIdeal.S_ .f32 0x40000000#32))
        (maximumf x (broadcastInDim Cert.MlpDownXRefIdeal.S4096x8192 ![] Cert.MlpDownXRefIdeal.Gen.bcast_S_S4096x8192 (constant Cert.MlpDownXRefIdeal.S_ .f32 0x00000000#32)))))
    (broadcastInDim Cert.MlpDownXRefIdeal.S4096x8192 ![] Cert.MlpDownXRefIdeal.Gen.bcast_S_S4096x8192 (constant Cert.MlpDownXRefIdeal.S_ .f32 0x00000000#32))

theorem refGrad_apply (g : Mat 4096 2048) (w : Mat 8192 2048) (x : FVec Ideal Cert.MlpDownXRefIdeal.S4096x8192 .f32) (i : Fin 4096) (j : Fin 8192) :
    refGrad g w x (ix2 i j) = if (0 : EReal) < x (ix2 i j) then mulNT g w i j * (two * max (x (ix2 i j) : EReal) 0) else 0 := by
  pointwise [refGrad, mulNT, two]

theorem ref_eq (h : Mat 4096 2048) (w1 : Mat 2048 8192) (w2 : Mat 8192 2048) (g : Mat 4096 2048) :
    (truncf .bf16 (refGrad g w2 (hostHidden h w1)) Cert.MlpDownXRefIdeal.Gen.bitsLt_bf16_f32 : Mat 4096 8192) = out g w2 (hidden h w1) := by
  refine Eq.trans ?_ (congrArg (fun a => out g w2 a) (hostHidden_eq h w1))
  generalize hostHidden h w1 = x
  funext y
  obtain ⟨i, j, rfl⟩ : ∃ (i : Fin 4096) (j : Fin 8192), y = ix2 i j := ⟨y 0, y 1, (by funext a; fin_cases a <;> rfl)⟩
  exact (refGrad_apply g w2 x i j).trans (relu2_grad _ _).symm

/-- The kernel's gradient of the second product in the hidden layer is the reference's. -/
theorem algebraic : Cert.algebraic_MlpDownXIdeal_MlpDownXRefIdeal (hMlpDownXIdeal := Cert.MlpDownXIdeal.Gen.facts) (hMlpDownXRefIdeal := Cert.MlpDownXRefIdeal.Gen.facts) := by
  intro m g m' g' _ hm
  refine ⟨fun c => out (m (c.tc.loc main_arg3)) (m (c.tc.loc main_arg2)) (hidden (m (c.tc.loc main_arg0)) (m (c.tc.loc main_arg1))), ?_, ?_⟩
  · exact (θ_run defs _ _).mono (fun _ h c => ⟨(h c).1.trans (final m c), (h c).2⟩) (Cert.MlpDownXIdeal.Value.run_blocks m g)
  · refine (θ_run Cert.MlpDownXRefIdeal.defs _ _).mono (fun _ h c => ⟨(h c).1.trans ?_, (h c).2⟩) (Cert.MlpDownXRefIdeal.Value.run m' g')
    rw [(hm c).1, (hm c).2.1, (hm c).2.2.1, (hm c).2.2.2]
    exact ref_eq _ _ _ _

end Cert.MlpDownXIdeal.Mlp

end
-- ==== Proof.Mlp.UpW.lean ====
/- The gradient of the MLP's first product in its weights: every point of the kernel's grid multiplies a whole column block of the
   activations, transposed, with a whole column block of the cotangent, so the result is the product of the two arrays. -/
module

public import proofs.«01_k».proof.Defs
public import proofs.«01_k».proof.Proof.Mlp.Spec
public import proofs.«01_k».proof.Proof.Gen.MlpUpWIdeal.Value
public import proofs.«01_k».proof.Proof.Gen.MlpUpWRefIdeal.Run
public import Idealize.ShloMosaic.Lib.Pipeline.ValueKit

@[expose] public section

set_option maxRecDepth 16384

noncomputable section

namespace Cert.MlpUpWIdeal.Mlp

open Idealize.ShloMosaic Idealize.ShloMosaic.TcCoe Idealize.ShloMosaic.Tactic
open Idealize.SL.Sem
open Idealize.ShloMosaic.Pipeline (Dat)
open Cert.MlpUpWIdeal.Gen Cert.Mlp

/-- What one point stores. -/
theorem pay_apply (a b : Vec Ideal S4096x1024 .bf16) (i j : Fin 1024) :
    k0_pay1 (F := Ideal) a b (ix2 i j) = mulTN a b i j := by
  pointwise [k0_pay1, mulTN]

variable (m : (ℓ : Loc nD τ sig) → Buf (Elt Ideal) ℓ) (c : Dev nD) (ρ : Dev nD → PrngReg)

abbrev row (t : Fin cfg0.N) : Fin 2 := grid0.coords t 0
abbrev col (t : Fin cfg0.N) : Fin 8 := grid0.coords t 1

theorem idx0 : ∀ t : Fin grid0.N, win0_0.index t 0 = 0 ∧ win0_0.index t 1 = (grid0.coords t 0).val := by decide +kernel
theorem idx1 : ∀ t : Fin grid0.N, win0_1.index t 0 = 0 ∧ win0_1.index t 1 = (grid0.coords t 1).val := by decide +kernel
theorem idx2 : ∀ t : Fin grid0.N, win0_2.index t 0 = (grid0.coords t 0).val ∧ win0_2.index t 1 = (grid0.coords t 1).val := by decide +kernel

theorem blk0 (A : Mat 4096 2048) (t : Fin cfg0.N) (k : Fin 4096) (i : Fin 1024) :
    ((cfg0.win 0).blk t).view.read (Elt Ideal) A (ix2 k i) = A (ix2 k (pos (by rfl) (row t) i)) := by
  have hi := idx0 t
  rw [View.read_apply]
  show A _ = A _
  congr 1; funext a; apply Fin.ext
  match a with
  | ⟨0, _⟩ => show win0_0.index t 0 * 4096 + 1 * k.val = k.val; rw [hi.1]; omega
  | ⟨1, _⟩ => show win0_0.index t 1 * 1024 + 1 * i.val = (grid0.coords t 0).val * 1024 + i.val; rw [hi.2]; omega
theorem blk1 (A : Mat 4096 8192) (t : Fin cfg0.N) (k : Fin 4096) (j : Fin 1024) :
    ((cfg0.win 1).blk t).view.read (Elt Ideal) A (ix2 k j) = A (ix2 k (pos (by rfl) (col t) j)) := by
  have hi := idx1 t
  rw [View.read_apply]
  show A _ = A _
  congr 1; funext a; apply Fin.ext
  match a with
  | ⟨0, _⟩ => show win0_1.index t 0 * 4096 + 1 * k.val = k.val; rw [hi.1]; omega
  | ⟨1, _⟩ => show win0_1.index t 1 * 1024 + 1 * j.val = (grid0.coords t 1).val * 1024 + j.val; rw [hi.2]; omega

/-- The result, as a function of the two arguments. -/
def out (h : Mat 4096 2048) (g : Mat 4096 8192) : Mat 2048 8192 := fun i => mulTN h g (i 0) (i 1)

theorem out_block (h : Mat 4096 2048) (g : Mat 4096 8192) (t : Fin cfg0.N) (i j : Fin 1024) :
    out0_2 (F := Ideal) (((cfg0.win 0).blk t).view.read (Elt Ideal) h) (((cfg0.win 1).blk t).view.read (Elt Ideal) g) (ix2 i j)
      = out h g (ix2 (pos (by rfl) (row t) i) (pos (by rfl) (col t) j)) := by
  unfold out0_2
  rw [View.canon_unit_zero (by funext a; fin_cases a <;> rfl), View.ld_unit_zero (S := S4096x1024) (by funext a; fin_cases a <;> rfl),
    View.ld_unit_zero (S := S4096x1024) (by funext a; fin_cases a <;> rfl)]
  refine (pay_apply _ _ i j).trans ?_
  unfold mulTN
  exact Finset.sum_congr rfl fun k _ => congrArg₂ (fun x y : EReal => x * y) (blk0 h t k i) (blk1 g t k j)

theorem final : (dats m 0 c).arrAt 2 cfg0.N = out (m (c.tc.loc main_arg0)) (m (c.tc.loc main_arg1)) := by
  refine (dats m 0 c).arrAt_eq_of_covers 2 _ (by decide +kernel) fun t hf y => ?_
  blk_simp
  rw [after0_2]
  have hi := idx2 t
  obtain ⟨i, j, rfl⟩ : ∃ (i : Fin 1024) (j : Fin 1024), y = ix2 i j := ⟨y 0, y 1, (by funext a; fin_cases a <;> rfl)⟩
  refine (out_block (m (c.tc.loc main_arg0)) (m (c.tc.loc main_arg1)) t i j).trans ?_
  have e : ((cfg0.win 2).blk t).view.emb (ix2 i j) = (ix2 (pos (by rfl) (row t) i) (pos (by rfl) (col t) j) : S2048x8192.Idx) := by
    funext a; apply Fin.ext
    match a with
    | ⟨0, _⟩ => show win0_2.index t 0 * 1024 + 1 * i.val = (grid0.coords t 0).val * 1024 + i.val; rw [hi.1]; omega
    | ⟨1, _⟩ => show win0_2.index t 1 * 1024 + 1 * j.val = (grid0.coords t 1).val * 1024 + j.val; rw [hi.2]; omega
  rw [e]

/-- The reference's term is the same product. -/
theorem ref_eq (h : Mat 4096 2048) (g : Mat 4096 8192) :
    (truncf .bf16 (transpose S2048x8192 [1, 0] (Host.dotGeneral Cert.MlpUpWRefIdeal.dot_S4096x8192_S4096x2048_S8192x2048_0_0_1_1_n_n none
      (extf .f32 g Cert.MlpUpWRefIdeal.Gen.bitsLt_bf16_f32) (extf .f32 h Cert.MlpUpWRefIdeal.Gen.bitsLt_bf16_f32)) Cert.MlpUpWRefIdeal.Gen.transposes_S8192x2048_S2048x8192_1_0)
      Cert.MlpUpWRefIdeal.Gen.bitsLt_bf16_f32 : Mat 2048 8192) = out h g := by
  funext y
  obtain ⟨i, j, rfl⟩ : ∃ (i : Fin 2048) (j : Fin 8192), y = ix2 i j := ⟨y 0, y 1, (by funext a; fin_cases a <;> rfl)⟩
  pointwise [out, mulTN]
  exact Finset.sum_congr rfl fun k _ => mul_comm (G := EReal) _ _

/-- The kernel's gradient of the first product in its weights is the reference's. -/
theorem algebraic : Cert.algebraic_MlpUpWIdeal_MlpUpWRefIdeal (hMlpUpWIdeal := Cert.MlpUpWIdeal.Gen.facts) (hMlpUpWRefIdeal := Cert.MlpUpWRefIdeal.Gen.facts) := by
  intro m g m' g' _ hm
  refine ⟨fun c => out (m (c.tc.loc main_arg0)) (m (c.tc.loc main_arg1)), ?_, ?_⟩
  · exact (θ_run defs _ _).mono (fun _ h c => ⟨(h c).1.trans (final m c), (h c).2⟩) (Cert.MlpUpWIdeal.Value.run_blocks m g)
  · refine (θ_run Cert.MlpUpWRefIdeal.defs _ _).mono (fun _ h c => ⟨(h c).1.trans ?_, (h c).2⟩) (Cert.MlpUpWRefIdeal.Value.run m' g')
    rw [(hm c).1, (hm c).2]
    exact ref_eq _ _

end Cert.MlpUpWIdeal.Mlp

end
-- ==== Proof.Mlp.UpX.lean ====
/- The gradient of the MLP's first product in its input: the kernel's grid walks the long axis in four blocks, adding a block's
   product to a scratch buffer it resets at the first, so after the last one the buffer holds the whole product. -/
module

public import proofs.«01_k».proof.Defs
public import proofs.«01_k».proof.Proof.Mlp.Spec
public import proofs.«01_k».proof.Proof.Gen.MlpUpXIdeal.Value
public import proofs.«01_k».proof.Proof.Gen.MlpUpXRefIdeal.Run
public import Idealize.ShloMosaic.Lib.Pipeline.ValueKit

@[expose] public section

set_option maxRecDepth 16384

noncomputable section

namespace Cert.MlpUpXIdeal.Mlp

open Idealize.ShloMosaic Idealize.ShloMosaic.TcCoe Idealize.ShloMosaic.Tactic
open Idealize.SL.Sem
open Idealize.ShloMosaic.Pipeline (Dat)
open Cert.MlpUpXIdeal.Gen Cert.Mlp

theorem origin : (![0, 0] : Fin 2 → Nat) = fun _ => 0 := funext fun a => by fin_cases a <;> rfl

/-! ### The body's three cases -/

section Cases
variable (c : Dev nD) (p : grid0.Coords) (a3 : Memref sig .tc .vmem S1024x2048 .bf16) (h3 : a3.IsWhole) (a4 : Memref sig .tc .vmem S1024x2048 .bf16) (h4 : a4.IsWhole)
  (a5 : Memref sig .tc .vmem S1024x1024 .bf16) (h5 : a5.IsWhole) (a6 : Memref sig .tc .vmem S1024x1024 .f32) (h6 : a6.IsWhole)
  (x y : Vec Ideal S1024x2048 .bf16) (s : Vec Ideal S1024x1024 .f32)

/-- The first block's point leaves the block's product in the scratch buffer. -/
theorem scratch_first (e0 : cond0_0 p) (e1 : ¬cond0_1 p) : sout0_A_0 c p a3 h3 a4 h4 a5 h5 a6 h6 e0 e1 x y = k0_pay2 k0_pay1 x y := by
  unfold sout0_A_0
  rw [View.read_writes_eq_canon _ _ _ (scover0_A_0 c p a3 h3 a4 h4 a5 h5 a6 h6 e0 e1 x y)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S1024x2048) origin]

/-- A later block's point adds the block's product to it. -/
theorem scratch_next (e0 : ¬cond0_0 p) (e1 : ¬cond0_1 p) : sout0_B_0 c p a3 h3 a4 h4 a5 h5 a6 h6 e0 e1 x y s = k0_pay2 s x y := by
  unfold sout0_B_0
  rw [View.read_writes_eq_canon _ _ _ (scover0_B_0 c p a3 h3 a4 h4 a5 h5 a6 h6 e0 e1 x y s)]
  unfold kernelRun0_B
  dsimp only
  rw [View.canon_unit_zero origin]
  simp only [View.readAt_eq_ld, h3.read_unread, h4.read_unread, h6.read_unread, View.ld_unit_zero (S := S1024x2048) origin, View.ld_unit_zero (S := S1024x1024) origin]

/-- The last block's point stores the sum as well. -/
theorem result_last (e0 : ¬cond0_0 p) (e1 : cond0_1 p) : out0_C_2 c p a3 h3 a4 h4 a5 h5 a6 h6 e0 e1 x y s = k0_pay3 (k0_pay2 s x y) := by
  unfold out0_C_2
  rw [View.read_writes_eq_canon _ _ _ (cover0_C_2 c p a3 h3 a4 h4 a5 h5 a6 h6 e0 e1 x y s)]
  unfold kernelRun0_C
  dsimp only
  sl_unfold_words
  rw [View.canon_unit_zero origin, View.readCov_unit_zero (S := S1024x1024) _ origin]
  simp only [View.readAt_eq_ld, h3.read_unread, h4.read_unread, h6.read_unread, View.ld_unit_zero (S := S1024x2048) origin, View.ld_unit_zero (S := S1024x1024) origin]

end Cases

theorem zero_apply (i j : Fin 1024) : k0_pay1 (F := Ideal) (ix2 i j) = 0 := by
  pointwise [k0_pay1]
theorem step_apply (s : Vec Ideal S1024x1024 .f32) (x y : Vec Ideal S1024x2048 .bf16) (i j : Fin 1024) :
    k0_pay2 (F := Ideal) s x y (ix2 i j) = s (ix2 i j) + mulNT x y i j := by
  pointwise [k0_pay2, mulNT]
theorem last_apply (s : Vec Ideal S1024x1024 .f32) (i j : Fin 1024) : k0_pay3 (F := Ideal) s (ix2 i j) = s (ix2 i j) := by
  pointwise [k0_pay3]

/-! ### The four points of a result's tile -/

variable (m : (ℓ : Loc nD τ sig) → Buf (Elt Ideal) ℓ) (c : Dev nD) (ρ : Dev nD → PrngReg)

/-- The point of tile `q` that adds block `b`. -/
def pt (q : Fin 8) (b : Fin 4) : Fin cfg0.N := ⟨4 * q.val + b.val, lt_of_lt_of_eq (by omega : 4 * q.val + b.val < 32) N_0.symm⟩
theorem pt_val (q : Fin 8) (b : Fin 4) : (pt q b).val = 4 * q.val + b.val := rfl
theorem pt_mod (q : Fin 8) (b : Fin 4) : (pt q b).val % 4 = b.val := by rw [pt_val]; omega
theorem pt_pred (q : Fin 8) (b b' : Fin 4) (h : b'.val = b.val + 1) : (pt q b').val - 1 = (pt q b).val := by rw [pt_val, pt_val]; omega
abbrev row (q : Fin 8) : Fin 4 := ⟨q.val / 2, by omega⟩
abbrev col (q : Fin 8) : Fin 2 := ⟨q.val % 2, by omega⟩

theorem idx0 : ∀ (q : Fin 8) (b : Fin 4), win0_0.index (pt q b) 0 = q.val / 2 ∧ win0_0.index (pt q b) 1 = b.val := by decide +kernel
theorem idx1 : ∀ (q : Fin 8) (b : Fin 4), win0_1.index (pt q b) 0 = q.val % 2 ∧ win0_1.index (pt q b) 1 = b.val := by decide +kernel
theorem idx2 : ∀ (q : Fin 8) (b : Fin 4), win0_2.index (pt q b) 0 = q.val / 2 ∧ win0_2.index (pt q b) 1 = q.val % 2 := by decide +kernel

/-- What point `b` of tile `q` adds. -/
abbrev part (q : Fin 8) (b : Fin 4) (i j : Fin 1024) : EReal := mulNT (iblk m c 0 (pt q b)) (iblk m c 1 (pt q b)) i j

theorem scr_congr {n n' : ℕ} {h : n < cfg0.N} {h' : n' < cfg0.N} (e : n = n') (i j : Fin 1024) :
    (outsAt0 m c n h).2 (ix2 i j) = (outsAt0 m c n' h').2 (ix2 i j) := by subst e; rfl

theorem scr_zero (q : Fin 8) (i j : Fin 1024) : (outsAt0 m c (pt q 0).val (pt q 0).isLt).2 (ix2 i j) = part m c q 0 i j := by
  rw [outsAt0_A m c (pt q 0) (pt_mod q 0) (by rw [pt_mod]; decide)]
  dsimp only
  rw [scratch_first]
  refine (step_apply _ _ _ i j).trans ?_
  rw [zero_apply, zero_add]

theorem scr_succ (q : Fin 8) (b b' : Fin 4) (hb : b'.val = b.val + 1) (h3 : b'.val < 3) (i j : Fin 1024) :
    (outsAt0 m c (pt q b').val (pt q b').isLt).2 (ix2 i j) = (outsAt0 m c (pt q b).val (pt q b).isLt).2 (ix2 i j) + part m c q b' i j := by
  rw [outsAt0_B m c (pt q b') (by rw [pt_mod]; omega) (by rw [pt_mod]; omega)]
  dsimp only
  rw [scratch_next]
  refine (step_apply _ _ _ i j).trans ?_
  exact congrArg (fun z : EReal => z + part m c q b' i j) (scr_congr m c (pt_pred q b b' hb) i j)

/-- The last point of a tile stores the sum of the four blocks' products. -/
theorem out_point (q : Fin 8) (i j : Fin 1024) : (outsAt0 m c (pt q 3).val (pt q 3).isLt).1 (ix2 i j) = ∑ b : Fin 4, part m c q b i j := by
  rw [outsAt0_C m c (pt q 3) (by rw [pt_mod]; decide) (pt_mod q 3)]
  dsimp only
  rw [result_last]
  refine ((last_apply _ i j).trans (step_apply _ _ _ i j)).trans ?_
  refine (congrArg (fun z : EReal => z + part m c q 3 i j) (scr_congr m c (h' := (pt q 2).isLt) (pt_pred q 2 3 rfl) i j)).trans ?_
  rw [scr_succ m c q 1 2 rfl (by decide) i j, scr_succ m c q 0 1 rfl (by decide) i j, scr_zero m c q i j, Fin.sum_univ_four]

/-! ### The result -/

/-- The result, as a function of the two arguments. -/
def out (g : Mat 4096 8192) (w : Mat 2048 8192) : Mat 4096 2048 := fun i => mulNT g w (i 0) (i 1)

theorem part_eq (q : Fin 8) (b : Fin 4) (i j : Fin 1024) :
    part m c q b i j = blockNT (T := 4) (n := 2048) (by rfl) (m (c.tc.loc main_arg1) : Mat 4096 8192) (m (c.tc.loc main_arg0) : Mat 2048 8192)
      (pos (by rfl) (row q) i) (pos (by rfl) (col q) j) b := by
  have h0 := idx0 q b
  have h1 := idx1 q b
  unfold part mulNT blockNT
  refine Finset.sum_congr rfl fun r _ => congrArg₂ (fun x y : EReal => x * y) ?_ ?_
  · exact entry (m (c.tc.loc main_arg1) : Mat 4096 8192) _ _ _
      (show win0_0.index (pt q b) 0 * 1024 + 1 * i.val = q.val / 2 * 1024 + i.val by rw [h0.1]; omega)
      (show win0_0.index (pt q b) 1 * 2048 + 1 * r.val = b.val * 2048 + r.val by rw [h0.2]; omega)
  · exact entry (m (c.tc.loc main_arg0) : Mat 2048 8192) _ _ _
      (show win0_1.index (pt q b) 0 * 1024 + 1 * j.val = q.val % 2 * 1024 + j.val by rw [h1.1]; omega)
      (show win0_1.index (pt q b) 1 * 2048 + 1 * r.val = b.val * 2048 + r.val by rw [h1.2]; omega)

theorem final : (dats m 0 c).arrAt 2 cfg0.N = out (m (c.tc.loc main_arg1)) (m (c.tc.loc main_arg0)) := by
  refine (dats m 0 c).arrAt_eq_of_covers 2 _ (by decide +kernel) fun t hf y => ?_
  have ht : t.val % 4 = 3 := (flush0_2 t).mp hf
  obtain ⟨q, rfl⟩ : ∃ q : Fin 8, t = pt q 3 :=
    ⟨⟨t.val / 4, by have := lt_of_lt_of_eq t.isLt (N_0 : cfg0.N = 32); omega⟩, Fin.ext (show t.val = 4 * (t.val / 4) + 3 by omega)⟩
  blk_simp
  rw [after0_2]
  have hi := idx2 q 3
  obtain ⟨i, j, rfl⟩ : ∃ (i : Fin 1024) (j : Fin 1024), y = ix2 i j := ⟨y 0, y 1, (by funext a; fin_cases a <;> rfl)⟩
  refine (out_point m c q i j).trans ?_
  refine Eq.trans ?_ (entry (out (m (c.tc.loc main_arg1)) (m (c.tc.loc main_arg0))) _ (pos (by rfl) (row q) i) (pos (by rfl) (col q) j)
      (show win0_2.index (pt q 3) 0 * 1024 + 1 * i.val = q.val / 2 * 1024 + i.val by rw [hi.1]; omega)
      (show win0_2.index (pt q 3) 1 * 1024 + 1 * j.val = q.val % 2 * 1024 + j.val by rw [hi.2]; omega)).symm
  refine (Finset.sum_congr rfl fun b _ => part_eq m c q b i j).trans ?_
  exact sum_blockNT (T := 4) (n := 2048) (by rfl) (m (c.tc.loc main_arg1) : Mat 4096 8192) (m (c.tc.loc main_arg0) : Mat 2048 8192) _ _

/-- The reference's term is the same product. -/
theorem ref_eq (g : Mat 4096 8192) (w : Mat 2048 8192) :
    (truncf .bf16 (Host.dotGeneral Cert.MlpUpXRefIdeal.dot_S4096x8192_S2048x8192_S4096x2048_1_1_0_0_n_n none
      (extf .f32 g Cert.MlpUpXRefIdeal.Gen.bitsLt_bf16_f32) (extf .f32 w Cert.MlpUpXRefIdeal.Gen.bitsLt_bf16_f32))
      Cert.MlpUpXRefIdeal.Gen.bitsLt_bf16_f32 : Mat 4096 2048) = out g w := by
  funext y
  obtain ⟨i, j, rfl⟩ : ∃ (i : Fin 4096) (j : Fin 2048), y = ix2 i j := ⟨y 0, y 1, (by funext a; fin_cases a <;> rfl)⟩
  pointwise [out, mulNT]

/-- The kernel's gradient of the first product in its input is the reference's. -/
theorem algebraic : Cert.algebraic_MlpUpXIdeal_MlpUpXRefIdeal (hMlpUpXIdeal := Cert.MlpUpXIdeal.Gen.facts) (hMlpUpXRefIdeal := Cert.MlpUpXRefIdeal.Gen.facts) := by
  intro m g m' g' _ hm
  refine ⟨fun c => out (m (c.tc.loc main_arg1)) (m (c.tc.loc main_arg0)), ?_, ?_⟩
  · exact (θ_run defs _ _).mono (fun _ h c => ⟨(h c).1.trans (final m c), (h c).2⟩) (Cert.MlpUpXIdeal.Value.run_blocks m g)
  · refine (θ_run Cert.MlpUpXRefIdeal.defs _ _).mono (fun _ h c => ⟨(h c).1.trans ?_, (h c).2⟩) (Cert.MlpUpXRefIdeal.Value.run m' g')
    rw [(hm c).1, (hm c).2]
    exact ref_eq _ _

end Cert.MlpUpXIdeal.Mlp

end
-- ==== Proof.Lin.Spec.lean ====
/- What the linear layers' proofs share: the three products as arrays, and a tile of each as the product of a row block and a column
   block. -/
module

public import proofs.«01_k».proof.Proof.Mlp.Spec

@[expose] public section

noncomputable section

namespace Cert.Lin

open Idealize.ShloMosaic Cert.Mlp

variable {M N K M' N' : ℕ}

theorem origin : (![0, 0] : Fin 2 → Nat) = fun _ => 0 := funext fun a => by fin_cases a <;> rfl

/-- Every index of a matrix is a pair of coordinates. -/
theorem split (y : (⟨2, ![M, N]⟩ : Shape).Idx) : ∃ (i : Fin M) (j : Fin N), y = ix2 i j :=
  ⟨y 0, y 1, by funext a; fin_cases a <;> rfl⟩

/-- The products `a · b`, `aᵀ · b` and `a · bᵀ` as arrays. -/
def prodNN (a : Mat M K) (b : Mat K N) : Mat M N := fun y => mulNN a b (y 0) (y 1)
def prodTN (a : Mat K M) (b : Mat K N) : Mat M N := fun y => mulTN a b (y 0) (y 1)
def prodNT (a : Mat M K) (b : Mat N K) : Mat M N := fun y => mulNT a b (y 0) (y 1)

/-! Where the rows of `a` are rows `I` of `A`, and so on, an entry of the blocks' product is the entry of the arrays' product. -/

theorem tileNN {A : Mat M K} {B : Mat K N} {a : Mat M' K} {b : Mat K N'} (I : Fin M' → Fin M) (J : Fin N' → Fin N)
    (ha : ∀ i k, a (ix2 i k) = A (ix2 (I i) k)) (hb : ∀ k j, b (ix2 k j) = B (ix2 k (J j))) (i : Fin M') (j : Fin N') :
    mulNN a b i j = mulNN A B (I i) (J j) :=
  Finset.sum_congr rfl fun k _ => congrArg₂ (fun x y : EReal => x * y) (ha i k) (hb k j)

theorem tileTN {A : Mat K M} {B : Mat K N} {a : Mat K M'} {b : Mat K N'} (I : Fin M' → Fin M) (J : Fin N' → Fin N)
    (ha : ∀ k i, a (ix2 k i) = A (ix2 k (I i))) (hb : ∀ k j, b (ix2 k j) = B (ix2 k (J j))) (i : Fin M') (j : Fin N') :
    mulTN a b i j = mulTN A B (I i) (J j) :=
  Finset.sum_congr rfl fun k _ => congrArg₂ (fun x y : EReal => x * y) (ha k i) (hb k j)

theorem tileNT {A : Mat M K} {B : Mat N K} {a : Mat M' K} {b : Mat N' K} (I : Fin M' → Fin M) (J : Fin N' → Fin N)
    (ha : ∀ i k, a (ix2 i k) = A (ix2 (I i) k)) (hb : ∀ j k, b (ix2 j k) = B (ix2 (J j) k)) (i : Fin M') (j : Fin N') :
    mulNT a b i j = mulNT A B (I i) (J j) :=
  Finset.sum_congr rfl fun k _ => congrArg₂ (fun x y : EReal => x * y) (ha i k) (hb j k)

/-- The same of a block of the long axis. -/
theorem tileBlockNT {T n : ℕ} (h : T * n = K) {A : Mat M K} {B : Mat N K} {a : Mat M' n} {b : Mat N' n} (I : Fin M' → Fin M) (J : Fin N' → Fin N) (p : Fin T)
    (ha : ∀ i k, a (ix2 i k) = A (ix2 (I i) (pos h p k))) (hb : ∀ j k, b (ix2 j k) = B (ix2 (J j) (pos h p k))) (i : Fin M') (j : Fin N') :
    mulNT a b i j = blockNT h A B (I i) (J j) p :=
  Finset.sum_congr rfl fun k _ => congrArg₂ (fun x y : EReal => x * y) (ha i k) (hb j k)

end Cert.Lin

end
-- ==== Proof.Lin.MixOut.lean ====
/- The mixers' output layers: every point of the kernel's grid multiplies a row block of the input with a column block of the
   weights. -/
module

public import proofs.«01_k».proof.Defs
public import proofs.«01_k».proof.Proof.Lin.Spec
public import proofs.«01_k».proof.Proof.Gen.MixOutIdeal.Value
public import proofs.«01_k».proof.Proof.Gen.MixOutRefIdeal.Run
public import Idealize.ShloMosaic.Lib.Pipeline.ValueKit

@[expose] public section

set_option maxRecDepth 16384

noncomputable section

namespace Cert.MixOutIdeal.Lin

open Idealize.ShloMosaic Idealize.ShloMosaic.TcCoe Idealize.ShloMosaic.Tactic
open Idealize.SL.Sem
open Idealize.ShloMosaic.Pipeline (Dat)
open Cert.MixOutIdeal.Gen Cert.Mlp Cert.Lin

/-- What one point stores. -/
theorem pay_apply (a : Vec Ideal S1024x2048 .bf16) (b : Vec Ideal S2048x1024 .bf16) (i j : Fin 1024) :
    k0_pay1 (F := Ideal) a b (ix2 i j) = mulNN a b i j := by
  pointwise [k0_pay1, mulNN]

variable (m : (ℓ : Loc nD τ sig) → Buf (Elt Ideal) ℓ) (c : Dev nD)

/-- The arguments, and the place of a tile's entry in the result. -/
abbrev A : Mat 4096 2048 := m (c.tc.loc main_arg0)
abbrev B : Mat 2048 2048 := m (c.tc.loc main_arg1)
abbrev row (t : Fin cfg0.N) : Fin 1024 → Fin 4096 := pos (T := 4) (by rfl) (grid0.coords t 0)
abbrev col (t : Fin cfg0.N) : Fin 1024 → Fin 2048 := pos (T := 2) (by rfl) (grid0.coords t 1)

theorem idx0 : ∀ t : Fin grid0.N, win0_0.index t 0 = (grid0.coords t 0).val ∧ win0_0.index t 1 = 0 := by decide +kernel
theorem idx1 : ∀ t : Fin grid0.N, win0_1.index t 0 = 0 ∧ win0_1.index t 1 = (grid0.coords t 1).val := by decide +kernel
theorem idx2 : ∀ t : Fin grid0.N, win0_2.index t 0 = (grid0.coords t 0).val ∧ win0_2.index t 1 = (grid0.coords t 1).val := by decide +kernel

theorem blockA (t : Fin cfg0.N) (i : Fin 1024) (k : Fin 2048) : iblk m c 0 t (ix2 i k) = A m c (ix2 (row t i) k) :=
  entry (A m c) _ _ _
    (show win0_0.index t 0 * 1024 + 1 * i.val = (grid0.coords t 0).val * 1024 + i.val by rw [(idx0 t).1]; omega)
    (show win0_0.index t 1 * 2048 + 1 * k.val = k.val by rw [(idx0 t).2]; omega)
theorem blockB (t : Fin cfg0.N) (k : Fin 2048) (j : Fin 1024) : iblk m c 1 t (ix2 k j) = B m c (ix2 k (col t j)) :=
  entry (B m c) _ _ _
    (show win0_1.index t 0 * 2048 + 1 * k.val = k.val by rw [(idx1 t).1]; omega)
    (show win0_1.index t 1 * 1024 + 1 * j.val = (grid0.coords t 1).val * 1024 + j.val by rw [(idx1 t).2]; omega)

theorem final : (dats m 0 c).arrAt 2 cfg0.N = prodNN (A m c) (B m c) := by
  refine (dats m 0 c).arrAt_eq_of_covers 2 _ (by decide +kernel) fun t hf y => ?_
  blk_simp
  rw [after0_2]
  obtain ⟨i, j, rfl⟩ := split y
  refine Eq.trans ?_ (entry (prodNN (A m c) (B m c)) _ (row t i) (col t j)
    (show win0_2.index t 0 * 1024 + 1 * i.val = (grid0.coords t 0).val * 1024 + i.val by rw [(idx2 t).1]; omega)
    (show win0_2.index t 1 * 1024 + 1 * j.val = (grid0.coords t 1).val * 1024 + j.val by rw [(idx2 t).2]; omega)).symm
  unfold out0_2
  rw [View.canon_unit_zero origin, View.ld_unit_zero (S := S1024x2048) origin, View.ld_unit_zero (S := S2048x1024) origin]
  exact (pay_apply _ _ i j).trans (tileNN (row t) (col t) (blockA m c t) (blockB m c t) i j)

/-- The reference's term is the same product. -/
theorem ref_eq (a : Mat 4096 2048) (w : Mat 2048 2048) :
    (truncf .bf16 (Host.dotGeneral Cert.MixOutRefIdeal.dot_S4096x2048_S2048x2048_S4096x2048_1_0_0_1_n_n none
      (extf .f32 a Cert.MixOutRefIdeal.Gen.bitsLt_bf16_f32) (extf .f32 w Cert.MixOutRefIdeal.Gen.bitsLt_bf16_f32))
      Cert.MixOutRefIdeal.Gen.bitsLt_bf16_f32 : Mat 4096 2048) = prodNN a w := by
  funext y
  obtain ⟨i, j, rfl⟩ := split y
  pointwise [prodNN, mulNN]

/-- The kernel's output layer is the reference's. -/
theorem algebraic : Cert.algebraic_MixOutIdeal_MixOutRefIdeal (hMixOutIdeal := Cert.MixOutIdeal.Gen.facts) (hMixOutRefIdeal := Cert.MixOutRefIdeal.Gen.facts) := by
  intro m g m' g' _ hm
  refine ⟨fun c => prodNN (A m c) (B m c), ?_, ?_⟩
  · exact (θ_run defs _ _).mono (fun _ h c => ⟨(h c).1.trans (final m c), (h c).2⟩) (Cert.MixOutIdeal.Value.run_blocks m g)
  · refine (θ_run Cert.MixOutRefIdeal.defs _ _).mono (fun _ h c => ⟨(h c).1.trans ?_, (h c).2⟩) (Cert.MixOutRefIdeal.Value.run m' g')
    rw [(hm c).1, (hm c).2]
    exact ref_eq _ _

end Cert.MixOutIdeal.Lin

end
-- ==== Proof.Lin.MixOutX.lean ====
/- The gradient of the mixers' output layers in the input: every point of the kernel's grid multiplies a row block of the cotangent with
   a row block of the weights, transposed. -/
module

public import proofs.«01_k».proof.Defs
public import proofs.«01_k».proof.Proof.Lin.Spec
public import proofs.«01_k».proof.Proof.Gen.MixOutXIdeal.Value
public import proofs.«01_k».proof.Proof.Gen.MixOutXRefIdeal.Run
public import Idealize.ShloMosaic.Lib.Pipeline.ValueKit

@[expose] public section

set_option maxRecDepth 16384

noncomputable section

namespace Cert.MixOutXIdeal.Lin

open Idealize.ShloMosaic Idealize.ShloMosaic.TcCoe Idealize.ShloMosaic.Tactic
open Idealize.SL.Sem
open Idealize.ShloMosaic.Pipeline (Dat)
open Cert.MixOutXIdeal.Gen Cert.Mlp Cert.Lin

/-- What one point stores. -/
theorem pay_apply (a b : Vec Ideal S1024x2048 .bf16) (i j : Fin 1024) :
    k0_pay1 (F := Ideal) a b (ix2 i j) = mulNT a b i j := by
  pointwise [k0_pay1, mulNT]

variable (m : (ℓ : Loc nD τ sig) → Buf (Elt Ideal) ℓ) (c : Dev nD)

/-- The arguments, and the place of a tile's entry in the result. -/
abbrev A : Mat 4096 2048 := m (c.tc.loc main_arg1)
abbrev B : Mat 2048 2048 := m (c.tc.loc main_arg0)
abbrev row (t : Fin cfg0.N) : Fin 1024 → Fin 4096 := pos (T := 4) (by rfl) (grid0.coords t 0)
abbrev col (t : Fin cfg0.N) : Fin 1024 → Fin 2048 := pos (T := 2) (by rfl) (grid0.coords t 1)

theorem idx0 : ∀ t : Fin grid0.N, win0_0.index t 0 = (grid0.coords t 0).val ∧ win0_0.index t 1 = 0 := by decide +kernel
theorem idx1 : ∀ t : Fin grid0.N, win0_1.index t 0 = (grid0.coords t 1).val ∧ win0_1.index t 1 = 0 := by decide +kernel
theorem idx2 : ∀ t : Fin grid0.N, win0_2.index t 0 = (grid0.coords t 0).val ∧ win0_2.index t 1 = (grid0.coords t 1).val := by decide +kernel

theorem blockA (t : Fin cfg0.N) (i : Fin 1024) (k : Fin 2048) : iblk m c 0 t (ix2 i k) = A m c (ix2 (row t i) k) :=
  entry (A m c) _ _ _
    (show win0_0.index t 0 * 1024 + 1 * i.val = (grid0.coords t 0).val * 1024 + i.val by rw [(idx0 t).1]; omega)
    (show win0_0.index t 1 * 2048 + 1 * k.val = k.val by rw [(idx0 t).2]; omega)
theorem blockB (t : Fin cfg0.N) (j : Fin 1024) (k : Fin 2048) : iblk m c 1 t (ix2 j k) = B m c (ix2 (col t j) k) :=
  entry (B m c) _ _ _
    (show win0_1.index t 0 * 1024 + 1 * j.val = (grid0.coords t 1).val * 1024 + j.val by rw [(idx1 t).1]; omega)
    (show win0_1.index t 1 * 2048 + 1 * k.val = k.val by rw [(idx1 t).2]; omega)

theorem final : (dats m 0 c).arrAt 2 cfg0.N = prodNT (A m c) (B m c) := by
  refine (dats m 0 c).arrAt_eq_of_covers 2 _ (by decide +kernel) fun t hf y => ?_
  blk_simp
  rw [after0_2]
  obtain ⟨i, j, rfl⟩ := split y
  refine Eq.trans ?_ (entry (prodNT (A m c) (B m c)) _ (row t i) (col t j)
    (show win0_2.index t 0 * 1024 + 1 * i.val = (grid0.coords t 0).val * 1024 + i.val by rw [(idx2 t).1]; omega)
    (show win0_2.index t 1 * 1024 + 1 * j.val = (grid0.coords t 1).val * 1024 + j.val by rw [(idx2 t).2]; omega)).symm
  unfold out0_2
  rw [View.canon_unit_zero origin, View.ld_unit_zero (S := S1024x2048) origin, View.ld_unit_zero (S := S1024x2048) origin]
  exact (pay_apply _ _ i j).trans (tileNT (row t) (col t) (blockA m c t) (blockB m c t) i j)

/-- The reference's term is the same product. -/
theorem ref_eq (g : Mat 4096 2048) (w : Mat 2048 2048) :
    (truncf .bf16 (Host.dotGeneral Cert.MixOutXRefIdeal.dot_S4096x2048_S2048x2048_S4096x2048_1_1_0_0_n_n none
      (extf .f32 g Cert.MixOutXRefIdeal.Gen.bitsLt_bf16_f32) (extf .f32 w Cert.MixOutXRefIdeal.Gen.bitsLt_bf16_f32))
      Cert.MixOutXRefIdeal.Gen.bitsLt_bf16_f32 : Mat 4096 2048) = prodNT g w := by
  funext y
  obtain ⟨i, j, rfl⟩ := split y
  pointwise [prodNT, mulNT]

/-- The kernel's gradient of an output layer in the input is the reference's. -/
theorem algebraic : Cert.algebraic_MixOutXIdeal_MixOutXRefIdeal (hMixOutXIdeal := Cert.MixOutXIdeal.Gen.facts) (hMixOutXRefIdeal := Cert.MixOutXRefIdeal.Gen.facts) := by
  intro m g m' g' _ hm
  refine ⟨fun c => prodNT (A m c) (B m c), ?_, ?_⟩
  · exact (θ_run defs _ _).mono (fun _ h c => ⟨(h c).1.trans (final m c), (h c).2⟩) (Cert.MixOutXIdeal.Value.run_blocks m g)
  · refine (θ_run Cert.MixOutXRefIdeal.defs _ _).mono (fun _ h c => ⟨(h c).1.trans ?_, (h c).2⟩) (Cert.MixOutXRefIdeal.Value.run m' g')
    rw [(hm c).1, (hm c).2]
    exact ref_eq _ _

end Cert.MixOutXIdeal.Lin

end
-- ==== Proof.Lin.MixOutW.lean ====
/- The gradient of the mixers' output layers, in the weights: every point of the kernel's grid multiplies a whole column block of the input,
   transposed, with a whole column block of the cotangent. -/
module

public import proofs.«01_k».proof.Defs
public import proofs.«01_k».proof.Proof.Lin.Spec
public import proofs.«01_k».proof.Proof.Gen.MixOutWIdeal.Value
public import proofs.«01_k».proof.Proof.Gen.MixOutWRefIdeal.Run
public import Idealize.ShloMosaic.Lib.Pipeline.ValueKit

@[expose] public section

set_option maxRecDepth 16384

noncomputable section

namespace Cert.MixOutWIdeal.Lin

open Idealize.ShloMosaic Idealize.ShloMosaic.TcCoe Idealize.ShloMosaic.Tactic
open Idealize.SL.Sem
open Idealize.ShloMosaic.Pipeline (Dat)
open Cert.MixOutWIdeal.Gen Cert.Mlp Cert.Lin

/-- What one point stores. -/
theorem pay_apply (a : Vec Ideal S4096x1024 .bf16) (b : Vec Ideal S4096x1024 .bf16) (i j : Fin 1024) :
    k0_pay1 (F := Ideal) a b (ix2 i j) = mulTN a b i j := by
  pointwise [k0_pay1, mulTN]

variable (m : (ℓ : Loc nD τ sig) → Buf (Elt Ideal) ℓ) (c : Dev nD)

/-- The arguments, and the place of a tile's entry in the result. -/
abbrev A : Mat 4096 2048 := m (c.tc.loc main_arg0)
abbrev B : Mat 4096 2048 := m (c.tc.loc main_arg1)
abbrev row (t : Fin cfg0.N) : Fin 1024 → Fin 2048 := pos (T := 2) (by rfl) (grid0.coords t 0)
abbrev col (t : Fin cfg0.N) : Fin 1024 → Fin 2048 := pos (T := 2) (by rfl) (grid0.coords t 1)

theorem idx0 : ∀ t : Fin grid0.N, win0_0.index t 0 = 0 ∧ win0_0.index t 1 = (grid0.coords t 0).val := by decide +kernel
theorem idx1 : ∀ t : Fin grid0.N, win0_1.index t 0 = 0 ∧ win0_1.index t 1 = (grid0.coords t 1).val := by decide +kernel
theorem idx2 : ∀ t : Fin grid0.N, win0_2.index t 0 = (grid0.coords t 0).val ∧ win0_2.index t 1 = (grid0.coords t 1).val := by decide +kernel

theorem blockA (t : Fin cfg0.N) (k : Fin 4096) (i : Fin 1024) : iblk m c 0 t (ix2 k i) = A m c (ix2 k (row t i)) :=
  entry (A m c) _ _ _
    (show win0_0.index t 0 * 4096 + 1 * k.val = k.val by rw [(idx0 t).1]; omega)
    (show win0_0.index t 1 * 1024 + 1 * i.val = (grid0.coords t 0).val * 1024 + i.val by rw [(idx0 t).2]; omega)
theorem blockB (t : Fin cfg0.N) (k : Fin 4096) (j : Fin 1024) : iblk m c 1 t (ix2 k j) = B m c (ix2 k (col t j)) :=
  entry (B m c) _ _ _
    (show win0_1.index t 0 * 4096 + 1 * k.val = k.val by rw [(idx1 t).1]; omega)
    (show win0_1.index t 1 * 1024 + 1 * j.val = (grid0.coords t 1).val * 1024 + j.val by rw [(idx1 t).2]; omega)

theorem final : (dats m 0 c).arrAt 2 cfg0.N = prodTN (A m c) (B m c) := by
  refine (dats m 0 c).arrAt_eq_of_covers 2 _ (by decide +kernel) fun t hf y => ?_
  blk_simp
  rw [after0_2]
  obtain ⟨i, j, rfl⟩ := split y
  refine Eq.trans ?_ (entry (prodTN (A m c) (B m c)) _ (row t i) (col t j)
    (show win0_2.index t 0 * 1024 + 1 * i.val = (grid0.coords t 0).val * 1024 + i.val by rw [(idx2 t).1]; omega)
    (show win0_2.index t 1 * 1024 + 1 * j.val = (grid0.coords t 1).val * 1024 + j.val by rw [(idx2 t).2]; omega)).symm
  unfold out0_2
  rw [View.canon_unit_zero origin, View.ld_unit_zero (S := S4096x1024) origin, View.ld_unit_zero (S := S4096x1024) origin]
  exact (pay_apply _ _ i j).trans (tileTN (row t) (col t) (blockA m c t) (blockB m c t) i j)

/-- The reference's term is the same product. -/
theorem ref_eq (a : Mat 4096 2048) (g : Mat 4096 2048) :
    (truncf .bf16 (transpose Cert.MixOutWRefIdeal.S2048x2048 [1, 0] (Host.dotGeneral Cert.MixOutWRefIdeal.dot_S4096x2048_S4096x2048_S2048x2048_0_0_1_1_n_n none
      (extf .f32 g Cert.MixOutWRefIdeal.Gen.bitsLt_bf16_f32) (extf .f32 a Cert.MixOutWRefIdeal.Gen.bitsLt_bf16_f32)) Cert.MixOutWRefIdeal.Gen.transposes_S2048x2048_S2048x2048_1_0)
      Cert.MixOutWRefIdeal.Gen.bitsLt_bf16_f32 : Mat 2048 2048) = prodTN a g := by
  funext y
  obtain ⟨i, j, rfl⟩ := split y
  pointwise [prodTN, mulTN]
  exact Finset.sum_congr rfl fun k _ => mul_comm (G := EReal) _ _

/-- The kernel's gradient of an output layer in the weights is the reference's. -/
theorem algebraic : Cert.algebraic_MixOutWIdeal_MixOutWRefIdeal (hMixOutWIdeal := Cert.MixOutWIdeal.Gen.facts) (hMixOutWRefIdeal := Cert.MixOutWRefIdeal.Gen.facts) := by
  intro m g m' g' _ hm
  refine ⟨fun c => prodTN (A m c) (B m c), ?_, ?_⟩
  · exact (θ_run defs _ _).mono (fun _ h c => ⟨(h c).1.trans (final m c), (h c).2⟩) (Cert.MixOutWIdeal.Value.run_blocks m g)
  · refine (θ_run Cert.MixOutWRefIdeal.defs _ _).mono (fun _ h c => ⟨(h c).1.trans ?_, (h c).2⟩) (Cert.MixOutWRefIdeal.Value.run m' g')
    rw [(hm c).1, (hm c).2]
    exact ref_eq _ _

end Cert.MixOutWIdeal.Lin

end
-- ==== Proof.Lin.AbIn.lean ====
/- The attention-block mixer's input layer: every point of the kernel's grid multiplies a row block of the input with a column block
   of the weights. -/
module

public import proofs.«01_k».proof.Defs
public import proofs.«01_k».proof.Proof.Lin.Spec
public import proofs.«01_k».proof.Proof.Gen.AbInIdeal.Value
public import proofs.«01_k».proof.Proof.Gen.AbInRefIdeal.Run
public import Idealize.ShloMosaic.Lib.Pipeline.ValueKit

@[expose] public section

set_option maxRecDepth 16384

noncomputable section

namespace Cert.AbInIdeal.Lin

open Idealize.ShloMosaic Idealize.ShloMosaic.TcCoe Idealize.ShloMosaic.Tactic
open Idealize.SL.Sem
open Idealize.ShloMosaic.Pipeline (Dat)
open Cert.AbInIdeal.Gen Cert.Mlp Cert.Lin

/-- What one point stores. -/
theorem pay_apply (a : Vec Ideal S1024x2048 .bf16) (b : Vec Ideal S2048x1024 .bf16) (i j : Fin 1024) :
    k0_pay1 (F := Ideal) a b (ix2 i j) = mulNN a b i j := by
  pointwise [k0_pay1, mulNN]

variable (m : (ℓ : Loc nD τ sig) → Buf (Elt Ideal) ℓ) (c : Dev nD)

/-- The arguments, and the place of a tile's entry in the result. -/
abbrev A : Mat 4096 2048 := m (c.tc.loc main_arg0)
abbrev B : Mat 2048 4096 := m (c.tc.loc main_arg1)
abbrev row (t : Fin cfg0.N) : Fin 1024 → Fin 4096 := pos (T := 4) (by rfl) (grid0.coords t 0)
abbrev col (t : Fin cfg0.N) : Fin 1024 → Fin 4096 := pos (T := 4) (by rfl) (grid0.coords t 1)

theorem idx0 : ∀ t : Fin grid0.N, win0_0.index t 0 = (grid0.coords t 0).val ∧ win0_0.index t 1 = 0 := by decide +kernel
theorem idx1 : ∀ t : Fin grid0.N, win0_1.index t 0 = 0 ∧ win0_1.index t 1 = (grid0.coords t 1).val := by decide +kernel
theorem idx2 : ∀ t : Fin grid0.N, win0_2.index t 0 = (grid0.coords t 0).val ∧ win0_2.index t 1 = (grid0.coords t 1).val := by decide +kernel

theorem blockA (t : Fin cfg0.N) (i : Fin 1024) (k : Fin 2048) : iblk m c 0 t (ix2 i k) = A m c (ix2 (row t i) k) :=
  entry (A m c) _ _ _
    (show win0_0.index t 0 * 1024 + 1 * i.val = (grid0.coords t 0).val * 1024 + i.val by rw [(idx0 t).1]; omega)
    (show win0_0.index t 1 * 2048 + 1 * k.val = k.val by rw [(idx0 t).2]; omega)
theorem blockB (t : Fin cfg0.N) (k : Fin 2048) (j : Fin 1024) : iblk m c 1 t (ix2 k j) = B m c (ix2 k (col t j)) :=
  entry (B m c) _ _ _
    (show win0_1.index t 0 * 2048 + 1 * k.val = k.val by rw [(idx1 t).1]; omega)
    (show win0_1.index t 1 * 1024 + 1 * j.val = (grid0.coords t 1).val * 1024 + j.val by rw [(idx1 t).2]; omega)

theorem final : (dats m 0 c).arrAt 2 cfg0.N = prodNN (A m c) (B m c) := by
  refine (dats m 0 c).arrAt_eq_of_covers 2 _ (by decide +kernel) fun t hf y => ?_
  blk_simp
  rw [after0_2]
  obtain ⟨i, j, rfl⟩ := split y
  refine Eq.trans ?_ (entry (prodNN (A m c) (B m c)) _ (row t i) (col t j)
    (show win0_2.index t 0 * 1024 + 1 * i.val = (grid0.coords t 0).val * 1024 + i.val by rw [(idx2 t).1]; omega)
    (show win0_2.index t 1 * 1024 + 1 * j.val = (grid0.coords t 1).val * 1024 + j.val by rw [(idx2 t).2]; omega)).symm
  unfold out0_2
  rw [View.canon_unit_zero origin, View.ld_unit_zero (S := S1024x2048) origin, View.ld_unit_zero (S := S2048x1024) origin]
  exact (pay_apply _ _ i j).trans (tileNN (row t) (col t) (blockA m c t) (blockB m c t) i j)

/-- The reference's term is the same product. -/
theorem ref_eq (a : Mat 4096 2048) (w : Mat 2048 4096) :
    (truncf .bf16 (Host.dotGeneral Cert.AbInRefIdeal.dot_S4096x2048_S2048x4096_S4096x4096_1_0_0_1_n_n none
      (extf .f32 a Cert.AbInRefIdeal.Gen.bitsLt_bf16_f32) (extf .f32 w Cert.AbInRefIdeal.Gen.bitsLt_bf16_f32))
      Cert.AbInRefIdeal.Gen.bitsLt_bf16_f32 : Mat 4096 4096) = prodNN a w := by
  funext y
  obtain ⟨i, j, rfl⟩ := split y
  pointwise [prodNN, mulNN]

/-- The kernel's input layer is the reference's. -/
theorem algebraic : Cert.algebraic_AbInIdeal_AbInRefIdeal (hAbInIdeal := Cert.AbInIdeal.Gen.facts) (hAbInRefIdeal := Cert.AbInRefIdeal.Gen.facts) := by
  intro m g m' g' _ hm
  refine ⟨fun c => prodNN (A m c) (B m c), ?_, ?_⟩
  · exact (θ_run defs _ _).mono (fun _ h c => ⟨(h c).1.trans (final m c), (h c).2⟩) (Cert.AbInIdeal.Value.run_blocks m g)
  · refine (θ_run Cert.AbInRefIdeal.defs _ _).mono (fun _ h c => ⟨(h c).1.trans ?_, (h c).2⟩) (Cert.AbInRefIdeal.Value.run m' g')
    rw [(hm c).1, (hm c).2]
    exact ref_eq _ _

end Cert.AbInIdeal.Lin

end
-- ==== Proof.Lin.AbInX.lean ====
/- The gradient of the attention-block mixer's input layer, in the input: the kernel's grid walks the long axis in two
   blocks, adding a block's product to a scratch buffer it resets at the first, so after the last one the buffer holds the whole
   product. -/
module

public import proofs.«01_k».proof.Defs
public import proofs.«01_k».proof.Proof.Lin.Spec
public import proofs.«01_k».proof.Proof.Gen.AbInXIdeal.Value
public import proofs.«01_k».proof.Proof.Gen.AbInXRefIdeal.Run
public import Idealize.ShloMosaic.Lib.Pipeline.ValueKit

@[expose] public section

set_option maxRecDepth 16384

noncomputable section

namespace Cert.AbInXIdeal.Lin

open Idealize.ShloMosaic Idealize.ShloMosaic.TcCoe Idealize.ShloMosaic.Tactic
open Idealize.SL.Sem
open Idealize.ShloMosaic.Pipeline (Dat)
open Cert.AbInXIdeal.Gen Cert.Mlp Cert.Lin

/-! ### The body's two cases -/

section Cases
variable (c : Dev nD) (p : grid0.Coords) (a3 : Memref sig .tc .vmem S1024x2048 .bf16) (h3 : a3.IsWhole) (a4 : Memref sig .tc .vmem S1024x2048 .bf16) (h4 : a4.IsWhole)
  (a5 : Memref sig .tc .vmem S1024x1024 .bf16) (h5 : a5.IsWhole) (a6 : Memref sig .tc .vmem S1024x1024 .f32) (h6 : a6.IsWhole)
  (x y : Vec Ideal S1024x2048 .bf16) (s : Vec Ideal S1024x1024 .f32)

/-- The first block's point leaves the block's product in the scratch buffer. -/
theorem scratch_first (e0 : cond0_0 p) (e1 : ¬cond0_1 p) : sout0_A_0 c p a3 h3 a4 h4 a5 h5 a6 h6 e0 e1 x y = k0_pay2 k0_pay1 x y := by
  unfold sout0_A_0
  rw [View.read_writes_eq_canon _ _ _ (scover0_A_0 c p a3 h3 a4 h4 a5 h5 a6 h6 e0 e1 x y)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S1024x2048) origin]

/-- The last block's point stores the sum as well. -/
theorem result_last (e0 : ¬cond0_0 p) (e1 : cond0_1 p) : out0_B_2 c p a3 h3 a4 h4 a5 h5 a6 h6 e0 e1 x y s = k0_pay3 (k0_pay2 s x y) := by
  unfold out0_B_2
  rw [View.read_writes_eq_canon _ _ _ (cover0_B_2 c p a3 h3 a4 h4 a5 h5 a6 h6 e0 e1 x y s)]
  unfold kernelRun0_B
  dsimp only
  sl_unfold_words
  rw [View.canon_unit_zero origin, View.readCov_unit_zero (S := S1024x1024) _ origin]
  simp only [View.readAt_eq_ld, h3.read_unread, h4.read_unread, h6.read_unread, View.ld_unit_zero (S := S1024x2048) origin, View.ld_unit_zero (S := S1024x1024) origin]

end Cases

theorem zero_apply (i j : Fin 1024) : k0_pay1 (F := Ideal) (ix2 i j) = 0 := by
  pointwise [k0_pay1]
theorem step_apply (s : Vec Ideal S1024x1024 .f32) (x y : Vec Ideal S1024x2048 .bf16) (i j : Fin 1024) :
    k0_pay2 (F := Ideal) s x y (ix2 i j) = s (ix2 i j) + mulNT x y i j := by
  pointwise [k0_pay2, mulNT]
theorem last_apply (s : Vec Ideal S1024x1024 .f32) (i j : Fin 1024) : k0_pay3 (F := Ideal) s (ix2 i j) = s (ix2 i j) := by
  pointwise [k0_pay3]

/-! ### The two points of a result's tile -/

variable (m : (ℓ : Loc nD τ sig) → Buf (Elt Ideal) ℓ) (c : Dev nD)

/-- The point of tile `q` that adds block `b`. -/
def pt (q : Fin 8) (b : Fin 2) : Fin cfg0.N := ⟨2 * q.val + b.val, lt_of_lt_of_eq (by omega : 2 * q.val + b.val < 16) N_0.symm⟩
theorem pt_val (q : Fin 8) (b : Fin 2) : (pt q b).val = 2 * q.val + b.val := rfl
theorem pt_mod (q : Fin 8) (b : Fin 2) : (pt q b).val % 2 = b.val := by rw [pt_val]; omega
theorem pt_pred (q : Fin 8) (b b' : Fin 2) (h : b'.val = b.val + 1) : (pt q b').val - 1 = (pt q b).val := by rw [pt_val, pt_val]; omega

/-- The arguments, and the place of a tile's entry in the result. -/
abbrev A : Mat 4096 4096 := m (c.tc.loc main_arg1)
abbrev B : Mat 2048 4096 := m (c.tc.loc main_arg0)
abbrev row (q : Fin 8) : Fin 1024 → Fin 4096 := pos (T := 4) (by rfl) ⟨q.val / 2, by omega⟩
abbrev col (q : Fin 8) : Fin 1024 → Fin 2048 := pos (T := 2) (by rfl) ⟨q.val % 2, by omega⟩

theorem idx0 : ∀ (q : Fin 8) (b : Fin 2), win0_0.index (pt q b) 0 = q.val / 2 ∧ win0_0.index (pt q b) 1 = b.val := by decide +kernel
theorem idx1 : ∀ (q : Fin 8) (b : Fin 2), win0_1.index (pt q b) 0 = q.val % 2 ∧ win0_1.index (pt q b) 1 = b.val := by decide +kernel
theorem idx2 : ∀ (q : Fin 8) (b : Fin 2), win0_2.index (pt q b) 0 = q.val / 2 ∧ win0_2.index (pt q b) 1 = q.val % 2 := by decide +kernel

theorem blockA (q : Fin 8) (b : Fin 2) (i : Fin 1024) (k : Fin 2048) : iblk m c 0 (pt q b) (ix2 i k) = A m c (ix2 (row q i) (pos (T := 2) (by rfl) b k)) :=
  entry (A m c) _ _ _
    (show win0_0.index (pt q b) 0 * 1024 + 1 * i.val = q.val / 2 * 1024 + i.val by rw [(idx0 q b).1]; omega)
    (show win0_0.index (pt q b) 1 * 2048 + 1 * k.val = b.val * 2048 + k.val by rw [(idx0 q b).2]; omega)
theorem blockB (q : Fin 8) (b : Fin 2) (j : Fin 1024) (k : Fin 2048) : iblk m c 1 (pt q b) (ix2 j k) = B m c (ix2 (col q j) (pos (T := 2) (by rfl) b k)) :=
  entry (B m c) _ _ _
    (show win0_1.index (pt q b) 0 * 1024 + 1 * j.val = q.val % 2 * 1024 + j.val by rw [(idx1 q b).1]; omega)
    (show win0_1.index (pt q b) 1 * 2048 + 1 * k.val = b.val * 2048 + k.val by rw [(idx1 q b).2]; omega)

/-- What point `b` of tile `q` adds. -/
abbrev part (q : Fin 8) (b : Fin 2) (i j : Fin 1024) : EReal := mulNT (iblk m c 0 (pt q b)) (iblk m c 1 (pt q b)) i j

theorem scr_congr {n n' : ℕ} {h : n < cfg0.N} {h' : n' < cfg0.N} (e : n = n') (i j : Fin 1024) :
    (outsAt0 m c n h).2 (ix2 i j) = (outsAt0 m c n' h').2 (ix2 i j) := by subst e; rfl

theorem scr_zero (q : Fin 8) (i j : Fin 1024) : (outsAt0 m c (pt q 0).val (pt q 0).isLt).2 (ix2 i j) = part m c q 0 i j := by
  rw [outsAt0_A m c (pt q 0) (pt_mod q 0) (by rw [pt_mod]; decide)]
  dsimp only
  rw [scratch_first]
  refine (step_apply _ _ _ i j).trans ?_
  rw [zero_apply, zero_add]

/-- The last point of a tile stores the sum of the two blocks' products. -/
theorem out_point (q : Fin 8) (i j : Fin 1024) : (outsAt0 m c (pt q 1).val (pt q 1).isLt).1 (ix2 i j) = ∑ b : Fin 2, part m c q b i j := by
  rw [outsAt0_B m c (pt q 1) (by rw [pt_mod]; decide) (pt_mod q 1)]
  dsimp only
  rw [result_last]
  refine ((last_apply _ i j).trans (step_apply _ _ _ i j)).trans ?_
  refine (congrArg (fun z : EReal => z + part m c q 1 i j) (scr_congr m c (h' := (pt q 0).isLt) (pt_pred q 0 1 rfl) i j)).trans ?_
  rw [scr_zero m c q i j, Fin.sum_univ_two]

/-! ### The result -/

theorem final : (dats m 0 c).arrAt 2 cfg0.N = prodNT (A m c) (B m c) := by
  refine (dats m 0 c).arrAt_eq_of_covers 2 _ (by decide +kernel) fun t hf y => ?_
  have ht : t.val % 2 = 1 := (flush0_2 t).mp hf
  obtain ⟨q, rfl⟩ : ∃ q : Fin 8, t = pt q 1 :=
    ⟨⟨t.val / 2, by have := lt_of_lt_of_eq t.isLt (N_0 : cfg0.N = 16); omega⟩, Fin.ext (show t.val = 2 * (t.val / 2) + 1 by omega)⟩
  blk_simp
  rw [after0_2]
  obtain ⟨i, j, rfl⟩ := split y
  refine (out_point m c q i j).trans ?_
  refine Eq.trans ?_ (entry (prodNT (A m c) (B m c)) _ (row q i) (col q j)
    (show win0_2.index (pt q 1) 0 * 1024 + 1 * i.val = q.val / 2 * 1024 + i.val by rw [(idx2 q 1).1]; omega)
    (show win0_2.index (pt q 1) 1 * 1024 + 1 * j.val = q.val % 2 * 1024 + j.val by rw [(idx2 q 1).2]; omega)).symm
  refine (Finset.sum_congr rfl fun b _ => tileBlockNT (T := 2) (by rfl) (row q) (col q) b (blockA m c q b) (blockB m c q b) i j).trans ?_
  exact sum_blockNT (T := 2) (by rfl) (A m c) (B m c) _ _

/-- The reference's term is the same product. -/
theorem ref_eq (g : Mat 4096 4096) (w : Mat 2048 4096) :
    (truncf .bf16 (Host.dotGeneral Cert.AbInXRefIdeal.dot_S4096x4096_S2048x4096_S4096x2048_1_1_0_0_n_n none
      (extf .f32 g Cert.AbInXRefIdeal.Gen.bitsLt_bf16_f32) (extf .f32 w Cert.AbInXRefIdeal.Gen.bitsLt_bf16_f32))
      Cert.AbInXRefIdeal.Gen.bitsLt_bf16_f32 : Mat 4096 2048) = prodNT g w := by
  funext y
  obtain ⟨i, j, rfl⟩ := split y
  pointwise [prodNT, mulNT]

/-- The kernel's gradient of the input layer in the input is the reference's. -/
theorem algebraic : Cert.algebraic_AbInXIdeal_AbInXRefIdeal (hAbInXIdeal := Cert.AbInXIdeal.Gen.facts) (hAbInXRefIdeal := Cert.AbInXRefIdeal.Gen.facts) := by
  intro m g m' g' _ hm
  refine ⟨fun c => prodNT (A m c) (B m c), ?_, ?_⟩
  · exact (θ_run defs _ _).mono (fun _ h c => ⟨(h c).1.trans (final m c), (h c).2⟩) (Cert.AbInXIdeal.Value.run_blocks m g)
  · refine (θ_run Cert.AbInXRefIdeal.defs _ _).mono (fun _ h c => ⟨(h c).1.trans ?_, (h c).2⟩) (Cert.AbInXRefIdeal.Value.run m' g')
    rw [(hm c).1, (hm c).2]
    exact ref_eq _ _

end Cert.AbInXIdeal.Lin

end
-- ==== Proof.Lin.AbInW.lean ====
/- The gradient of the attention-block mixer's input layer, in the weights: every point of the kernel's grid multiplies a whole column block of the input,
   transposed, with a whole column block of the cotangent. -/
module

public import proofs.«01_k».proof.Defs
public import proofs.«01_k».proof.Proof.Lin.Spec
public import proofs.«01_k».proof.Proof.Gen.AbInWIdeal.Value
public import proofs.«01_k».proof.Proof.Gen.AbInWRefIdeal.Run
public import Idealize.ShloMosaic.Lib.Pipeline.ValueKit

@[expose] public section

set_option maxRecDepth 16384

noncomputable section

namespace Cert.AbInWIdeal.Lin

open Idealize.ShloMosaic Idealize.ShloMosaic.TcCoe Idealize.ShloMosaic.Tactic
open Idealize.SL.Sem
open Idealize.ShloMosaic.Pipeline (Dat)
open Cert.AbInWIdeal.Gen Cert.Mlp Cert.Lin

/-- What one point stores. -/
theorem pay_apply (a : Vec Ideal S4096x1024 .bf16) (b : Vec Ideal S4096x1024 .bf16) (i j : Fin 1024) :
    k0_pay1 (F := Ideal) a b (ix2 i j) = mulTN a b i j := by
  pointwise [k0_pay1, mulTN]

variable (m : (ℓ : Loc nD τ sig) → Buf (Elt Ideal) ℓ) (c : Dev nD)

/-- The arguments, and the place of a tile's entry in the result. -/
abbrev A : Mat 4096 2048 := m (c.tc.loc main_arg0)
abbrev B : Mat 4096 4096 := m (c.tc.loc main_arg1)
abbrev row (t : Fin cfg0.N) : Fin 1024 → Fin 2048 := pos (T := 2) (by rfl) (grid0.coords t 0)
abbrev col (t : Fin cfg0.N) : Fin 1024 → Fin 4096 := pos (T := 4) (by rfl) (grid0.coords t 1)

theorem idx0 : ∀ t : Fin grid0.N, win0_0.index t 0 = 0 ∧ win0_0.index t 1 = (grid0.coords t 0).val := by decide +kernel
theorem idx1 : ∀ t : Fin grid0.N, win0_1.index t 0 = 0 ∧ win0_1.index t 1 = (grid0.coords t 1).val := by decide +kernel
theorem idx2 : ∀ t : Fin grid0.N, win0_2.index t 0 = (grid0.coords t 0).val ∧ win0_2.index t 1 = (grid0.coords t 1).val := by decide +kernel

theorem blockA (t : Fin cfg0.N) (k : Fin 4096) (i : Fin 1024) : iblk m c 0 t (ix2 k i) = A m c (ix2 k (row t i)) :=
  entry (A m c) _ _ _
    (show win0_0.index t 0 * 4096 + 1 * k.val = k.val by rw [(idx0 t).1]; omega)
    (show win0_0.index t 1 * 1024 + 1 * i.val = (grid0.coords t 0).val * 1024 + i.val by rw [(idx0 t).2]; omega)
theorem blockB (t : Fin cfg0.N) (k : Fin 4096) (j : Fin 1024) : iblk m c 1 t (ix2 k j) = B m c (ix2 k (col t j)) :=
  entry (B m c) _ _ _
    (show win0_1.index t 0 * 4096 + 1 * k.val = k.val by rw [(idx1 t).1]; omega)
    (show win0_1.index t 1 * 1024 + 1 * j.val = (grid0.coords t 1).val * 1024 + j.val by rw [(idx1 t).2]; omega)

theorem final : (dats m 0 c).arrAt 2 cfg0.N = prodTN (A m c) (B m c) := by
  refine (dats m 0 c).arrAt_eq_of_covers 2 _ (by decide +kernel) fun t hf y => ?_
  blk_simp
  rw [after0_2]
  obtain ⟨i, j, rfl⟩ := split y
  refine Eq.trans ?_ (entry (prodTN (A m c) (B m c)) _ (row t i) (col t j)
    (show win0_2.index t 0 * 1024 + 1 * i.val = (grid0.coords t 0).val * 1024 + i.val by rw [(idx2 t).1]; omega)
    (show win0_2.index t 1 * 1024 + 1 * j.val = (grid0.coords t 1).val * 1024 + j.val by rw [(idx2 t).2]; omega)).symm
  unfold out0_2
  rw [View.canon_unit_zero origin, View.ld_unit_zero (S := S4096x1024) origin, View.ld_unit_zero (S := S4096x1024) origin]
  exact (pay_apply _ _ i j).trans (tileTN (row t) (col t) (blockA m c t) (blockB m c t) i j)

/-- The reference's term is the same product. -/
theorem ref_eq (a : Mat 4096 2048) (g : Mat 4096 4096) :
    (truncf .bf16 (transpose Cert.AbInWRefIdeal.S2048x4096 [1, 0] (Host.dotGeneral Cert.AbInWRefIdeal.dot_S4096x4096_S4096x2048_S4096x2048_0_0_1_1_n_n none
      (extf .f32 g Cert.AbInWRefIdeal.Gen.bitsLt_bf16_f32) (extf .f32 a Cert.AbInWRefIdeal.Gen.bitsLt_bf16_f32)) Cert.AbInWRefIdeal.Gen.transposes_S4096x2048_S2048x4096_1_0)
      Cert.AbInWRefIdeal.Gen.bitsLt_bf16_f32 : Mat 2048 4096) = prodTN a g := by
  funext y
  obtain ⟨i, j, rfl⟩ := split y
  pointwise [prodTN, mulTN]
  exact Finset.sum_congr rfl fun k _ => mul_comm (G := EReal) _ _

/-- The kernel's gradient of the input layer in the weights is the reference's. -/
theorem algebraic : Cert.algebraic_AbInWIdeal_AbInWRefIdeal (hAbInWIdeal := Cert.AbInWIdeal.Gen.facts) (hAbInWRefIdeal := Cert.AbInWRefIdeal.Gen.facts) := by
  intro m g m' g' _ hm
  refine ⟨fun c => prodTN (A m c) (B m c), ?_, ?_⟩
  · exact (θ_run defs _ _).mono (fun _ h c => ⟨(h c).1.trans (final m c), (h c).2⟩) (Cert.AbInWIdeal.Value.run_blocks m g)
  · refine (θ_run Cert.AbInWRefIdeal.defs _ _).mono (fun _ h c => ⟨(h c).1.trans ?_, (h c).2⟩) (Cert.AbInWRefIdeal.Value.run m' g')
    rw [(hm c).1, (hm c).2]
    exact ref_eq _ _

end Cert.AbInWIdeal.Lin

end
-- ==== Proof.Lin.MlaUp.lean ====
/- The latent attention's up-projections: every point of the kernel's grid multiplies a row block of the latents with a column block
   of the weights. -/
module

public import proofs.«01_k».proof.Defs
public import proofs.«01_k».proof.Proof.Lin.Spec
public import proofs.«01_k».proof.Proof.Gen.MlaUpIdeal.Value
public import proofs.«01_k».proof.Proof.Gen.MlaUpRefIdeal.Run
public import Idealize.ShloMosaic.Lib.Pipeline.ValueKit

@[expose] public section

set_option maxRecDepth 16384

noncomputable section

namespace Cert.MlaUpIdeal.Lin

open Idealize.ShloMosaic Idealize.ShloMosaic.TcCoe Idealize.ShloMosaic.Tactic
open Idealize.SL.Sem
open Idealize.ShloMosaic.Pipeline (Dat)
open Cert.MlaUpIdeal.Gen Cert.Mlp Cert.Lin

/-- What one point stores. -/
theorem pay_apply (a : Vec Ideal S1024x512 .bf16) (b : Vec Ideal S512x1024 .bf16) (i j : Fin 1024) :
    k0_pay1 (F := Ideal) a b (ix2 i j) = mulNN a b i j := by
  pointwise [k0_pay1, mulNN]

variable (m : (ℓ : Loc nD τ sig) → Buf (Elt Ideal) ℓ) (c : Dev nD)

/-- The arguments, and the place of a tile's entry in the result. -/
abbrev A : Mat 4096 512 := m (c.tc.loc main_arg0)
abbrev B : Mat 512 4096 := m (c.tc.loc main_arg1)
abbrev row (t : Fin cfg0.N) : Fin 1024 → Fin 4096 := pos (T := 4) (by rfl) (grid0.coords t 0)
abbrev col (t : Fin cfg0.N) : Fin 1024 → Fin 4096 := pos (T := 4) (by rfl) (grid0.coords t 1)

theorem idx0 : ∀ t : Fin grid0.N, win0_0.index t 0 = (grid0.coords t 0).val ∧ win0_0.index t 1 = 0 := by decide +kernel
theorem idx1 : ∀ t : Fin grid0.N, win0_1.index t 0 = 0 ∧ win0_1.index t 1 = (grid0.coords t 1).val := by decide +kernel
theorem idx2 : ∀ t : Fin grid0.N, win0_2.index t 0 = (grid0.coords t 0).val ∧ win0_2.index t 1 = (grid0.coords t 1).val := by decide +kernel

theorem blockA (t : Fin cfg0.N) (i : Fin 1024) (k : Fin 512) : iblk m c 0 t (ix2 i k) = A m c (ix2 (row t i) k) :=
  entry (A m c) _ _ _
    (show win0_0.index t 0 * 1024 + 1 * i.val = (grid0.coords t 0).val * 1024 + i.val by rw [(idx0 t).1]; omega)
    (show win0_0.index t 1 * 512 + 1 * k.val = k.val by rw [(idx0 t).2]; omega)
theorem blockB (t : Fin cfg0.N) (k : Fin 512) (j : Fin 1024) : iblk m c 1 t (ix2 k j) = B m c (ix2 k (col t j)) :=
  entry (B m c) _ _ _
    (show win0_1.index t 0 * 512 + 1 * k.val = k.val by rw [(idx1 t).1]; omega)
    (show win0_1.index t 1 * 1024 + 1 * j.val = (grid0.coords t 1).val * 1024 + j.val by rw [(idx1 t).2]; omega)

theorem final : (dats m 0 c).arrAt 2 cfg0.N = prodNN (A m c) (B m c) := by
  refine (dats m 0 c).arrAt_eq_of_covers 2 _ (by decide +kernel) fun t hf y => ?_
  blk_simp
  rw [after0_2]
  obtain ⟨i, j, rfl⟩ := split y
  refine Eq.trans ?_ (entry (prodNN (A m c) (B m c)) _ (row t i) (col t j)
    (show win0_2.index t 0 * 1024 + 1 * i.val = (grid0.coords t 0).val * 1024 + i.val by rw [(idx2 t).1]; omega)
    (show win0_2.index t 1 * 1024 + 1 * j.val = (grid0.coords t 1).val * 1024 + j.val by rw [(idx2 t).2]; omega)).symm
  unfold out0_2
  rw [View.canon_unit_zero origin, View.ld_unit_zero (S := S1024x512) origin, View.ld_unit_zero (S := S512x1024) origin]
  exact (pay_apply _ _ i j).trans (tileNN (row t) (col t) (blockA m c t) (blockB m c t) i j)

/-- The reference's term is the same product. -/
theorem ref_eq (a : Mat 4096 512) (w : Mat 512 4096) :
    (truncf .bf16 (Host.dotGeneral Cert.MlaUpRefIdeal.dot_S4096x512_S512x4096_S4096x4096_1_0_0_1_n_n none
      (extf .f32 a Cert.MlaUpRefIdeal.Gen.bitsLt_bf16_f32) (extf .f32 w Cert.MlaUpRefIdeal.Gen.bitsLt_bf16_f32))
      Cert.MlaUpRefIdeal.Gen.bitsLt_bf16_f32 : Mat 4096 4096) = prodNN a w := by
  funext y
  obtain ⟨i, j, rfl⟩ := split y
  pointwise [prodNN, mulNN]

/-- The kernel's up-projection is the reference's. -/
theorem algebraic : Cert.algebraic_MlaUpIdeal_MlaUpRefIdeal (hMlaUpIdeal := Cert.MlaUpIdeal.Gen.facts) (hMlaUpRefIdeal := Cert.MlaUpRefIdeal.Gen.facts) := by
  intro m g m' g' _ hm
  refine ⟨fun c => prodNN (A m c) (B m c), ?_, ?_⟩
  · exact (θ_run defs _ _).mono (fun _ h c => ⟨(h c).1.trans (final m c), (h c).2⟩) (Cert.MlaUpIdeal.Value.run_blocks m g)
  · refine (θ_run Cert.MlaUpRefIdeal.defs _ _).mono (fun _ h c => ⟨(h c).1.trans ?_, (h c).2⟩) (Cert.MlaUpRefIdeal.Value.run m' g')
    rw [(hm c).1, (hm c).2]
    exact ref_eq _ _

end Cert.MlaUpIdeal.Lin

end
-- ==== Proof.Lin.MlaUpX.lean ====
/- The gradient of the latent attention's up-projections, in the input: the kernel's grid walks the long axis in two
   blocks, adding a block's product to a scratch buffer it resets at the first, so after the last one the buffer holds the whole
   product. -/
module

public import proofs.«01_k».proof.Defs
public import proofs.«01_k».proof.Proof.Lin.Spec
public import proofs.«01_k».proof.Proof.Gen.MlaUpXIdeal.Value
public import proofs.«01_k».proof.Proof.Gen.MlaUpXRefIdeal.Run
public import Idealize.ShloMosaic.Lib.Pipeline.ValueKit

@[expose] public section

set_option maxRecDepth 16384

noncomputable section

namespace Cert.MlaUpXIdeal.Lin

open Idealize.ShloMosaic Idealize.ShloMosaic.TcCoe Idealize.ShloMosaic.Tactic
open Idealize.SL.Sem
open Idealize.ShloMosaic.Pipeline (Dat)
open Cert.MlaUpXIdeal.Gen Cert.Mlp Cert.Lin

/-! ### The body's two cases -/

section Cases
variable (c : Dev nD) (p : grid0.Coords) (a3 : Memref sig .tc .vmem S1024x2048 .bf16) (h3 : a3.IsWhole) (a4 : Memref sig .tc .vmem S512x2048 .bf16) (h4 : a4.IsWhole)
  (a5 : Memref sig .tc .vmem S1024x512 .bf16) (h5 : a5.IsWhole) (a6 : Memref sig .tc .vmem S1024x512 .f32) (h6 : a6.IsWhole)
  (x : Vec Ideal S1024x2048 .bf16) (y : Vec Ideal S512x2048 .bf16) (s : Vec Ideal S1024x512 .f32)

/-- The first block's point leaves the block's product in the scratch buffer. -/
theorem scratch_first (e0 : cond0_0 p) (e1 : ¬cond0_1 p) : sout0_A_0 c p a3 h3 a4 h4 a5 h5 a6 h6 e0 e1 x y = k0_pay2 k0_pay1 x y := by
  unfold sout0_A_0
  rw [View.read_writes_eq_canon _ _ _ (scover0_A_0 c p a3 h3 a4 h4 a5 h5 a6 h6 e0 e1 x y)]
  unfold kernelRun0_A
  dsimp only
  sl_unfold_words
  rw [View.canon_cons_unit_zero (S := S1024x512) origin, View.readCov_unit_zero (S := S1024x512) _ origin]
  simp only [View.readAt_eq_ld, h3.read_unread, h4.read_unread, View.ld_unit_zero (S := S1024x2048) origin, View.ld_unit_zero (S := S512x2048) origin]

/-- The last block's point stores the sum as well. -/
theorem result_last (e0 : ¬cond0_0 p) (e1 : cond0_1 p) : out0_B_2 c p a3 h3 a4 h4 a5 h5 a6 h6 e0 e1 x y s = k0_pay3 (k0_pay2 s x y) := by
  unfold out0_B_2
  rw [View.read_writes_eq_canon _ _ _ (cover0_B_2 c p a3 h3 a4 h4 a5 h5 a6 h6 e0 e1 x y s)]
  unfold kernelRun0_B
  dsimp only
  sl_unfold_words
  rw [View.canon_unit_zero origin, View.readCov_unit_zero (S := S1024x512) _ origin]
  simp only [View.readAt_eq_ld, h3.read_unread, h4.read_unread, h6.read_unread, View.ld_unit_zero (S := S1024x2048) origin, View.ld_unit_zero (S := S512x2048) origin, View.ld_unit_zero (S := S1024x512) origin]

end Cases

theorem zero_apply (i : Fin 1024) (j : Fin 512) : k0_pay1 (F := Ideal) (ix2 i j) = 0 := by
  pointwise [k0_pay1]
theorem step_apply (s : Vec Ideal S1024x512 .f32) (x : Vec Ideal S1024x2048 .bf16) (y : Vec Ideal S512x2048 .bf16) (i : Fin 1024) (j : Fin 512) :
    k0_pay2 (F := Ideal) s x y (ix2 i j) = s (ix2 i j) + mulNT x y i j := by
  pointwise [k0_pay2, mulNT]
theorem last_apply (s : Vec Ideal S1024x512 .f32) (i : Fin 1024) (j : Fin 512) : k0_pay3 (F := Ideal) s (ix2 i j) = s (ix2 i j) := by
  pointwise [k0_pay3]

/-! ### The two points of a result's tile -/

variable (m : (ℓ : Loc nD τ sig) → Buf (Elt Ideal) ℓ) (c : Dev nD)

/-- The point of tile `q` that adds block `b`. -/
def pt (q : Fin 4) (b : Fin 2) : Fin cfg0.N := ⟨2 * q.val + b.val, lt_of_lt_of_eq (by omega : 2 * q.val + b.val < 8) N_0.symm⟩
theorem pt_val (q : Fin 4) (b : Fin 2) : (pt q b).val = 2 * q.val + b.val := rfl
theorem pt_mod (q : Fin 4) (b : Fin 2) : (pt q b).val % 2 = b.val := by rw [pt_val]; omega
theorem pt_pred (q : Fin 4) (b b' : Fin 2) (h : b'.val = b.val + 1) : (pt q b').val - 1 = (pt q b).val := by rw [pt_val, pt_val]; omega

/-- The arguments, and the place of a tile's entry in the result. -/
abbrev A : Mat 4096 4096 := m (c.tc.loc main_arg1)
abbrev B : Mat 512 4096 := m (c.tc.loc main_arg0)
abbrev row (q : Fin 4) : Fin 1024 → Fin 4096 := pos (T := 4) (by rfl) ⟨q.val, by omega⟩
abbrev col (q : Fin 4) : Fin 512 → Fin 512 := pos (T := 1) (by rfl) ⟨0, by omega⟩

theorem idx0 : ∀ (q : Fin 4) (b : Fin 2), win0_0.index (pt q b) 0 = q.val ∧ win0_0.index (pt q b) 1 = b.val := by decide +kernel
theorem idx1 : ∀ (q : Fin 4) (b : Fin 2), win0_1.index (pt q b) 0 = 0 ∧ win0_1.index (pt q b) 1 = b.val := by decide +kernel
theorem idx2 : ∀ (q : Fin 4) (b : Fin 2), win0_2.index (pt q b) 0 = q.val ∧ win0_2.index (pt q b) 1 = 0 := by decide +kernel

theorem blockA (q : Fin 4) (b : Fin 2) (i : Fin 1024) (k : Fin 2048) : iblk m c 0 (pt q b) (ix2 i k) = A m c (ix2 (row q i) (pos (T := 2) (by rfl) b k)) :=
  entry (A m c) _ _ _
    (show win0_0.index (pt q b) 0 * 1024 + 1 * i.val = q.val * 1024 + i.val by rw [(idx0 q b).1]; omega)
    (show win0_0.index (pt q b) 1 * 2048 + 1 * k.val = b.val * 2048 + k.val by rw [(idx0 q b).2]; omega)
theorem blockB (q : Fin 4) (b : Fin 2) (j : Fin 512) (k : Fin 2048) : iblk m c 1 (pt q b) (ix2 j k) = B m c (ix2 (col q j) (pos (T := 2) (by rfl) b k)) :=
  entry (B m c) _ _ _
    (show win0_1.index (pt q b) 0 * 512 + 1 * j.val = 0 * 512 + j.val by rw [(idx1 q b).1]; omega)
    (show win0_1.index (pt q b) 1 * 2048 + 1 * k.val = b.val * 2048 + k.val by rw [(idx1 q b).2]; omega)

/-- What point `b` of tile `q` adds. -/
abbrev part (q : Fin 4) (b : Fin 2) (i : Fin 1024) (j : Fin 512) : EReal := mulNT (iblk m c 0 (pt q b)) (iblk m c 1 (pt q b)) i j

theorem scr_congr {n n' : ℕ} {h : n < cfg0.N} {h' : n' < cfg0.N} (e : n = n') (i : Fin 1024) (j : Fin 512) :
    (outsAt0 m c n h).2 (ix2 i j) = (outsAt0 m c n' h').2 (ix2 i j) := by subst e; rfl

theorem scr_zero (q : Fin 4) (i : Fin 1024) (j : Fin 512) : (outsAt0 m c (pt q 0).val (pt q 0).isLt).2 (ix2 i j) = part m c q 0 i j := by
  rw [outsAt0_A m c (pt q 0) (pt_mod q 0) (by rw [pt_mod]; decide)]
  dsimp only
  rw [scratch_first]
  refine (step_apply _ _ _ i j).trans ?_
  rw [zero_apply, zero_add]

/-- The last point of a tile stores the sum of the two blocks' products. -/
theorem out_point (q : Fin 4) (i : Fin 1024) (j : Fin 512) : (outsAt0 m c (pt q 1).val (pt q 1).isLt).1 (ix2 i j) = ∑ b : Fin 2, part m c q b i j := by
  rw [outsAt0_B m c (pt q 1) (by rw [pt_mod]; decide) (pt_mod q 1)]
  dsimp only
  rw [result_last]
  refine ((last_apply _ i j).trans (step_apply _ _ _ i j)).trans ?_
  refine (congrArg (fun z : EReal => z + part m c q 1 i j) (scr_congr m c (h' := (pt q 0).isLt) (pt_pred q 0 1 rfl) i j)).trans ?_
  rw [scr_zero m c q i j, Fin.sum_univ_two]

/-! ### The result -/

theorem final : (dats m 0 c).arrAt 2 cfg0.N = prodNT (A m c) (B m c) := by
  refine (dats m 0 c).arrAt_eq_of_covers 2 _ (by decide +kernel) fun t hf y => ?_
  have ht : t.val % 2 = 1 := (flush0_2 t).mp hf
  obtain ⟨q, rfl⟩ : ∃ q : Fin 4, t = pt q 1 :=
    ⟨⟨t.val / 2, by have := lt_of_lt_of_eq t.isLt (N_0 : cfg0.N = 8); omega⟩, Fin.ext (show t.val = 2 * (t.val / 2) + 1 by omega)⟩
  blk_simp
  rw [after0_2]
  obtain ⟨i, j, rfl⟩ := split y
  refine (out_point m c q i j).trans ?_
  refine Eq.trans ?_ (entry (prodNT (A m c) (B m c)) _ (row q i) (col q j)
    (show win0_2.index (pt q 1) 0 * 1024 + 1 * i.val = q.val * 1024 + i.val by rw [(idx2 q 1).1]; omega)
    (show win0_2.index (pt q 1) 1 * 512 + 1 * j.val = 0 * 512 + j.val by rw [(idx2 q 1).2]; omega)).symm
  refine (Finset.sum_congr rfl fun b _ => tileBlockNT (T := 2) (by rfl) (row q) (col q) b (blockA m c q b) (blockB m c q b) i j).trans ?_
  exact sum_blockNT (T := 2) (by rfl) (A m c) (B m c) _ _

/-- The reference's term is the same product. -/
theorem ref_eq (g : Mat 4096 4096) (w : Mat 512 4096) :
    (truncf .bf16 (Host.dotGeneral Cert.MlaUpXRefIdeal.dot_S4096x4096_S512x4096_S4096x512_1_1_0_0_n_n none
      (extf .f32 g Cert.MlaUpXRefIdeal.Gen.bitsLt_bf16_f32) (extf .f32 w Cert.MlaUpXRefIdeal.Gen.bitsLt_bf16_f32))
      Cert.MlaUpXRefIdeal.Gen.bitsLt_bf16_f32 : Mat 4096 512) = prodNT g w := by
  funext y
  obtain ⟨i, j, rfl⟩ := split y
  pointwise [prodNT, mulNT]

/-- The kernel's gradient of an up-projection in the input is the reference's. -/
theorem algebraic : Cert.algebraic_MlaUpXIdeal_MlaUpXRefIdeal (hMlaUpXIdeal := Cert.MlaUpXIdeal.Gen.facts) (hMlaUpXRefIdeal := Cert.MlaUpXRefIdeal.Gen.facts) := by
  intro m g m' g' _ hm
  refine ⟨fun c => prodNT (A m c) (B m c), ?_, ?_⟩
  · exact (θ_run defs _ _).mono (fun _ h c => ⟨(h c).1.trans (final m c), (h c).2⟩) (Cert.MlaUpXIdeal.Value.run_blocks m g)
  · refine (θ_run Cert.MlaUpXRefIdeal.defs _ _).mono (fun _ h c => ⟨(h c).1.trans ?_, (h c).2⟩) (Cert.MlaUpXRefIdeal.Value.run m' g')
    rw [(hm c).1, (hm c).2]
    exact ref_eq _ _

end Cert.MlaUpXIdeal.Lin

end
-- ==== Proof.Lin.MlaUpW.lean ====
/- The gradient of the latent attention's up-projections, in the weights: every point of the kernel's grid multiplies a whole column block of the input,
   transposed, with a whole column block of the cotangent. -/
module

public import proofs.«01_k».proof.Defs
public import proofs.«01_k».proof.Proof.Lin.Spec
public import proofs.«01_k».proof.Proof.Gen.MlaUpWIdeal.Value
public import proofs.«01_k».proof.Proof.Gen.MlaUpWRefIdeal.Run
public import Idealize.ShloMosaic.Lib.Pipeline.ValueKit

@[expose] public section

set_option maxRecDepth 16384

noncomputable section

namespace Cert.MlaUpWIdeal.Lin

open Idealize.ShloMosaic Idealize.ShloMosaic.TcCoe Idealize.ShloMosaic.Tactic
open Idealize.SL.Sem
open Idealize.ShloMosaic.Pipeline (Dat)
open Cert.MlaUpWIdeal.Gen Cert.Mlp Cert.Lin

/-- What one point stores. -/
theorem pay_apply (a : Vec Ideal S4096x512 .bf16) (b : Vec Ideal S4096x1024 .bf16) (i : Fin 512) (j : Fin 1024) :
    k0_pay1 (F := Ideal) a b (ix2 i j) = mulTN a b i j := by
  pointwise [k0_pay1, mulTN]

variable (m : (ℓ : Loc nD τ sig) → Buf (Elt Ideal) ℓ) (c : Dev nD)

/-- The arguments, and the place of a tile's entry in the result. -/
abbrev A : Mat 4096 512 := m (c.tc.loc main_arg0)
abbrev B : Mat 4096 4096 := m (c.tc.loc main_arg1)
abbrev row (t : Fin cfg0.N) : Fin 512 → Fin 512 := pos (T := 1) (by rfl) (grid0.coords t 0)
abbrev col (t : Fin cfg0.N) : Fin 1024 → Fin 4096 := pos (T := 4) (by rfl) (grid0.coords t 1)

theorem idx0 : ∀ t : Fin grid0.N, win0_0.index t 0 = 0 ∧ win0_0.index t 1 = (grid0.coords t 0).val := by decide +kernel
theorem idx1 : ∀ t : Fin grid0.N, win0_1.index t 0 = 0 ∧ win0_1.index t 1 = (grid0.coords t 1).val := by decide +kernel
theorem idx2 : ∀ t : Fin grid0.N, win0_2.index t 0 = (grid0.coords t 0).val ∧ win0_2.index t 1 = (grid0.coords t 1).val := by decide +kernel

theorem blockA (t : Fin cfg0.N) (k : Fin 4096) (i : Fin 512) : iblk m c 0 t (ix2 k i) = A m c (ix2 k (row t i)) :=
  entry (A m c) _ _ _
    (show win0_0.index t 0 * 4096 + 1 * k.val = k.val by rw [(idx0 t).1]; omega)
    (show win0_0.index t 1 * 512 + 1 * i.val = (grid0.coords t 0).val * 512 + i.val by rw [(idx0 t).2]; omega)
theorem blockB (t : Fin cfg0.N) (k : Fin 4096) (j : Fin 1024) : iblk m c 1 t (ix2 k j) = B m c (ix2 k (col t j)) :=
  entry (B m c) _ _ _
    (show win0_1.index t 0 * 4096 + 1 * k.val = k.val by rw [(idx1 t).1]; omega)
    (show win0_1.index t 1 * 1024 + 1 * j.val = (grid0.coords t 1).val * 1024 + j.val by rw [(idx1 t).2]; omega)

theorem final : (dats m 0 c).arrAt 2 cfg0.N = prodTN (A m c) (B m c) := by
  refine (dats m 0 c).arrAt_eq_of_covers 2 _ (by decide +kernel) fun t hf y => ?_
  blk_simp
  rw [after0_2]
  obtain ⟨i, j, rfl⟩ := split y
  refine Eq.trans ?_ (entry (prodTN (A m c) (B m c)) _ (row t i) (col t j)
    (show win0_2.index t 0 * 512 + 1 * i.val = (grid0.coords t 0).val * 512 + i.val by rw [(idx2 t).1]; omega)
    (show win0_2.index t 1 * 1024 + 1 * j.val = (grid0.coords t 1).val * 1024 + j.val by rw [(idx2 t).2]; omega)).symm
  unfold out0_2
  rw [View.canon_unit_zero origin, View.ld_unit_zero (S := S4096x512) origin, View.ld_unit_zero (S := S4096x1024) origin]
  exact (pay_apply _ _ i j).trans (tileTN (row t) (col t) (blockA m c t) (blockB m c t) i j)

/-- The reference's term is the same product. -/
theorem ref_eq (a : Mat 4096 512) (g : Mat 4096 4096) :
    (truncf .bf16 (transpose Cert.MlaUpWRefIdeal.S512x4096 [1, 0] (Host.dotGeneral Cert.MlaUpWRefIdeal.dot_S4096x4096_S4096x512_S4096x512_0_0_1_1_n_n none
      (extf .f32 g Cert.MlaUpWRefIdeal.Gen.bitsLt_bf16_f32) (extf .f32 a Cert.MlaUpWRefIdeal.Gen.bitsLt_bf16_f32)) Cert.MlaUpWRefIdeal.Gen.transposes_S4096x512_S512x4096_1_0)
      Cert.MlaUpWRefIdeal.Gen.bitsLt_bf16_f32 : Mat 512 4096) = prodTN a g := by
  funext y
  obtain ⟨i, j, rfl⟩ := split y
  pointwise [prodTN, mulTN]
  exact Finset.sum_congr rfl fun k _ => mul_comm (G := EReal) _ _

/-- The kernel's gradient of an up-projection in the weights is the reference's. -/
theorem algebraic : Cert.algebraic_MlaUpWIdeal_MlaUpWRefIdeal (hMlaUpWIdeal := Cert.MlaUpWIdeal.Gen.facts) (hMlaUpWRefIdeal := Cert.MlaUpWRefIdeal.Gen.facts) := by
  intro m g m' g' _ hm
  refine ⟨fun c => prodTN (A m c) (B m c), ?_, ?_⟩
  · exact (θ_run defs _ _).mono (fun _ h c => ⟨(h c).1.trans (final m c), (h c).2⟩) (Cert.MlaUpWIdeal.Value.run_blocks m g)
  · refine (θ_run Cert.MlaUpWRefIdeal.defs _ _).mono (fun _ h c => ⟨(h c).1.trans ?_, (h c).2⟩) (Cert.MlaUpWRefIdeal.Value.run m' g')
    rw [(hm c).1, (hm c).2]
    exact ref_eq _ _

end Cert.MlaUpWIdeal.Lin

end
-- ==== Proof.Lin.MlaIn.lean ====
/- The latent attention's input layer: every point of the kernel's grid multiplies a row block of the input with the whole of the
   weights. -/
module

public import proofs.«01_k».proof.Defs
public import proofs.«01_k».proof.Proof.Lin.Spec
public import proofs.«01_k».proof.Proof.Gen.MlaInIdeal.Value
public import proofs.«01_k».proof.Proof.Gen.MlaInRefIdeal.Run
public import Idealize.ShloMosaic.Lib.Pipeline.ValueKit

@[expose] public section

set_option maxRecDepth 16384

noncomputable section

namespace Cert.MlaInIdeal.Lin

open Idealize.ShloMosaic Idealize.ShloMosaic.TcCoe Idealize.ShloMosaic.Tactic
open Idealize.SL.Sem
open Idealize.ShloMosaic.Pipeline (Dat)
open Cert.MlaInIdeal.Gen Cert.Mlp Cert.Lin

/-- What one point stores. -/
theorem pay_apply (a : Vec Ideal S1024x2048 .bf16) (b : Vec Ideal S2048x1280 .bf16) (i : Fin 1024) (j : Fin 1280) :
    k0_pay1 (F := Ideal) a b (ix2 i j) = mulNN a b i j := by
  pointwise [k0_pay1, mulNN]

variable (m : (ℓ : Loc nD τ sig) → Buf (Elt Ideal) ℓ) (c : Dev nD)

/-- The arguments, and the place of a tile's entry in the result. -/
abbrev A : Mat 4096 2048 := m (c.tc.loc main_arg0)
abbrev B : Mat 2048 1280 := m (c.tc.loc main_arg1)
abbrev row (t : Fin cfg0.N) : Fin 1024 → Fin 4096 := pos (T := 4) (by rfl) (grid0.coords t 0)
abbrev col (t : Fin cfg0.N) : Fin 1280 → Fin 1280 := pos (T := 1) (by rfl) (grid0.coords t 1)

theorem idx0 : ∀ t : Fin grid0.N, win0_0.index t 0 = (grid0.coords t 0).val ∧ win0_0.index t 1 = 0 := by decide +kernel
theorem idx1 : ∀ t : Fin grid0.N, win0_1.index t 0 = 0 ∧ win0_1.index t 1 = (grid0.coords t 1).val := by decide +kernel
theorem idx2 : ∀ t : Fin grid0.N, win0_2.index t 0 = (grid0.coords t 0).val ∧ win0_2.index t 1 = (grid0.coords t 1).val := by decide +kernel

theorem blockA (t : Fin cfg0.N) (i : Fin 1024) (k : Fin 2048) : iblk m c 0 t (ix2 i k) = A m c (ix2 (row t i) k) :=
  entry (A m c) _ _ _
    (show win0_0.index t 0 * 1024 + 1 * i.val = (grid0.coords t 0).val * 1024 + i.val by rw [(idx0 t).1]; omega)
    (show win0_0.index t 1 * 2048 + 1 * k.val = k.val by rw [(idx0 t).2]; omega)
theorem blockB (t : Fin cfg0.N) (k : Fin 2048) (j : Fin 1280) : iblk m c 1 t (ix2 k j) = B m c (ix2 k (col t j)) :=
  entry (B m c) _ _ _
    (show win0_1.index t 0 * 2048 + 1 * k.val = k.val by rw [(idx1 t).1]; omega)
    (show win0_1.index t 1 * 1280 + 1 * j.val = (grid0.coords t 1).val * 1280 + j.val by rw [(idx1 t).2]; omega)

theorem final : (dats m 0 c).arrAt 2 cfg0.N = prodNN (A m c) (B m c) := by
  refine (dats m 0 c).arrAt_eq_of_covers 2 _ (by decide +kernel) fun t hf y => ?_
  blk_simp
  rw [after0_2]
  obtain ⟨i, j, rfl⟩ := split y
  refine Eq.trans ?_ (entry (prodNN (A m c) (B m c)) _ (row t i) (col t j)
    (show win0_2.index t 0 * 1024 + 1 * i.val = (grid0.coords t 0).val * 1024 + i.val by rw [(idx2 t).1]; omega)
    (show win0_2.index t 1 * 1280 + 1 * j.val = (grid0.coords t 1).val * 1280 + j.val by rw [(idx2 t).2]; omega)).symm
  unfold out0_2
  rw [View.canon_unit_zero origin, View.ld_unit_zero (S := S1024x2048) origin, View.ld_unit_zero (S := S2048x1280) origin]
  exact (pay_apply _ _ i j).trans (tileNN (row t) (col t) (blockA m c t) (blockB m c t) i j)

/-- The reference's term is the same product. -/
theorem ref_eq (a : Mat 4096 2048) (w : Mat 2048 1280) :
    (truncf .bf16 (Host.dotGeneral Cert.MlaInRefIdeal.dot_S4096x2048_S2048x1280_S4096x1280_1_0_0_1_n_n none
      (extf .f32 a Cert.MlaInRefIdeal.Gen.bitsLt_bf16_f32) (extf .f32 w Cert.MlaInRefIdeal.Gen.bitsLt_bf16_f32))
      Cert.MlaInRefIdeal.Gen.bitsLt_bf16_f32 : Mat 4096 1280) = prodNN a w := by
  funext y
  obtain ⟨i, j, rfl⟩ := split y
  pointwise [prodNN, mulNN]

/-- The kernel's input layer is the reference's. -/
theorem algebraic : Cert.algebraic_MlaInIdeal_MlaInRefIdeal (hMlaInIdeal := Cert.MlaInIdeal.Gen.facts) (hMlaInRefIdeal := Cert.MlaInRefIdeal.Gen.facts) := by
  intro m g m' g' _ hm
  refine ⟨fun c => prodNN (A m c) (B m c), ?_, ?_⟩
  · exact (θ_run defs _ _).mono (fun _ h c => ⟨(h c).1.trans (final m c), (h c).2⟩) (Cert.MlaInIdeal.Value.run_blocks m g)
  · refine (θ_run Cert.MlaInRefIdeal.defs _ _).mono (fun _ h c => ⟨(h c).1.trans ?_, (h c).2⟩) (Cert.MlaInRefIdeal.Value.run m' g')
    rw [(hm c).1, (hm c).2]
    exact ref_eq _ _

end Cert.MlaInIdeal.Lin

end
-- ==== Proof.Lin.MlaInX.lean ====
/- The gradient of the latent attention's input layer, in the input: the kernel's grid walks the long axis in five
   blocks, adding a block's product to a scratch buffer it resets at the first, so after the last one the buffer holds the whole
   product. -/
module

public import proofs.«01_k».proof.Defs
public import proofs.«01_k».proof.Proof.Lin.Spec
public import proofs.«01_k».proof.Proof.Gen.MlaInXIdeal.Value
public import proofs.«01_k».proof.Proof.Gen.MlaInXRefIdeal.Run
public import Idealize.ShloMosaic.Lib.Pipeline.ValueKit

@[expose] public section

set_option maxRecDepth 16384

noncomputable section

namespace Cert.MlaInXIdeal.Lin

open Idealize.ShloMosaic Idealize.ShloMosaic.TcCoe Idealize.ShloMosaic.Tactic
open Idealize.SL.Sem
open Idealize.ShloMosaic.Pipeline (Dat)
open Cert.MlaInXIdeal.Gen Cert.Mlp Cert.Lin

/-! ### The body's three cases -/

section Cases
variable (c : Dev nD) (p : grid0.Coords) (a3 : Memref sig .tc .vmem S1024x256 .bf16) (h3 : a3.IsWhole) (a4 : Memref sig .tc .vmem S1024x256 .bf16) (h4 : a4.IsWhole)
  (a5 : Memref sig .tc .vmem S1024x1024 .bf16) (h5 : a5.IsWhole) (a6 : Memref sig .tc .vmem S1024x1024 .f32) (h6 : a6.IsWhole)
  (x y : Vec Ideal S1024x256 .bf16) (s : Vec Ideal S1024x1024 .f32)

/-- The first block's point leaves the block's product in the scratch buffer. -/
theorem scratch_first (e0 : cond0_0 p) (e1 : ¬cond0_1 p) : sout0_A_0 c p a3 h3 a4 h4 a5 h5 a6 h6 e0 e1 x y = k0_pay2 k0_pay1 x y := by
  unfold sout0_A_0
  rw [View.read_writes_eq_canon _ _ _ (scover0_A_0 c p a3 h3 a4 h4 a5 h5 a6 h6 e0 e1 x y)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S1024x256) origin]

/-- A later block's point adds the block's product to it. -/
theorem scratch_next (e0 : ¬cond0_0 p) (e1 : ¬cond0_1 p) : sout0_B_0 c p a3 h3 a4 h4 a5 h5 a6 h6 e0 e1 x y s = k0_pay2 s x y := by
  unfold sout0_B_0
  rw [View.read_writes_eq_canon _ _ _ (scover0_B_0 c p a3 h3 a4 h4 a5 h5 a6 h6 e0 e1 x y s)]
  unfold kernelRun0_B
  dsimp only
  rw [View.canon_unit_zero origin]
  simp only [View.readAt_eq_ld, h3.read_unread, h4.read_unread, h6.read_unread, View.ld_unit_zero (S := S1024x256) origin, View.ld_unit_zero (S := S1024x1024) origin]

/-- The last block's point stores the sum as well. -/
theorem result_last (e0 : ¬cond0_0 p) (e1 : cond0_1 p) : out0_C_2 c p a3 h3 a4 h4 a5 h5 a6 h6 e0 e1 x y s = k0_pay3 (k0_pay2 s x y) := by
  unfold out0_C_2
  rw [View.read_writes_eq_canon _ _ _ (cover0_C_2 c p a3 h3 a4 h4 a5 h5 a6 h6 e0 e1 x y s)]
  unfold kernelRun0_C
  dsimp only
  sl_unfold_words
  rw [View.canon_unit_zero origin, View.readCov_unit_zero (S := S1024x1024) _ origin]
  simp only [View.readAt_eq_ld, h3.read_unread, h4.read_unread, h6.read_unread, View.ld_unit_zero (S := S1024x256) origin, View.ld_unit_zero (S := S1024x1024) origin]

end Cases

theorem zero_apply (i j : Fin 1024) : k0_pay1 (F := Ideal) (ix2 i j) = 0 := by
  pointwise [k0_pay1]
theorem step_apply (s : Vec Ideal S1024x1024 .f32) (x y : Vec Ideal S1024x256 .bf16) (i j : Fin 1024) :
    k0_pay2 (F := Ideal) s x y (ix2 i j) = s (ix2 i j) + mulNT x y i j := by
  pointwise [k0_pay2, mulNT]
theorem last_apply (s : Vec Ideal S1024x1024 .f32) (i j : Fin 1024) : k0_pay3 (F := Ideal) s (ix2 i j) = s (ix2 i j) := by
  pointwise [k0_pay3]

/-! ### The five points of a result's tile -/

variable (m : (ℓ : Loc nD τ sig) → Buf (Elt Ideal) ℓ) (c : Dev nD)

/-- The point of tile `q` that adds block `b`. -/
def pt (q : Fin 8) (b : Fin 5) : Fin cfg0.N := ⟨5 * q.val + b.val, lt_of_lt_of_eq (by omega : 5 * q.val + b.val < 40) N_0.symm⟩
theorem pt_val (q : Fin 8) (b : Fin 5) : (pt q b).val = 5 * q.val + b.val := rfl
theorem pt_mod (q : Fin 8) (b : Fin 5) : (pt q b).val % 5 = b.val := by rw [pt_val]; omega
theorem pt_pred (q : Fin 8) (b b' : Fin 5) (h : b'.val = b.val + 1) : (pt q b').val - 1 = (pt q b).val := by rw [pt_val, pt_val]; omega

/-- The arguments, and the place of a tile's entry in the result. -/
abbrev A : Mat 4096 1280 := m (c.tc.loc main_arg1)
abbrev B : Mat 2048 1280 := m (c.tc.loc main_arg0)
abbrev row (q : Fin 8) : Fin 1024 → Fin 4096 := pos (T := 4) (by rfl) ⟨q.val / 2, by omega⟩
abbrev col (q : Fin 8) : Fin 1024 → Fin 2048 := pos (T := 2) (by rfl) ⟨q.val % 2, by omega⟩

theorem idx0 : ∀ (q : Fin 8) (b : Fin 5), win0_0.index (pt q b) 0 = q.val / 2 ∧ win0_0.index (pt q b) 1 = b.val := by decide +kernel
theorem idx1 : ∀ (q : Fin 8) (b : Fin 5), win0_1.index (pt q b) 0 = q.val % 2 ∧ win0_1.index (pt q b) 1 = b.val := by decide +kernel
theorem idx2 : ∀ (q : Fin 8) (b : Fin 5), win0_2.index (pt q b) 0 = q.val / 2 ∧ win0_2.index (pt q b) 1 = q.val % 2 := by decide +kernel

theorem blockA (q : Fin 8) (b : Fin 5) (i : Fin 1024) (k : Fin 256) : iblk m c 0 (pt q b) (ix2 i k) = A m c (ix2 (row q i) (pos (T := 5) (by rfl) b k)) :=
  entry (A m c) _ _ _
    (show win0_0.index (pt q b) 0 * 1024 + 1 * i.val = q.val / 2 * 1024 + i.val by rw [(idx0 q b).1]; omega)
    (show win0_0.index (pt q b) 1 * 256 + 1 * k.val = b.val * 256 + k.val by rw [(idx0 q b).2]; omega)
theorem blockB (q : Fin 8) (b : Fin 5) (j : Fin 1024) (k : Fin 256) : iblk m c 1 (pt q b) (ix2 j k) = B m c (ix2 (col q j) (pos (T := 5) (by rfl) b k)) :=
  entry (B m c) _ _ _
    (show win0_1.index (pt q b) 0 * 1024 + 1 * j.val = q.val % 2 * 1024 + j.val by rw [(idx1 q b).1]; omega)
    (show win0_1.index (pt q b) 1 * 256 + 1 * k.val = b.val * 256 + k.val by rw [(idx1 q b).2]; omega)

/-- What point `b` of tile `q` adds. -/
abbrev part (q : Fin 8) (b : Fin 5) (i j : Fin 1024) : EReal := mulNT (iblk m c 0 (pt q b)) (iblk m c 1 (pt q b)) i j

theorem scr_congr {n n' : ℕ} {h : n < cfg0.N} {h' : n' < cfg0.N} (e : n = n') (i j : Fin 1024) :
    (outsAt0 m c n h).2 (ix2 i j) = (outsAt0 m c n' h').2 (ix2 i j) := by subst e; rfl

theorem scr_zero (q : Fin 8) (i j : Fin 1024) : (outsAt0 m c (pt q 0).val (pt q 0).isLt).2 (ix2 i j) = part m c q 0 i j := by
  rw [outsAt0_A m c (pt q 0) (pt_mod q 0) (by rw [pt_mod]; decide)]
  dsimp only
  rw [scratch_first]
  refine (step_apply _ _ _ i j).trans ?_
  rw [zero_apply, zero_add]

theorem scr_succ (q : Fin 8) (b b' : Fin 5) (hb : b'.val = b.val + 1) (h : b'.val < 4) (i j : Fin 1024) :
    (outsAt0 m c (pt q b').val (pt q b').isLt).2 (ix2 i j) = (outsAt0 m c (pt q b).val (pt q b).isLt).2 (ix2 i j) + part m c q b' i j := by
  rw [outsAt0_B m c (pt q b') (by rw [pt_mod]; omega) (by rw [pt_mod]; omega)]
  dsimp only
  rw [scratch_next]
  refine (step_apply _ _ _ i j).trans ?_
  exact congrArg (fun z : EReal => z + part m c q b' i j) (scr_congr m c (pt_pred q b b' hb) i j)

/-- The last point of a tile stores the sum of the five blocks' products. -/
theorem out_point (q : Fin 8) (i j : Fin 1024) : (outsAt0 m c (pt q 4).val (pt q 4).isLt).1 (ix2 i j) = ∑ b : Fin 5, part m c q b i j := by
  rw [outsAt0_C m c (pt q 4) (by rw [pt_mod]; decide) (pt_mod q 4)]
  dsimp only
  rw [result_last]
  refine ((last_apply _ i j).trans (step_apply _ _ _ i j)).trans ?_
  refine (congrArg (fun z : EReal => z + part m c q 4 i j) (scr_congr m c (h' := (pt q 3).isLt) (pt_pred q 3 4 rfl) i j)).trans ?_
  rw [scr_succ m c q 2 3 rfl (by decide) i j, scr_succ m c q 1 2 rfl (by decide) i j, scr_succ m c q 0 1 rfl (by decide) i j, scr_zero m c q i j, Fin.sum_univ_five]

/-! ### The result -/

theorem final : (dats m 0 c).arrAt 2 cfg0.N = prodNT (A m c) (B m c) := by
  refine (dats m 0 c).arrAt_eq_of_covers 2 _ (by decide +kernel) fun t hf y => ?_
  have ht : t.val % 5 = 4 := (flush0_2 t).mp hf
  obtain ⟨q, rfl⟩ : ∃ q : Fin 8, t = pt q 4 :=
    ⟨⟨t.val / 5, by have := lt_of_lt_of_eq t.isLt (N_0 : cfg0.N = 40); omega⟩, Fin.ext (show t.val = 5 * (t.val / 5) + 4 by omega)⟩
  blk_simp
  rw [after0_2]
  obtain ⟨i, j, rfl⟩ := split y
  refine (out_point m c q i j).trans ?_
  refine Eq.trans ?_ (entry (prodNT (A m c) (B m c)) _ (row q i) (col q j)
    (show win0_2.index (pt q 4) 0 * 1024 + 1 * i.val = q.val / 2 * 1024 + i.val by rw [(idx2 q 4).1]; omega)
    (show win0_2.index (pt q 4) 1 * 1024 + 1 * j.val = q.val % 2 * 1024 + j.val by rw [(idx2 q 4).2]; omega)).symm
  refine (Finset.sum_congr rfl fun b _ => tileBlockNT (T := 5) (by rfl) (row q) (col q) b (blockA m c q b) (blockB m c q b) i j).trans ?_
  exact sum_blockNT (T := 5) (by rfl) (A m c) (B m c) _ _

/-- The reference's term is the same product. -/
theorem ref_eq (g : Mat 4096 1280) (w : Mat 2048 1280) :
    (truncf .bf16 (Host.dotGeneral Cert.MlaInXRefIdeal.dot_S4096x1280_S2048x1280_S4096x2048_1_1_0_0_n_n none
      (extf .f32 g Cert.MlaInXRefIdeal.Gen.bitsLt_bf16_f32) (extf .f32 w Cert.MlaInXRefIdeal.Gen.bitsLt_bf16_f32))
      Cert.MlaInXRefIdeal.Gen.bitsLt_bf16_f32 : Mat 4096 2048) = prodNT g w := by
  funext y
  obtain ⟨i, j, rfl⟩ := split y
  pointwise [prodNT, mulNT]

/-- The kernel's gradient of the input layer in the input is the reference's. -/
theorem algebraic : Cert.algebraic_MlaInXIdeal_MlaInXRefIdeal (hMlaInXIdeal := Cert.MlaInXIdeal.Gen.facts) (hMlaInXRefIdeal := Cert.MlaInXRefIdeal.Gen.facts) := by
  intro m g m' g' _ hm
  refine ⟨fun c => prodNT (A m c) (B m c), ?_, ?_⟩
  · exact (θ_run defs _ _).mono (fun _ h c => ⟨(h c).1.trans (final m c), (h c).2⟩) (Cert.MlaInXIdeal.Value.run_blocks m g)
  · refine (θ_run Cert.MlaInXRefIdeal.defs _ _).mono (fun _ h c => ⟨(h c).1.trans ?_, (h c).2⟩) (Cert.MlaInXRefIdeal.Value.run m' g')
    rw [(hm c).1, (hm c).2]
    exact ref_eq _ _

end Cert.MlaInXIdeal.Lin

end
-- ==== Proof.Lin.MlaInW.lean ====
/- The gradient of the latent attention's input layer, in the weights: every point of the kernel's grid multiplies a whole column block of the input,
   transposed, with a whole column block of the cotangent. -/
module

public import proofs.«01_k».proof.Defs
public import proofs.«01_k».proof.Proof.Lin.Spec
public import proofs.«01_k».proof.Proof.Gen.MlaInWIdeal.Value
public import proofs.«01_k».proof.Proof.Gen.MlaInWRefIdeal.Run
public import Idealize.ShloMosaic.Lib.Pipeline.ValueKit

@[expose] public section

set_option maxRecDepth 16384

noncomputable section

namespace Cert.MlaInWIdeal.Lin

open Idealize.ShloMosaic Idealize.ShloMosaic.TcCoe Idealize.ShloMosaic.Tactic
open Idealize.SL.Sem
open Idealize.ShloMosaic.Pipeline (Dat)
open Cert.MlaInWIdeal.Gen Cert.Mlp Cert.Lin

/-- What one point stores. -/
theorem pay_apply (a : Vec Ideal S4096x1024 .bf16) (b : Vec Ideal S4096x1280 .bf16) (i : Fin 1024) (j : Fin 1280) :
    k0_pay1 (F := Ideal) a b (ix2 i j) = mulTN a b i j := by
  pointwise [k0_pay1, mulTN]

variable (m : (ℓ : Loc nD τ sig) → Buf (Elt Ideal) ℓ) (c : Dev nD)

/-- The arguments, and the place of a tile's entry in the result. -/
abbrev A : Mat 4096 2048 := m (c.tc.loc main_arg0)
abbrev B : Mat 4096 1280 := m (c.tc.loc main_arg1)
abbrev row (t : Fin cfg0.N) : Fin 1024 → Fin 2048 := pos (T := 2) (by rfl) (grid0.coords t 0)
abbrev col (t : Fin cfg0.N) : Fin 1280 → Fin 1280 := pos (T := 1) (by rfl) (grid0.coords t 1)

theorem idx0 : ∀ t : Fin grid0.N, win0_0.index t 0 = 0 ∧ win0_0.index t 1 = (grid0.coords t 0).val := by decide +kernel
theorem idx1 : ∀ t : Fin grid0.N, win0_1.index t 0 = 0 ∧ win0_1.index t 1 = (grid0.coords t 1).val := by decide +kernel
theorem idx2 : ∀ t : Fin grid0.N, win0_2.index t 0 = (grid0.coords t 0).val ∧ win0_2.index t 1 = (grid0.coords t 1).val := by decide +kernel

theorem blockA (t : Fin cfg0.N) (k : Fin 4096) (i : Fin 1024) : iblk m c 0 t (ix2 k i) = A m c (ix2 k (row t i)) :=
  entry (A m c) _ _ _
    (show win0_0.index t 0 * 4096 + 1 * k.val = k.val by rw [(idx0 t).1]; omega)
    (show win0_0.index t 1 * 1024 + 1 * i.val = (grid0.coords t 0).val * 1024 + i.val by rw [(idx0 t).2]; omega)
theorem blockB (t : Fin cfg0.N) (k : Fin 4096) (j : Fin 1280) : iblk m c 1 t (ix2 k j) = B m c (ix2 k (col t j)) :=
  entry (B m c) _ _ _
    (show win0_1.index t 0 * 4096 + 1 * k.val = k.val by rw [(idx1 t).1]; omega)
    (show win0_1.index t 1 * 1280 + 1 * j.val = (grid0.coords t 1).val * 1280 + j.val by rw [(idx1 t).2]; omega)

theorem final : (dats m 0 c).arrAt 2 cfg0.N = prodTN (A m c) (B m c) := by
  refine (dats m 0 c).arrAt_eq_of_covers 2 _ (by decide +kernel) fun t hf y => ?_
  blk_simp
  rw [after0_2]
  obtain ⟨i, j, rfl⟩ := split y
  refine Eq.trans ?_ (entry (prodTN (A m c) (B m c)) _ (row t i) (col t j)
    (show win0_2.index t 0 * 1024 + 1 * i.val = (grid0.coords t 0).val * 1024 + i.val by rw [(idx2 t).1]; omega)
    (show win0_2.index t 1 * 1280 + 1 * j.val = (grid0.coords t 1).val * 1280 + j.val by rw [(idx2 t).2]; omega)).symm
  unfold out0_2
  rw [View.canon_unit_zero origin, View.ld_unit_zero (S := S4096x1024) origin, View.ld_unit_zero (S := S4096x1280) origin]
  exact (pay_apply _ _ i j).trans (tileTN (row t) (col t) (blockA m c t) (blockB m c t) i j)

/-- The reference's term is the same product. -/
theorem ref_eq (a : Mat 4096 2048) (g : Mat 4096 1280) :
    (truncf .bf16 (transpose Cert.MlaInWRefIdeal.S2048x1280 [1, 0] (Host.dotGeneral Cert.MlaInWRefIdeal.dot_S4096x1280_S4096x2048_S1280x2048_0_0_1_1_n_n none
      (extf .f32 g Cert.MlaInWRefIdeal.Gen.bitsLt_bf16_f32) (extf .f32 a Cert.MlaInWRefIdeal.Gen.bitsLt_bf16_f32)) Cert.MlaInWRefIdeal.Gen.transposes_S1280x2048_S2048x1280_1_0)
      Cert.MlaInWRefIdeal.Gen.bitsLt_bf16_f32 : Mat 2048 1280) = prodTN a g := by
  funext y
  obtain ⟨i, j, rfl⟩ := split y
  pointwise [prodTN, mulTN]
  exact Finset.sum_congr rfl fun k _ => mul_comm (G := EReal) _ _

/-- The kernel's gradient of the input layer in the weights is the reference's. -/
theorem algebraic : Cert.algebraic_MlaInWIdeal_MlaInWRefIdeal (hMlaInWIdeal := Cert.MlaInWIdeal.Gen.facts) (hMlaInWRefIdeal := Cert.MlaInWRefIdeal.Gen.facts) := by
  intro m g m' g' _ hm
  refine ⟨fun c => prodTN (A m c) (B m c), ?_, ?_⟩
  · exact (θ_run defs _ _).mono (fun _ h c => ⟨(h c).1.trans (final m c), (h c).2⟩) (Cert.MlaInWIdeal.Value.run_blocks m g)
  · refine (θ_run Cert.MlaInWRefIdeal.defs _ _).mono (fun _ h c => ⟨(h c).1.trans ?_, (h c).2⟩) (Cert.MlaInWRefIdeal.Value.run m' g')
    rw [(hm c).1, (hm c).2]
    exact ref_eq _ _

end Cert.MlaInWIdeal.Lin

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.AttnBwd.Frame
public import proofs.«01_k».proof.Proof.AttnBwd.Equation
public import proofs.«01_k».proof.Proof.AttnBwdBits.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.AttnFwd.Frame
public import proofs.«01_k».proof.Proof.Gen.AttnFwdIdeal.Value
public import proofs.«01_k».proof.Proof.AttnFwd.Equation
public import proofs.«01_k».proof.Proof.Gen.AttnFwdRefIdeal.Read
public import proofs.«01_k».proof.Proof.Gen.MlpUp.Frame
public import proofs.«01_k».proof.Proof.Gen.MlpUpIdeal.Value
public import proofs.«01_k».proof.Proof.Gen.MlpUpRefIdeal.Run
public import proofs.«01_k».proof.Proof.Mlp.Up
public import proofs.«01_k».proof.Proof.Gen.MlpDown.Frame
public import proofs.«01_k».proof.Proof.Gen.MlpDownIdeal.Value
public import proofs.«01_k».proof.Proof.Gen.MlpDownRefIdeal.Run
public import proofs.«01_k».proof.Proof.Mlp.Down
public import proofs.«01_k».proof.Proof.Gen.MlpDownW.Frame
public import proofs.«01_k».proof.Proof.Gen.MlpDownWIdeal.Value
public import proofs.«01_k».proof.Proof.Gen.MlpDownWRefIdeal.Run
public import proofs.«01_k».proof.Proof.Mlp.DownW
public import proofs.«01_k».proof.Proof.Gen.MlpDownX.Frame
public import proofs.«01_k».proof.Proof.Gen.MlpDownXIdeal.Value
public import proofs.«01_k».proof.Proof.Gen.MlpDownXRefIdeal.Run
public import proofs.«01_k».proof.Proof.Mlp.DownX
public import proofs.«01_k».proof.Proof.Gen.MlpUpW.Frame
public import proofs.«01_k».proof.Proof.Gen.MlpUpWIdeal.Value
public import proofs.«01_k».proof.Proof.Gen.MlpUpWRefIdeal.Run
public import proofs.«01_k».proof.Proof.Mlp.UpW
public import proofs.«01_k».proof.Proof.Gen.MlpUpX.Frame
public import proofs.«01_k».proof.Proof.Gen.MlpUpXIdeal.Value
public import proofs.«01_k».proof.Proof.Gen.MlpUpXRefIdeal.Run
public import proofs.«01_k».proof.Proof.Mlp.UpX
public import proofs.«01_k».proof.Proof.Lin.MixOut
public import proofs.«01_k».proof.Proof.Lin.MixOutX
public import proofs.«01_k».proof.Proof.Lin.MixOutW
public import proofs.«01_k».proof.Proof.Lin.AbIn
public import proofs.«01_k».proof.Proof.Lin.AbInX
public import proofs.«01_k».proof.Proof.Lin.AbInW
public import proofs.«01_k».proof.Proof.Lin.MlaUp
public import proofs.«01_k».proof.Proof.Lin.MlaUpX
public import proofs.«01_k».proof.Proof.Lin.MlaUpW
public import proofs.«01_k».proof.Proof.Lin.MlaIn
public import proofs.«01_k».proof.Proof.Lin.MlaInX
public import proofs.«01_k».proof.Proof.Lin.MlaInW
public import proofs.«01_k».proof.Proof.Gen.MixOut.Frame
public import proofs.«01_k».proof.Proof.Gen.MixOutIdeal.Value
public import proofs.«01_k».proof.Proof.Gen.MixOutRefIdeal.Run
public import proofs.«01_k».proof.Proof.Gen.MixOutX.Frame
public import proofs.«01_k».proof.Proof.Gen.MixOutXIdeal.Value
public import proofs.«01_k».proof.Proof.Gen.MixOutXRefIdeal.Run
public import proofs.«01_k».proof.Proof.Gen.MixOutW.Frame
public import proofs.«01_k».proof.Proof.Gen.MixOutWIdeal.Value
public import proofs.«01_k».proof.Proof.Gen.MixOutWRefIdeal.Run
public import proofs.«01_k».proof.Proof.Gen.AbIn.Frame
public import proofs.«01_k».proof.Proof.Gen.AbInIdeal.Value
public import proofs.«01_k».proof.Proof.Gen.AbInRefIdeal.Run
public import proofs.«01_k».proof.Proof.Gen.AbInX.Frame
public import proofs.«01_k».proof.Proof.Gen.AbInXIdeal.Value
public import proofs.«01_k».proof.Proof.Gen.AbInXRefIdeal.Run
public import proofs.«01_k».proof.Proof.Gen.AbInW.Frame
public import proofs.«01_k».proof.Proof.Gen.AbInWIdeal.Value
public import proofs.«01_k».proof.Proof.Gen.AbInWRefIdeal.Run
public import proofs.«01_k».proof.Proof.Gen.MlaUp.Frame
public import proofs.«01_k».proof.Proof.Gen.MlaUpIdeal.Value
public import proofs.«01_k».proof.Proof.Gen.MlaUpRefIdeal.Run
public import proofs.«01_k».proof.Proof.Gen.MlaUpX.Frame
public import proofs.«01_k».proof.Proof.Gen.MlaUpXIdeal.Value
public import proofs.«01_k».proof.Proof.Gen.MlaUpXRefIdeal.Run
public import proofs.«01_k».proof.Proof.Gen.MlaUpW.Frame
public import proofs.«01_k».proof.Proof.Gen.MlaUpWIdeal.Value
public import proofs.«01_k».proof.Proof.Gen.MlaUpWRefIdeal.Run
public import proofs.«01_k».proof.Proof.Gen.MlaIn.Frame
public import proofs.«01_k».proof.Proof.Gen.MlaInIdeal.Value
public import proofs.«01_k».proof.Proof.Gen.MlaInRefIdeal.Run
public import proofs.«01_k».proof.Proof.Gen.MlaInX.Frame
public import proofs.«01_k».proof.Proof.Gen.MlaInXIdeal.Value
public import proofs.«01_k».proof.Proof.Gen.MlaInXRefIdeal.Run
public import proofs.«01_k».proof.Proof.Gen.MlaInW.Frame
public import proofs.«01_k».proof.Proof.Gen.MlaInWIdeal.Value
public import proofs.«01_k».proof.Proof.Gen.MlaInWRefIdeal.Run
public import Idealize.ShloMosaic.Adequacy
public import Idealize.ShloMosaic.Init

@[expose] public section

noncomputable section

namespace Cert.Proof

open Idealize.ShloMosaic Idealize.SL.Sem

/-- The compiled program's frame. -/
theorem frame_kernel : Cert.quiescent_Kernel (hKernel := Cert.Kernel.Gen.facts) := fun m ρ _ => Cert.Kernel.AttnBwdBits.frame m ρ
/-- The idealized program's frame. -/
theorem frame_ideal : Cert.quiescent_KernelIdeal (hKernelIdeal := Cert.KernelIdeal.Gen.facts) := fun m ρ _ => Cert.KernelIdeal.AttnBwd.frame m ρ
/-- The reference's frame: no region, its host operations write no argument. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-! The references of the MLP's products: no region, their host operations write no argument. -/

theorem frame_MlpUpRef : Cert.quiescent_MlpUpRefIdeal (hMlpUpRefIdeal := Cert.MlpUpRefIdeal.Gen.facts) := fun m ρ _ =>
  (θ_run Cert.MlpUpRefIdeal.defs _ _).mono (fun r h => ⟨fun c => (h c).2.2, sem_eq_zero_of_no_sems (by decide) r.2⟩) (Cert.MlpUpRefIdeal.Value.run (F := Ideal) m ρ)
theorem frame_MlpDownRef : Cert.quiescent_MlpDownRefIdeal (hMlpDownRefIdeal := Cert.MlpDownRefIdeal.Gen.facts) := fun m ρ _ =>
  (θ_run Cert.MlpDownRefIdeal.defs _ _).mono (fun r h => ⟨fun c => (h c).2, sem_eq_zero_of_no_sems (by decide) r.2⟩) (Cert.MlpDownRefIdeal.Value.run (F := Ideal) m ρ)
theorem frame_MlpDownWRef : Cert.quiescent_MlpDownWRefIdeal (hMlpDownWRefIdeal := Cert.MlpDownWRefIdeal.Gen.facts) := fun m ρ _ =>
  (θ_run Cert.MlpDownWRefIdeal.defs _ _).mono (fun r h => ⟨fun c => (h c).2, sem_eq_zero_of_no_sems (by decide) r.2⟩) (Cert.MlpDownWRefIdeal.Value.run (F := Ideal) m ρ)
theorem frame_MlpDownXRef : Cert.quiescent_MlpDownXRefIdeal (hMlpDownXRefIdeal := Cert.MlpDownXRefIdeal.Gen.facts) := fun m ρ _ =>
  (θ_run Cert.MlpDownXRefIdeal.defs _ _).mono (fun r h => ⟨fun c => (h c).2, sem_eq_zero_of_no_sems (by decide) r.2⟩) (Cert.MlpDownXRefIdeal.Value.run (F := Ideal) m ρ)
theorem frame_MlpUpWRef : Cert.quiescent_MlpUpWRefIdeal (hMlpUpWRefIdeal := Cert.MlpUpWRefIdeal.Gen.facts) := fun m ρ _ =>
  (θ_run Cert.MlpUpWRefIdeal.defs _ _).mono (fun r h => ⟨fun c => (h c).2, sem_eq_zero_of_no_sems (by decide) r.2⟩) (Cert.MlpUpWRefIdeal.Value.run (F := Ideal) m ρ)
theorem frame_MlpUpXRef : Cert.quiescent_MlpUpXRefIdeal (hMlpUpXRefIdeal := Cert.MlpUpXRefIdeal.Gen.facts) := fun m ρ _ =>
  (θ_run Cert.MlpUpXRefIdeal.defs _ _).mono (fun r h => ⟨fun c => (h c).2, sem_eq_zero_of_no_sems (by decide) r.2⟩) (Cert.MlpUpXRefIdeal.Value.run (F := Ideal) m ρ)

/-! The references of the mixers' linear layers, likewise. -/

theorem frame_MixOutRef : Cert.quiescent_MixOutRefIdeal (hMixOutRefIdeal := Cert.MixOutRefIdeal.Gen.facts) := fun m ρ _ =>
  (θ_run Cert.MixOutRefIdeal.defs _ _).mono (fun r h => ⟨fun c => (h c).2, sem_eq_zero_of_no_sems (by decide) r.2⟩) (Cert.MixOutRefIdeal.Value.run (F := Ideal) m ρ)
theorem frame_MixOutXRef : Cert.quiescent_MixOutXRefIdeal (hMixOutXRefIdeal := Cert.MixOutXRefIdeal.Gen.facts) := fun m ρ _ =>
  (θ_run Cert.MixOutXRefIdeal.defs _ _).mono (fun r h => ⟨fun c => (h c).2, sem_eq_zero_of_no_sems (by decide) r.2⟩) (Cert.MixOutXRefIdeal.Value.run (F := Ideal) m ρ)
theorem frame_MixOutWRef : Cert.quiescent_MixOutWRefIdeal (hMixOutWRefIdeal := Cert.MixOutWRefIdeal.Gen.facts) := fun m ρ _ =>
  (θ_run Cert.MixOutWRefIdeal.defs _ _).mono (fun r h => ⟨fun c => (h c).2, sem_eq_zero_of_no_sems (by decide) r.2⟩) (Cert.MixOutWRefIdeal.Value.run (F := Ideal) m ρ)
theorem frame_AbInRef : Cert.quiescent_AbInRefIdeal (hAbInRefIdeal := Cert.AbInRefIdeal.Gen.facts) := fun m ρ _ =>
  (θ_run Cert.AbInRefIdeal.defs _ _).mono (fun r h => ⟨fun c => (h c).2, sem_eq_zero_of_no_sems (by decide) r.2⟩) (Cert.AbInRefIdeal.Value.run (F := Ideal) m ρ)
theorem frame_AbInXRef : Cert.quiescent_AbInXRefIdeal (hAbInXRefIdeal := Cert.AbInXRefIdeal.Gen.facts) := fun m ρ _ =>
  (θ_run Cert.AbInXRefIdeal.defs _ _).mono (fun r h => ⟨fun c => (h c).2, sem_eq_zero_of_no_sems (by decide) r.2⟩) (Cert.AbInXRefIdeal.Value.run (F := Ideal) m ρ)
theorem frame_AbInWRef : Cert.quiescent_AbInWRefIdeal (hAbInWRefIdeal := Cert.AbInWRefIdeal.Gen.facts) := fun m ρ _ =>
  (θ_run Cert.AbInWRefIdeal.defs _ _).mono (fun r h => ⟨fun c => (h c).2, sem_eq_zero_of_no_sems (by decide) r.2⟩) (Cert.AbInWRefIdeal.Value.run (F := Ideal) m ρ)
theorem frame_MlaUpRef : Cert.quiescent_MlaUpRefIdeal (hMlaUpRefIdeal := Cert.MlaUpRefIdeal.Gen.facts) := fun m ρ _ =>
  (θ_run Cert.MlaUpRefIdeal.defs _ _).mono (fun r h => ⟨fun c => (h c).2, sem_eq_zero_of_no_sems (by decide) r.2⟩) (Cert.MlaUpRefIdeal.Value.run (F := Ideal) m ρ)
theorem frame_MlaUpXRef : Cert.quiescent_MlaUpXRefIdeal (hMlaUpXRefIdeal := Cert.MlaUpXRefIdeal.Gen.facts) := fun m ρ _ =>
  (θ_run Cert.MlaUpXRefIdeal.defs _ _).mono (fun r h => ⟨fun c => (h c).2, sem_eq_zero_of_no_sems (by decide) r.2⟩) (Cert.MlaUpXRefIdeal.Value.run (F := Ideal) m ρ)
theorem frame_MlaUpWRef : Cert.quiescent_MlaUpWRefIdeal (hMlaUpWRefIdeal := Cert.MlaUpWRefIdeal.Gen.facts) := fun m ρ _ =>
  (θ_run Cert.MlaUpWRefIdeal.defs _ _).mono (fun r h => ⟨fun c => (h c).2, sem_eq_zero_of_no_sems (by decide) r.2⟩) (Cert.MlaUpWRefIdeal.Value.run (F := Ideal) m ρ)
theorem frame_MlaInRef : Cert.quiescent_MlaInRefIdeal (hMlaInRefIdeal := Cert.MlaInRefIdeal.Gen.facts) := fun m ρ _ =>
  (θ_run Cert.MlaInRefIdeal.defs _ _).mono (fun r h => ⟨fun c => (h c).2, sem_eq_zero_of_no_sems (by decide) r.2⟩) (Cert.MlaInRefIdeal.Value.run (F := Ideal) m ρ)
theorem frame_MlaInXRef : Cert.quiescent_MlaInXRefIdeal (hMlaInXRefIdeal := Cert.MlaInXRefIdeal.Gen.facts) := fun m ρ _ =>
  (θ_run Cert.MlaInXRefIdeal.defs _ _).mono (fun r h => ⟨fun c => (h c).2, sem_eq_zero_of_no_sems (by decide) r.2⟩) (Cert.MlaInXRefIdeal.Value.run (F := Ideal) m ρ)
theorem frame_MlaInWRef : Cert.quiescent_MlaInWRefIdeal (hMlaInWRefIdeal := Cert.MlaInWRefIdeal.Gen.facts) := fun m ρ _ =>
  (θ_run Cert.MlaInWRefIdeal.defs _ _).mono (fun r h => ⟨fun c => (h c).2, sem_eq_zero_of_no_sems (by decide) r.2⟩) (Cert.MlaInWRefIdeal.Value.run (F := Ideal) m ρ)

/-- The reference of the attention's forward call, likewise. -/
theorem frame_AttnFwdRef : Cert.quiescent_AttnFwdRefIdeal (hAttnFwdRefIdeal := Cert.AttnFwdRefIdeal.Gen.facts) := fun m ρ _ =>
  (θ_run Cert.AttnFwdRefIdeal.defs _ _).mono (fun r h => ⟨fun c => (h c).2.2, sem_eq_zero_of_no_sems (by decide) r.2⟩) (Cert.AttnFwdRefIdeal.Value.run (F := Ideal) m ρ)

/-- All claims together. -/
theorem claim : Cert.Claim := ⟨Cert.Kernel.Gen.facts, Cert.KernelIdeal.Gen.facts, Cert.ReferenceIdeal.Gen.facts,
  Cert.MlpUp.Gen.facts, Cert.MlpUpIdeal.Gen.facts, Cert.MlpUpRefIdeal.Gen.facts,
  Cert.MlpDown.Gen.facts, Cert.MlpDownIdeal.Gen.facts, Cert.MlpDownRefIdeal.Gen.facts,
  Cert.MlpDownW.Gen.facts, Cert.MlpDownWIdeal.Gen.facts, Cert.MlpDownWRefIdeal.Gen.facts,
  Cert.MlpDownX.Gen.facts, Cert.MlpDownXIdeal.Gen.facts, Cert.MlpDownXRefIdeal.Gen.facts,
  Cert.MlpUpW.Gen.facts, Cert.MlpUpWIdeal.Gen.facts, Cert.MlpUpWRefIdeal.Gen.facts,
  Cert.MlpUpX.Gen.facts, Cert.MlpUpXIdeal.Gen.facts, Cert.MlpUpXRefIdeal.Gen.facts,
  Cert.MixOut.Gen.facts, Cert.MixOutIdeal.Gen.facts, Cert.MixOutRefIdeal.Gen.facts,
  Cert.MixOutX.Gen.facts, Cert.MixOutXIdeal.Gen.facts, Cert.MixOutXRefIdeal.Gen.facts,
  Cert.MixOutW.Gen.facts, Cert.MixOutWIdeal.Gen.facts, Cert.MixOutWRefIdeal.Gen.facts,
  Cert.AbIn.Gen.facts, Cert.AbInIdeal.Gen.facts, Cert.AbInRefIdeal.Gen.facts,
  Cert.AbInX.Gen.facts, Cert.AbInXIdeal.Gen.facts, Cert.AbInXRefIdeal.Gen.facts,
  Cert.AbInW.Gen.facts, Cert.AbInWIdeal.Gen.facts, Cert.AbInWRefIdeal.Gen.facts,
  Cert.MlaUp.Gen.facts, Cert.MlaUpIdeal.Gen.facts, Cert.MlaUpRefIdeal.Gen.facts,
  Cert.MlaUpX.Gen.facts, Cert.MlaUpXIdeal.Gen.facts, Cert.MlaUpXRefIdeal.Gen.facts,
  Cert.MlaUpW.Gen.facts, Cert.MlaUpWIdeal.Gen.facts, Cert.MlaUpWRefIdeal.Gen.facts,
  Cert.MlaIn.Gen.facts, Cert.MlaInIdeal.Gen.facts, Cert.MlaInRefIdeal.Gen.facts,
  Cert.MlaInX.Gen.facts, Cert.MlaInXIdeal.Gen.facts, Cert.MlaInXRefIdeal.Gen.facts,
  Cert.MlaInW.Gen.facts, Cert.MlaInWIdeal.Gen.facts, Cert.MlaInWRefIdeal.Gen.facts,
  Cert.AttnFwd.Gen.facts, Cert.AttnFwdIdeal.Gen.facts, Cert.AttnFwdRefIdeal.Gen.facts,
  Cert.Pre_finite.facts, Cert.Pre_attn_finite.facts,
  frame_kernel, frame_ideal, fun m ρ _ => frame_ideal m ρ trivial, frame_reference, fun m ρ _ => frame_reference m ρ trivial,
  fun m ρ _ => Cert.MlpUp.Gen.frame m ρ, fun m ρ _ => Cert.MlpUpIdeal.Gen.frame m ρ, frame_MlpUpRef,
  fun m ρ _ => Cert.MlpDown.Gen.frame m ρ, fun m ρ _ => Cert.MlpDownIdeal.Gen.frame m ρ, frame_MlpDownRef,
  fun m ρ _ => Cert.MlpDownW.Gen.frame m ρ, fun m ρ _ => Cert.MlpDownWIdeal.Gen.frame m ρ, frame_MlpDownWRef,
  fun m ρ _ => Cert.MlpDownX.Gen.frame m ρ, fun m ρ _ => Cert.MlpDownXIdeal.Gen.frame m ρ, frame_MlpDownXRef,
  fun m ρ _ => Cert.MlpUpW.Gen.frame m ρ, fun m ρ _ => Cert.MlpUpWIdeal.Gen.frame m ρ, frame_MlpUpWRef,
  fun m ρ _ => Cert.MlpUpX.Gen.frame m ρ, fun m ρ _ => Cert.MlpUpXIdeal.Gen.frame m ρ, frame_MlpUpXRef,
  fun m ρ _ => Cert.MixOut.Gen.frame m ρ, fun m ρ _ => Cert.MixOutIdeal.Gen.frame m ρ, frame_MixOutRef,
  fun m ρ _ => Cert.MixOutX.Gen.frame m ρ, fun m ρ _ => Cert.MixOutXIdeal.Gen.frame m ρ, frame_MixOutXRef,
  fun m ρ _ => Cert.MixOutW.Gen.frame m ρ, fun m ρ _ => Cert.MixOutWIdeal.Gen.frame m ρ, frame_MixOutWRef,
  fun m ρ _ => Cert.AbIn.Gen.frame m ρ, fun m ρ _ => Cert.AbInIdeal.Gen.frame m ρ, frame_AbInRef,
  fun m ρ _ => Cert.AbInX.Gen.frame m ρ, fun m ρ _ => Cert.AbInXIdeal.Gen.frame m ρ, frame_AbInXRef,
  fun m ρ _ => Cert.AbInW.Gen.frame m ρ, fun m ρ _ => Cert.AbInWIdeal.Gen.frame m ρ, frame_AbInWRef,
  fun m ρ _ => Cert.MlaUp.Gen.frame m ρ, fun m ρ _ => Cert.MlaUpIdeal.Gen.frame m ρ, frame_MlaUpRef,
  fun m ρ _ => Cert.MlaUpX.Gen.frame m ρ, fun m ρ _ => Cert.MlaUpXIdeal.Gen.frame m ρ, frame_MlaUpXRef,
  fun m ρ _ => Cert.MlaUpW.Gen.frame m ρ, fun m ρ _ => Cert.MlaUpWIdeal.Gen.frame m ρ, frame_MlaUpWRef,
  fun m ρ _ => Cert.MlaIn.Gen.frame m ρ, fun m ρ _ => Cert.MlaInIdeal.Gen.frame m ρ, frame_MlaInRef,
  fun m ρ _ => Cert.MlaInX.Gen.frame m ρ, fun m ρ _ => Cert.MlaInXIdeal.Gen.frame m ρ, frame_MlaInXRef,
  fun m ρ _ => Cert.MlaInW.Gen.frame m ρ, fun m ρ _ => Cert.MlaInWIdeal.Gen.frame m ρ, frame_MlaInWRef,
  fun m ρ _ => Cert.AttnFwd.Gen.frame m ρ, fun m ρ _ => Cert.AttnFwdIdeal.Gen.frame m ρ, fun m ρ _ => Cert.AttnFwdIdeal.Gen.frame m ρ,
  frame_AttnFwdRef, fun m ρ _ => frame_AttnFwdRef m ρ trivial,
  ⟨IdealRules.named_const.statement Cert.KernelIdeal.κ "scale_log2e" .f32 0x3DD53B95#32 _ rfl,
    IdealRules.named_const.statement Cert.KernelIdeal.κ "log2e" .f32 0x3FB8AA3B#32 _ rfl,
    IdealRules.named_const.statement Cert.KernelIdeal.κ "scale" .f32 0x3D93CD3A#32 _ rfl⟩,
  Cert.KernelIdeal.AttnBwd.algebraic,
  trivial, Cert.MlpUpIdeal.Mlp.algebraic,
  trivial, Cert.MlpDownIdeal.Mlp.algebraic,
  trivial, Cert.MlpDownWIdeal.Mlp.algebraic,
  trivial, Cert.MlpDownXIdeal.Mlp.algebraic,
  trivial, Cert.MlpUpWIdeal.Mlp.algebraic,
  trivial, Cert.MlpUpXIdeal.Mlp.algebraic,
  trivial, Cert.MixOutIdeal.Lin.algebraic,
  trivial, Cert.MixOutXIdeal.Lin.algebraic,
  trivial, Cert.MixOutWIdeal.Lin.algebraic,
  trivial, Cert.AbInIdeal.Lin.algebraic,
  trivial, Cert.AbInXIdeal.Lin.algebraic,
  trivial, Cert.AbInWIdeal.Lin.algebraic,
  trivial, Cert.MlaUpIdeal.Lin.algebraic,
  trivial, Cert.MlaUpXIdeal.Lin.algebraic,
  trivial, Cert.MlaUpWIdeal.Lin.algebraic,
  trivial, Cert.MlaInIdeal.Lin.algebraic,
  trivial, Cert.MlaInXIdeal.Lin.algebraic,
  trivial, Cert.MlaInWIdeal.Lin.algebraic,
  ⟨IdealRules.named_const.statement Cert.AttnFwdIdeal.κ "scale_log2e" .f32 0x3DD53B95#32 _ rfl,
    IdealRules.named_const.statement Cert.AttnFwdIdeal.κ "scale" .f32 0x3D93CD3A#32 _ rfl⟩,
  Cert.AttnFwdIdeal.Attn.algebraic⟩

end Cert.Proof

end
